-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_v19) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)) (v2 : (c : Dev Cert.Kernel19Ideal.nD) → Buf (Elt Ideal) ((c.tc : Thread Cert.Kernel19Ideal.nD Cert.Kernel19Ideal.τ).loc Cert.Kernel19Ideal.main_v2_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_v2_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_v6) = v1 c
          ∧ r.2.mem ((c.tc : Thread Cert.Reference19Ideal.nD Cert.Reference19Ideal.τ).loc Cert.Reference19Ideal.main_v21) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_v6) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v7_0)) (v1 : (c : Dev Cert.Kernel22Ideal.nD) → Buf (Elt Ideal) ((c.tc : Thread Cert.Kernel22Ideal.nD Cert.Kernel22Ideal.τ).loc Cert.Kernel22Ideal.main_v7_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v7_0) = v0 c
          ∧ r.2.mem ((c.tc : Thread Cert.Kernel22Ideal.nD Cert.Kernel22Ideal.τ).loc Cert.Kernel22Ideal.main_v7_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_v15) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v27) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v72) = v0 c
          ∧ r.2.mem ((c.tc : Thread Cert.Reference25Ideal.nD Cert.Reference25Ideal.τ).loc Cert.Reference25Ideal.main_v73) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S2048x1024 : Shape := ⟨2, ![2048, 1024]⟩
abbrev S2048x512 : Shape := ⟨2, ![2048, 512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  main_v18

def fn {F : FTy → Type} [FloatOps F] (main_arg0 : FVec F S2048x1024 .f32) (main_arg1 : FVec F S2048x512 .f32) (main_arg2 : FVec F S2048x512 .f32) (main_arg3 : FVec F S2048x512 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_v13 main_v16
-- ==== Kernel.lean ====
abbrev S2048x1024 : Shape := ⟨2, ![2048, 1024]⟩
abbrev S2048x512 : Shape := ⟨2, ![2048, 512]⟩
abbrev S_ : Shape := ⟨0, ![]⟩
abbrev S2048x8x64 : Shape := ⟨3, ![2048, 8, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S8x128 : Shape := ⟨2, ![8, 128]⟩
abbrev S256x128 : Shape := ⟨2, ![256, 128]⟩
abbrev S2048x128 : Shape := ⟨2, ![2048, 128]⟩
abbrev S2x256x128 : Shape := ⟨3, ![2, 256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 58
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .bf16⟩
  | .hbm, ⟨5, _⟩ => ⟨S_, .bf16⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S2048x8x64, .f32⟩
  | .hbm, ⟨10, _⟩ => ⟨S2048x8x64, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S_, .f32⟩
  | .hbm, ⟨41, _⟩ => ⟨S8x2048x2048, .i1⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S2048x8, .f32⟩
  | .hbm, ⟨47, _⟩ => ⟨S2048x8x64, .f32⟩
  | .hbm, ⟨48, _⟩ => ⟨S2048x512, .f32⟩
  | .hbm, ⟨49, _⟩ => ⟨S2048x512, .bf16⟩
  | .hbm, ⟨50, _⟩ => ⟨S_, .f32⟩
  | .hbm, ⟨51, _⟩ => ⟨S8x128, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S2048x512, .f32⟩
  | .hbm, ⟨57, _⟩ => ⟨S2048x512, .f32⟩
  | .local _ .vmem, ⟨0, _⟩ => ⟨S256x128, .f32⟩
  | .local _ .vmem, ⟨1, _⟩ => ⟨S256x128, .f32⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .f32⟩
  | .local _ .vmem, ⟨9, _⟩ => ⟨S256x128, .f32⟩
  | .local _ .vmem, ⟨10, _⟩ => ⟨S8x128, .f32⟩
  | .local _ .vmem, ⟨11, _⟩ => ⟨S256x128, .f32⟩
  | .local _ .vmem, ⟨12, _⟩ => ⟨S256x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2x256x128, .f32⟩
  | .local _ .vmem, ⟨18, _⟩ => ⟨S2x256x128, .f32⟩
  | .local _ .vmem, ⟨19, _⟩ => ⟨S2x256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v25_2 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let c1_i32_45 : BitVec 32 := 1#32
  ⟨c0_i32_42, v116, c1_i32_45⟩
def k0_mult1 (i : grid0.Coords) (k0_t1 : Fin (k0_t1_loop i).trips) : BitVec 32 :=
  let c4_i32_160 : BitVec 32 := 4#32
  let c0_i32_42 : BitVec 32 := 0#32
  let c1_i32_45 : BitVec 32 := 1#32
  let arg14 : BitVec 32 := Scf.iv c0_i32_42 c1_i32_45 k0_t1
  let v355 : BitVec 32 := Scalar.muli c4_i32_160 arg14
  let c0_i32_161 : BitVec 32 := 0#32
  let v356 : BitVec 32 := Scalar.addi v355 c0_i32_161
  let c256_i32_165 : BitVec 32 := 256#32
  let v360 : BitVec 32 := Scalar.muli v356 c256_i32_165
  v360
def k0_mult2 (i : grid0.Coords) (k0_t1 : Fin (k0_t1_loop i).trips) : BitVec 32 :=
  let c4_i32_160 : BitVec 32 := 4#32
  let c0_i32_42 : BitVec 32 := 0#32
  let c1_i32_45 : BitVec 32 := 1#32
  let arg14 : BitVec 32 := Scf.iv c0_i32_42 c1_i32_45 k0_t1
  let v355 : BitVec 32 := Scalar.muli c4_i32_160 arg14
  let c1_i32_162 : BitVec 32 := 1#32
  let v357 : BitVec 32 := Scalar.addi v355 c1_i32_162
  let c256_i32_166 : BitVec 32 := 256#32
  let v362 : BitVec 32 := Scalar.muli v357 c256_i32_166
  v362
def k0_mult3 (i : grid0.Coords) (k0_t1 : Fin (k0_t1_loop i).trips) : BitVec 32 :=
  let c4_i32_160 : BitVec 32 := 4#32
  let c0_i32_42 : BitVec 32 := 0#32
  let c1_i32_45 : BitVec 32 := 1#32
  let arg14 : BitVec 32 := Scf.iv c0_i32_42 c1_i32_45 k0_t1
  let v355 : BitVec 32 := Scalar.muli c4_i32_160 arg14
  let c2_i32_163 : BitVec 32 := 2#32
  let v358 : BitVec 32 := Scalar.addi v355 c2_i32_163
  let c256_i32_167 : BitVec 32 := 256#32
  let v364 : BitVec 32 := Scalar.muli v358 c256_i32_167
  v364
def k0_mult4 (i : grid0.Coords) (k0_t1 : Fin (k0_t1_loop i).trips) : BitVec 32 :=
  let c4_i32_160 : BitVec 32 := 4#32
  let c0_i32_42 : BitVec 32 := 0#32
  let c1_i32_45 : BitVec 32 := 1#32
  let arg14 : BitVec 32 := Scf.iv c0_i32_42 c1_i32_45 k0_t1
  let v355 : BitVec 32 := Scalar.muli c4_i32_160 arg14
  let c3_i32_164 : BitVec 32 := 3#32
  let v359 : BitVec 32 := Scalar.addi v355 c3_i32_164
  let c256_i32_168 : BitVec 32 := 256#32
  let v366 : BitVec 32 := Scalar.muli v359 c256_i32_168
  v366
def k0_off1 (i : grid0.Coords) (k0_t1 : Fin (k0_t1_loop i).trips) (c0_i32_161 : BitVec 32) : Fin 2 → Nat :=
  let c4_i32_160 : BitVec 32 := 4#32
  let c0_i32_42 : BitVec 32 := 0#32
  let c1_i32_45 : BitVec 32 := 1#32
  let arg14 : BitVec 32 := Scf.iv c0_i32_42 c1_i32_45 k0_t1
  let v355 : BitVec 32 := Scalar.muli c4_i32_160 arg14
  let v356 : BitVec 32 := Scalar.addi v355 c0_i32_161
  let c256_i32_165 : BitVec 32 := 256#32
  let v360 : BitVec 32 := Scalar.muli v356 c256_i32_165
  let v361 : BitVec 32 := v360
  let v368 : Index := Scalar.indexCast v361
  let c0_169 : Index := 0#32
  ![v368.toNat, 0]
@[reducible] def k0_t2_loop (i : grid0.Coords) : Scf.Loop 32 :=
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let v113 : BitVec 32 := Scalar.addi c0_i32_42 v112
  let c1_i32_46 : BitVec 32 := 1#32
  ⟨v116, v113, c1_i32_46⟩
def k0_mult5 (i : grid0.Coords) (k0_t2 : Fin (k0_t2_loop i).trips) : BitVec 32 :=
  let c4_i32_160 : BitVec 32 := 4#32
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let c1_i32_46 : BitVec 32 := 1#32
  let arg14 : BitVec 32 := Scf.iv v116 c1_i32_46 k0_t2
  let v355 : BitVec 32 := Scalar.muli c4_i32_160 arg14
  let c0_i32_161 : BitVec 32 := 0#32
  let v356 : BitVec 32 := Scalar.addi v355 c0_i32_161
  let c256_i32_165 : BitVec 32 := 256#32
  let v360 : BitVec 32 := Scalar.muli v356 c256_i32_165
  v360
def k0_mult6 (i : grid0.Coords) (k0_t2 : Fin (k0_t2_loop i).trips) : BitVec 32 :=
  let c4_i32_160 : BitVec 32 := 4#32
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let c1_i32_46 : BitVec 32 := 1#32
  let arg14 : BitVec 32 := Scf.iv v116 c1_i32_46 k0_t2
  let v355 : BitVec 32 := Scalar.muli c4_i32_160 arg14
  let c1_i32_162 : BitVec 32 := 1#32
  let v357 : BitVec 32 := Scalar.addi v355 c1_i32_162
  let c256_i32_166 : BitVec 32 := 256#32
  let v362 : BitVec 32 := Scalar.muli v357 c256_i32_166
  v362
def k0_mult7 (i : grid0.Coords) (k0_t2 : Fin (k0_t2_loop i).trips) : BitVec 32 :=
  let c4_i32_160 : BitVec 32 := 4#32
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let c1_i32_46 : BitVec 32 := 1#32
  let arg14 : BitVec 32 := Scf.iv v116 c1_i32_46 k0_t2
  let v355 : BitVec 32 := Scalar.muli c4_i32_160 arg14
  let c2_i32_163 : BitVec 32 := 2#32
  let v358 : BitVec 32 := Scalar.addi v355 c2_i32_163
  let c256_i32_167 : BitVec 32 := 256#32
  let v364 : BitVec 32 := Scalar.muli v358 c256_i32_167
  v364
def k0_mult8 (i : grid0.Coords) (k0_t2 : Fin (k0_t2_loop i).trips) : BitVec 32 :=
  let c4_i32_160 : BitVec 32 := 4#32
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let c1_i32_46 : BitVec 32 := 1#32
  let arg14 : BitVec 32 := Scf.iv v116 c1_i32_46 k0_t2
  let v355 : BitVec 32 := Scalar.muli c4_i32_160 arg14
  let c3_i32_164 : BitVec 32 := 3#32
  let v359 : BitVec 32 := Scalar.addi v355 c3_i32_164
  let c256_i32_168 : BitVec 32 := 256#32
  let v366 : BitVec 32 := Scalar.muli v359 c256_i32_168
  v366
def k0_off2 (i : grid0.Coords) (k0_t2 : Fin (k0_t2_loop i).trips) (c0_i32_161 : BitVec 32) : Fin 2 → Nat :=
  let c4_i32_160 : BitVec 32 := 4#32
  let c0_i32_42 : BitVec 32 := 0#32
  let arg1 : BitVec 32 := BitVec.ofNat 32 (i 1).val
  let c0_i32_36 : BitVec 32 := 0#32
  let v96 : BitVec 1 := Scalar.cmpi .sgt arg1 c0_i32_36
  let v97 : BitVec 32 := Scalar.extui v96
  let c0_i32_37 : BitVec 32 := 0#32
  let v98 : BitVec 1 := Scalar.cmpi .slt arg1 c0_i32_37
  let v99 : BitVec 32 := Scalar.extui v98
  let v100 : BitVec 32 := Scalar.subi v97 v99
  let c4_i32 : BitVec 32 := 4#32
  let c0_i32_38 : BitVec 32 := 0#32
  let v101 : BitVec 1 := Scalar.cmpi .sgt c4_i32 c0_i32_38
  let v102 : BitVec 32 := Scalar.extui v101
  let c0_i32_39 : BitVec 32 := 0#32
  let v103 : BitVec 1 := Scalar.cmpi .slt c4_i32 c0_i32_39
  let v104 : BitVec 32 := Scalar.extui v103
  let v105 : BitVec 32 := Scalar.subi v102 v104
  let v106 : BitVec 1 := Scalar.cmpi .ne v100 v105
  let v107 : BitVec 32 := Scalar.remsi arg1 c4_i32
  let c0_i32_40 : BitVec 32 := 0#32
  let v108 : BitVec 1 := Scalar.cmpi .ne v107 c0_i32_40
  let v109 : BitVec 1 := Scalar.andi v106 v108
  let v95 : BitVec 32 := Scalar.divsi arg1 c4_i32
  let c1_i32_41 : BitVec 32 := 1#32
  let v110 : BitVec 32 := Scalar.subi v95 c1_i32_41
  let v111 : BitVec 32 := Scalar.select v109 v110 v95
  let v112 : BitVec 32 := Scalar.subi v111 c0_i32_42
  let c1_i32_44 : BitVec 32 := 1#32
  let v114 : BitVec 32 := Scalar.divsi v112 c1_i32_44
  let v115 : BitVec 32 := Scalar.muli v114 c1_i32_44
  let v116 : BitVec 32 := Scalar.addi c0_i32_42 v115
  let c1_i32_46 : BitVec 32 := 1#32
  let arg14 : BitVec 32 := Scf.iv v116 c1_i32_46 k0_t2
  let v355 : BitVec 32 := Scalar.muli c4_i32_160 arg14
  let v356 : BitVec 32 := Scalar.addi v355 c0_i32_161
  let c256_i32_165 : BitVec 32 := 256#32
  let v360 : BitVec 32 := Scalar.muli v356 c256_i32_165
  let v361 : BitVec 32 := v360
  let v368 : Index := Scalar.indexCast v361
  let c0_169 : Index := 0#32
  ![v368.toNat, 0]
def k0_cond2 (i : grid0.Coords) : BitVec 1 :=
  let arg1 : BitVec 32 := BitVec.ofNat 32 (i 1).val
  let c4_i32_47 : BitVec 32 := 4#32
  let c0_i32_48 : BitVec 32 := 0#32
  let v119 : BitVec 1 := Scalar.cmpi .eq c4_i32_47 c0_i32_48
  let c1_i32_49 : BitVec 32 := 1#32
  let v120 : BitVec 32 := Scalar.select v119 c1_i32_49 c4_i32_47
  let v121 : BitVec 32 := Scalar.remsi arg1 v120
  let c0_i32_51 : BitVec 32 := 0#32
  let v123 : BitVec 1 := Scalar.cmpi .slt v121 c0_i32_51
  let c0_i32_52 : BitVec 32 := 0#32
  let v124 : BitVec 1 := Scalar.cmpi .slt v120 c0_i32_52
  let v125 : BitVec 1 := Scalar.xori v123 v124
  let c0_i32_50 : BitVec 32 := 0#32
  let v122 : BitVec 1 := Scalar.cmpi .ne v121 c0_i32_50
  let v126 : BitVec 1 := Scalar.andi v125 v122
  let v127 : BitVec 32 := Scalar.addi v121 v120
  let v128 : BitVec 32 := Scalar.select v126 v127 v121
  let c1_i32_53 : BitVec 32 := 1#32
  let v129 : BitVec 1 := Scalar.cmpi .eq v128 c1_i32_53
  let v130 : BitVec 32 := Scalar.extui v129
  let c0_i32_54 : BitVec 32 := 0#32
  let v131 : BitVec 1 := Scalar.cmpi .ne v130 c0_i32_54
  v131

def k0_mult9 (i : grid0.Coords) : BitVec 32 :=
  let arg1 : BitVec 32 := BitVec.ofNat 32 (i 1).val
  let c1_i32_160 : BitVec 32 := 1#32
  let v355 : BitVec 32 := Scalar.subi arg1 c1_i32_160
  let c0_i32_161 : BitVec 32 := 0#32
  let v356 : BitVec 32 := Scalar.addi v355 c0_i32_161
  let c256_i32_162 : BitVec 32 := 256#32
  let v357 : BitVec 32 := Scalar.muli v356 c256_i32_162
  v357
def k0_off3 (i : grid0.Coords) : Fin 2 → Nat :=
  let arg1 : BitVec 32 := BitVec.ofNat 32 (i 1).val
  let c1_i32_160 : BitVec 32 := 1#32
  let v355 : BitVec 32 := Scalar.subi arg1 c1_i32_160
  let c0_i32_161 : BitVec 32 := 0#32
  let v356 : BitVec 32 := Scalar.addi v355 c0_i32_161
  let c256_i32_162 : BitVec 32 := 256#32
  let v357 : BitVec 32 := Scalar.muli v356 c256_i32_162
  let v358 : BitVec 32 := v357
  let v359 : Index := Scalar.indexCast v358
  let c0_163 : Index := 0#32
  ![v359.toNat, 0]
def k0_cond3 (i : grid0.Coords) : BitVec 1 :=
  let arg1 : BitVec 32 := BitVec.ofNat 32 (i 1).val
  let c4_i32_55 : BitVec 32 := 4#32
  let c0_i32_56 : BitVec 32 := 0#32
  let v132 : BitVec 1 := Scalar.cmpi .eq c4_i32_55 c0_i32_56
  let c1_i32_57 : BitVec 32 := 1#32
  let v133 : BitVec 32 := Scalar.select v132 c1_i32_57 c4_i32_55
  let v134 : BitVec 32 := Scalar.remsi arg1 v133
  let c0_i32_59 : BitVec 32 := 0#32
  let v136 : BitVec 1 := Scalar.cmpi .slt v134 c0_i32_59
  let c0_i32_60 : BitVec 32 := 0#32
  let v137 : BitVec 1 := Scalar.cmpi .slt v133 c0_i32_60
  let v138 : BitVec 1 := Scalar.xori v136 v137
  let c0_i32_58 : BitVec 32 := 0#32
  let v135 : BitVec 1 := Scalar.cmpi .ne v134 c0_i32_58
  let v139 : BitVec 1 := Scalar.andi v138 v135
  let v140 : BitVec 32 := Scalar.addi v134 v133
  let v141 : BitVec 32 := Scalar.select v139 v140 v134
  let c2_i32 : BitVec 32 := 2#32
  let v142 : BitVec 1 := Scalar.cmpi .eq v141 c2_i32
  let v143 : BitVec 32 := Scalar.extui v142
  let c0_i32_61 : BitVec 32 := 0#32
  let v144 : BitVec 1 := Scalar.cmpi .ne v143 c0_i32_61
  v144

def k0_mult10 (i : grid0.Coords) : BitVec 32 :=
  let arg1 : BitVec 32 := BitVec.ofNat 32 (i 1).val
  let c2_i32_160 : BitVec 32 := 2#32
  let v355 : BitVec 32 := Scalar.subi arg1 c2_i32_160
  let c0_i32_161 : BitVec 32 := 0#32
  let v356 : BitVec 32 := Scalar.addi v355 c0_i32_161
  let c256_i32_164 : BitVec 32 := 256#32
  let v359 : BitVec 32 := Scalar.muli v356 c256_i32_164
  v359
def k0_mult11 (i : grid0.Coords) : BitVec 32 :=
  let arg1 : BitVec 32 := BitVec.ofNat 32 (i 1).val
  let c2_i32_162 : BitVec 32 := 2#32
  let v357 : BitVec 32 := Scalar.subi arg1 c2_i32_162
  let c1_i32_163 : BitVec 32 := 1#32
  let v358 : BitVec 32 := Scalar.addi v357 c1_i32_163
  let c256_i32_165 : BitVec 32 := 256#32
  let v361 : BitVec 32 := Scalar.muli v358 c256_i32_165
  v361
def k0_off4 (i : grid0.Coords) (c0_i32_161 : BitVec 32) : Fin 2 → Nat :=
  let arg1 : BitVec 32 := BitVec.ofNat 32 (i 1).val
  let c2_i32_160 : BitVec 32 := 2#32
  let v355 : BitVec 32 := Scalar.subi arg1 c2_i32_160
  let v356 : BitVec 32 := Scalar.addi v355 c0_i32_161
  let c256_i32_164 : BitVec 32 := 256#32
  let v359 : BitVec 32 := Scalar.muli v356 c256_i32_164
  let v360 : BitVec 32 := v359
  let v363 : Index := Scalar.indexCast v360
  let c0_166 : Index := 0#32
  ![v363.toNat, 0]
def k0_cond4 (i : grid0.Coords) : BitVec 1 :=
  let arg1 : BitVec 32 := BitVec.ofNat 32 (i 1).val
  let c4_i32_62 : BitVec 32 := 4#32
  let c0_i32_63 : BitVec 32 := 0#32
  let v145 : BitVec 1 := Scalar.cmpi .eq c4_i32_62 c0_i32_63
  let c1_i32_64 : BitVec 32 := 1#32
  let v146 : BitVec 32 := Scalar.select v145 c1_i32_64 c4_i32_62
  let v147 : BitVec 32 := Scalar.remsi arg1 v146
  let c0_i32_66 : BitVec 32 := 0#32
  let v149 : BitVec 1 := Scalar.cmpi .slt v147 c0_i32_66
  let c0_i32_67 : BitVec 32 := 0#32
  let v150 : BitVec 1 := Scalar.cmpi .slt v146 c0_i32_67
  let v151 : BitVec 1 := Scalar.xori v149 v150
  let c0_i32_65 : BitVec 32 := 0#32
  let v148 : BitVec 1 := Scalar.cmpi .ne v147 c0_i32_65
  let v152 : BitVec 1 := Scalar.andi v151 v148
  let v153 : BitVec 32 := Scalar.addi v147 v146
  let v154 : BitVec 32 := Scalar.select v152 v153 v147
  let c3_i32 : BitVec 32 := 3#32
  let v155 : BitVec 1 := Scalar.cmpi .eq v154 c3_i32
  let v156 : BitVec 32 := Scalar.extui v155
  let c0_i32_68 : BitVec 32 := 0#32
  let v157 : BitVec 1 := Scalar.cmpi .ne v156 c0_i32_68
  v157

def k0_mult12 (i : grid0.Coords) : BitVec 32 :=
  let arg1 : BitVec 32 := BitVec.ofNat 32 (i 1).val
  let c3_i32_160 : BitVec 32 := 3#32
  let v355 : BitVec 32 := Scalar.subi arg1 c3_i32_160
  let c0_i32_161 : BitVec 32 := 0#32
  let v356 : BitVec 32 := Scalar.addi v355 c0_i32_161
  let c256_i32_166 : BitVec 32 := 256#32
  let v361 : BitVec 32 := Scalar.muli v356 c256_i32_166
  v361
def k0_mult13 (i : grid0.Coords) : BitVec 32 :=
  let arg1 : BitVec 32 := BitVec.ofNat 32 (i 1).val
  let c3_i32_162 : BitVec 32 := 3#32
  let v357 : BitVec 32 := Scalar.subi arg1 c3_i32_162
  let c1_i32_163 : BitVec 32 := 1#32
  let v358 : BitVec 32 := Scalar.addi v357 c1_i32_163
  let c256_i32_167 : BitVec 32 := 256#32
  let v363 : BitVec 32 := Scalar.muli v358 c256_i32_167
  v363
def k0_mult14 (i : grid0.Coords) : BitVec 32 :=
  let arg1 : BitVec 32 := BitVec.ofNat 32 (i 1).val
  let c3_i32_164 : BitVec 32 := 3#32
  let v359 : BitVec 32 := Scalar.subi arg1 c3_i32_164
  let c2_i32_165 : BitVec 32 := 2#32
  let v360 : BitVec 32 := Scalar.addi v359 c2_i32_165
  let c256_i32_168 : BitVec 32 := 256#32
  let v365 : BitVec 32 := Scalar.muli v360 c256_i32_168
  v365
def k0_off5 (i : grid0.Coords) (c0_i32_161 : BitVec 32) : Fin 2 → Nat :=
  let arg1 : BitVec 32 := BitVec.ofNat 32 (i 1).val
  let c3_i32_160 : BitVec 32 := 3#32
  let v355 : BitVec 32 := Scalar.subi arg1 c3_i32_160
  let v356 : BitVec 32 := Scalar.addi v355 c0_i32_161
  let c256_i32_166 : BitVec 32 := 256#32
  let v361 : BitVec 32 := Scalar.muli v356 c256_i32_166
  let v362 : BitVec 32 := v361
  let v367 : Index := Scalar.indexCast v362
  let c0_169 : Index := 0#32
  ![v367.toNat, 0]
def k0_mult15 (i : grid0.Coords) : BitVec 32 :=
  let arg1 : BitVec 32 := BitVec.ofNat 32 (i 1).val
  let c256_i32 : BitVec 32 := 256#32
  let v158 : BitVec 32 := Scalar.muli arg1 c256_i32
  v158
def k0_off6 (i : grid0.Coords) : Fin 2 → Nat :=
  let arg1 : BitVec 32 := BitVec.ofNat 32 (i 1).val
  let c256_i32 : BitVec 32 := 256#32
  let v158 : BitVec 32 := Scalar.muli arg1 c256_i32
  let v159 : BitVec 32 := v158
  let v160 : Index := Scalar.indexCast v159
  let c0_69 : Index := 0#32
  ![v160.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 174
  | .vmem => 0
  | .smem => 0
  | _ => 0

abbrev hbmTy0_0 (i : Nat) : BufTy := match i % 128 with
  | 0 => ⟨S2048x1024, .f32⟩
  | 1 => ⟨S2048x512, .f32⟩
  | 2 => ⟨S2048x512, .f32⟩
  | 3 => ⟨S2048x512, .f32⟩
  | 4 => ⟨S2048x8x64, .f32⟩
  | 5 => ⟨S2048x8x64, .f32⟩
  | 6 => ⟨S2048x8x64, .f32⟩
  | 7 => ⟨S8x2048x2048, .f32⟩
  | 8 => ⟨S_, .f32⟩
  | 9 => ⟨S8x2048x2048, .f32⟩
  | 10 => ⟨S8x2048x2048, .f32⟩
  | 11 => ⟨S2048, .i32⟩
  | 12 => ⟨S2048x1, .i32⟩
  | 13 => ⟨S2048, .i32⟩
  | 14 => ⟨S1x2048, .i32⟩
  | 15 => ⟨S2048x2048, .i32⟩
  | 16 => ⟨S2048x2048, .i32⟩
  | 17 => ⟨S2048x2048, .i1⟩
  | 18 => ⟨S8x2048x2048, .f32⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .i1⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .i1⟩
  | 36 => ⟨S_, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S8x2048x2048, .f32⟩
  | 46 => ⟨S8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x2048x2048, .f32⟩
  | 55 => ⟨S8x2048x2048, .i1⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .i1⟩
  | 74 => ⟨S8x2048x2048, .f32⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .i1⟩
  | 85 => ⟨S_, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .i1⟩
  | 91 => ⟨S_, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S8x2048x2048, .f32⟩
  | 113 => ⟨S8x2048x2048, .f32⟩
  | 114 => ⟨S8x2048x2048, .f32⟩
  | 115 => ⟨S_, .f32⟩
  | 116 => ⟨S_, .f32⟩
  | 117 => ⟨S8x2048x2048, .i1⟩
  | 118 => ⟨S8x2048x2048, .f32⟩
  | 119 => ⟨S8x2048x2048, .f32⟩
  | 120 => ⟨S_, .f32⟩
  | 121 => ⟨S8x2048x2048, .f32⟩
  | 122 => ⟨S_, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x1024, .f32⟩

abbrev hbmTy0_1 (i : Nat) : BufTy := match i % 128 with
  | 0 => ⟨S_, .f32⟩
  | 1 => ⟨S_, .f32⟩
  | 2 => ⟨S8x2048x2048, .i1⟩
  | 3 => ⟨S8x2048x2048, .f32⟩
  | 4 => ⟨S8x2048x2048, .f32⟩
  | 5 => ⟨S_, .f32⟩
  | 6 => ⟨S8x2048x2048, .f32⟩
  | 7 => ⟨S8x64x2048, .f32⟩
  | 8 => ⟨S2048x8x64, .f32⟩
  | 9 => ⟨S2048x512, .f32⟩
  | 10 => ⟨S2048x512, .f32⟩
  | 11 => ⟨S2048x8x64, .f32⟩
  | 12 => ⟨S8x64x2048, .f32⟩
  | 13 => ⟨S8x2048x2048, .f32⟩
  | 14 => ⟨S8x64x2048, .f32⟩
  | 15 => ⟨S2048x8x64, .f32⟩
  | 16 => ⟨S_, .f32⟩
  | 17 => ⟨S8x2048x2048, .f32⟩
  | 18 => ⟨S8x2048x2048, .f32⟩
  | 19 => ⟨S8x2048x2048, .f32⟩
  | 20 => ⟨S8x2048x2048, .f32⟩
  | 21 => ⟨S_, .f32⟩
  | 22 => ⟨S_, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S8x2048x64, .f32⟩
  | 40 => ⟨S2048x8x64, .f32⟩
  | 41 => ⟨S8x2048x64, .f32⟩
  | 42 => ⟨S2048x8x64, .f32⟩
  | 43 => ⟨S2048x512, .f32⟩
  | 44 => ⟨S2048x512, .f32⟩
  | 45 => ⟨S2048x512, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v13_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v13_2 : Ref sig .tc := ⟨.hbm, 64, rfl⟩
abbrev main_v13_0 : Ref sig .tc := ⟨.hbm, 65, rfl⟩
abbrev main_v14 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v15_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v15_2 : Ref sig .tc := ⟨.hbm, 113, rfl⟩
abbrev main_v15_0 : Ref sig .tc := ⟨.hbm, 114, rfl⟩
abbrev main_cst_0 : Ref sig .tc := ⟨.hbm, 115, rfl⟩
abbrev main_call2_v0 : Ref sig .tc := ⟨.hbm, 116, rfl⟩
abbrev main_v16_1 : Ref sig .tc := ⟨.hbm, 117, rfl⟩
abbrev main_call2_v2 : Ref sig .tc := ⟨.hbm, 118, rfl⟩
abbrev main_v16_0 : Ref sig .tc := ⟨.hbm, 119, rfl⟩
abbrev main_call2_cst : Ref sig .tc := ⟨.hbm, 120, rfl⟩
abbrev main_v16_2 : Ref sig .tc := ⟨.hbm, 121, rfl⟩
abbrev main_call3_cst : Ref sig .tc := ⟨.hbm, 122, rfl⟩
abbrev main_call3_v0 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_call5_cst : Ref sig .tc := ⟨.hbm, 144, rfl⟩
abbrev main_call5_v0 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_call6_cst : Ref sig .tc := ⟨.hbm, 149, rfl⟩
abbrev main_call6_v0 : Ref sig .tc := ⟨.hbm, 150, rfl⟩
abbrev main_v34 : Ref sig .tc := ⟨.hbm, 151, rfl⟩
abbrev main_v35 : Ref sig .tc := ⟨.hbm, 152, rfl⟩
abbrev main_call7_cst : Ref sig .tc := ⟨.hbm, 153, rfl⟩
abbrev main_call7_v0 : Ref sig .tc := ⟨.hbm, 154, rfl⟩
abbrev main_v36 : Ref sig .tc := ⟨.hbm, 155, rfl⟩
abbrev main_call8_v0 : Ref sig .tc := ⟨.hbm, 156, rfl⟩
abbrev main_call8_v1 : Ref sig .tc := ⟨.hbm, 157, rfl⟩
abbrev main_v37 : Ref sig .tc := ⟨.hbm, 158, rfl⟩
abbrev main_v38 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_v40 : Ref sig .tc := ⟨.hbm, 163, rfl⟩
abbrev main_cst_2 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩

abbrev nD : Nat := 1
abbrev τ : Topo := Topo.v7x

variable {F : FTy → Type} [FloatOps F]
-- ==== Kernel2.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S512x1024 : Shape := ⟨2, ![512, 1024]⟩
abbrev S2048x512 : Shape := ⟨2, ![2048, 512]⟩

abbrev nBuf : Space → Nat
  | .hbm => 11
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S2048x1024, .bf16⟩
  | .hbm, ⟨9, _⟩ => ⟨S4096x1024, .bf16⟩
  | .hbm, ⟨10, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S2048x1024, .bf16⟩
  | .hbm, ⟨9, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x4096, .bf16⟩
  | .hbm, ⟨6, _⟩ => ⟨S1024x4096, .bf16⟩
  | .hbm, ⟨7, _⟩ => ⟨S2048x1024, .f32⟩
  | .hbm, ⟨8, _⟩ => ⟨S2048x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S2048x1024 : Shape := ⟨2, ![2048, 1024]⟩
abbrev S1024x4096 : Shape := ⟨2, ![1024, 4096]⟩
abbrev S2048x4096 : Shape := ⟨2, ![2048, 4096]⟩
abbrev S8x1024x512 : Shape := ⟨3, ![8, 1024, 512]⟩
abbrev S2048x256 : Shape := ⟨2, ![2048, 256]⟩
abbrev S8x256x512 : Shape := ⟨3, ![8, 256, 512]⟩
abbrev S256x4096 : Shape := ⟨2, ![256, 4096]⟩
abbrev S256x512 : Shape := ⟨2, ![256, 512]⟩
abbrev S1x256x512 : Shape := ⟨3, ![1, 256, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x1024, .bf16⟩
  | .hbm, ⟨4, _⟩ => ⟨S2048x4096, .bf16⟩
  | .hbm, ⟨5, _⟩ => ⟨S8x1024x512, .bf16⟩
  | .local _ .vmem, ⟨0, _⟩ => ⟨S2048x256, .bf16⟩
  | .local _ .vmem, ⟨1, _⟩ => ⟨S2048x256, .bf16⟩
  | .local _ .vmem, ⟨2, _⟩ => ⟨S2048x4096, .bf16⟩
  | .local _ .vmem, ⟨3, _⟩ => ⟨S8x256x512, .bf16⟩
  | .local _ .vmem, ⟨4, _⟩ => ⟨S8x256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S256x1024 : Shape := ⟨2, ![256, 1024]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S2048x1024, .f32⟩
  | .hbm, ⟨8, _⟩ => ⟨S2048x1024, .bf16⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S2048x256 : Shape := ⟨2, ![2048, 256]⟩
abbrev S256x1024 : Shape := ⟨2, ![256, 1024]⟩
abbrev S2048x1024 : Shape := ⟨2, ![2048, 1024]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 6
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x256, .bf16⟩
  | .hbm, ⟨4, _⟩ => ⟨S2048x1024, .bf16⟩
  | .hbm, ⟨5, _⟩ => ⟨S8x256x128, .bf16⟩
  | .local _ .vmem, ⟨0, _⟩ => ⟨S2048x256, .bf16⟩
  | .local _ .vmem, ⟨1, _⟩ => ⟨S2048x1024, .bf16⟩
  | .local _ .vmem, ⟨2, _⟩ => ⟨S8x256x128, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference9Ideal.lean ====
abbrev S2048x256 : Shape := ⟨2, ![2048, 256]⟩
abbrev S256x1024 : Shape := ⟨2, ![256, 1024]⟩
abbrev S2048x1024 : Shape := ⟨2, ![2048, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .f32⟩
  | .hbm, ⟨4, _⟩ => ⟨S1024x256, .f32⟩
  | .hbm, ⟨5, _⟩ => ⟨S256x1024, .f32⟩
  | .hbm, ⟨6, _⟩ => ⟨S256x8x128, .f32⟩
  | .hbm, ⟨7, _⟩ => ⟨S8x256x128, .f32⟩
  | .hbm, ⟨8, _⟩ => ⟨S8x256x128, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x1024 : Shape := ⟨2, ![2048, 1024]⟩
abbrev S1024x768 : Shape := ⟨2, ![1024, 768]⟩
abbrev S2048x768 : Shape := ⟨2, ![2048, 768]⟩
abbrev S768x1024 : Shape := ⟨2, ![768, 1024]⟩
abbrev S2048x384 : Shape := ⟨2, ![2048, 384]⟩
abbrev S384x1024 : Shape := ⟨2, ![384, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x768, .f32⟩
  | .hbm, ⟨2, _⟩ => ⟨S2048x768, .f32⟩
  | .hbm, ⟨3, _⟩ => ⟨S2048x768, .bf16⟩
  | .hbm, ⟨4, _⟩ => ⟨S2048x1024, .bf16⟩
  | .hbm, ⟨5, _⟩ => ⟨S768x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S384x1024, .bf16⟩
  | .local _ .vmem, ⟨4, _⟩ => ⟨S384x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x1024 : Shape := ⟨2, ![2048, 1024]⟩
abbrev S1024x768 : Shape := ⟨2, ![1024, 768]⟩
abbrev S2048x768 : Shape := ⟨2, ![2048, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x768, .f32⟩
  | .hbm, ⟨2, _⟩ => ⟨S2048x768, .f32⟩
  | .hbm, ⟨3, _⟩ => ⟨S2048x768, .f32⟩
  | .hbm, ⟨4, _⟩ => ⟨S768x1024, .f32⟩
  | .hbm, ⟨5, _⟩ => ⟨S1024x768, .f32⟩
  | .hbm, ⟨6, _⟩ => ⟨S768x1024, .f32⟩
  | .hbm, ⟨7, _⟩ => ⟨S768x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x1024 : Shape := ⟨2, ![2048, 1024]⟩
abbrev S1024x1536 : Shape := ⟨2, ![1024, 1536]⟩
abbrev S2048x1536 : Shape := ⟨2, ![2048, 1536]⟩
abbrev S1536x1024 : Shape := ⟨2, ![1536, 1024]⟩
abbrev S2048x768 : Shape := ⟨2, ![2048, 768]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1536, .f32⟩
  | .hbm, ⟨2, _⟩ => ⟨S2048x1536, .f32⟩
  | .hbm, ⟨3, _⟩ => ⟨S2048x1536, .bf16⟩
  | .hbm, ⟨4, _⟩ => ⟨S2048x1024, .bf16⟩
  | .hbm, ⟨5, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S2048x1024 : Shape := ⟨2, ![2048, 1024]⟩
abbrev S1024x1536 : Shape := ⟨2, ![1024, 1536]⟩
abbrev S2048x1536 : Shape := ⟨2, ![2048, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1536, .f32⟩
  | .hbm, ⟨2, _⟩ => ⟨S2048x1536, .f32⟩
  | .hbm, ⟨3, _⟩ => ⟨S2048x1536, .f32⟩
  | .hbm, ⟨4, _⟩ => ⟨S1536x1024, .f32⟩
  | .hbm, ⟨5, _⟩ => ⟨S1024x1536, .f32⟩
  | .hbm, ⟨6, _⟩ => ⟨S1536x1024, .f32⟩
  | .hbm, ⟨7, _⟩ => ⟨S1536x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩
abbrev S2048x256 : Shape := ⟨2, ![2048, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S2048x512, .f32⟩
  | .hbm, ⟨3, _⟩ => ⟨S2048x512, .bf16⟩
  | .hbm, ⟨4, _⟩ => ⟨S2048x1024, .bf16⟩
  | .hbm, ⟨5, _⟩ => ⟨S512x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S1024x2816 : Shape := ⟨2, ![1024, 2816]⟩
abbrev S2048x2816 : Shape := ⟨2, ![2048, 2816]⟩
abbrev S2048x768 : Shape := ⟨2, ![2048, 768]⟩
abbrev S2048x1536 : Shape := ⟨2, ![2048, 1536]⟩
abbrev S2048x512 : Shape := ⟨2, ![2048, 512]⟩
abbrev S2816x1024 : Shape := ⟨2, ![2816, 1024]⟩
abbrev S512x768 : Shape := ⟨2, ![512, 768]⟩
abbrev S512x1536 : Shape := ⟨2, ![512, 1536]⟩
abbrev S512x512 : Shape := ⟨2, ![512, 512]⟩
abbrev S512x1024 : Shape := ⟨2, ![512, 1024]⟩
abbrev S768x1024 : Shape := ⟨2, ![768, 1024]⟩
abbrev S1536x1024 : Shape := ⟨2, ![1536, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S2048x2816, .f32⟩
  | .hbm, ⟨4, _⟩ => ⟨S2048x1024, .f32⟩
  | .hbm, ⟨5, _⟩ => ⟨S2048x2816, .bf16⟩
  | .hbm, ⟨6, _⟩ => ⟨S2048x768, .bf16⟩
  | .hbm, ⟨7, _⟩ => ⟨S2048x1536, .bf16⟩
  | .hbm, ⟨8, _⟩ => ⟨S2048x512, .bf16⟩
  | .hbm, ⟨9, _⟩ => ⟨S2816x1024, .f32⟩
  | .hbm, ⟨10, _⟩ => ⟨S2816x1024, .bf16⟩
  | .hbm, ⟨11, _⟩ => ⟨S2048x1024, .f32⟩
  | .hbm, ⟨12, _⟩ => ⟨S2048x1024, .bf16⟩
  | .hbm, ⟨13, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S2048x1024 : Shape := ⟨2, ![2048, 1024]⟩
abbrev S1x1024 : Shape := ⟨2, ![1, 1024]⟩
abbrev S1024x2816 : Shape := ⟨2, ![1024, 2816]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S2048x2816, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x2816, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel14.lean ====
abbrev S2048x1024 : Shape := ⟨2, ![2048, 1024]⟩
abbrev S1024x4096 : Shape := ⟨2, ![1024, 4096]⟩
abbrev S2048x4096 : Shape := ⟨2, ![2048, 4096]⟩
abbrev S1024x512 : Shape := ⟨2, ![1024, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S2048x4096, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel15.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x4096, .bf16⟩
  | .hbm, ⟨5, _⟩ => ⟨S4096x1024, .bf16⟩
  | .hbm, ⟨6, _⟩ => ⟨S2048x1024, .f32⟩
  | .hbm, ⟨7, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference16Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel17.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x1024, .bf16⟩
  | .hbm, ⟨3, _⟩ => ⟨S2816x1024, .f32⟩
  | .hbm, ⟨4, _⟩ => ⟨S2816x1024, .bf16⟩
  | .hbm, ⟨5, _⟩ => ⟨S2048x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x1024 : Shape := ⟨2, ![2048, 1024]⟩
abbrev S1024x2816 : Shape := ⟨2, ![1024, 2816]⟩
abbrev S2048x2816 : Shape := ⟨2, ![2048, 2816]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S2048x256 : Shape := ⟨2, ![2048, 256]⟩
abbrev S256x1024 : Shape := ⟨2, ![256, 1024]⟩
abbrev S2048x1024 : Shape := ⟨2, ![2048, 1024]⟩
abbrev S256x512 : Shape := ⟨2, ![256, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x256, .bf16⟩
  | .hbm, ⟨3, _⟩ => ⟨S256x1024, .bf16⟩
  | .hbm, ⟨4, _⟩ => ⟨S2048x1024, .f32⟩
  | .local _ .vmem, ⟨0, _⟩ => ⟨S2048x256, .bf16⟩
  | .local _ .vmem, ⟨1, _⟩ => ⟨S256x512, .bf16⟩
  | .local _ .vmem, ⟨2, _⟩ => ⟨S256x512, .bf16⟩
  | .local _ .vmem, ⟨3, _⟩ => ⟨S2048x512, .f32⟩
  | .local _ .vmem, ⟨4, _⟩ => ⟨S2048x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .bf16⟩
  | .hbm, ⟨6, _⟩ => ⟨S1024x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference20Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel21.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S2048x1024 : Shape := ⟨2, ![2048, 1024]⟩
abbrev S_ : Shape := ⟨0, ![]⟩
abbrev S8x128 : Shape := ⟨2, ![8, 128]⟩
abbrev S512x1024 : Shape := ⟨2, ![512, 1024]⟩

abbrev nBuf : Space → Nat
  | .hbm => 15
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S8x128, .f32⟩
  | .hbm, ⟨13, _⟩ => ⟨S2048x1024, .bf16⟩
  | .hbm, ⟨14, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S2048x1024 : Shape := ⟨2, ![2048, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel23.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel24.lean ====
abbrev S2048x2816 : Shape := ⟨2, ![2048, 2816]⟩
abbrev S3x256 : Shape := ⟨2, ![3, 256]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S3x256, .f32⟩
  | .hbm, ⟨2, _⟩ => ⟨S2048x256, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S2048x2816 : Shape := ⟨2, ![2048, 2816]⟩
abbrev S3x256 : Shape := ⟨2, ![3, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 31
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S3x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2x256, .f32⟩
  | .hbm, ⟨8, _⟩ => ⟨S2050x256, .f32⟩
  | .hbm, ⟨9, _⟩ => ⟨S1x256, .f32⟩
  | .hbm, ⟨10, _⟩ => ⟨S256, .f32⟩
  | .hbm, ⟨11, _⟩ => ⟨S2048x256, .f32⟩
  | .hbm, ⟨12, _⟩ => ⟨S1x256, .f32⟩
  | .hbm, ⟨13, _⟩ => ⟨S2048x256, .f32⟩
  | .hbm, ⟨14, _⟩ => ⟨S2048x256, .f32⟩
  | .hbm, ⟨15, _⟩ => ⟨S1x256, .f32⟩
  | .hbm, ⟨16, _⟩ => ⟨S256, .f32⟩
  | .hbm, ⟨17, _⟩ => ⟨S2048x256, .f32⟩
  | .hbm, ⟨18, _⟩ => ⟨S1x256, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S1x256, .f32⟩
  | .hbm, ⟨23, _⟩ => ⟨S256, .f32⟩
  | .hbm, ⟨24, _⟩ => ⟨S2048x256, .f32⟩
  | .hbm, ⟨25, _⟩ => ⟨S1x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel25.lean ====
abbrev S2048x1024 : Shape := ⟨2, ![2048, 1024]⟩
abbrev S2048x2816 : Shape := ⟨2, ![2048, 2816]⟩
abbrev S3x256 : Shape := ⟨2, ![3, 256]⟩
abbrev S2048x768 : Shape := ⟨2, ![2048, 768]⟩
abbrev S8x256 : Shape := ⟨2, ![8, 256]⟩
abbrev S2048x256 : Shape := ⟨2, ![2048, 256]⟩
abbrev S1x256 : Shape := ⟨2, ![1, 256]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S3x256, .f32⟩
  | .hbm, ⟨3, _⟩ => ⟨S2048x768, .bf16⟩
  | .hbm, ⟨4, _⟩ => ⟨S8x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S2048x768, .bf16⟩
  | .local _ .vmem, ⟨6, _⟩ => ⟨S8x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S2048x1024 : Shape := ⟨2, ![2048, 1024]⟩
abbrev S2048x2816 : Shape := ⟨2, ![2048, 2816]⟩
abbrev S3x256 : Shape := ⟨2, ![3, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩
abbrev S2048x768 : Shape := ⟨2, ![2048, 768]⟩
abbrev S8x256 : Shape := ⟨2, ![8, 256]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S3x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2x256, .f32⟩
  | .hbm, ⟨9, _⟩ => ⟨S2050x256, .f32⟩
  | .hbm, ⟨10, _⟩ => ⟨S_, .f32⟩
  | .hbm, ⟨11, _⟩ => ⟨S2x256, .f32⟩
  | .hbm, ⟨12, _⟩ => ⟨S1x256, .f32⟩
  | .hbm, ⟨13, _⟩ => ⟨S256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S1x256, .f32⟩
  | .hbm, ⟨19, _⟩ => ⟨S256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S1x256, .f32⟩
  | .hbm, ⟨26, _⟩ => ⟨S256, .f32⟩
  | .hbm, ⟨27, _⟩ => ⟨S2048x256, .f32⟩
  | .hbm, ⟨28, _⟩ => ⟨S1x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S_, .f32⟩
  | .hbm, ⟨40, _⟩ => ⟨S256, .f32⟩
  | .hbm, ⟨41, _⟩ => ⟨S1x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S2050x256, .f32⟩
  | .hbm, ⟨46, _⟩ => ⟨S1x256, .f32⟩
  | .hbm, ⟨47, _⟩ => ⟨S_, .f32⟩
  | .hbm, ⟨48, _⟩ => ⟨S3x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S2050x256, .f32⟩
  | .hbm, ⟨59, _⟩ => ⟨S2050x256, .f32⟩
  | .hbm, ⟨60, _⟩ => ⟨S1x256, .f32⟩
  | .hbm, ⟨61, _⟩ => ⟨S_, .f32⟩
  | .hbm, ⟨62, _⟩ => ⟨S3x256, .f32⟩
  | .hbm, ⟨63, _⟩ => ⟨S3x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S_, .f32⟩
  | .hbm, ⟨68, _⟩ => ⟨S256, .f32⟩
  | .hbm, ⟨69, _⟩ => ⟨S1x256, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S2050x256, .f32⟩
  | .hbm, ⟨74, _⟩ => ⟨S2050x256, .f32⟩
  | .hbm, ⟨75, _⟩ => ⟨S1x256, .f32⟩
  | .hbm, ⟨76, _⟩ => ⟨S_, .f32⟩
  | .hbm, ⟨77, _⟩ => ⟨S3x256, .f32⟩
  | .hbm, ⟨78, _⟩ => ⟨S3x256, .f32⟩
  | .hbm, ⟨79, _⟩ => ⟨S2x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S_, .f32⟩
  | .hbm, ⟨84, _⟩ => ⟨S2048x2816, .f32⟩
  | .hbm, ⟨85, _⟩ => ⟨S_, .f32⟩
  | .hbm, ⟨86, _⟩ => ⟨S2048x2816, .f32⟩
  | .hbm, ⟨87, _⟩ => ⟨S2048x2816, .f32⟩
  | .hbm, ⟨88, _⟩ => ⟨S_, .f32⟩
  | .hbm, ⟨89, _⟩ => ⟨S2048x2816, .f32⟩
  | .hbm, ⟨90, _⟩ => ⟨S2048x2816, .f32⟩
  | .hbm, ⟨91, _⟩ => ⟨S2048x768, .f32⟩
  | .hbm, ⟨92, _⟩ => ⟨S2048x768, .bf16⟩
  | .hbm, ⟨93, _⟩ => ⟨S_, .i32⟩
  | .hbm, ⟨94, _⟩ => ⟨S_, .f32⟩
  | .hbm, ⟨95, _⟩ => ⟨S8x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c : Ref sig .tc := ⟨.hbm, 93, rfl⟩
abbrev main_call0_v0 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel26.lean ====
abbrev S2048x128 : Shape := ⟨2, ![2048, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Held.lean ====
/-
  The gradient of the stick-breaking attention: the memory the kernel's body works on, as one value.

  The body reads five blocks (the gradient of the mixer's output, the queries, the keys, the values and
  the rows' logarithms), writes the query gradient once, adds to the key and value gradients, and keeps
  three scratch arrays. `St` lists what those eleven buffers hold and `Held` says that a core owns them at
  that. A load reads `St` on a rectangle and a store replaces a rectangle of it, so the rules below run a
  straight line of the body as a computation on `St` alone, for any float values.
-/
module

public import proofs.«01_k».proof.Proof.Gen.KernelIdeal.Skeleton
public import proofs.«01_k».proof.Proof.Gen.KernelIdeal.Frame
public import Idealize.ShloMosaic.Lib.LoopRemainder

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel calls nothing, so its calls need no variant. -/
abbrev 𝒱₀ : Variants := Variants.none

/-- What the eleven buffers hold: the five blocks read, the query gradient's block, the key and value
    gradients of the pair of heads, and the three scratch arrays (one slice per head): the query gradient
    so far, the rows' running sums of logarithms and the rows' running sums of weight gradients. -/
structure St (F : FTy → Type) where
  dO : Vec F S256x128 .f32
  q : Vec F S256x128 .bf16
  k : Vec F S2048x128 .bf16
  v : Vec F S2048x128 .bf16
  lt : Vec F S256x128 .f32
  out : Vec F S256x128 .f32
  dk : Vec F S2048x128 .f32
  dv : Vec F S2048x128 .f32
  dq : Vec F S2x256x128 .f32
  cc : Vec F S2x256x128 .f32
  cg : Vec F S2x256x128 .f32

/-- The memrefs of those buffers, in the body's order. -/
structure Bufs where
  a2 : Memref sig .tc .vmem S256x128 .f32
  a3 : Memref sig .tc .vmem S256x128 .bf16
  a4 : Memref sig .tc .vmem S2048x128 .bf16
  a5 : Memref sig .tc .vmem S2048x128 .bf16
  a6 : Memref sig .tc .vmem S256x128 .f32
  a8 : Memref sig .tc .vmem S256x128 .f32
  a9 : Memref sig .tc .vmem S2048x128 .f32
  a10 : Memref sig .tc .vmem S2048x128 .f32
  a11 : Memref sig .tc .vmem S2x256x128 .f32
  a12 : Memref sig .tc .vmem S2x256x128 .f32
  a13 : Memref sig .tc .vmem S2x256x128 .f32

/-- Core `c` owns the buffers `B`, holding `σ`. -/
def Held (c : Dev nD) (B : Bufs) (σ : St F) : sProp 𝕄 :=
  iprop(owns (c : Thread nD τ) B.a2 fullShare σ.dO ∗ owns (c : Thread nD τ) B.a3 fullShare σ.q
    ∗ owns (c : Thread nD τ) B.a4 fullShare σ.k ∗ owns (c : Thread nD τ) B.a5 fullShare σ.v
    ∗ owns (c : Thread nD τ) B.a6 fullShare σ.lt ∗ owns (c : Thread nD τ) B.a8 fullShare σ.out
    ∗ owns (c : Thread nD τ) B.a9 fullShare σ.dk ∗ owns (c : Thread nD τ) B.a10 fullShare σ.dv
    ∗ owns (c : Thread nD τ) B.a11 fullShare σ.dq ∗ owns (c : Thread nD τ) B.a12 fullShare σ.cc
    ∗ owns (c : Thread nD τ) B.a13 fullShare σ.cg)

/-- The run of a program of the body on core `c` to a post. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {α β : Type}

/-- A load through a rectangle of an owned memref reads the contents there. -/
theorem owns_load {s : Shape} {e : EltTy} (m : Memref sig .tc .vmem s e) (X : s.Idx → Elt F e) (r : Rect s) (hl)
    {k : (r.shape.Idx → Elt F e) → Prog (TpuEff nD τ sig (Elt F) Λ₀ .tc) α} {Q : α → sProp 𝕄} :
    (owns (c : Thread nD τ) m fullShare X : sProp 𝕄)
      ⊢ iprop((owns (c : Thread nD τ) m fullShare X -∗ Wp c (k (View.ld X r)) Q)
        -∗ Wp c (Prog.lift (.load m r.toLoadRect hl) >>= k) Q) := by
  unfold owns
  iintro ⟨%f, %hf, H⟩ Hk
  rw [Prog.bind_lift]
  have hset : m.view.setOn r.toLoadRect.set ⊆ m.view.set := by
    have := m.view.set_slice_subset r
    rwa [View.set_slice] at this
  iapply (wp_load 𝒱₀ (c : Thread nD τ) none Set.univ (m := m) (r := r.toLoadRect) hset) $$ H
  iintro H
  rw [View.readAt_eq_ld, hf]
  iapply Hk
  iexists f
  isplitr
  · ipureintro; exact hf
  iexact H

/-- What is read after a store through a rectangle: the old contents with the rectangle replaced. -/
theorem read_store {s : Shape} {e : EltTy} (m : Memref sig .tc .vmem s e) (f : m.view.ty.Contents (Elt F)) (r : Rect s)
    (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    rw [show r.idx i = r.emb i from rfl, Rect.overlay_emb]
    exact congrFun (View.read_write_univ (v := m.view.slice r) f w) i
  · rw [Rect.overlay_of_not_mem _ _ _ hj]
    exact View.read_slice_write_of_not_mem _ _ _ _ (by rw [Rect.map_emb_univ]; exact hj)

/-- A store through a rectangle of an owned memref replaces the contents there. -/
theorem owns_store {s : Shape} {e : EltTy} (m : Memref sig .tc .vmem s e) (X : s.Idx → Elt F e) (r : Rect s)
    (w : r.shape.Idx → Elt F e) (hx) (hm)
    {k : PUnit → Prog (TpuEff nD τ sig (Elt F) Λ₀ .tc) α} {Q : α → sProp 𝕄} :
    (owns (c : Thread nD τ) m fullShare X : sProp 𝕄)
      ⊢ iprop((owns (c : Thread nD τ) m fullShare (r.overlay X w) -∗ Wp c (k ⟨⟩) Q)
        -∗ Wp c (Prog.lift (.store m r w Finset.univ hx hm) >>= k) Q) := by
  unfold owns
  iintro ⟨%f, %hf, H⟩ Hk
  rw [Prog.bind_lift]
  have hset : (m.access r).setOn Finset.univ ⊆ m.view.set := by
    rw [View.setOn_univ]; exact m.view.set_slice_subset r
  iapply (wp_store 𝒱₀ (c : Thread nD τ) none Set.univ (m := m) (r := r) (Mk := Finset.univ) hset) $$ H
  iintro H
  iapply Hk
  iexists _
  isplitr
  swap; · iexact H
  ipureintro
  rw [read_store, hf]

variable {B : Bufs} {σ : St F}

/-- A bind runs its first part to the run of the rest. -/
theorem run_bind {P : sProp 𝕄} {p : Prog (TpuEff nD τ sig (Elt F) Λ₀ .tc) α}
    {k : α → Prog (TpuEff nD τ sig (Elt F) Λ₀ .tc) β} {Q : β → sProp 𝕄}
    (h : P ⊢ Wp c p (fun a => Wp c (k a) Q)) : P ⊢ Wp c (p >>= k) Q := by
  unfold Wp; rw [wp_bind]; exact h

/-- A returned value is handed to the post. -/
theorem run_pure {P : sProp 𝕄} {a : α} {Q : α → sProp 𝕄} (h : P ⊢ Q a) :
    P ⊢ Wp c (pure a) Q :=
  h.trans (le_wp_ret _ _ _ a Q)

/-- A lone effect is one followed by a return. -/
theorem run_lift {P : sProp 𝕄} {e : TpuEff nD τ sig (Elt F) Λ₀ .tc α} {Q : α → sProp 𝕄}
    (h : P ⊢ Wp c (Prog.lift e >>= fun a => pure a) Q) : P ⊢ Wp c (Prog.lift e) Q := h

/-- Name what the buffers hold. -/
theorem name_state {P : sProp 𝕄} (h : ∀ σ' : St F, σ' = σ → Held c B σ' ⊢ P) : Held c B σ ⊢ P := h σ rfl

/-- A conditional whose branches both go on to `j`: each takes the buffers from `σ` to `σ'`. -/
theorem run_dite {p : Prop} [Decidable p] {a : p → Prog (TpuEff nD τ sig (Elt F) Λ₀ .tc) α}
    {b : ¬p → Prog (TpuEff nD τ sig (Elt F) Λ₀ .tc) α} {Q : α → sProp 𝕄}
    (j : PUnit → Prog (TpuEff nD τ sig (Elt F) Λ₀ .tc) α) (σ' : St F)
    (ha : ∀ h : p, (Held c B σ' ⊢ Wp c (j ⟨⟩) Q) → Held c B σ ⊢ Wp c (a h) Q)
    (hb : ∀ h : ¬p, (Held c B σ' ⊢ Wp c (j ⟨⟩) Q) → Held c B σ ⊢ Wp c (b h) Q)
    (h : Held c B σ' ⊢ Wp c (j ⟨⟩) Q) : Held c B σ ⊢ Wp c (dite p a b) Q := by
  by_cases hp : p
  · rw [dif_pos hp]; exact ha hp h
  · rw [dif_neg hp]; exact hb hp h

/-- A counted loop that carries nothing but zero: trip `k` takes the buffers from `S k` to `S (k + 1)`. -/
theorem run_for {lb ub st : BitVec 32} {ok : Scf.OK lb ub st}
    {body : Fin (Scf.trips lb ub st) → BitVec 32 → Prog (TpuEff nD τ sig (Elt F) Λ₀ .tc) (BitVec 32)}
    {k : BitVec 32 → Prog (TpuEff nD τ sig (Elt F) Λ₀ .tc) β} {Q : β → sProp 𝕄} (S : Nat → St F)
    (hbody : ∀ (t : Fin (Scf.trips lb ub st)) (u : BitVec 32), ∀ Q' : BitVec 32 → sProp 𝕄,
      (Held c B (S (t.val + 1)) ⊢ Q' 0#32) → Held c B (S t.val) ⊢ Wp c (body t u) Q')
    (h : Held c B (S (Scf.trips lb ub st)) ⊢ Wp c (k 0#32) Q) :
    Held c B (S 0) ⊢ Wp c (Scf.for lb ub st ok 0#32 body >>= k) Q := by
  iintro H
  unfold Wp at hbody h ⊢
  iapply (Scf.wp_for_bind frame (wpE (defs₀ (F := F)) 𝒱₀ c none) Set.univ lb ub st ok 0#32 body
    (fun n u => iprop(⌜u = 0#32⌝ ∗ Held c B (S n))) ?_) $$ [H]
  · intro t u
    iintro ⟨%hu, H⟩
    iapply (hbody t u (fun v => iprop(⌜v = 0#32⌝ ∗ Held c B (S (t.val + 1)))) ?_) $$ H
    iintro H
    isplitr
    · ipureintro; rfl
    iexact H
  · isplitr
    · ipureintro; rfl
    iexact H
  iintro %u ⟨%hu, H⟩
  subst hu
  iapply h $$ H

/-- A loop of no trips. -/
theorem run_for_none {lb ub st : BitVec 32} {ok : Scf.OK lb ub st} {u : BitVec 32}
    {body : Fin (Scf.trips lb ub st) → BitVec 32 → Prog (TpuEff nD τ sig (Elt F) Λ₀ .tc) (BitVec 32)}
    {k : BitVec 32 → Prog (TpuEff nD τ sig (Elt F) Λ₀ .tc) β} {P : sProp 𝕄} {Q : β → sProp 𝕄}
    (hn : Scf.trips lb ub st = 0) (h : P ⊢ Wp c (k u) Q) :
    P ⊢ Wp c (Scf.for lb ub st ok u body >>= k) Q := by
  rw [Scf.for_eq_ret lb ub st ok u body hn]; exact h

section Loads

theorem load_dO {r : Rect S256x128} {hl} {k : (r.shape.Idx → Elt F .f32) → Prog (TpuEff nD τ sig (Elt F) Λ₀ .tc) α}
    {Q : α → sProp 𝕄} (h : Held c B σ ⊢ Wp c (k (View.ld σ.dO r)) Q) :
    Held c B σ ⊢ Wp c (Prog.lift (.load B.a2 r.toLoadRect hl) >>= k) Q := by
  unfold Held at h ⊢
  iintro ⟨H0, H1, H2, H3, H4, H5, H6, H7, H8, H9, H10⟩
  iapply (owns_load B.a2 σ.dO r hl) $$ H0
  iintro H0
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_q {r : Rect S256x128} {hl} {k : (r.shape.Idx → Elt F .bf16) → Prog (TpuEff nD τ sig (Elt F) Λ₀ .tc) α}
    {Q : α → sProp 𝕄} (h : Held c B σ ⊢ Wp c (k (View.ld σ.q r)) Q) :
    Held c B σ ⊢ Wp c (Prog.lift (.load B.a3 r.toLoadRect hl) >>= k) Q := by
  unfold Held at h ⊢
  iintro ⟨H0, H1, H2, H3, H4, H5, H6, H7, H8, H9, H10⟩
  iapply (owns_load B.a3 σ.q r hl) $$ H1
  iintro H1
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_k {r : Rect S2048x128} {hl} {k : (r.shape.Idx → Elt F .bf16) → Prog (TpuEff nD τ sig (Elt F) Λ₀ .tc) α}
    {Q : α → sProp 𝕄} (h : Held c B σ ⊢ Wp c (k (View.ld σ.k r)) Q) :
    Held c B σ ⊢ Wp c (Prog.lift (.load B.a4 r.toLoadRect hl) >>= k) Q := by
  unfold Held at h ⊢
  iintro ⟨H0, H1, H2, H3, H4, H5, H6, H7, H8, H9, H10⟩
  iapply (owns_load B.a4 σ.k r hl) $$ H2
  iintro H2
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_v {r : Rect S2048x128} {hl} {k : (r.shape.Idx → Elt F .bf16) → Prog (TpuEff nD τ sig (Elt F) Λ₀ .tc) α}
    {Q : α → sProp 𝕄} (h : Held c B σ ⊢ Wp c (k (View.ld σ.v r)) Q) :
    Held c B σ ⊢ Wp c (Prog.lift (.load B.a5 r.toLoadRect hl) >>= k) Q := by
  unfold Held at h ⊢
  iintro ⟨H0, H1, H2, H3, H4, H5, H6, H7, H8, H9, H10⟩
  iapply (owns_load B.a5 σ.v r hl) $$ H3
  iintro H3
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_lt {r : Rect S256x128} {hl} {k : (r.shape.Idx → Elt F .f32) → Prog (TpuEff nD τ sig (Elt F) Λ₀ .tc) α}
    {Q : α → sProp 𝕄} (h : Held c B σ ⊢ Wp c (k (View.ld σ.lt r)) Q) :
    Held c B σ ⊢ Wp c (Prog.lift (.load B.a6 r.toLoadRect hl) >>= k) Q := by
  unfold Held at h ⊢
  iintro ⟨H0, H1, H2, H3, H4, H5, H6, H7, H8, H9, H10⟩
  iapply (owns_load B.a6 σ.lt r hl) $$ H4
  iintro H4
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_out {r : Rect S256x128} {hl} {k : (r.shape.Idx → Elt F .f32) → Prog (TpuEff nD τ sig (Elt F) Λ₀ .tc) α}
    {Q : α → sProp 𝕄} (h : Held c B σ ⊢ Wp c (k (View.ld σ.out r)) Q) :
    Held c B σ ⊢ Wp c (Prog.lift (.load B.a8 r.toLoadRect hl) >>= k) Q := by
  unfold Held at h ⊢
  iintro ⟨H0, H1, H2, H3, H4, H5, H6, H7, H8, H9, H10⟩
  iapply (owns_load B.a8 σ.out r hl) $$ H5
  iintro H5
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_dk {r : Rect S2048x128} {hl} {k : (r.shape.Idx → Elt F .f32) → Prog (TpuEff nD τ sig (Elt F) Λ₀ .tc) α}
    {Q : α → sProp 𝕄} (h : Held c B σ ⊢ Wp c (k (View.ld σ.dk r)) Q) :
    Held c B σ ⊢ Wp c (Prog.lift (.load B.a9 r.toLoadRect hl) >>= k) Q := by
  unfold Held at h ⊢
  iintro ⟨H0, H1, H2, H3, H4, H5, H6, H7, H8, H9, H10⟩
  iapply (owns_load B.a9 σ.dk r hl) $$ H6
  iintro H6
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_dv {r : Rect S2048x128} {hl} {k : (r.shape.Idx → Elt F .f32) → Prog (TpuEff nD τ sig (Elt F) Λ₀ .tc) α}
    {Q : α → sProp 𝕄} (h : Held c B σ ⊢ Wp c (k (View.ld σ.dv r)) Q) :
    Held c B σ ⊢ Wp c (Prog.lift (.load B.a10 r.toLoadRect hl) >>= k) Q := by
  unfold Held at h ⊢
  iintro ⟨H0, H1, H2, H3, H4, H5, H6, H7, H8, H9, H10⟩
  iapply (owns_load B.a10 σ.dv r hl) $$ H7
  iintro H7
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_dq {r : Rect S2x256x128} {hl} {k : (r.shape.Idx → Elt F .f32) → Prog (TpuEff nD τ sig (Elt F) Λ₀ .tc) α}
    {Q : α → sProp 𝕄} (h : Held c B σ ⊢ Wp c (k (View.ld σ.dq r)) Q) :
    Held c B σ ⊢ Wp c (Prog.lift (.load B.a11 r.toLoadRect hl) >>= k) Q := by
  unfold Held at h ⊢
  iintro ⟨H0, H1, H2, H3, H4, H5, H6, H7, H8, H9, H10⟩
  iapply (owns_load B.a11 σ.dq r hl) $$ H8
  iintro H8
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_cc {r : Rect S2x256x128} {hl} {k : (r.shape.Idx → Elt F .f32) → Prog (TpuEff nD τ sig (Elt F) Λ₀ .tc) α}
    {Q : α → sProp 𝕄} (h : Held c B σ ⊢ Wp c (k (View.ld σ.cc r)) Q) :
    Held c B σ ⊢ Wp c (Prog.lift (.load B.a12 r.toLoadRect hl) >>= k) Q := by
  unfold Held at h ⊢
  iintro ⟨H0, H1, H2, H3, H4, H5, H6, H7, H8, H9, H10⟩
  iapply (owns_load B.a12 σ.cc r hl) $$ H9
  iintro H9
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load_cg {r : Rect S2x256x128} {hl} {k : (r.shape.Idx → Elt F .f32) → Prog (TpuEff nD τ sig (Elt F) Λ₀ .tc) α}
    {Q : α → sProp 𝕄} (h : Held c B σ ⊢ Wp c (k (View.ld σ.cg r)) Q) :
    Held c B σ ⊢ Wp c (Prog.lift (.load B.a13 r.toLoadRect hl) >>= k) Q := by
  unfold Held at h ⊢
  iintro ⟨H0, H1, H2, H3, H4, H5, H6, H7, H8, H9, H10⟩
  iapply (owns_load B.a13 σ.cg r hl) $$ H10
  iintro H10
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Loads

section Stores

theorem store_out {r : Rect S256x128} {w : r.shape.Idx → Elt F .f32} {hx} {hm}
    {k : PUnit → Prog (TpuEff nD τ sig (Elt F) Λ₀ .tc) α}
    {Q : α → sProp 𝕄} (h : Held c B { σ with out := r.overlay σ.out w } ⊢ Wp c (k ⟨⟩) Q) :
    Held c B σ ⊢ Wp c (Prog.lift (.store B.a8 r w Finset.univ hx hm) >>= k) Q := by
  unfold Held at h ⊢
  iintro ⟨H0, H1, H2, H3, H4, H5, H6, H7, H8, H9, H10⟩
  iapply (owns_store B.a8 σ.out r w hx hm) $$ H5
  iintro H5
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem store_dk {r : Rect S2048x128} {w : r.shape.Idx → Elt F .f32} {hx} {hm}
    {k : PUnit → Prog (TpuEff nD τ sig (Elt F) Λ₀ .tc) α}
    {Q : α → sProp 𝕄} (h : Held c B { σ with dk := r.overlay σ.dk w } ⊢ Wp c (k ⟨⟩) Q) :
    Held c B σ ⊢ Wp c (Prog.lift (.store B.a9 r w Finset.univ hx hm) >>= k) Q := by
  unfold Held at h ⊢
  iintro ⟨H0, H1, H2, H3, H4, H5, H6, H7, H8, H9, H10⟩
  iapply (owns_store B.a9 σ.dk r w hx hm) $$ H6
  iintro H6
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem store_dv {r : Rect S2048x128} {w : r.shape.Idx → Elt F .f32} {hx} {hm}
    {k : PUnit → Prog (TpuEff nD τ sig (Elt F) Λ₀ .tc) α}
    {Q : α → sProp 𝕄} (h : Held c B { σ with dv := r.overlay σ.dv w } ⊢ Wp c (k ⟨⟩) Q) :
    Held c B σ ⊢ Wp c (Prog.lift (.store B.a10 r w Finset.univ hx hm) >>= k) Q := by
  unfold Held at h ⊢
  iintro ⟨H0, H1, H2, H3, H4, H5, H6, H7, H8, H9, H10⟩
  iapply (owns_store B.a10 σ.dv r w hx hm) $$ H7
  iintro H7
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem store_dq {r : Rect S2x256x128} {w : r.shape.Idx → Elt F .f32} {hx} {hm}
    {k : PUnit → Prog (TpuEff nD τ sig (Elt F) Λ₀ .tc) α}
    {Q : α → sProp 𝕄} (h : Held c B { σ with dq := r.overlay σ.dq w } ⊢ Wp c (k ⟨⟩) Q) :
    Held c B σ ⊢ Wp c (Prog.lift (.store B.a11 r w Finset.univ hx hm) >>= k) Q := by
  unfold Held at h ⊢
  iintro ⟨H0, H1, H2, H3, H4, H5, H6, H7, H8, H9, H10⟩
  iapply (owns_store B.a11 σ.dq r w hx hm) $$ H8
  iintro H8
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem store_cc {r : Rect S2x256x128} {w : r.shape.Idx → Elt F .f32} {hx} {hm}
    {k : PUnit → Prog (TpuEff nD τ sig (Elt F) Λ₀ .tc) α}
    {Q : α → sProp 𝕄} (h : Held c B { σ with cc := r.overlay σ.cc w } ⊢ Wp c (k ⟨⟩) Q) :
    Held c B σ ⊢ Wp c (Prog.lift (.store B.a12 r w Finset.univ hx hm) >>= k) Q := by
  unfold Held at h ⊢
  iintro ⟨H0, H1, H2, H3, H4, H5, H6, H7, H8, H9, H10⟩
  iapply (owns_store B.a12 σ.cc r w hx hm) $$ H9
  iintro H9
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem store_cg {r : Rect S2x256x128} {w : r.shape.Idx → Elt F .f32} {hx} {hm}
    {k : PUnit → Prog (TpuEff nD τ sig (Elt F) Λ₀ .tc) α}
    {Q : α → sProp 𝕄} (h : Held c B { σ with cg := r.overlay σ.cg w } ⊢ Wp c (k ⟨⟩) Q) :
    Held c B σ ⊢ Wp c (Prog.lift (.store B.a13 r w Finset.univ hx hm) >>= k) Q := by
  unfold Held at h ⊢
  iintro ⟨H0, H1, H2, H3, H4, H5, H6, H7, H8, H9, H10⟩
  iapply (owns_store B.a13 σ.cg r w hx hm) $$ H10
  iintro H10
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Stores

end Cert.Attn

end
-- ==== Proof.Spec.lean ====
module

public import proofs.«01_k».proof.Proof.Held

/-!
# What the body does to its windows

One key block of one head is a *chain*: the scores, the log-sigmoids, the running sums, the weights, and the gradient of
the scores. `blockStep` runs the two chains of a key block and adds their products to the gradients; the groups of the
body are folds of it, between reading the running sums and writing them back.
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the body prepares of its query block: the head of a lane, the two order matrices, each head's queries,
output gradients and whole log-sums. -/
structure Env (F : FTy → Type) [FloatOps F] where
  half : IVec S1x128 32
  later : FVec F S256x256 .bf16
  before : FVec F S256x256 .bf16
  q0 : FVec F S256x128 .bf16
  q1 : FVec F S256x128 .bf16
  g0 : FVec F S256x128 .bf16
  g1 : FVec F S256x128 .bf16
  l0 : FVec F S256x1 .f32
  l1 : FVec F S256x1 .f32

/-- The running sums: of the log-remainders and of the weights' gradients, for each head. -/
structure Reg (F : FTy → Type) [FloatOps F] where
  cc0 : FVec F S256x128 .f32
  cc1 : FVec F S256x128 .f32
  cg0 : FVec F S256x128 .f32
  cg1 : FVec F S256x128 .f32

/-- The lanes of head `h`, zero elsewhere. -/
def keep (half : IVec S1x128 32) (h : BitVec 32) (x : FVec F S256x128 .bf16) : FVec F S256x128 .bf16 :=
  select (broadcastTo S256x128 (shapeCast S1x128 (cmpi .eq half (broadcast S1x128 h)) shapeCasts_S1x128_S1x128)
    broadcasts_S1x128_S256x128) x (broadcast S256x128 (Scalar.ofBits .bf16 0x0000#16))

/-- The products of the rows of two blocks. -/
def rowsMul (q k : FVec F S256x128 .bf16) : FVec F S256x256 .f32 :=
  matmul dot_S256x128_S256x128_S256x256_1_1_0_0_n_n none q k (constant S256x256 .f32 0x00000000#32)

/-- The logarithm of the sigmoid of the scores. -/
def logSig (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- A tile's sums with an order matrix along the keys. -/
def ordMul (x : FVec F S256x256 .f32) (o : FVec F S256x256 .bf16) : FVec F S256x256 .f32 :=
  matmul dot_S256x256_S256x256_S256x256_1_0_0_1_n_n none (truncf .bf16 x bitsLt_bf16_f32) o
    (constant S256x256 .f32 0x00000000#32)

/-- A running sum with a tile's rows added. -/
def rowAdd (c : FVec F S256x128 .f32) (x : FVec F S256x256 .f32) : FVec F S256x128 .f32 :=
  addf c (broadcastTo S256x128 (shapeCast S256x1
    (multiReduction .add [1] S256 x 0x00000000#32 reduces_S256x256_S256 (.inl rfl) rfl) shapeCasts_S256_S256x1)
    broadcasts_S256x1_S256x128)

/-- The first lane of a running sum. -/
abbrev lane0 (c : FVec F S256x128 .f32) : FVec F S256x1 .f32 :=
  extractStridedSlice S256x1 ![0, 0] c slices_S256x128_o0_0_S256x1

/-- The weights of a tile. -/
def wgt (m : FVec F S256x256 .f32 → FVec F S256x256 .f32) (lt : FVec F S256x1 .f32) (lb suf : FVec F S256x256 .f32)
    (c : FVec F S256x128 .f32) : FVec F S256x256 .f32 :=
  m (exp (addf (addf lb suf) (broadcastTo S256x256 (subf lt (lane0 c)) broadcasts_S256x1_S256x256)))

/-- The gradient of a tile's scores. -/
def scoreGrad (m : FVec F S256x256 .f32 → FVec F S256x256 .f32) (lb g bef : FVec F S256x256 .f32)
    (c : FVec F S256x128 .f32) : FVec F S256x256 .bf16 :=
  truncf .bf16 (m (subf g (mulf (exp lb) (addf g (addf bef
    (broadcastTo S256x256 (lane0 c) broadcasts_S256x1_S256x256)))))) bitsLt_bf16_f32

/-- The mask of the tile on the diagonal: the keys before the query. -/
def below (x : FVec F S256x256 .f32) : FVec F S256x256 .f32 :=
  select (cmpi .slt (iota .tc S256x256 32 [1] iota_S256x256_d1_w32) (iota .tc S256x256 32 [0] iota_S256x256_d0_w32)) x
    (broadcast S256x256 (Scalar.ofBits .f32 0x00000000#32))

section Chain
variable (m : FVec F S256x256 .f32 → FVec F S256x256 .f32) (E : Env F)

/-- The log-remainders of a tile. -/
abbrev logRem (q k : FVec F S256x128 .bf16) : FVec F S256x256 .f32 :=
  m (subf (logSig (rowsMul q k)) (rowsMul q k))

/-- The running sum of the log-remainders after a tile. -/
abbrev ccNext (q k : FVec F S256x128 .bf16) (cc : FVec F S256x128 .f32) : FVec F S256x128 .f32 :=
  rowAdd cc (logRem m q k)

/-- A chain's weights. -/
abbrev chainW (q k : FVec F S256x128 .bf16) (lt : FVec F S256x1 .f32) (cc : FVec F S256x128 .f32) : FVec F S256x256 .f32 :=
  wgt m lt (logSig (rowsMul q k)) (ordMul (logRem m q k) E.later) (ccNext m q k cc)

/-- A chain's weights times their gradient. -/
abbrev chainG (h : BitVec 32) (q g k v : FVec F S256x128 .bf16) (lt : FVec F S256x1 .f32) (cc : FVec F S256x128 .f32) :
    FVec F S256x256 .f32 :=
  mulf (rowsMul g (keep E.half h v)) (chainW m E q k lt cc)

/-- A chain's gradient of the scores. -/
abbrev chainZ (h : BitVec 32) (q g k v : FVec F S256x128 .bf16) (lt : FVec F S256x1 .f32) (cc cg : FVec F S256x128 .f32) :
    FVec F S256x256 .bf16 :=
  scoreGrad m (logSig (rowsMul q k)) (chainG m E h q g k v lt cc) (ordMul (chainG m E h q g k v lt cc) E.before) cg

/-- The running sum of the weights' gradients after a tile. -/
abbrev cgNext (h : BitVec 32) (q g k v : FVec F S256x128 .bf16) (lt : FVec F S256x1 .f32) (cc cg : FVec F S256x128 .f32) :
    FVec F S256x128 .f32 :=
  rowAdd cg (chainG m E h q g k v lt cc)

end Chain

/-- A tile's product for the query gradients. -/
def dqMul (dz : FVec F S256x256 .bf16) (k : FVec F S256x128 .bf16) : FVec F S256x128 .f32 :=
  matmul dot_S256x256_S256x128_S256x128_1_0_0_1_n_n none dz k (constant S256x128 .f32 0x00000000#32)

/-- A tile's product for the key or value gradients. -/
def dkMul (w : FVec F S256x256 .bf16) (q : FVec F S256x128 .bf16) : FVec F S256x128 .f32 :=
  matmul dot_S256x256_S256x128_S256x128_0_0_1_1_n_n none w q (constant S256x128 .f32 0x00000000#32)

/-- The query gradients of a head with a tile's product added. -/
abbrev dqAdd (dz : FVec F S256x256 .bf16) (k : FVec F S256x128 .bf16) (X : FVec F S1x256x128 .f32) :
    FVec F S1x256x128 .f32 :=
  shapeCast S1x256x128 (addf (shapeCast S256x128 X shapeCasts_S1x256x128_S256x128) (dqMul dz k))
    shapeCasts_S256x128_S1x256x128

/-- The key (or value) gradients of a block with a tile's product added. -/
abbrev dkAdd (w : FVec F S256x256 .bf16) (q : FVec F S256x128 .bf16) (X : FVec F S256x128 .f32) : FVec F S256x128 .f32 :=
  addf (shapeCast S256x128 X shapeCasts_S256x128_S256x128) (dkMul w q)

/-- All rows of a query block. -/
abbrev rowsAll : Rect S256x128 := Rect.unit (s := S256x128) ![0, 0] S256x128.size inb_S256x128_S256x128_0_0

/-- All rows of the key (or value) gradients. -/
abbrev keysAll : Rect S2048x128 := Rect.unit (s := S2048x128) ![0, 0] S2048x128.size inb_S2048x128_S2048x128_0_0

/-- A whole scratch array. -/
abbrev headsAll : Rect S2x256x128 := Rect.unit (s := S2x256x128) ![0, 0, 0] S2x256x128.size inb_S2x256x128_S2x256x128_0_0_0

/-- The rows of one head of a scratch array. -/
abbrev slab0 : Rect S2x256x128 := Rect.unit (s := S2x256x128) ![0, 0, 0] S1x256x128.size inb_S2x256x128_S1x256x128_0_0_0

/-- The rows of the other head. -/
abbrev slab1 : Rect S2x256x128 := Rect.unit (s := S2x256x128) ![1, 0, 0] S1x256x128.size inb_S2x256x128_S1x256x128_1_0_0

/-- A head's rows as a plain block. -/
abbrev flat (x : FVec F S1x256x128 .f32) : FVec F S256x128 .f32 := shapeCast S256x128 x shapeCasts_S1x256x128_S256x128

/-- A plain block as a head's rows. -/
abbrev tall (x : FVec F S256x128 .f32) : FVec F S1x256x128 .f32 := shapeCast S1x256x128 x shapeCasts_S256x128_S1x256x128

/-- The rows of a key block as the chains read them. -/
abbrev rowsOf (X : FVec F S2048x128 .bf16) (o : Fin 2 → Nat) (inb : ∀ a, o a + S256x128.size a ≤ S2048x128.size a) :
    FVec F S256x128 .bf16 :=
  shapeCast S256x128 (View.ld (Val := Elt F) (e' := .bf16) X (Rect.unit (s := S2048x128) o S256x128.size inb)) shapeCasts_S256x128_S256x128

/-- One key block: its two chains. -/
abbrev blockStep (m : FVec F S256x256 .f32 → FVec F S256x256 .f32) (E : Env F) (o : Fin 2 → Nat)
    (inb : ∀ a, o a + S256x128.size a ≤ S2048x128.size a) (p : St F × Reg F) : St F × Reg F :=
  let σ := p.1
  let r := p.2
  let b := Rect.unit (s := S2048x128) o S256x128.size inb
  let k := rowsOf σ.k o inb
  let v := rowsOf σ.v o inb
  let z0 := chainZ m E 0#32 E.q0 E.g0 k v E.l0 r.cc0 r.cg0
  let z1 := chainZ m E 1#32 E.q1 E.g1 k v E.l1 r.cc1 r.cg1
  let a0 := truncf .bf16 (chainW m E E.q0 k E.l0 r.cc0) bitsLt_bf16_f32
  let a1 := truncf .bf16 (chainW m E E.q1 k E.l1 r.cc1) bitsLt_bf16_f32
  let dq0 := slab0.overlay σ.dq (dqAdd z0 (keep E.half 0#32 k) (View.ld σ.dq slab0))
  let dk0 := b.overlay σ.dk (dkAdd z0 E.q0 (View.ld σ.dk b))
  let dv0 := b.overlay σ.dv (dkAdd a0 E.g0 (View.ld σ.dv b))
  ({ σ with
      dq := slab1.overlay dq0 (dqAdd z1 (keep E.half 1#32 k) (View.ld dq0 slab1))
      dk := b.overlay dk0 (dkAdd z1 E.q1 (View.ld dk0 b))
      dv := b.overlay dv0 (dkAdd a1 E.g1 (View.ld dv0 b)) },
    { cc0 := ccNext m E.q0 k r.cc0
      cc1 := ccNext m E.q1 k r.cc1
      cg0 := cgNext m E 0#32 E.q0 E.g0 k v E.l0 r.cc0 r.cg0
      cg1 := cgNext m E 1#32 E.q1 E.g1 k v E.l1 r.cc1 r.cg1 })

/-- A group begins by reading the running sums. -/
abbrev begin (σ : St F) : St F × Reg F :=
  (σ, { cc0 := flat (View.ld σ.cc slab0), cc1 := flat (View.ld σ.cc slab1)
        cg0 := flat (View.ld σ.cg slab0), cg1 := flat (View.ld σ.cg slab1) })

/-- A group ends by writing them back. -/
abbrev finish (p : St F × Reg F) : St F :=
  { p.1 with
    cc := slab1.overlay (slab0.overlay p.1.cc (tall p.2.cc0)) (tall p.2.cc1)
    cg := slab1.overlay (slab0.overlay p.1.cg (tall p.2.cg0)) (tall p.2.cg1) }

section Body

variable (E : Env F) (i : grid0.Coords)

/-- A group of four key blocks: trip `t` of the loop. -/
abbrev four (t : Fin (k0_t1_loop i).trips) (σ : St F) : St F :=
  finish (blockStep (fun x => x) E (k0_off1 i t 3#32) (k0_off1_inb i t 3)
    (blockStep (fun x => x) E (k0_off1 i t 2#32) (k0_off1_inb i t 2)
    (blockStep (fun x => x) E (k0_off1 i t 1#32) (k0_off1_inb i t 1)
    (blockStep (fun x => x) E (k0_off1 i t 0#32) (k0_off1_inb i t 0)
    (begin σ)))))

/-- One key block left over. -/
abbrev left1 (h : k0_cond2 i = 1#1) (σ : St F) : St F :=
  finish (blockStep (fun x => x) E (k0_off3 i) (k0_off3_inb i h)
    (begin σ))

/-- Two key blocks left over. -/
abbrev left2 (h : k0_cond3 i = 1#1) (σ : St F) : St F :=
  finish (blockStep (fun x => x) E (k0_off4 i 1#32) (k0_off4_inb i h 1)
    (blockStep (fun x => x) E (k0_off4 i 0#32) (k0_off4_inb i h 0)
    (begin σ)))

/-- Three key blocks left over. -/
abbrev left3 (h : k0_cond4 i = 1#1) (σ : St F) : St F :=
  finish (blockStep (fun x => x) E (k0_off5 i 2#32) (k0_off5_inb i h 2)
    (blockStep (fun x => x) E (k0_off5 i 1#32) (k0_off5_inb i h 1)
    (blockStep (fun x => x) E (k0_off5 i 0#32) (k0_off5_inb i h 0)
    (begin σ))))

/-- The key block on the diagonal. -/
abbrev diag (σ : St F) : St F :=
  finish (blockStep below E (k0_off6 i) (k0_off6_inb i)
        (begin σ))

/-- The state after `n` groups of four. -/
def fours (σ : St F) : Nat → St F
  | 0 => σ
  | n + 1 => if h : n < (k0_t1_loop i).trips then four E i ⟨n, h⟩ (fours σ n) else fours σ n

/-- The key blocks left over after the groups of four. -/
def lefts (σ : St F) : St F :=
  let σ1 := if h : k0_cond2 i = 1#1 then left1 E i h σ else σ
  let σ2 := if h : k0_cond3 i = 1#1 then left2 E i h σ1 else σ1
  if h : k0_cond4 i = 1#1 then left3 E i h σ2 else σ2

end Body

/-- What the body prepares of its blocks. -/
def envOf (σ : St F) : Env F :=
  let q := k0_pay497 (View.ld (Val := Elt F) (e' := .bf16) σ.q rowsAll)
  let g := k0_pay498 (View.ld (Val := Elt F) (e' := .f32) σ.dO rowsAll)
  let l := k0_pay499 (View.ld (Val := Elt F) (e' := .f32) σ.lt rowsAll)
  let n := iota .tc S256x128 32 [1] iota_S256x128_d1_w32
  { half := k0_pay494, later := k0_pay495, before := k0_pay496
    q0 := k0_pay500 k0_pay494 q 0#32, q1 := k0_pay501 k0_pay494 q
    g0 := k0_pay502 k0_pay494 g, g1 := k0_pay503 k0_pay494 g
    l0 := k0_pay504 n l, l1 := k0_pay505 n l }

/-- A pair's first query block sets its key and value gradients to zero. -/
def fresh (i : grid0.Coords) (σ : St F) : St F :=
  if Scalar.cmpi .ne (Scalar.extui (Scalar.cmpi .eq (BitVec.ofNat 32 (i 1).val) 0#32) : BitVec 32) 0#32 = 1#1 then
    { σ with dk := keysAll.overlay σ.dk k0_pay506, dv := keysAll.overlay σ.dv k0_pay507 }
  else σ

/-- Every query block sets the scratch arrays to zero. -/
def clear (σ : St F) : St F :=
  { σ with
    dq := headsAll.overlay σ.dq (k0_pay509 k0_pay508)
    cc := headsAll.overlay σ.cc k0_pay510
    cg := headsAll.overlay σ.cg k0_pay511 }

/-- The query gradients are written as the sum of the two heads'. -/
def writeOut (σ : St F) : St F :=
  { σ with out := rowsAll.overlay σ.out (addf (flat (View.ld σ.dq slab0)) (flat (View.ld σ.dq slab1))) }

/-- What the body does to its buffers at grid point `i`. -/
def bodySt (i : grid0.Coords) (σ : St F) : St F :=
  writeOut (diag (envOf σ) i (lefts (envOf σ) i (fours (envOf σ) i (clear (fresh i σ)) (k0_t1_loop i).trips)))

end Cert.Attn
-- ==== Proof.Tile.lean ====
module

public import proofs.«01_k».proof.Proof.Spec
public import Idealize.ShloMosaic.Lib.Pointwise
public import Idealize.ShloMosaic.Lib.WordCmp

/-!
# The operations of a chain at the real numbers

What a chain of the body computes when every element it reads is a real number: each operation of `Spec.lean` as a function
of the rows and columns.
-/

@[expose] public section

set_option maxRecDepth 16384

noncomputable section

namespace Cert.Attn

open Cert.KernelIdeal Cert.KernelIdeal.Gen
open Idealize.ShloMosaic Idealize.ShloMosaic.TcCoe
open Idealize.SL.Sem
open Finset (range)

/-- The logarithm of the sigmoid. -/
def lam (z : ℝ) : ℝ := min z 0 - Real.log (1 + Real.exp (-|z|))

/-- A matrix holds the real numbers `x`. -/
def IsM {n k : Nat} {φ : FTy} (X : FVec Ideal ⟨2, ![n, k]⟩ φ) (x : ℕ → ℕ → ℝ) : Prop :=
  ∀ (a : Fin n) (c : Fin k), X (ix2 a c) = ((x a c : ℝ) : EReal)

theorem IsM.congr {n k : Nat} {φ : FTy} {X : FVec Ideal ⟨2, ![n, k]⟩ φ} {x y : ℕ → ℕ → ℝ} (h : IsM X x)
    (e : ∀ a < n, ∀ c < k, x a c = y a c) : IsM X y := fun a c => by rw [h a c, e a a.2 c c.2]

/-- A sum of real numbers among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum over the indices of an axis. -/
theorem sum_axis {n : Nat} (f : ℕ → ℝ) : (∑ i : Fin n, ((f i : ℝ) : EReal)) = ((∑ i ∈ range n, f i : ℝ) : EReal) := by
  rw [← coe_sum, Finset.sum_range]

theorem coe_min (x y : ℝ) : ((min x y : ℝ) : EReal) = min (x : EReal) y := EReal.coe_strictMono.monotone.map_min
theorem coe_max (x y : ℝ) : ((max x y : ℝ) : EReal) = max (x : EReal) y := EReal.coe_strictMono.monotone.map_max

/-- The logarithm of a sum with one is a real number. -/
theorem log_one_add_exp (y : ℝ) : Ideal.log (1 + Ideal.exp (y : EReal)) = ((Real.log (1 + Real.exp y) : ℝ) : EReal) := by
  have h : (1 : EReal) + Ideal.exp (y : EReal) = ((1 + Real.exp y : ℝ) : EReal) := by
    rw [Ideal.exp_coe, EReal.coe_add, EReal.coe_one]
  rw [h, Ideal.log_coe, if_neg (not_le.2 (by positivity))]

section Ops
variable {q k g v : FVec Ideal S256x128 .bf16} {qx kx gx vx : ℕ → ℕ → ℝ}

theorem isM_rowsMul (hq : IsM q qx) (hk : IsM k kx) : IsM (rowsMul q k) (fun a c => ∑ l ∈ range 128, qx a l * kx c l) := by
  intro a c
  pointwise [rowsMul]
  rw [← sum_axis]
  exact Finset.sum_congr rfl fun l _ => by rw [hq a l, hk c l, EReal.coe_mul]

variable {z x y w : FVec Ideal S256x256 .f32} {zx xx yx wx : ℕ → ℕ → ℝ} {c : FVec Ideal S256x128 .f32} {cx : ℕ → ℕ → ℝ}

theorem isM_logSig (hz : IsM z zx) : IsM (logSig z) (fun a c => lam (zx a c)) := by
  intro a c
  pointwise [logSig]
  rw [hz a c]
  have h : (0 : EReal) - FloatOps.absf (F := Ideal) (φ := .f32) ((zx a c : ℝ) : EReal) = ((-|zx a c| : ℝ) : EReal) := by
    show (0 : EReal) - max ((zx a c : ℝ) : EReal) (-((zx a c : ℝ) : EReal)) = _
    rw [← EReal.coe_neg, ← coe_max, ← EReal.coe_zero, ← EReal.coe_sub, zero_sub, ← abs_eq_max_neg]
  rw [h, log_one_add_exp, lam, EReal.coe_sub, coe_min, EReal.coe_zero]

theorem isM_subf (hx : IsM x xx) (hy : IsM y yx) : IsM (subf x y) (fun a c => xx a c - yx a c) := by
  intro a c
  pointwise
  rw [hx a c, hy a c, EReal.coe_sub]

theorem isM_mulf (hx : IsM x xx) (hy : IsM y yx) : IsM (mulf x y) (fun a c => xx a c * yx a c) := by
  intro a c
  pointwise
  rw [hx a c, hy a c, EReal.coe_mul]

theorem later_apply (j c : Fin 256) : k0_pay495 (F := Ideal) (ix2 j c) = if c < j then 1 else 0 := by
  pointwise [k0_pay495]
  have h : IntOp.cmpi .sgt (BitVec.ofNat 32 (j : ℕ)) (BitVec.ofNat 32 (c : ℕ)) = BitVec.ofBool (decide ((c : ℕ) < j)) := by
    word_cmp
  rw [h]
  by_cases hjc : (c : ℕ) < j
  · rw [if_pos (by exact hjc), decide_eq_true hjc]
    show (((BitVec.setWidth 32 (BitVec.ofBool true)).toInt : ℝ) : EReal) = 1
    rw [show (BitVec.setWidth 32 (BitVec.ofBool true)).toInt = 1 from by decide, Int.cast_one, EReal.coe_one]
  · rw [if_neg (by exact hjc), decide_eq_false hjc]
    show (((BitVec.setWidth 32 (BitVec.ofBool false)).toInt : ℝ) : EReal) = 0
    norm_num

theorem before_apply (j c : Fin 256) : k0_pay496 (F := Ideal) (ix2 j c) = if j < c then 1 else 0 := by
  pointwise [k0_pay496]
  have h : IntOp.cmpi .slt (BitVec.ofNat 32 (j : ℕ)) (BitVec.ofNat 32 (c : ℕ)) = BitVec.ofBool (decide ((j : ℕ) < c)) := by
    word_cmp
  rw [h]
  by_cases hjc : (j : ℕ) < c
  · rw [if_pos (by exact hjc), decide_eq_true hjc]
    show (((BitVec.setWidth 32 (BitVec.ofBool true)).toInt : ℝ) : EReal) = 1
    rw [show (BitVec.setWidth 32 (BitVec.ofBool true)).toInt = 1 from by decide, Int.cast_one, EReal.coe_one]
  · rw [if_neg (by exact hjc), decide_eq_false hjc]
    show (((BitVec.setWidth 32 (BitVec.ofBool false)).toInt : ℝ) : EReal) = 0
    norm_num

theorem isM_later (hx : IsM x xx) : IsM (ordMul x k0_pay495) (fun a c => ∑ j ∈ range 256, if c < j then xx a j else 0) := by
  intro a c
  pointwise [ordMul]
  rw [← sum_axis]
  refine Finset.sum_congr rfl fun j _ => ?_
  rw [hx a j, later_apply]
  by_cases h : (c : ℕ) < j
  · rw [if_pos h, if_pos (by exact h), mul_one]
  · rw [if_neg h, if_neg (by exact h), mul_zero, EReal.coe_zero]

theorem isM_before (hx : IsM x xx) : IsM (ordMul x k0_pay496) (fun a c => ∑ j ∈ range 256, if j < c then xx a j else 0) := by
  intro a c
  pointwise [ordMul]
  rw [← sum_axis]
  refine Finset.sum_congr rfl fun j _ => ?_
  rw [hx a j, before_apply]
  by_cases h : (j : ℕ) < c
  · rw [if_pos h, if_pos (by exact h), mul_one]
  · rw [if_neg h, if_neg (by exact h), mul_zero, EReal.coe_zero]

theorem isM_rowAdd (hc : IsM c cx) (hx : IsM x xx) : IsM (rowAdd c x) (fun a l => cx a l + ∑ j ∈ range 256, xx a j) := by
  intro a l
  pointwise [rowAdd]
  rw [EReal.coe_add, hc a l, ← sum_axis]
  exact congrArg _ (Finset.sum_congr rfl fun j _ => hx a j)

/-- A masking keeps the elements where `P` holds and sets the others to zero. -/
def MaskIs (m : FVec Ideal S256x256 .f32 → FVec Ideal S256x256 .f32) (P : ℕ → ℕ → Prop) [∀ a c, Decidable (P a c)] : Prop :=
  ∀ (X : FVec Ideal S256x256 .f32) (x : ℕ → ℕ → ℝ), IsM X x → IsM (m X) (fun a c => if P a c then x a c else 0)

theorem maskIs_id {P : ℕ → ℕ → Prop} [∀ a c, Decidable (P a c)] (h : ∀ a < 256, ∀ c < 256, P a c) :
    MaskIs (fun x => x) P := fun X x hX a c => by dsimp only; rw [hX a c, if_pos (h a a.2 c c.2)]

theorem maskIs_below {P : ℕ → ℕ → Prop} [∀ a c, Decidable (P a c)] (h : ∀ a < 256, ∀ c < 256, (P a c ↔ c < a)) :
    MaskIs below P := by
  intro X x hX a c
  pointwise [below]
  have e : IntOp.cmpi .slt (BitVec.ofNat 32 (c : ℕ)) (BitVec.ofNat 32 (a : ℕ)) = BitVec.ofBool (decide ((c : ℕ) < a)) := by
    word_cmp
  rw [e, hX a c]
  by_cases hca : (c : ℕ) < a
  · rw [if_pos ((h a a.2 c c.2).2 hca), decide_eq_true hca]; rfl
  · rw [if_neg (fun hp => hca ((h a a.2 c c.2).1 hp)), decide_eq_false hca]; rfl

variable {m : FVec Ideal S256x256 .f32 → FVec Ideal S256x256 .f32} {P : ℕ → ℕ → Prop} [∀ a c, Decidable (P a c)]
  {l : FVec Ideal S256x1 .f32} {lx : ℕ → ℕ → ℝ}

theorem isM_wgt (hm : MaskIs m P) (hl : IsM l lx) (hx : IsM x xx) (hy : IsM y yx) (hc : IsM c cx) :
    IsM (wgt m l x y c) (fun a j => if P a j then Real.exp (xx a j + yx a j + (lx a 0 - cx a 0)) else 0) := by
  refine hm _ _ fun a j => ?_
  pointwise [lane0]
  rw [hx a j, hy a j, hl a 0, hc a 0]
  show Ideal.exp (((xx a j : ℝ) : EReal) + ((yx a j : ℝ) : EReal) + (((lx a 0 : ℝ) : EReal) - ((cx a 0 : ℝ) : EReal))) = _
  rw [← EReal.coe_sub, ← EReal.coe_add, ← EReal.coe_add, Ideal.exp_coe]

theorem isM_scoreGrad (hm : MaskIs m P) (hx : IsM x xx) (hy : IsM y yx) (hw : IsM w wx) (hc : IsM c cx) :
    IsM (scoreGrad m x y w c) (fun a j => if P a j then yx a j - Real.exp (xx a j) * (yx a j + (wx a j + cx a 0)) else 0) := by
  intro a j
  pointwise [scoreGrad]
  refine hm _ (fun a j => yx a j - Real.exp (xx a j) * (yx a j + (wx a j + cx a 0))) (fun a j => ?_) a j
  pointwise [lane0]
  rw [hx a j, hy a j, hw a j, hc a 0]
  show ((yx a j : ℝ) : EReal) - Ideal.exp ((xx a j : ℝ) : EReal) * (((yx a j : ℝ) : EReal) + (((wx a j : ℝ) : EReal) + ((cx a 0 : ℝ) : EReal))) = _
  rw [← EReal.coe_add, ← EReal.coe_add, Ideal.exp_coe, ← EReal.coe_mul, ← EReal.coe_sub]

theorem half_apply : ∀ c : Fin 128, k0_pay494 (ix2 0 c) = BitVec.ofNat 32 ((c : ℕ) / 64) := by
  intro c
  pointwise [k0_pay494]
  revert c
  decide +kernel

theorem isM_keep0 (hk : IsM k kx) : IsM (keep k0_pay494 0#32 k) (fun a c => if c / 64 = 0 then kx a c else 0) := by
  intro a c
  pointwise [keep]
  rw [half_apply, hk a c]
  have e : IntOp.cmpi .eq (BitVec.ofNat 32 ((c : ℕ) / 64)) 0#32 = BitVec.ofBool (decide ((c : ℕ) / 64 = 0)) := by
    word_cmp
  rw [e]
  by_cases h : (c : ℕ) / 64 = 0
  · rw [if_pos h, decide_eq_true h]; rfl
  · rw [if_neg h, decide_eq_false h]; rfl

theorem isM_keep1 (hk : IsM k kx) : IsM (keep k0_pay494 1#32 k) (fun a c => if c / 64 = 1 then kx a c else 0) := by
  intro a c
  pointwise [keep]
  rw [half_apply, hk a c]
  have e : IntOp.cmpi .eq (BitVec.ofNat 32 ((c : ℕ) / 64)) 1#32 = BitVec.ofBool (decide ((c : ℕ) / 64 = 1)) := by
    word_cmp
  rw [e]
  by_cases h : (c : ℕ) / 64 = 1
  · rw [if_pos h, decide_eq_true h]; rfl
  · rw [if_neg h, decide_eq_false h]; rfl

variable {u : FVec Ideal S256x256 .bf16} {ux : ℕ → ℕ → ℝ}

theorem isM_dqMul (hu : IsM u ux) (hk : IsM k kx) : IsM (dqMul u k) (fun a c => ∑ j ∈ range 256, ux a j * kx j c) := by
  intro a c
  pointwise [dqMul]
  rw [← sum_axis]
  exact Finset.sum_congr rfl fun j _ => by rw [hu a j, hk j c, EReal.coe_mul]

theorem isM_dkMul (hu : IsM u ux) (hq : IsM q qx) : IsM (dkMul u q) (fun a c => ∑ j ∈ range 256, ux j a * qx j c) := by
  intro a c
  pointwise [dkMul]
  rw [← sum_axis]
  exact Finset.sum_congr rfl fun j _ => by rw [hu j a, hq j c, EReal.coe_mul]

end Ops

end Cert.Attn
-- ==== Proof.Model.lean ====
module

public import proofs.«01_k».proof.Proof.Tile

/-!
# The gradient of the stick-breaking attention, of real numbers

The attention's gradient written as functions of natural indices: the scores of a head, the log-remainders, the weights, the
gradient of the scores, and the gradients of the queries, keys and values. Then what these are over the keys of one block.
-/

@[expose] public section

noncomputable section

namespace Cert.Attn

open Finset (range)

section Head
variable (z da : ℕ → ℕ → ℝ)

/-- The log-remainder of a key: zero at the keys not before the query. -/
def rem (t s : ℕ) : ℝ := if s < t then lam (z t s) - z t s else 0

/-- The weight of a key. -/
def wt (t s : ℕ) : ℝ :=
  if s < t then Real.exp (lam (z t s) + ∑ j ∈ range 2048, if s < j then rem z t j else 0) else 0

/-- A weight times its gradient. -/
def gr (t s : ℕ) : ℝ := da t s * wt z t s

/-- The gradient of a score. -/
def dsc (t s : ℕ) : ℝ :=
  if s < t then gr z da t s - Real.exp (lam (z t s)) * (gr z da t s + ∑ j ∈ range s, gr z da t j) else 0

theorem dsc_of_le {t s : ℕ} (h : t ≤ s) : dsc z da t s = 0 := if_neg (not_lt.2 h)
theorem wt_of_le {t s : ℕ} (h : t ≤ s) : wt z t s = 0 := if_neg (not_lt.2 h)

end Head

section Grads
variable (q k v d : ℕ → ℕ → ℝ)

/-- The scores of head `h`. -/
def sc (h t s : ℕ) : ℝ := ∑ l ∈ range 64, q t (64 * h + l) * (1 / 8) * k s (64 * h + l)

/-- The gradients of the weights of head `h`. -/
def dw (h t s : ℕ) : ℝ := ∑ l ∈ range 64, d t (64 * h + l) * v s (64 * h + l)

/-- The gradient of the queries. -/
def gradQ (t j : ℕ) : ℝ := (∑ s ∈ range 2048, dsc (sc q k (j / 64)) (dw v d (j / 64)) t s * k s j) * (1 / 8)

/-- The gradient of the keys. -/
def gradK (s j : ℕ) : ℝ := ∑ t ∈ range 2048, dsc (sc q k (j / 64)) (dw v d (j / 64)) t s * (q t j * (1 / 8))

/-- The gradient of the values. -/
def gradV (s j : ℕ) : ℝ := ∑ t ∈ range 2048, wt (sc q k (j / 64)) t s * d t j

end Grads

/-- A sum up to the end of a block. -/
theorem sum_block (f : ℕ → ℝ) (b : ℕ) :
    ∑ s ∈ range (256 * (b + 1)), f s = ∑ s ∈ range (256 * b), f s + ∑ j ∈ range 256, f (256 * b + j) := by
  rw [Nat.mul_succ, Finset.sum_range_add]

/-- The keys after a key: those of its block, and the blocks that follow. -/
theorem sum_after (f : ℕ → ℝ) (b c : ℕ) (hb : b < 8) (hc : c < 256) :
    (∑ j ∈ range 2048, if 256 * b + c < j then f j else 0)
      = (∑ j ∈ range 256, if c < j then f (256 * b + j) else 0)
        + (∑ j ∈ range 2048, f j - ∑ j ∈ range (256 * (b + 1)), f j) := by
  obtain ⟨r, hr⟩ : ∃ r, 2048 = 256 * (b + 1) + r := ⟨2048 - 256 * (b + 1), by omega⟩
  rw [hr, Finset.sum_range_add, Finset.sum_range_add, add_sub_cancel_left, sum_block]
  congr 1
  · rw [Finset.sum_eq_zero (s := range (256 * b)), zero_add]
    · exact Finset.sum_congr rfl fun j _ => by simp only [Nat.add_lt_add_iff_left]
    · intro j hj
      rw [if_neg]
      have := Finset.mem_range.1 hj
      omega
  · exact Finset.sum_congr rfl fun j _ => by rw [if_pos (by omega)]

/-- The keys before a key: the blocks before, and those of its block. -/
theorem sum_before (f : ℕ → ℝ) (b c : ℕ) (hc : c < 256) :
    ∑ j ∈ range (256 * b + c), f j
      = ∑ j ∈ range (256 * b), f j + ∑ j ∈ range 256, if j < c then f (256 * b + j) else 0 := by
  rw [Finset.sum_range_add]
  congr 1
  rw [← Finset.sum_filter]
  refine Finset.sum_congr ?_ fun _ _ => rfl
  ext j
  simp only [Finset.mem_range, Finset.mem_filter]
  omega

/-- Of a pair's lanes only those of one head count. -/
theorem sum_half (f : ℕ → ℝ) (h : ℕ) (hh : h < 2) :
    (∑ l ∈ range 128, if l / 64 = h then f l else 0) = ∑ l ∈ range 64, f (64 * h + l) := by
  rw [show 128 = 64 + 64 from rfl, Finset.sum_range_add]
  have h0 : ∀ l ∈ range 64, (if l / 64 = h then f l else 0) = if h = 0 then f (64 * h + l) else 0 := by
    intro l hl
    have := Finset.mem_range.1 hl
    have e : l / 64 = 0 := by omega
    rw [e]
    by_cases h0 : h = 0
    · subst h0; rw [if_pos rfl, if_pos rfl, Nat.mul_zero, Nat.zero_add]
    · rw [if_neg (Ne.symm h0), if_neg h0]
  have h1 : ∀ l ∈ range 64, (if (64 + l) / 64 = h then f (64 + l) else 0) = if h = 0 then 0 else f (64 * h + l) := by
    intro l hl
    have := Finset.mem_range.1 hl
    have e : (64 + l) / 64 = 1 := by omega
    rw [e]
    by_cases h0 : h = 0
    · subst h0; rfl
    · have : h = 1 := by omega
      subst this; rfl
  rw [Finset.sum_congr rfl h0, Finset.sum_congr rfl h1]
  by_cases h0 : h = 0
  · simp only [if_pos h0, Finset.sum_const_zero, add_zero]
  · simp only [if_neg h0, Finset.sum_const_zero, zero_add]

end Cert.Attn
-- ==== Proof.Soft.lean ====
module

public import proofs.«01_k».proof.Proof.Model

/-!
# Tensors of real numbers

The operations that the host applies to the scores of all heads at once: the softplus, the mask of the earlier keys, the scores
themselves, and the sums over a window of keys. Each is read as a function of real numbers.
-/

@[expose] public section

noncomputable section

namespace Cert.Attn

open Cert.KernelIdeal (S_ S2048x512 S2048x8x64 S8x2048x2048 S2048x2048 S2048 S1x2048 S2048x1)
open Idealize.ShloMosaic Idealize.ShloMosaic.TcCoe
open Idealize.SL.Sem
open Finset (range)

/-- A tensor of scores holds the real numbers `x`: head, query, key. -/
def IsT {φ : FTy} (X : FVec Ideal ⟨3, ![8, 2048, 2048]⟩ φ) (x : ℕ → ℕ → ℕ → ℝ) : Prop :=
  ∀ (h : Fin 8) (t s : Fin 2048), X (ix3 h t s) = ((x h t s : ℝ) : EReal)

theorem IsT.congr {φ : FTy} {X : FVec Ideal ⟨3, ![8, 2048, 2048]⟩ φ} {x y : ℕ → ℕ → ℕ → ℝ} (hx : IsT X x)
    (e : ∀ h < 8, ∀ t < 2048, ∀ s < 2048, x h t s = y h t s) : IsT X y := fun h t s => by rw [hx h t s, e h h.2 t t.2 s s.2]

/-- The softplus: the larger of `x` and zero, and the logarithm of one plus the exponential of minus its size. -/
def softp (x o : FVec Ideal S8x2048x2048 .f32) : FVec Ideal S8x2048x2048 .f32 :=
  select (cmpf .une (subf x o) (subf x o)) (addf x o)
    (addf (maximumf x o) (Host.log1p (Host.exp (Host.negf (Host.absf (subf x o))))))

/-- What the softplus is of a real number. -/
def sp (x : ℝ) : ℝ := max x 0 + Real.log (1 + Real.exp (-|x|))

theorem sp_neg (z : ℝ) : sp (-z) = -lam z := by
  rw [sp, lam, abs_neg]
  rcases le_total z 0 with h | h
  · rw [max_eq_left (by linarith), min_eq_left h]; ring
  · rw [max_eq_right (by linarith), min_eq_right h]; ring

theorem sp_pos (z : ℝ) : sp z = z - lam z := by
  rw [sp, lam]
  rcases le_total z 0 with h | h
  · rw [max_eq_right h, min_eq_left h]; ring
  · rw [max_eq_left h, min_eq_right h]; ring

/-- The sigmoid of `z` and that of `-z` sum to one. -/
theorem exp_lam (z : ℝ) : Real.exp (lam z) + Real.exp (lam z - z) = 1 := by
  have hp : (0 : ℝ) < 1 + Real.exp (-|z|) := by positivity
  rw [lam]
  rcases le_total z 0 with h | h
  · rw [min_eq_left h, abs_of_nonpos h, neg_neg] at *
    rw [show z - Real.log (1 + Real.exp z) - z = -Real.log (1 + Real.exp z) by ring, Real.exp_sub, Real.exp_neg, Real.exp_log hp]
    field_simp
    ring
  · rw [min_eq_right h, abs_of_nonneg h] at *
    rw [show 0 - Real.log (1 + Real.exp (-z)) - z = -z - Real.log (1 + Real.exp (-z)) by ring, Real.exp_sub, Real.exp_sub,
      Real.exp_log hp, Real.exp_zero]
    field_simp

section Pointwise
variable {X Y Z : FVec Ideal S8x2048x2048 .f32} {x y z : ℕ → ℕ → ℕ → ℝ}

theorem isT_zero {H : S_.BroadcastsInDim S8x2048x2048 (![] : Fin 0 → Fin S8x2048x2048.rank)} :
    IsT (broadcastInDim S8x2048x2048 ![] H (constant (F := Ideal) S_ .f32 0x00000000#32)) (fun _ _ _ => 0) := by
  intro h t s
  pointwise
  rfl

theorem isT_zero' {H : S_.BroadcastsInDim S8x2048x2048 (![] : Fin 0 → Fin S8x2048x2048.rank)} :
    IsT (broadcastInDim S8x2048x2048 ![] H (id (constant (F := Ideal) S_ .f32 0x00000000#32))) (fun _ _ _ => 0) := isT_zero

theorem isT_negf (hx : IsT X x) : IsT (Host.negf X) (fun h t s => -x h t s) := by
  intro h t s
  pointwise
  rw [hx h t s, EReal.coe_neg]

theorem isT_addf (hx : IsT X x) (hy : IsT Y y) : IsT (addf X Y) (fun h t s => x h t s + y h t s) := by
  intro h t s
  pointwise
  rw [hx h t s, hy h t s, EReal.coe_add]

theorem isT_subf (hx : IsT X x) (hy : IsT Y y) : IsT (subf X Y) (fun h t s => x h t s - y h t s) := by
  intro h t s
  pointwise
  rw [hx h t s, hy h t s, EReal.coe_sub]

theorem isT_mulf (hx : IsT X x) (hy : IsT Y y) : IsT (mulf X Y) (fun h t s => x h t s * y h t s) := by
  intro h t s
  pointwise
  rw [hx h t s, hy h t s, EReal.coe_mul]

theorem isT_exp (hx : IsT X x) : IsT (Host.exp X) (fun h t s => Real.exp (x h t s)) := by
  intro h t s
  pointwise
  rw [hx h t s]
  exact Ideal.exp_coe _

/-- The softplus of real numbers. -/
theorem isT_softp (hx : IsT X x) (hy : IsT Y (fun _ _ _ => 0)) : IsT (softp X Y) (fun h t s => sp (x h t s)) := by
  intro h t s
  pointwise [softp]
  rw [hx h t s, hy h t s, EReal.coe_zero, sub_zero]
  have ha : -FloatOps.absf (F := Ideal) (φ := .f32) ((x h t s : ℝ) : EReal) = ((-|x h t s| : ℝ) : EReal) := by
    show -max ((x h t s : ℝ) : EReal) (-((x h t s : ℝ) : EReal)) = _
    rw [← EReal.coe_neg, ← coe_max, ← EReal.coe_neg, ← abs_eq_max_neg]
  rw [if_neg (not_not.2 rfl), ha, Ideal.log1p, log_one_add_exp, sp, EReal.coe_add, coe_max, EReal.coe_zero]

/-- Putting zero for what is infinite changes no real number. -/
theorem isT_fin {H : S_.BroadcastsInDim S8x2048x2048 (![] : Fin 0 → Fin S8x2048x2048.rank)} (hx : IsT X x) :
    IsT (select (cmpf .oeq X (broadcastInDim S8x2048x2048 ![] H (constant (F := Ideal) S_ .f32 0x7F800000#32))) Y X) x := by
  intro h t s
  pointwise
  rw [hx h t s]
  have ht : Ideal.ofBits FTy.f32 0x7F800000#32 = (⊤ : EReal) := by simp [Ideal.ofBits, Ideal.ieee]
  exact if_neg (by rw [ht]; exact EReal.coe_ne_top _)

end Pointwise

/-- The mask of the keys before the query. -/
def earlier (H1 : S1x2048.BroadcastsInDim S2048x2048 (![0, 1] : Fin 2 → Fin S2048x2048.rank))
    (H2 : S2048.BroadcastsInDim S1x2048 (![1] : Fin 1 → Fin S1x2048.rank))
    (H3 : S2048x1.BroadcastsInDim S2048x2048 (![0, 1] : Fin 2 → Fin S2048x2048.rank))
    (H4 : S2048.BroadcastsInDim S2048x1 (![0] : Fin 1 → Fin S2048x1.rank))
    (H5 : S2048x2048.BroadcastsInDim S8x2048x2048 (![1, 2] : Fin 2 → Fin S8x2048x2048.rank)) : IVec S8x2048x2048 1 :=
  broadcastInDim S8x2048x2048 ![1, 2] H5 (cmpi .slt
    (broadcastInDim S2048x2048 ![0, 1] H1 (broadcastInDim S1x2048 ![1] H2 (iotaInDim S2048 32 0)))
    (broadcastInDim S2048x2048 ![0, 1] H3 (broadcastInDim S2048x1 ![0] H4 (iotaInDim S2048 32 0))))

theorem isT_earlier {H1 H2 H3 H4 H5} {X Y : FVec Ideal S8x2048x2048 .f32} {x y : ℕ → ℕ → ℕ → ℝ} (hx : IsT X x) (hy : IsT Y y) :
    IsT (select (earlier H1 H2 H3 H4 H5) X Y) (fun h t s => if s < t then x h t s else y h t s) := by
  intro h t s
  pointwise [earlier]
  have hw : IntOp.cmpi .slt (BitVec.ofNat 32 (s : ℕ)) (BitVec.ofNat 32 (t : ℕ)) = BitVec.ofBool (decide ((s : ℕ) < t)) := by word_cmp
  rw [hw, hx h t s, hy h t s]
  by_cases hc : (s : ℕ) < t
  · rw [if_pos hc, decide_eq_true hc]; rfl
  · rw [if_neg hc, decide_eq_false hc]; rfl

/-- The fold of a window is the sum over its positions. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The element at a position of the window that ends or begins at a key: zero outside the tensor. -/
def pick (L : ℕ) (X : FVec Ideal S8x2048x2048 .f32) (h : Fin 8) (t s : Fin 2048) (i : (⟨3, ![1, 1, 2048]⟩ : Shape).Idx) : EReal :=
  if hin : ∀ a : Fin 3, (![0, 0, L] : Fin 3 → ℕ) a ≤ ((ix3 h t s : S8x2048x2048.Idx) a).val * (![1, 1, 1] : Fin 3 → ℕ) a + (i a).val
      ∧ ((ix3 h t s : S8x2048x2048.Idx) a).val * (![1, 1, 1] : Fin 3 → ℕ) a + (i a).val - (![0, 0, L] : Fin 3 → ℕ) a < (![8, 2048, 2048] : Fin 3 → ℕ) a
    then X fun a => ⟨((ix3 h t s : S8x2048x2048.Idx) a).val * (![1, 1, 1] : Fin 3 → ℕ) a + (i a).val - (![0, 0, L] : Fin 3 → ℕ) a, (hin a).2⟩ else 0

theorem lanes_bij : Function.Bijective (fun n : Fin 2048 => (ix3 0 0 n : (⟨3, ![1, 1, 2048]⟩ : Shape).Idx)) := by
  refine ⟨fun a b hab => congrFun hab 2, fun i => ⟨i 2, funext fun a => ?_⟩⟩
  match a with
  | ⟨0, _⟩ => exact Subsingleton.elim (α := Fin 1) _ _
  | ⟨1, _⟩ => exact Subsingleton.elim (α := Fin 1) _ _
  | ⟨2, _⟩ => rfl

theorem pick_at {L : ℕ} {X : FVec Ideal S8x2048x2048 .f32} {x : ℕ → ℕ → ℕ → ℝ} (hx : IsT X x) (h : Fin 8) (t s n : Fin 2048) :
    pick L X h t s (ix3 0 0 n)
      = (((if L ≤ (s : ℕ) + n ∧ (s : ℕ) + n - L < 2048 then x h t ((s : ℕ) + n - L) else 0) : ℝ) : EReal) := by
  unfold pick
  split
  · next hin =>
    have h2 := hin 2
    change L ≤ s.val * 1 + n.val ∧ s.val * 1 + n.val - L < 2048 at h2
    rw [Nat.mul_one] at h2
    rw [if_pos h2]
    refine (congrArg X (funext fun a => Fin.ext ?_)).trans (hx h t ⟨s.val + n.val - L, h2.2⟩)
    match a with
    | ⟨0, _⟩ =>
      show h.val * 1 + 0 - 0 = h.val
      omega
    | ⟨1, _⟩ =>
      show t.val * 1 + 0 - 0 = t.val
      omega
    | ⟨2, _⟩ =>
      show s.val * 1 + n.val - L = s.val + n.val - L
      rw [Nat.mul_one]
  · next hin =>
    rw [if_neg fun hle => hin fun a => ?_, EReal.coe_zero]
    match a with
    | ⟨0, _⟩ =>
      show 0 ≤ h.val * 1 + 0 ∧ h.val * 1 + 0 - 0 < 8
      have := h.2
      omega
    | ⟨1, _⟩ =>
      show 0 ≤ t.val * 1 + 0 ∧ t.val * 1 + 0 - 0 < 2048
      have := t.2
      omega
    | ⟨2, _⟩ =>
      show L ≤ s.val * 1 + n.val ∧ s.val * 1 + n.val - L < 2048
      rw [Nat.mul_one]
      exact hle

/-- The sums over a window of all the keys. -/
theorem isT_window {L hi : ℕ} {X : FVec Ideal S8x2048x2048 .f32} {x : ℕ → ℕ → ℕ → ℝ} (hx : IsT X x) {i : FVec Ideal S_ .f32}
    (h0 : ∀ a, i a = 0) (H : S8x2048x2048.ReduceWindows (![1, 1, 2048] : Fin 3 → Nat) ![1, 1, 1] ![0, 0, L] ![0, 0, hi] S8x2048x2048)
    (hu : 0 < S_.numel) :
    IsT (Host.reduceWindowAdd ![1, 1, 2048] ![1, 1, 1] ![0, 0, L] ![0, 0, hi] X i H hu)
      (fun h t s => ∑ n ∈ range 2048, if L ≤ s + n ∧ s + n - L < 2048 then x h t (s + n - L) else 0) := by
  intro h t s
  unfold Host.reduceWindowAdd
  rw [Ideal.hostReduceWindowAdd_def]
  unfold Ideal.hostReduceWindowAdd Host.reduceWindow
  dsimp only
  rw [foldl_add, h0, zero_add, ← Fin.sum_univ_def]
  refine Eq.trans (Finset.sum_congr rfl fun n _ => (?_ : _ = pick L X h t s ((Shape.rowMajor ⟨3, ![1, 1, 2048]⟩).symm n))) ?_
  · unfold pick
    split
    · next hin =>
      split
      · rfl
      · next hn => exact absurd (fun a => hin a) hn
    · next hin =>
      split
      · next hp => exact absurd (fun a => hp a) hin
      · rfl
  rw [Equiv.sum_comp (Shape.rowMajor ⟨3, ![1, 1, 2048]⟩).symm (pick L X h t s)]
  rw [← sum_axis, ← Fintype.sum_bijective (fun n : Fin 2048 => (ix3 0 0 n : (⟨3, ![1, 1, 2048]⟩ : Shape).Idx)) lanes_bij _ _ (fun n => rfl)]
  exact Finset.sum_congr rfl fun n _ => pick_at hx h t s n

/-- Summing the keys from `s` on. -/
theorem sum_from {f : ℕ → ℝ} {s : ℕ} (hs : s < 2048) :
    (∑ n ∈ range 2048, if 0 ≤ s + n ∧ s + n - 0 < 2048 then f (s + n - 0) else 0) = f s + ∑ j ∈ range 2048, if s < j then f j else 0 := by
  obtain ⟨r, hr⟩ : ∃ r, 2048 = s + (r + 1) := ⟨2047 - s, by omega⟩
  rw [show (∑ j ∈ range 2048, if s < j then f j else 0) = ∑ j ∈ range (s + (r + 1)), if s < j then f j else 0 from by rw [← hr],
    show range 2048 = range (r + 1 + s) from congrArg range (by omega), Finset.sum_range_add _ s (r + 1), Finset.sum_range_add _ (r + 1) s,
    Finset.sum_range_succ' _ r, Finset.sum_range_succ' _ r]
  have e1 : (∑ x ∈ range s, if 0 ≤ s + (r + 1 + x) ∧ s + (r + 1 + x) - 0 < 2048 then f (s + (r + 1 + x) - 0) else 0) = 0 :=
    Finset.sum_eq_zero fun x _ => if_neg (by omega)
  have e2 : (∑ x ∈ range s, if s < x then f x else 0) = 0 :=
    Finset.sum_eq_zero fun x hx => if_neg (by have := Finset.mem_range.1 hx; omega)
  have e3 : (∑ n ∈ range r, if 0 ≤ s + (n + 1) ∧ s + (n + 1) - 0 < 2048 then f (s + (n + 1) - 0) else 0)
      = ∑ n ∈ range r, if s < s + (n + 1) then f (s + (n + 1)) else 0 :=
    Finset.sum_congr rfl fun n hn => by
      have := Finset.mem_range.1 hn
      rw [if_pos (by omega), if_pos (by omega), Nat.sub_zero]
  rw [e1, e2, e3, if_pos (by omega), if_neg (by omega)]
  simp only [add_zero, Nat.sub_zero, zero_add]
  ring

/-- Summing the keys up to `s`. -/
theorem sum_upto {f : ℕ → ℝ} {s : ℕ} (hs : s < 2048) :
    (∑ n ∈ range 2048, if 2047 ≤ s + n ∧ s + n - 2047 < 2048 then f (s + n - 2047) else 0) = f s + ∑ j ∈ range s, f j := by
  obtain ⟨r, hr⟩ : ∃ r, 2047 = r + s := ⟨2047 - s, by omega⟩
  rw [show range 2048 = range (r + (s + 1)) from congrArg range (by omega), Finset.sum_range_add _ r (s + 1),
    Finset.sum_eq_zero fun x hx => if_neg (by have := Finset.mem_range.1 hx; omega), zero_add, add_comm (f s), ← Finset.sum_range_succ]
  exact Finset.sum_congr rfl fun x hx => by
    have := Finset.mem_range.1 hx
    rw [if_pos (by omega), show s + (r + x) - 2047 = x by omega]

end Cert.Attn
-- ==== Proof.Step.lean ====
module

public import proofs.«01_k».proof.Proof.Spec

/-!
# What a grid point leaves does not depend on what it overwrites

The body writes the whole of the query gradients and of the three scratch arrays before it reads them, and at a pair's
first query block the whole of the key and value gradients too.
-/

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- A rectangle that starts at the origin and is as large as the array covers it. -/
theorem overlay_all {s : Shape} {α : Type} (o : Fin s.rank → Nat) (ho : ∀ a, o a = 0) (inb) (X : s.Idx → α) (v : s.Idx → α) :
    (Rect.unit (s := s) o s.size inb).overlay X v = v := by
  funext j
  have h : (Rect.unit (s := s) o s.size inb).emb j = j := by
    funext a; apply Fin.ext
    simp [Rect.emb, Rect.unit, ho]
  have h2 := Rect.overlay_emb (Rect.unit (s := s) o s.size inb) X v j
  rwa [h] at h2

theorem overlay_rows {α : Type} (X v : S256x128.Idx → α) : rowsAll.overlay X v = v :=
  overlay_all _ (by decide) _ X v

theorem overlay_keys {α : Type} (X v : S2048x128.Idx → α) : keysAll.overlay X v = v :=
  overlay_all _ (by decide) _ X v

theorem overlay_heads {α : Type} (X v : S2x256x128.Idx → α) : headsAll.overlay X v = v :=
  overlay_all _ (by decide) _ X v

/-- The point is a pair's first query block. -/
abbrev isFirst (i : grid0.Coords) : Prop :=
  Scalar.cmpi .ne (Scalar.extui (Scalar.cmpi .eq (BitVec.ofNat 32 (i 1).val) 0#32) : BitVec 32) 0#32 = 1#1

/-- The state a point's key blocks start from. -/
theorem clear_fresh (i : grid0.Coords) (σ : St F) : clear (fresh i σ) =
    { σ with
      dk := if isFirst i then k0_pay506 else σ.dk
      dv := if isFirst i then k0_pay507 else σ.dv
      dq := k0_pay509 k0_pay508, cc := k0_pay510, cg := k0_pay511 } := by
  unfold clear fresh
  split_ifs with h
  · simp only [overlay_heads, overlay_keys]
  · simp only [overlay_heads]

/-- The query gradients' block replaced. -/
abbrev withOut (X : S256x128.Idx → Elt F .f32) (σ : St F) : St F := { σ with out := X }

theorem finish_block_out (m : FVec F S256x256 .f32 → FVec F S256x256 .f32) (E : Env F) (o inb) (X) (σ : St F) (r : Reg F) :
    blockStep m E o inb (withOut X σ, r) = (withOut X (blockStep m E o inb (σ, r)).1, (blockStep m E o inb (σ, r)).2) := rfl

theorem four_out (E : Env F) (i t X) (σ : St F) : four E i t (withOut X σ) = withOut X (four E i t σ) := rfl
theorem left1_out (E : Env F) (i h X) (σ : St F) : left1 E i h (withOut X σ) = withOut X (left1 E i h σ) := rfl
theorem left2_out (E : Env F) (i h X) (σ : St F) : left2 E i h (withOut X σ) = withOut X (left2 E i h σ) := rfl
theorem left3_out (E : Env F) (i h X) (σ : St F) : left3 E i h (withOut X σ) = withOut X (left3 E i h σ) := rfl
theorem diag_out (E : Env F) (i X) (σ : St F) : diag E i (withOut X σ) = withOut X (diag E i σ) := rfl

theorem fours_out (E : Env F) (i X) (σ : St F) (n : Nat) : fours E i (withOut X σ) n = withOut X (fours E i σ n) := by
  induction n with
  | zero => rfl
  | succ n ih =>
    unfold fours
    split_ifs
    · rw [ih, four_out]
    · rw [ih]

/-- A step taken where `p` holds. -/
def opt (p : Prop) [Decidable p] (f : p → St F → St F) (σ : St F) : St F := if h : p then f h σ else σ

theorem lefts_eq (E : Env F) (i) (σ : St F) : lefts E i σ =
    opt (k0_cond4 i = 1#1) (left3 E i) (opt (k0_cond3 i = 1#1) (left2 E i) (opt (k0_cond2 i = 1#1) (left1 E i) σ)) := by
  unfold lefts opt
  with_reducible rfl

theorem opt_out (p : Prop) [Decidable p] (f : p → St F → St F) (X) (hf : ∀ h σ, f h (withOut X σ) = withOut X (f h σ))
    (σ : St F) : opt p f (withOut X σ) = withOut X (opt p f σ) := by
  unfold opt
  by_cases h : p
  · rw [dif_pos h, dif_pos h, hf]
  · rw [dif_neg h, dif_neg h]

theorem lefts_out (E : Env F) (i X) (σ : St F) : lefts E i (withOut X σ) = withOut X (lefts E i σ) := by
  rw [lefts_eq, lefts_eq, opt_out _ _ X (fun h σ => left1_out E i h X σ), opt_out _ _ X (fun h σ => left2_out E i h X σ),
    opt_out _ _ X (fun h σ => left3_out E i h X σ)]

/-- The query gradients' block held before a point does not matter. -/
theorem bodySt_out (i : grid0.Coords) (X) (σ : St F) : bodySt i (withOut X σ) = bodySt i σ := by
  have hE : envOf (withOut X σ) = envOf σ := rfl
  have hc : clear (fresh i (withOut X σ)) = withOut X (clear (fresh i σ)) := by
    rw [clear_fresh, clear_fresh]
  unfold bodySt
  rw [hE, hc, fours_out, lefts_out, diag_out]
  unfold writeOut
  rw [overlay_rows, overlay_rows]

/-- Two states that agree on what a point reads before it writes leave the same. -/
theorem bodySt_congr (i : grid0.Coords) (σ τ : St F) (h0 : σ.dO = τ.dO) (h1 : σ.q = τ.q) (h2 : σ.k = τ.k) (h3 : σ.v = τ.v)
    (h4 : σ.lt = τ.lt) (h5 : ¬isFirst i → σ.dk = τ.dk) (h6 : ¬isFirst i → σ.dv = τ.dv) : bodySt i σ = bodySt i τ := by
  rw [← bodySt_out i τ.out σ]
  have hE : envOf (withOut τ.out σ) = envOf τ := by
    unfold envOf; simp only [h0, h1, h4]
  have hc : clear (fresh i (withOut τ.out σ)) = clear (fresh i τ) := by
    rw [clear_fresh, clear_fresh]
    by_cases h : isFirst i
    · simp only [if_pos h, h0, h1, h2, h3, h4]
    · simp only [if_neg h, h0, h1, h2, h3, h4, h5 h, h6 h]
  unfold bodySt
  rw [hE, hc]

/-- The five blocks a point reads. -/
structure Same (σ τ : St F) : Prop where
  dO : σ.dO = τ.dO
  q : σ.q = τ.q
  k : σ.k = τ.k
  v : σ.v = τ.v
  lt : σ.lt = τ.lt

theorem Same.refl (σ : St F) : Same σ σ := ⟨rfl, rfl, rfl, rfl, rfl⟩

theorem fours_same (E : Env F) (i) (σ : St F) (n : Nat) : Same (fours E i σ n) σ := by
  induction n with
  | zero => exact Same.refl σ
  | succ n ih =>
    unfold fours
    split_ifs with h
    · exact ⟨ih.dO, ih.q, ih.k, ih.v, ih.lt⟩
    · exact ih

theorem Same.trans {a b c : St F} (h : Same a b) (h' : Same b c) : Same a c :=
  ⟨h.dO.trans h'.dO, h.q.trans h'.q, h.k.trans h'.k, h.v.trans h'.v, h.lt.trans h'.lt⟩

theorem opt_same (p : Prop) [Decidable p] (f : p → St F → St F) (hf : ∀ h σ, Same (f h σ) σ) (σ : St F) : Same (opt p f σ) σ := by
  unfold opt
  by_cases h : p
  · rw [dif_pos h]; exact hf h σ
  · rw [dif_neg h]; exact Same.refl σ

theorem lefts_same (E : Env F) (i) (σ : St F) : Same (lefts E i σ) σ := by
  rw [lefts_eq]
  exact (opt_same (k0_cond4 i = 1#1) (left3 E i) (fun _ _ => ⟨rfl, rfl, rfl, rfl, rfl⟩) _).trans
    ((opt_same (k0_cond3 i = 1#1) (left2 E i) (fun _ _ => ⟨rfl, rfl, rfl, rfl, rfl⟩) _).trans
    (opt_same (k0_cond2 i = 1#1) (left1 E i) (fun _ _ => ⟨rfl, rfl, rfl, rfl, rfl⟩) _))

theorem tail_same (E : Env F) (i) (σ : St F) : Same (writeOut (diag E i σ)) σ := ⟨rfl, rfl, rfl, rfl, rfl⟩

/-- A point leaves the blocks it reads as they were. -/
theorem bodySt_same (i : grid0.Coords) (σ : St F) : Same (bodySt i σ) σ := by
  have h0 : Same (clear (fresh i σ)) σ := by rw [clear_fresh]; exact ⟨rfl, rfl, rfl, rfl, rfl⟩
  have h1 := fours_same (envOf σ) i (clear (fresh i σ)) (k0_t1_loop i).trips
  have h2 := lefts_same (envOf σ) i (fours (envOf σ) i (clear (fresh i σ)) (k0_t1_loop i).trips)
  unfold bodySt
  exact (tail_same _ _ _).trans (h2.trans (h1.trans h0))

end Cert.Attn
-- ==== Proof.PartsA.lean ====
module

public import proofs.«01_k».proof.Proof.Spec

/-!
# The pieces of a group of four key blocks, each as what it hands on
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

theorem part1 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v49 : FVec F S256x128 .bf16} {v55 : FVec F S256x128 .bf16} {c0_i32_42 : BitVec 32} {c1_i32_45 : BitVec 32} {k0_t1 : Fin (k0_t1_loop i).trips}
    {Q : (Σ' (v361 : BitVec 32) (v363 : BitVec 32) (v365 : BitVec 32) (v367 : BitVec 32) (v370 : FVec F S256x128 .bf16) (v373 : FVec F S256x128 .bf16) (v376 : FVec F S256x128 .bf16) (v379 : FVec F S256x128 .bf16) (v382 : FVec F S256x128 .bf16) (v385 : FVec F S256x128 .bf16) (v388 : FVec F S256x128 .bf16) (v391 : FVec F S256x128 .bf16) (v392 : FVec F S256x256 .f32) (v393 : FVec F S256x256 .f32), FVec F S256x256 .f32) → sProp 𝕄}
    (h : ∀ arg14 : BitVec 32, arg14 = Scf.iv c0_i32_42 c1_i32_45 k0_t1 →
      ∀ v355 : BitVec 32, v355 = Scalar.muli 4#32 arg14 →
      ∀ v356 : BitVec 32, v356 = Scalar.addi v355 0#32 →
      ∀ v357 : BitVec 32, v357 = Scalar.addi v355 1#32 →
      ∀ v358 : BitVec 32, v358 = Scalar.addi v355 2#32 →
      ∀ v359 : BitVec 32, v359 = Scalar.addi v355 3#32 →
      ∀ v360 : BitVec 32, v360 = Scalar.muli v356 256#32 →
      ∀ v361 : BitVec 32, v361 = v360 →
      ∀ v362 : BitVec 32, v362 = Scalar.muli v357 256#32 →
      ∀ v363 : BitVec 32, v363 = v362 →
      ∀ v364 : BitVec 32, v364 = Scalar.muli v358 256#32 →
      ∀ v365 : BitVec 32, v365 = v364 →
      ∀ v366 : BitVec 32, v366 = Scalar.muli v359 256#32 →
      ∀ v367 : BitVec 32, v367 = v366 →
      ∀ v369 : Vec F S256x128 .bf16, v369 = View.ld σ.k (Rect.unit (s := S2048x128) (k0_off1 i k0_t1 0#32) S256x128.size (k0_off1_inb i k0_t1 0)) →
      ∀ v372 : Vec F S256x128 .bf16, v372 = View.ld σ.v (Rect.unit (s := S2048x128) (k0_off1 i k0_t1 0#32) S256x128.size (k0_off1_inb i k0_t1 0)) →
      ∀ v375 : Vec F S256x128 .bf16, v375 = View.ld σ.k (Rect.unit (s := S2048x128) (k0_off1 i k0_t1 1#32) S256x128.size (k0_off1_inb i k0_t1 1)) →
      ∀ v378 : Vec F S256x128 .bf16, v378 = View.ld σ.v (Rect.unit (s := S2048x128) (k0_off1 i k0_t1 1#32) S256x128.size (k0_off1_inb i k0_t1 1)) →
      ∀ v381 : Vec F S256x128 .bf16, v381 = View.ld σ.k (Rect.unit (s := S2048x128) (k0_off1 i k0_t1 2#32) S256x128.size (k0_off1_inb i k0_t1 2)) →
      ∀ v384 : Vec F S256x128 .bf16, v384 = View.ld σ.v (Rect.unit (s := S2048x128) (k0_off1 i k0_t1 2#32) S256x128.size (k0_off1_inb i k0_t1 2)) →
      ∀ v387 : Vec F S256x128 .bf16, v387 = View.ld σ.k (Rect.unit (s := S2048x128) (k0_off1 i k0_t1 3#32) S256x128.size (k0_off1_inb i k0_t1 3)) →
      ∀ v390 : Vec F S256x128 .bf16, v390 = View.ld σ.v (Rect.unit (s := S2048x128) (k0_off1 i k0_t1 3#32) S256x128.size (k0_off1_inb i k0_t1 3)) →
      ∀ cst_179 : FVec F S256x256 .f32, cst_179 = constant S256x256 .f32 0x00000000#32 →
      ∀ v370 : FVec F S256x128 .bf16, v370 = k0_pay2 v369 →
      ∀ v373 : FVec F S256x128 .bf16, v373 = k0_pay3 v372 →
      ∀ v376 : FVec F S256x128 .bf16, v376 = k0_pay4 v375 →
      ∀ v379 : FVec F S256x128 .bf16, v379 = k0_pay5 v378 →
      ∀ v382 : FVec F S256x128 .bf16, v382 = k0_pay6 v381 →
      ∀ v385 : FVec F S256x128 .bf16, v385 = k0_pay7 v384 →
      ∀ v388 : FVec F S256x128 .bf16, v388 = k0_pay8 v387 →
      ∀ v391 : FVec F S256x128 .bf16, v391 = k0_pay9 v390 →
      ∀ v392 : FVec F S256x256 .f32, v392 = k0_pay10 v49 v369 →
      ∀ v393 : FVec F S256x256 .f32, v393 = k0_pay11 v55 v369 →
      Held c B σ ⊢ Q ⟨v361, v363, v365, v367, v370, v373, v376, v379, v382, v385, v388, v391, v392, v393, cst_179⟩) :
    Held c B σ ⊢ Wp c (k0_part1 i B.a2 h2 B.a3 h3 B.a4 h4 B.a5 h5 B.a6 h6 a7 h7 B.a8 h8 B.a9 h9 B.a10 h10 B.a11 h11 B.a12 h12 B.a13 h13 v49 v55 c0_i32_42 c1_i32_45 k0_t1) Q := by
  rw [k0_part1_eq_skeleton]; unfold k0_part1_skel
  refine load_k ?_
  refine load_v ?_
  refine load_k ?_
  refine load_v ?_
  refine load_k ?_
  refine load_v ?_
  refine load_k ?_
  refine load_v ?_
  refine run_pure ?_
  exact h _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl

theorem part2 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v55 : FVec F S256x128 .bf16} {v61 : FVec F S256x128 .bf16} {v67 : FVec F S256x128 .bf16} {v373 : FVec F S256x128 .bf16} {v376 : FVec F S256x128 .bf16} {v379 : FVec F S256x128 .bf16} {v382 : FVec F S256x128 .bf16} {v385 : FVec F S256x128 .bf16} {v388 : FVec F S256x128 .bf16} {cst_179 : FVec F S256x256 .f32}
    {Q : (Σ' (v394 : FVec F S256x256 .f32) (v395 : FVec F S256x256 .f32) (v396 : FVec F S256x256 .f32) (v397 : FVec F S256x256 .f32) (v398 : FVec F S256x256 .f32) (v399 : FVec F S256x256 .f32) (v406 : FVec F S256x256 .f32) (v413 : FVec F S256x256 .f32) (v420 : FVec F S256x256 .f32) (v427 : FVec F S256x256 .f32) (v433 : FVec F S256x128 .bf16), FVec F S256x256 .f32) → sProp 𝕄}
    (h : ∀ cst_199 : FVec F S256x256 .f32, cst_199 = constant S256x256 .f32 0x00000000#32 →
      ∀ v394 : FVec F S256x256 .f32, v394 = k0_pay12 v49 v376 cst_179 →
      ∀ v395 : FVec F S256x256 .f32, v395 = k0_pay13 v55 v376 →
      ∀ v396 : FVec F S256x256 .f32, v396 = k0_pay14 v49 v382 →
      ∀ v397 : FVec F S256x256 .f32, v397 = k0_pay15 v55 v382 →
      ∀ v398 : FVec F S256x256 .f32, v398 = k0_pay16 v49 v388 →
      ∀ v399 : FVec F S256x256 .f32, v399 = k0_pay17 v55 v388 →
      ∀ v406 : FVec F S256x256 .f32, v406 = k0_pay18 v24 v61 v373 →
      ∀ v413 : FVec F S256x256 .f32, v413 = k0_pay19 v24 v67 v373 →
      ∀ v420 : FVec F S256x256 .f32, v420 = k0_pay20 v24 v61 v379 →
      ∀ v427 : FVec F S256x256 .f32, v427 = k0_pay21 v24 v67 v379 →
      ∀ v433 : FVec F S256x128 .bf16, v433 = k0_pay22 v24 v385 →
      Held c B σ ⊢ Q ⟨v394, v395, v396, v397, v398, v399, v406, v413, v420, v427, v433, cst_199⟩) :
    Held c B σ ⊢ Wp c (k0_part2 i B.a2 h2 B.a3 h3 B.a4 h4 B.a5 h5 B.a6 h6 a7 h7 B.a8 h8 B.a9 h9 B.a10 h10 B.a11 h11 B.a12 h12 B.a13 h13 v24 v49 v55 v61 v67 v373 v376 v379 v382 v385 v388 cst_179) Q := by
  rw [k0_part2_eq_skeleton]; unfold k0_part2_skel
  refine run_pure ?_
  exact h _ rfl _ rfl _ rfl _ rfl _ rfl _ rfl _ rfl _ rfl _ rfl _ rfl _ rfl _ rfl

theorem part3 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v61 : FVec F S256x128 .bf16} {v67 : FVec F S256x128 .bf16} {v385 : FVec F S256x128 .bf16} {v391 : FVec F S256x128 .bf16} {v392 : FVec F S256x256 .f32} {v393 : FVec F S256x256 .f32} {v433 : FVec F S256x128 .bf16} {cst_199 : FVec F S256x256 .f32}
    {Q : (Σ' (v434 : FVec F S256x256 .f32) (v441 : FVec F S256x256 .f32) (v448 : FVec F S256x256 .f32) (v455 : FVec F S256x256 .f32) (v465 : FVec F S256x256 .f32) (v466 : FVec F S256x256 .f32) (v476 : FVec F S256x256 .f32) (v477 : FVec F S256x256 .f32), F .f32) → sProp 𝕄}
    (h : ∀ cst_215 : F .f32, cst_215 = Scalar.ofBits .f32 0x00000000#32 →
      ∀ v434 : FVec F S256x256 .f32, v434 = k0_pay23 v61 v433 cst_199 →
      ∀ v441 : FVec F S256x256 .f32, v441 = k0_pay24 v24 v67 v385 →
      ∀ v448 : FVec F S256x256 .f32, v448 = k0_pay25 v24 v61 v391 →
      ∀ v455 : FVec F S256x256 .f32, v455 = k0_pay26 v24 v67 v391 →
      ∀ v465 : FVec F S256x256 .f32, v465 = k0_pay27 v392 →
      ∀ v466 : FVec F S256x256 .f32, v466 = k0_pay28 v392 →
      ∀ v476 : FVec F S256x256 .f32, v476 = k0_pay29 v393 →
      ∀ v477 : FVec F S256x256 .f32, v477 = k0_pay30 v393 →
      Held c B σ ⊢ Q ⟨v434, v441, v448, v455, v465, v466, v476, v477, cst_215⟩) :
    Held c B σ ⊢ Wp c (k0_part3 i B.a2 h2 B.a3 h3 B.a4 h4 B.a5 h5 B.a6 h6 a7 h7 B.a8 h8 B.a9 h9 B.a10 h10 B.a11 h11 B.a12 h12 B.a13 h13 v24 v61 v67 v385 v391 v392 v393 v433 cst_199) Q := by
  rw [k0_part3_eq_skeleton]; unfold k0_part3_skel
  refine run_pure ?_
  exact h _ rfl _ rfl _ rfl _ rfl _ rfl _ rfl _ rfl _ rfl _ rfl

theorem part4 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v394 : FVec F S256x256 .f32} {v395 : FVec F S256x256 .f32} {v396 : FVec F S256x256 .f32} {v397 : FVec F S256x256 .f32} {v398 : FVec F S256x256 .f32} {cst_215 : F .f32}
    {Q : (Σ' (v487 : FVec F S256x256 .f32) (v488 : FVec F S256x256 .f32) (v498 : FVec F S256x256 .f32) (v499 : FVec F S256x256 .f32) (v509 : FVec F S256x256 .f32) (v510 : FVec F S256x256 .f32) (v520 : FVec F S256x256 .f32) (v521 : FVec F S256x256 .f32) (v523 : FVec F S256x256 .f32) (v524 : FVec F S256x256 .f32), F .f32) → sProp 𝕄}
    (h : ∀ cst_228 : F .f32, cst_228 = Scalar.ofBits .f32 0x00000000#32 →
      ∀ v487 : FVec F S256x256 .f32, v487 = k0_pay31 v394 cst_215 →
      ∀ v488 : FVec F S256x256 .f32, v488 = k0_pay32 v394 cst_215 →
      ∀ v498 : FVec F S256x256 .f32, v498 = k0_pay33 v395 →
      ∀ v499 : FVec F S256x256 .f32, v499 = k0_pay34 v395 →
      ∀ v509 : FVec F S256x256 .f32, v509 = k0_pay35 v396 →
      ∀ v510 : FVec F S256x256 .f32, v510 = k0_pay36 v396 →
      ∀ v520 : FVec F S256x256 .f32, v520 = k0_pay37 v397 →
      ∀ v521 : FVec F S256x256 .f32, v521 = k0_pay38 v397 →
      ∀ v523 : FVec F S256x256 .f32, v523 = k0_pay39 v398 →
      ∀ v524 : FVec F S256x256 .f32, v524 = k0_pay40 v398 →
      Held c B σ ⊢ Q ⟨v487, v488, v498, v499, v509, v510, v520, v521, v523, v524, cst_228⟩) :
    Held c B σ ⊢ Wp c (k0_part4 i B.a2 h2 B.a3 h3 B.a4 h4 B.a5 h5 B.a6 h6 a7 h7 B.a8 h8 B.a9 h9 B.a10 h10 B.a11 h11 B.a12 h12 B.a13 h13 v394 v395 v396 v397 v398 cst_215) Q := by
  rw [k0_part4_eq_skeleton]; unfold k0_part4_skel
  refine run_pure ?_
  exact h _ rfl _ rfl _ rfl _ rfl _ rfl _ rfl _ rfl _ rfl _ rfl _ rfl _ rfl

theorem part5 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v31 : FVec F S256x256 .bf16} {v398 : FVec F S256x256 .f32} {v399 : FVec F S256x256 .f32} {v466 : FVec F S256x256 .f32} {v477 : FVec F S256x256 .f32} {v488 : FVec F S256x256 .f32} {v499 : FVec F S256x256 .f32} {v510 : FVec F S256x256 .f32} {v521 : FVec F S256x256 .f32} {v523 : FVec F S256x256 .f32} {v524 : FVec F S256x256 .f32} {cst_228 : F .f32}
    {Q : (Σ' (v531 : FVec F S256x256 .f32) (v532 : FVec F S256x256 .f32) (v542 : FVec F S256x256 .f32) (v543 : FVec F S256x256 .f32) (v545 : FVec F S256x256 .f32) (v547 : FVec F S256x256 .f32) (v549 : FVec F S256x256 .f32) (v551 : FVec F S256x256 .f32) (v553 : FVec F S256x256 .f32) (v555 : FVec F S256x256 .f32) (v557 : FVec F S256x256 .f32) (v559 : FVec F S256x256 .f32) (v561 : FVec F S256x128 .f32), FVec F S256x128 .f32) → sProp 𝕄}
    (h : ∀ v560 : Vec F S1x256x128 .f32, v560 = View.ld σ.cc (Rect.unit (s := S2x256x128) ![0, 0, 0] S1x256x128.size inb_S2x256x128_S1x256x128_0_0_0) →
      ∀ v562 : Vec F S1x256x128 .f32, v562 = View.ld σ.cc (Rect.unit (s := S2x256x128) ![1, 0, 0] S1x256x128.size inb_S2x256x128_S1x256x128_1_0_0) →
      ∀ v531 : FVec F S256x256 .f32, v531 = k0_pay41 v523 v524 cst_228 →
      ∀ v532 : FVec F S256x256 .f32, v532 = k0_pay42 v398 v523 v524 cst_228 →
      ∀ v542 : FVec F S256x256 .f32, v542 = k0_pay43 v399 →
      ∀ v543 : FVec F S256x256 .f32, v543 = k0_pay44 v399 →
      ∀ v545 : FVec F S256x256 .f32, v545 = k0_pay45 v31 v466 →
      ∀ v547 : FVec F S256x256 .f32, v547 = k0_pay46 v31 v477 →
      ∀ v549 : FVec F S256x256 .f32, v549 = k0_pay47 v31 v488 →
      ∀ v551 : FVec F S256x256 .f32, v551 = k0_pay48 v31 v499 →
      ∀ v553 : FVec F S256x256 .f32, v553 = k0_pay49 v31 v510 →
      ∀ v555 : FVec F S256x256 .f32, v555 = k0_pay50 v31 v521 →
      ∀ v557 : FVec F S256x256 .f32, v557 = k0_pay51 v31 v398 v523 v524 cst_228 →
      ∀ v559 : FVec F S256x256 .f32, v559 = k0_pay52 v31 v399 →
      ∀ v561 : FVec F S256x128 .f32, v561 = k0_pay53 v560 →
      ∀ vr : FVec F S256x128 .f32, vr = k0_pay54 v562 →
      Held c B σ ⊢ Q ⟨v531, v532, v542, v543, v545, v547, v549, v551, v553, v555, v557, v559, v561, vr⟩) :
    Held c B σ ⊢ Wp c (k0_part5 i B.a2 h2 B.a3 h3 B.a4 h4 B.a5 h5 B.a6 h6 a7 h7 B.a8 h8 B.a9 h9 B.a10 h10 B.a11 h11 B.a12 h12 B.a13 h13 v31 v398 v399 v466 v477 v488 v499 v510 v521 v523 v524 cst_228) Q := by
  rw [k0_part5_eq_skeleton]; unfold k0_part5_skel
  refine load_cc ?_
  refine load_cc ?_
  refine run_pure ?_
  exact h _ rfl _ rfl _ rfl _ rfl _ rfl _ rfl _ rfl _ rfl _ rfl _ rfl _ rfl _ rfl _ rfl _ rfl _ rfl _ rfl

theorem part6 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v73 : FVec F S256x1 .f32} {v79 : FVec F S256x1 .f32} {v406 : FVec F S256x256 .f32} {v413 : FVec F S256x256 .f32} {v420 : FVec F S256x256 .f32} {v427 : FVec F S256x256 .f32} {v465 : FVec F S256x256 .f32} {v466 : FVec F S256x256 .f32} {v476 : FVec F S256x256 .f32} {v477 : FVec F S256x256 .f32} {v487 : FVec F S256x256 .f32} {v488 : FVec F S256x256 .f32} {v498 : FVec F S256x256 .f32} {v499 : FVec F S256x256 .f32} {v545 : FVec F S256x256 .f32} {v547 : FVec F S256x256 .f32} {v549 : FVec F S256x256 .f32} {v551 : FVec F S256x256 .f32} {v561 : FVec F S256x128 .f32} {v563 : FVec F S256x128 .f32}
    {Q : (Σ' (v565 : FVec F S256x128 .f32) (v567 : FVec F S256x128 .f32) (v578 : FVec F S256x256 .bf16) (v579 : FVec F S256x256 .f32) (v590 : FVec F S256x256 .bf16) (v591 : FVec F S256x256 .f32) (v595 : FVec F S256x128 .f32) (v602 : FVec F S256x256 .bf16) (v603 : FVec F S256x256 .f32) (v607 : FVec F S256x128 .f32) (v614 : FVec F S256x256 .bf16), FVec F S256x256 .f32) → sProp 𝕄}
    (h : ∀ v564 : Vec F S1x256x128 .f32, v564 = View.ld σ.cg (Rect.unit (s := S2x256x128) ![0, 0, 0] S1x256x128.size inb_S2x256x128_S1x256x128_0_0_0) →
      ∀ v566 : Vec F S1x256x128 .f32, v566 = View.ld σ.cg (Rect.unit (s := S2x256x128) ![1, 0, 0] S1x256x128.size inb_S2x256x128_S1x256x128_1_0_0) →
      ∀ v565 : FVec F S256x128 .f32, v565 = k0_pay55 v564 →
      ∀ v567 : FVec F S256x128 .f32, v567 = k0_pay56 v566 →
      ∀ v578 : FVec F S256x256 .bf16, v578 = k0_pay59 v73 v465 v466 v545 v561 →
      ∀ v579 : FVec F S256x256 .f32, v579 = k0_pay60 v73 v406 v465 v466 v545 v561 →
      ∀ v590 : FVec F S256x256 .bf16, v590 = k0_pay63 v79 v476 v477 v547 v563 →
      ∀ v591 : FVec F S256x256 .f32, v591 = k0_pay64 v79 v413 v476 v477 v547 v563 →
      ∀ v595 : FVec F S256x128 .f32, v595 = k0_pay65 v466 v488 v561 →
      ∀ v602 : FVec F S256x256 .bf16, v602 = k0_pay67 v73 v466 v487 v488 v549 v561 →
      ∀ v603 : FVec F S256x256 .f32, v603 = k0_pay68 v73 v420 v466 v487 v488 v549 v561 →
      ∀ v607 : FVec F S256x128 .f32, v607 = k0_pay69 v477 v499 v563 →
      ∀ v614 : FVec F S256x256 .bf16, v614 = k0_pay71 v79 v477 v498 v499 v551 v563 →
      ∀ vr : FVec F S256x256 .f32, vr = k0_pay72 v79 v427 v477 v498 v499 v551 v563 →
      Held c B σ ⊢ Q ⟨v565, v567, v578, v579, v590, v591, v595, v602, v603, v607, v614, vr⟩) :
    Held c B σ ⊢ Wp c (k0_part6 i B.a2 h2 B.a3 h3 B.a4 h4 B.a5 h5 B.a6 h6 a7 h7 B.a8 h8 B.a9 h9 B.a10 h10 B.a11 h11 B.a12 h12 B.a13 h13 v73 v79 v406 v413 v420 v427 v465 v466 v476 v477 v487 v488 v498 v499 v545 v547 v549 v551 v561 v563) Q := by
  rw [k0_part6_eq_skeleton]; unfold k0_part6_skel
  refine load_cg ?_
  refine load_cg ?_
  refine run_pure ?_
  exact h _ rfl _ rfl _ rfl _ rfl _ rfl _ rfl _ rfl _ rfl _ rfl _ rfl _ rfl _ rfl _ rfl _ rfl

theorem part7 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v37 : FVec F S256x256 .bf16} {v73 : FVec F S256x1 .f32} {v79 : FVec F S256x1 .f32} {v434 : FVec F S256x256 .f32} {v441 : FVec F S256x256 .f32} {v448 : FVec F S256x256 .f32} {v455 : FVec F S256x256 .f32} {v509 : FVec F S256x256 .f32} {v510 : FVec F S256x256 .f32} {v520 : FVec F S256x256 .f32} {v521 : FVec F S256x256 .f32} {v531 : FVec F S256x256 .f32} {v532 : FVec F S256x256 .f32} {v542 : FVec F S256x256 .f32} {v543 : FVec F S256x256 .f32} {v553 : FVec F S256x256 .f32} {v555 : FVec F S256x256 .f32} {v557 : FVec F S256x256 .f32} {v559 : FVec F S256x256 .f32} {v579 : FVec F S256x256 .f32} {v591 : FVec F S256x256 .f32} {v595 : FVec F S256x128 .f32} {v603 : FVec F S256x256 .f32} {v607 : FVec F S256x128 .f32}
    {Q : (Σ' (v626 : FVec F S256x256 .bf16) (v627 : FVec F S256x256 .f32) (v638 : FVec F S256x256 .bf16) (v639 : FVec F S256x256 .f32) (v643 : FVec F S256x128 .f32) (v650 : FVec F S256x256 .bf16) (v651 : FVec F S256x256 .f32) (v655 : FVec F S256x128 .f32) (v662 : FVec F S256x256 .bf16) (v663 : FVec F S256x256 .f32) (v665 : FVec F S256x256 .f32) (v667 : FVec F S256x256 .f32), FVec F S256x256 .f32) → sProp 𝕄}
    (h : ∀ v626 : FVec F S256x256 .bf16, v626 = k0_pay75 v73 v509 v510 v553 v595 →
      ∀ v627 : FVec F S256x256 .f32, v627 = k0_pay76 v73 v434 v509 v510 v553 v595 →
      ∀ v638 : FVec F S256x256 .bf16, v638 = k0_pay79 v79 v520 v521 v555 v607 →
      ∀ v639 : FVec F S256x256 .f32, v639 = k0_pay80 v79 v441 v520 v521 v555 v607 →
      ∀ v643 : FVec F S256x128 .f32, v643 = k0_pay81 v510 v532 v595 →
      ∀ v650 : FVec F S256x256 .bf16, v650 = k0_pay83 v73 v510 v531 v532 v557 v595 →
      ∀ v651 : FVec F S256x256 .f32, v651 = k0_pay84 v73 v448 v510 v531 v532 v557 v595 →
      ∀ v655 : FVec F S256x128 .f32, v655 = k0_pay85 v521 v543 v607 →
      ∀ v662 : FVec F S256x256 .bf16, v662 = k0_pay87 v79 v521 v542 v543 v559 v607 →
      ∀ v663 : FVec F S256x256 .f32, v663 = k0_pay88 v79 v455 v521 v542 v543 v559 v607 →
      ∀ v665 : FVec F S256x256 .f32, v665 = k0_pay89 v37 v579 →
      ∀ v667 : FVec F S256x256 .f32, v667 = k0_pay90 v37 v591 →
      ∀ vr : FVec F S256x256 .f32, vr = k0_pay91 v37 v603 →
      Held c B σ ⊢ Q ⟨v626, v627, v638, v639, v643, v650, v651, v655, v662, v663, v665, v667, vr⟩) :
    Held c B σ ⊢ Wp c (k0_part7 i B.a2 h2 B.a3 h3 B.a4 h4 B.a5 h5 B.a6 h6 a7 h7 B.a8 h8 B.a9 h9 B.a10 h10 B.a11 h11 B.a12 h12 B.a13 h13 v37 v73 v79 v434 v441 v448 v455 v509 v510 v520 v521 v531 v532 v542 v543 v553 v555 v557 v559 v579 v591 v595 v603 v607) Q := by
  rw [k0_part7_eq_skeleton]; unfold k0_part7_skel
  refine run_pure ?_
  exact h _ rfl _ rfl _ rfl _ rfl _ rfl _ rfl _ rfl _ rfl _ rfl _ rfl _ rfl _ rfl _ rfl

theorem part8 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v37 : FVec F S256x256 .bf16} {v465 : FVec F S256x256 .f32} {v476 : FVec F S256x256 .f32} {v487 : FVec F S256x256 .f32} {v498 : FVec F S256x256 .f32} {v565 : FVec F S256x128 .f32} {v567 : FVec F S256x128 .f32} {v579 : FVec F S256x256 .f32} {v591 : FVec F S256x256 .f32} {v603 : FVec F S256x256 .f32} {v615 : FVec F S256x256 .f32} {v627 : FVec F S256x256 .f32} {v639 : FVec F S256x256 .f32} {v651 : FVec F S256x256 .f32} {v663 : FVec F S256x256 .f32} {v665 : FVec F S256x256 .f32} {v667 : FVec F S256x256 .f32} {v669 : FVec F S256x256 .f32}
    {Q : (Σ' (v673 : FVec F S256x256 .f32) (v675 : FVec F S256x256 .f32) (v677 : FVec F S256x256 .f32) (v679 : FVec F S256x256 .f32) (v687 : FVec F S256x256 .bf16) (v699 : FVec F S256x256 .bf16) (v703 : FVec F S256x128 .f32) (v711 : FVec F S256x256 .bf16) (v715 : FVec F S256x128 .f32), FVec F S256x256 .f32) → sProp 𝕄}
    (h : ∀ v673 : FVec F S256x256 .f32, v673 = k0_pay92 v37 v627 →
      ∀ v675 : FVec F S256x256 .f32, v675 = k0_pay93 v37 v639 →
      ∀ v677 : FVec F S256x256 .f32, v677 = k0_pay94 v37 v651 →
      ∀ v679 : FVec F S256x256 .f32, v679 = k0_pay95 v37 v663 →
      ∀ v687 : FVec F S256x256 .bf16, v687 = k0_pay96 v465 v565 v579 v665 →
      ∀ v699 : FVec F S256x256 .bf16, v699 = k0_pay98 v476 v567 v591 v667 →
      ∀ v703 : FVec F S256x128 .f32, v703 = k0_pay99 v567 v591 →
      ∀ v711 : FVec F S256x256 .bf16, v711 = k0_pay100 v487 v565 v579 v603 v669 →
      ∀ v715 : FVec F S256x128 .f32, v715 = k0_pay101 v565 v579 v603 →
      ∀ vr : FVec F S256x256 .f32, vr = k0_pay102 v37 v498 v567 v591 v615 →
      Held c B σ ⊢ Q ⟨v673, v675, v677, v679, v687, v699, v703, v711, v715, vr⟩) :
    Held c B σ ⊢ Wp c (k0_part8 i B.a2 h2 B.a3 h3 B.a4 h4 B.a5 h5 B.a6 h6 a7 h7 B.a8 h8 B.a9 h9 B.a10 h10 B.a11 h11 B.a12 h12 B.a13 h13 v37 v465 v476 v487 v498 v565 v567 v579 v591 v603 v615 v627 v639 v651 v663 v665 v667 v669) Q := by
  rw [k0_part8_eq_skeleton]; unfold k0_part8_skel
  refine run_pure ?_
  exact h _ rfl _ rfl _ rfl _ rfl _ rfl _ rfl _ rfl _ rfl _ rfl _ rfl

theorem part9 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v509 : FVec F S256x256 .f32} {v520 : FVec F S256x256 .f32} {v531 : FVec F S256x256 .f32} {v542 : FVec F S256x256 .f32} {v615 : FVec F S256x256 .f32} {v627 : FVec F S256x256 .f32} {v639 : FVec F S256x256 .f32} {v651 : FVec F S256x256 .f32} {v663 : FVec F S256x256 .f32} {v673 : FVec F S256x256 .f32} {v675 : FVec F S256x256 .f32} {v677 : FVec F S256x256 .f32} {v679 : FVec F S256x256 .f32} {v703 : FVec F S256x128 .f32} {v715 : FVec F S256x128 .f32} {v721 : FVec F S256x256 .f32}
    {Q : (Σ' (v723 : FVec F S256x256 .bf16) (v735 : FVec F S256x256 .bf16) (v747 : FVec F S256x256 .bf16) (v759 : FVec F S256x256 .bf16) (v763 : FVec F S256x128 .f32) (v771 : FVec F S256x256 .bf16) (v775 : FVec F S256x128 .f32), BitVec 32) → sProp 𝕄}
    (h : ∀ v723 : FVec F S256x256 .bf16, v723 = k0_pay103 v615 v721 →
      ∀ v735 : FVec F S256x256 .bf16, v735 = k0_pay105 v509 v627 v673 v715 →
      ∀ v747 : FVec F S256x256 .bf16, v747 = k0_pay107 v520 v615 v639 v675 v703 →
      ∀ v759 : FVec F S256x256 .bf16, v759 = k0_pay109 v531 v627 v651 v677 v715 →
      ∀ v763 : FVec F S256x128 .f32, v763 = k0_pay110 v627 v651 v715 →
      ∀ v771 : FVec F S256x256 .bf16, v771 = k0_pay111 v542 v615 v639 v663 v679 v703 →
      ∀ v775 : FVec F S256x128 .f32, v775 = k0_pay112 v615 v639 v663 v703 →
      ∀ vr : BitVec 32, vr = 0#32 →
      Held c B σ ⊢ Q ⟨v723, v735, v747, v759, v763, v771, v775, vr⟩) :
    Held c B σ ⊢ Wp c (k0_part9 i B.a2 h2 B.a3 h3 B.a4 h4 B.a5 h5 B.a6 h6 a7 h7 B.a8 h8 B.a9 h9 B.a10 h10 B.a11 h11 B.a12 h12 B.a13 h13 v509 v520 v531 v542 v615 v627 v639 v651 v663 v673 v675 v677 v679 v703 v715 v721) Q := by
  rw [k0_part9_eq_skeleton]; unfold k0_part9_skel
  refine run_pure ?_
  exact h _ rfl _ rfl _ rfl _ rfl _ rfl _ rfl _ rfl _ rfl

theorem part10 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v61 : FVec F S256x128 .bf16} {k0_t1 : Fin (k0_t1_loop i).trips} {v361 : BitVec 32} {v370 : FVec F S256x128 .bf16} {v578 : FVec F S256x256 .bf16} {v687 : FVec F S256x256 .bf16} {v699 : FVec F S256x256 .bf16} {c0_i32_277 : BitVec 32}
    {Q : (FVec F S256x128 .f32) → sProp 𝕄}
    (h : ∀ v782 : Vec F S1x256x128 .f32, v782 = View.ld σ.dq (Rect.unit (s := S2x256x128) ![0, 0, 0] S1x256x128.size inb_S2x256x128_S1x256x128_0_0_0) →
      ∀ v786 : Vec F S1x256x128 .f32, v786 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay113 v24 v370 v687 c0_i32_277 v782) } →
      ∀ v790 : Vec F S256x128 .f32, v790 = View.ld σ1.dk (Rect.unit (s := S2048x128) (k0_off1 i k0_t1 0#32) S256x128.size (k0_off1_inb i k0_t1 0)) →
      ∀ v795 : Vec F S256x128 .f32, v795 = View.ld σ1.dk (Rect.unit (s := S2048x128) (k0_off1 i k0_t1 0#32) S256x128.size (k0_off1_inb i k0_t1 0)) →
      ∀ σ2 : St F, σ2 = { σ1 with dk := Rect.overlay (Rect.unit (s := S2048x128) (k0_off1 i k0_t1 0#32) S256x128.size (k0_off1_inb i k0_t1 0)) σ1.dk (k0_pay114 v49 v687 v790) } →
      ∀ v797 : Vec F S256x128 .f32, v797 = View.ld σ2.dv (Rect.unit (s := S2048x128) (k0_off1 i k0_t1 0#32) S256x128.size (k0_off1_inb i k0_t1 0)) →
      ∀ v802 : Vec F S256x128 .f32, v802 = View.ld σ2.dv (Rect.unit (s := S2048x128) (k0_off1 i k0_t1 0#32) S256x128.size (k0_off1_inb i k0_t1 0)) →
      ∀ σ3 : St F, σ3 = { σ2 with dv := Rect.overlay (Rect.unit (s := S2048x128) (k0_off1 i k0_t1 0#32) S256x128.size (k0_off1_inb i k0_t1 0)) σ2.dv (k0_pay115 v61 v578 v797) } →
      ∀ v809 : Vec F S1x256x128 .f32, v809 = View.ld σ3.dq (Rect.unit (s := S2x256x128) ![1, 0, 0] S1x256x128.size inb_S2x256x128_S1x256x128_1_0_0) →
      ∀ vr : FVec F S256x128 .f32, vr = (k0_pay116 v24 v370 v699 v809) →
      Held c B σ3 ⊢ Q vr) :
    Held c B σ ⊢ Wp c (k0_part10 i B.a2 h2 B.a3 h3 B.a4 h4 B.a5 h5 B.a6 h6 a7 h7 B.a8 h8 B.a9 h9 B.a10 h10 B.a11 h11 B.a12 h12 B.a13 h13 v24 v49 v61 k0_t1 v361 v370 v578 v687 v699 c0_i32_277) Q := by
  rw [k0_part10_eq_skeleton]; unfold k0_part10_skel
  refine load_dq ?_
  refine load_dq ?_
  refine store_dq ?_
  refine load_dk ?_
  refine load_dk ?_
  refine store_dk ?_
  refine load_dv ?_
  refine load_dv ?_
  refine store_dv ?_
  refine load_dq ?_
  refine run_pure ?_
  exact h _ rfl _ rfl _ rfl _ rfl _ rfl _ rfl _ rfl _ rfl _ rfl _ rfl _ rfl

theorem part11 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v55 : FVec F S256x128 .bf16} {v67 : FVec F S256x128 .bf16} {k0_t1 : Fin (k0_t1_loop i).trips} {v361 : BitVec 32} {v363 : BitVec 32} {v376 : FVec F S256x128 .bf16} {v590 : FVec F S256x256 .bf16} {v699 : FVec F S256x256 .bf16} {v711 : FVec F S256x256 .bf16} {v812 : FVec F S256x128 .f32}
    {Q : (FVec F S256x128 .f32) → sProp 𝕄}
    (h : ∀ v813 : Vec F S1x256x128 .f32, v813 = View.ld σ.dq (Rect.unit (s := S2x256x128) ![1, 0, 0] S1x256x128.size inb_S2x256x128_S1x256x128_1_0_0) →
      ∀ σ1 : St F, σ1 = { σ with dq := Rect.overlay (Rect.unit (s := S2x256x128) ![1, 0, 0] S1x256x128.size inb_S2x256x128_S1x256x128_1_0_0) σ.dq (k0_pay117 v812) } →
      ∀ v817 : Vec F S256x128 .f32, v817 = View.ld σ1.dk (Rect.unit (s := S2048x128) (k0_off1 i k0_t1 0#32) S256x128.size (k0_off1_inb i k0_t1 0)) →
      ∀ v822 : Vec F S256x128 .f32, v822 = View.ld σ1.dk (Rect.unit (s := S2048x128) (k0_off1 i k0_t1 0#32) S256x128.size (k0_off1_inb i k0_t1 0)) →
      ∀ σ2 : St F, σ2 = { σ1 with dk := Rect.overlay (Rect.unit (s := S2048x128) (k0_off1 i k0_t1 0#32) S256x128.size (k0_off1_inb i k0_t1 0)) σ1.dk (k0_pay118 v55 v699 v817) } →
      ∀ v824 : Vec F S256x128 .f32, v824 = View.ld σ2.dv (Rect.unit (s := S2048x128) (k0_off1 i k0_t1 0#32) S256x128.size (k0_off1_inb i k0_t1 0)) →
      ∀ v829 : Vec F S256x128 .f32, v829 = View.ld σ2.dv (Rect.unit (s := S2048x128) (k0_off1 i k0_t1 0#32) S256x128.size (k0_off1_inb i k0_t1 0)) →
      ∀ σ3 : St F, σ3 = { σ2 with dv := Rect.overlay (Rect.unit (s := S2048x128) (k0_off1 i k0_t1 0#32) S256x128.size (k0_off1_inb i k0_t1 0)) σ2.dv (k0_pay119 v67 v590 v824) } →
      ∀ v836 : Vec F S1x256x128 .f32, v836 = View.ld σ3.dq (Rect.unit (s := S2x256x128) ![0, 0, 0] S1x256x128.size inb_S2x256x128_S1x256x128_0_0_0) →
      ∀ v840 : Vec F S1x256x128 .f32, v840 = View.ld σ3.dq (Rect.unit (s := S2x256x128) ![0, 0, 0] S1x256x128.size inb_S2x256x128_S1x256x128_0_0_0) →
      ∀ σ4 : St F, σ4 = { σ3 with dq := Rect.overlay (Rect.unit (s := S2x256x128) ![0, 0, 0] S1x256x128.size inb_S2x256x128_S1x256x128_0_0_0) σ3.dq (k0_pay120 v24 v376 v711 v836) } →
      ∀ v844 : Vec F S256x128 .f32, v844 = View.ld σ4.dk (Rect.unit (s := S2048x128) (k0_off1 i k0_t1 1#32) S256x128.size (k0_off1_inb i k0_t1 1)) →
      ∀ vr : FVec F S256x128 .f32, vr = (k0_pay121 v49 v711 v844) →
      Held c B σ4 ⊢ Q vr) :
    Held c B σ ⊢ Wp c (k0_part11 i B.a2 h2 B.a3 h3 B.a4 h4 B.a5 h5 B.a6 h6 a7 h7 B.a8 h8 B.a9 h9 B.a10 h10 B.a11 h11 B.a12 h12 B.a13 h13 v24 v49 v55 v67 k0_t1 v361 v363 v376 v590 v699 v711 v812) Q := by
  rw [k0_part11_eq_skeleton]; unfold k0_part11_skel
  refine load_dq ?_
  refine store_dq ?_
  refine load_dk ?_
  refine load_dk ?_
  refine store_dk ?_
  refine load_dv ?_
  refine load_dv ?_
  refine store_dv ?_
  refine load_dq ?_
  refine load_dq ?_
  refine store_dq ?_
  refine load_dk ?_
  refine run_pure ?_
  exact h _ rfl _ rfl _ rfl _ rfl _ rfl _ rfl _ rfl _ rfl _ rfl _ rfl _ rfl _ rfl _ rfl

theorem part12 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v55 : FVec F S256x128 .bf16} {v61 : FVec F S256x128 .bf16} {v67 : FVec F S256x128 .bf16} {k0_t1 : Fin (k0_t1_loop i).trips} {v363 : BitVec 32} {v376 : FVec F S256x128 .bf16} {v602 : FVec F S256x256 .bf16} {v614 : FVec F S256x256 .bf16} {v723 : FVec F S256x256 .bf16} {v847 : FVec F S256x128 .f32}
    {Q : (BitVec 32) → sProp 𝕄}
    (h : ∀ v849 : Vec F S256x128 .f32, v849 = View.ld σ.dk (Rect.unit (s := S2048x128) (k0_off1 i k0_t1 1#32) S256x128.size (k0_off1_inb i k0_t1 1)) →
      ∀ σ1 : St F, σ1 = { σ with dk := Rect.overlay (Rect.unit (s := S2048x128) (k0_off1 i k0_t1 1#32) S256x128.size (k0_off1_inb i k0_t1 1)) σ.dk v847 } →
      ∀ v851 : Vec F S256x128 .f32, v851 = View.ld σ1.dv (Rect.unit (s := S2048x128) (k0_off1 i k0_t1 1#32) S256x128.size (k0_off1_inb i k0_t1 1)) →
      ∀ v856 : Vec F S256x128 .f32, v856 = View.ld σ1.dv (Rect.unit (s := S2048x128) (k0_off1 i k0_t1 1#32) S256x128.size (k0_off1_inb i k0_t1 1)) →
      ∀ σ2 : St F, σ2 = { σ1 with dv := Rect.overlay (Rect.unit (s := S2048x128) (k0_off1 i k0_t1 1#32) S256x128.size (k0_off1_inb i k0_t1 1)) σ1.dv (k0_pay122 v61 v602 v851) } →
      ∀ v863 : Vec F S1x256x128 .f32, v863 = View.ld σ2.dq (Rect.unit (s := S2x256x128) ![1, 0, 0] S1x256x128.size inb_S2x256x128_S1x256x128_1_0_0) →
      ∀ v867 : Vec F S1x256x128 .f32, v867 = View.ld σ2.dq (Rect.unit (s := S2x256x128) ![1, 0, 0] S1x256x128.size inb_S2x256x128_S1x256x128_1_0_0) →
      ∀ σ3 : St F, σ3 = { σ2 with dq := Rect.overlay (Rect.unit (s := S2x256x128) ![1, 0, 0] S1x256x128.size inb_S2x256x128_S1x256x128_1_0_0) σ2.dq (k0_pay123 v24 v376 v723 v863) } →
      ∀ v871 : Vec F S256x128 .f32, v871 = View.ld σ3.dk (Rect.unit (s := S2048x128) (k0_off1 i k0_t1 1#32) S256x128.size (k0_off1_inb i k0_t1 1)) →
      ∀ v876 : Vec F S256x128 .f32, v876 = View.ld σ3.dk (Rect.unit (s := S2048x128) (k0_off1 i k0_t1 1#32) S256x128.size (k0_off1_inb i k0_t1 1)) →
      ∀ σ4 : St F, σ4 = { σ3 with dk := Rect.overlay (Rect.unit (s := S2048x128) (k0_off1 i k0_t1 1#32) S256x128.size (k0_off1_inb i k0_t1 1)) σ3.dk (k0_pay124 v55 v723 v871) } →
      ∀ v878 : Vec F S256x128 .f32, v878 = View.ld σ4.dv (Rect.unit (s := S2048x128) (k0_off1 i k0_t1 1#32) S256x128.size (k0_off1_inb i k0_t1 1)) →
      ∀ v883 : Vec F S256x128 .f32, v883 = View.ld σ4.dv (Rect.unit (s := S2048x128) (k0_off1 i k0_t1 1#32) S256x128.size (k0_off1_inb i k0_t1 1)) →
      ∀ σ5 : St F, σ5 = { σ4 with dv := Rect.overlay (Rect.unit (s := S2048x128) (k0_off1 i k0_t1 1#32) S256x128.size (k0_off1_inb i k0_t1 1)) σ4.dv (k0_pay125 v67 v614 v878) } →
      ∀ vr : BitVec 32, vr = 0#32 →
      Held c B σ5 ⊢ Q vr) :
    Held c B σ ⊢ Wp c (k0_part12 i B.a2 h2 B.a3 h3 B.a4 h4 B.a5 h5 B.a6 h6 a7 h7 B.a8 h8 B.a9 h9 B.a10 h10 B.a11 h11 B.a12 h12 B.a13 h13 v24 v55 v61 v67 k0_t1 v363 v376 v602 v614 v723 v847) Q := by
  rw [k0_part12_eq_skeleton]; unfold k0_part12_skel
  refine load_dk ?_
  refine store_dk ?_
  refine load_dv ?_
  refine load_dv ?_
  refine store_dv ?_
  refine load_dq ?_
  refine load_dq ?_
  refine store_dq ?_
  refine load_dk ?_
  refine load_dk ?_
  refine store_dk ?_
  refine load_dv ?_
  refine load_dv ?_
  refine store_dv ?_
  refine run_pure ?_
  exact h _ rfl _ rfl _ rfl _ rfl _ rfl _ rfl _ rfl _ rfl _ rfl _ rfl _ rfl _ rfl _ rfl _ rfl _ rfl

theorem part13 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v61 : FVec F S256x128 .bf16} {k0_t1 : Fin (k0_t1_loop i).trips} {v365 : BitVec 32} {v382 : FVec F S256x128 .bf16} {v626 : FVec F S256x256 .bf16} {v735 : FVec F S256x256 .bf16} {v747 : FVec F S256x256 .bf16} {c0_i32_337 : BitVec 32}
    {Q : (FVec F S256x128 .f32) → sProp 𝕄}
    (h : ∀ v890 : Vec F S1x256x128 .f32, v890 = View.ld σ.dq (Rect.unit (s := S2x256x128) ![0, 0, 0] S1x256x128.size inb_S2x256x128_S1x256x128_0_0_0) →
      ∀ v894 : Vec F S1x256x128 .f32, v894 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay126 v24 v382 v735 c0_i32_337 v890) } →
      ∀ v898 : Vec F S256x128 .f32, v898 = View.ld σ1.dk (Rect.unit (s := S2048x128) (k0_off1 i k0_t1 2#32) S256x128.size (k0_off1_inb i k0_t1 2)) →
      ∀ v903 : Vec F S256x128 .f32, v903 = View.ld σ1.dk (Rect.unit (s := S2048x128) (k0_off1 i k0_t1 2#32) S256x128.size (k0_off1_inb i k0_t1 2)) →
      ∀ σ2 : St F, σ2 = { σ1 with dk := Rect.overlay (Rect.unit (s := S2048x128) (k0_off1 i k0_t1 2#32) S256x128.size (k0_off1_inb i k0_t1 2)) σ1.dk (k0_pay127 v49 v735 v898) } →
      ∀ v905 : Vec F S256x128 .f32, v905 = View.ld σ2.dv (Rect.unit (s := S2048x128) (k0_off1 i k0_t1 2#32) S256x128.size (k0_off1_inb i k0_t1 2)) →
      ∀ v910 : Vec F S256x128 .f32, v910 = View.ld σ2.dv (Rect.unit (s := S2048x128) (k0_off1 i k0_t1 2#32) S256x128.size (k0_off1_inb i k0_t1 2)) →
      ∀ σ3 : St F, σ3 = { σ2 with dv := Rect.overlay (Rect.unit (s := S2048x128) (k0_off1 i k0_t1 2#32) S256x128.size (k0_off1_inb i k0_t1 2)) σ2.dv (k0_pay128 v61 v626 v905) } →
      ∀ v917 : Vec F S1x256x128 .f32, v917 = View.ld σ3.dq (Rect.unit (s := S2x256x128) ![1, 0, 0] S1x256x128.size inb_S2x256x128_S1x256x128_1_0_0) →
      ∀ vr : FVec F S256x128 .f32, vr = (k0_pay129 v24 v382 v747 v917) →
      Held c B σ3 ⊢ Q vr) :
    Held c B σ ⊢ Wp c (k0_part13 i B.a2 h2 B.a3 h3 B.a4 h4 B.a5 h5 B.a6 h6 a7 h7 B.a8 h8 B.a9 h9 B.a10 h10 B.a11 h11 B.a12 h12 B.a13 h13 v24 v49 v61 k0_t1 v365 v382 v626 v735 v747 c0_i32_337) Q := by
  rw [k0_part13_eq_skeleton]; unfold k0_part13_skel
  refine load_dq ?_
  refine load_dq ?_
  refine store_dq ?_
  refine load_dk ?_
  refine load_dk ?_
  refine store_dk ?_
  refine load_dv ?_
  refine load_dv ?_
  refine store_dv ?_
  refine load_dq ?_
  refine run_pure ?_
  exact h _ rfl _ rfl _ rfl _ rfl _ rfl _ rfl _ rfl _ rfl _ rfl _ rfl _ rfl

theorem part14 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v55 : FVec F S256x128 .bf16} {v67 : FVec F S256x128 .bf16} {k0_t1 : Fin (k0_t1_loop i).trips} {v365 : BitVec 32} {v367 : BitVec 32} {v388 : FVec F S256x128 .bf16} {v638 : FVec F S256x256 .bf16} {v747 : FVec F S256x256 .bf16} {v759 : FVec F S256x256 .bf16} {v920 : FVec F S256x128 .f32}
    {Q : (FVec F S256x128 .f32) → sProp 𝕄}
    (h : ∀ v921 : Vec F S1x256x128 .f32, v921 = View.ld σ.dq (Rect.unit (s := S2x256x128) ![1, 0, 0] S1x256x128.size inb_S2x256x128_S1x256x128_1_0_0) →
      ∀ σ1 : St F, σ1 = { σ with dq := Rect.overlay (Rect.unit (s := S2x256x128) ![1, 0, 0] S1x256x128.size inb_S2x256x128_S1x256x128_1_0_0) σ.dq (k0_pay130 v920) } →
      ∀ v925 : Vec F S256x128 .f32, v925 = View.ld σ1.dk (Rect.unit (s := S2048x128) (k0_off1 i k0_t1 2#32) S256x128.size (k0_off1_inb i k0_t1 2)) →
      ∀ v930 : Vec F S256x128 .f32, v930 = View.ld σ1.dk (Rect.unit (s := S2048x128) (k0_off1 i k0_t1 2#32) S256x128.size (k0_off1_inb i k0_t1 2)) →
      ∀ σ2 : St F, σ2 = { σ1 with dk := Rect.overlay (Rect.unit (s := S2048x128) (k0_off1 i k0_t1 2#32) S256x128.size (k0_off1_inb i k0_t1 2)) σ1.dk (k0_pay131 v55 v747 v925) } →
      ∀ v932 : Vec F S256x128 .f32, v932 = View.ld σ2.dv (Rect.unit (s := S2048x128) (k0_off1 i k0_t1 2#32) S256x128.size (k0_off1_inb i k0_t1 2)) →
      ∀ v937 : Vec F S256x128 .f32, v937 = View.ld σ2.dv (Rect.unit (s := S2048x128) (k0_off1 i k0_t1 2#32) S256x128.size (k0_off1_inb i k0_t1 2)) →
      ∀ σ3 : St F, σ3 = { σ2 with dv := Rect.overlay (Rect.unit (s := S2048x128) (k0_off1 i k0_t1 2#32) S256x128.size (k0_off1_inb i k0_t1 2)) σ2.dv (k0_pay132 v67 v638 v932) } →
      ∀ v944 : Vec F S1x256x128 .f32, v944 = View.ld σ3.dq (Rect.unit (s := S2x256x128) ![0, 0, 0] S1x256x128.size inb_S2x256x128_S1x256x128_0_0_0) →
      ∀ v948 : Vec F S1x256x128 .f32, v948 = View.ld σ3.dq (Rect.unit (s := S2x256x128) ![0, 0, 0] S1x256x128.size inb_S2x256x128_S1x256x128_0_0_0) →
      ∀ σ4 : St F, σ4 = { σ3 with dq := Rect.overlay (Rect.unit (s := S2x256x128) ![0, 0, 0] S1x256x128.size inb_S2x256x128_S1x256x128_0_0_0) σ3.dq (k0_pay133 v24 v388 v759 v944) } →
      ∀ v952 : Vec F S256x128 .f32, v952 = View.ld σ4.dk (Rect.unit (s := S2048x128) (k0_off1 i k0_t1 3#32) S256x128.size (k0_off1_inb i k0_t1 3)) →
      ∀ vr : FVec F S256x128 .f32, vr = (k0_pay134 v49 v759 v952) →
      Held c B σ4 ⊢ Q vr) :
    Held c B σ ⊢ Wp c (k0_part14 i B.a2 h2 B.a3 h3 B.a4 h4 B.a5 h5 B.a6 h6 a7 h7 B.a8 h8 B.a9 h9 B.a10 h10 B.a11 h11 B.a12 h12 B.a13 h13 v24 v49 v55 v67 k0_t1 v365 v367 v388 v638 v747 v759 v920) Q := by
  rw [k0_part14_eq_skeleton]; unfold k0_part14_skel
  refine load_dq ?_
  refine store_dq ?_
  refine load_dk ?_
  refine load_dk ?_
  refine store_dk ?_
  refine load_dv ?_
  refine load_dv ?_
  refine store_dv ?_
  refine load_dq ?_
  refine load_dq ?_
  refine store_dq ?_
  refine load_dk ?_
  refine run_pure ?_
  exact h _ rfl _ rfl _ rfl _ rfl _ rfl _ rfl _ rfl _ rfl _ rfl _ rfl _ rfl _ rfl _ rfl

theorem part15 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v55 : FVec F S256x128 .bf16} {v61 : FVec F S256x128 .bf16} {v67 : FVec F S256x128 .bf16} {k0_t1 : Fin (k0_t1_loop i).trips} {v367 : BitVec 32} {v388 : FVec F S256x128 .bf16} {v650 : FVec F S256x256 .bf16} {v662 : FVec F S256x256 .bf16} {v771 : FVec F S256x256 .bf16} {v955 : FVec F S256x128 .f32}
    {Q : (PUnit) → sProp 𝕄}
    (h : ∀ v957 : Vec F S256x128 .f32, v957 = View.ld σ.dk (Rect.unit (s := S2048x128) (k0_off1 i k0_t1 3#32) S256x128.size (k0_off1_inb i k0_t1 3)) →
      ∀ σ1 : St F, σ1 = { σ with dk := Rect.overlay (Rect.unit (s := S2048x128) (k0_off1 i k0_t1 3#32) S256x128.size (k0_off1_inb i k0_t1 3)) σ.dk v955 } →
      ∀ v959 : Vec F S256x128 .f32, v959 = View.ld σ1.dv (Rect.unit (s := S2048x128) (k0_off1 i k0_t1 3#32) S256x128.size (k0_off1_inb i k0_t1 3)) →
      ∀ v964 : Vec F S256x128 .f32, v964 = View.ld σ1.dv (Rect.unit (s := S2048x128) (k0_off1 i k0_t1 3#32) S256x128.size (k0_off1_inb i k0_t1 3)) →
      ∀ σ2 : St F, σ2 = { σ1 with dv := Rect.overlay (Rect.unit (s := S2048x128) (k0_off1 i k0_t1 3#32) S256x128.size (k0_off1_inb i k0_t1 3)) σ1.dv (k0_pay135 v61 v650 v959) } →
      ∀ v971 : Vec F S1x256x128 .f32, v971 = View.ld σ2.dq (Rect.unit (s := S2x256x128) ![1, 0, 0] S1x256x128.size inb_S2x256x128_S1x256x128_1_0_0) →
      ∀ v975 : Vec F S1x256x128 .f32, v975 = View.ld σ2.dq (Rect.unit (s := S2x256x128) ![1, 0, 0] S1x256x128.size inb_S2x256x128_S1x256x128_1_0_0) →
      ∀ σ3 : St F, σ3 = { σ2 with dq := Rect.overlay (Rect.unit (s := S2x256x128) ![1, 0, 0] S1x256x128.size inb_S2x256x128_S1x256x128_1_0_0) σ2.dq (k0_pay136 v24 v388 v771 v971) } →
      ∀ v979 : Vec F S256x128 .f32, v979 = View.ld σ3.dk (Rect.unit (s := S2048x128) (k0_off1 i k0_t1 3#32) S256x128.size (k0_off1_inb i k0_t1 3)) →
      ∀ v984 : Vec F S256x128 .f32, v984 = View.ld σ3.dk (Rect.unit (s := S2048x128) (k0_off1 i k0_t1 3#32) S256x128.size (k0_off1_inb i k0_t1 3)) →
      ∀ σ4 : St F, σ4 = { σ3 with dk := Rect.overlay (Rect.unit (s := S2048x128) (k0_off1 i k0_t1 3#32) S256x128.size (k0_off1_inb i k0_t1 3)) σ3.dk (k0_pay137 v55 v771 v979) } →
      ∀ v986 : Vec F S256x128 .f32, v986 = View.ld σ4.dv (Rect.unit (s := S2048x128) (k0_off1 i k0_t1 3#32) S256x128.size (k0_off1_inb i k0_t1 3)) →
      ∀ v991 : Vec F S256x128 .f32, v991 = View.ld σ4.dv (Rect.unit (s := S2048x128) (k0_off1 i k0_t1 3#32) S256x128.size (k0_off1_inb i k0_t1 3)) →
      ∀ σ5 : St F, σ5 = { σ4 with dv := Rect.overlay (Rect.unit (s := S2048x128) (k0_off1 i k0_t1 3#32) S256x128.size (k0_off1_inb i k0_t1 3)) σ4.dv (k0_pay138 v67 v662 v986) } →
      Held c B σ5 ⊢ Q ⟨⟩) :
    Held c B σ ⊢ Wp c (k0_part15 i B.a2 h2 B.a3 h3 B.a4 h4 B.a5 h5 B.a6 h6 a7 h7 B.a8 h8 B.a9 h9 B.a10 h10 B.a11 h11 B.a12 h12 B.a13 h13 v24 v55 v61 v67 k0_t1 v367 v388 v650 v662 v771 v955) Q := by
  rw [k0_part15_eq_skeleton]; unfold k0_part15_skel
  refine load_dk ?_
  refine store_dk ?_
  refine load_dv ?_
  refine load_dv ?_
  refine store_dv ?_
  refine load_dq ?_
  refine load_dq ?_
  refine store_dq ?_
  refine load_dk ?_
  refine load_dk ?_
  refine store_dk ?_
  refine load_dv ?_
  refine load_dv ?_
  refine store_dv ?_
  refine run_pure ?_
  exact h _ rfl _ rfl _ rfl _ rfl _ rfl _ rfl _ rfl _ rfl _ rfl _ rfl _ rfl _ rfl _ rfl _ rfl

end Cert.Attn
-- ==== Proof.Group1.lean ====
module

public import proofs.«01_k».proof.Proof.PartsA

/-!
# A group of four key blocks
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

/-- A trip of the loop over groups of four key blocks. -/
theorem trip1 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {arg1 : BitVec 32} {E : Env F} {z : FVec F S2x256x128 .f32}
    (k0_t1 : Fin (k0_t1_loop i).trips) (u : BitVec 32) {Q : BitVec 32 → sProp 𝕄}
    (h : Held c B (finish (blockStep (fun x => x) E (k0_off1 i k0_t1 3#32) (k0_off1_inb i k0_t1 3)
        (blockStep (fun x => x) E (k0_off1 i k0_t1 2#32) (k0_off1_inb i k0_t1 2)
        (blockStep (fun x => x) E (k0_off1 i k0_t1 1#32) (k0_off1_inb i k0_t1 1)
        (blockStep (fun x => x) E (k0_off1 i k0_t1 0#32) (k0_off1_inb i k0_t1 0)
        (begin σ)))))) ⊢ Q 0#32) :
    Held c B σ ⊢ Wp c (k0_t1_body i B.a2 h2 B.a3 h3 B.a4 h4 B.a5 h5 B.a6 h6 a7 h7 B.a8 h8 B.a9 h9 B.a10 h10 B.a11 h11 B.a12 h12 B.a13 h13 arg1 E.half E.later E.before E.q0 E.q1 E.g0 E.g1 E.l0 E.l1 z k0_t1 u) Q := by
  unfold k0_t1_body
  refine run_bind (part1 ?_)
  intro arg14 earg14; subst arg14
  intro v355 ev355; subst v355
  intro v356 ev356; subst v356
  intro v357 ev357; subst v357
  intro v358 ev358; subst v358
  intro v359 ev359; subst v359
  intro v360 ev360; subst v360
  intro v361 ev361; subst v361
  intro v362 ev362; subst v362
  intro v363 ev363; subst v363
  intro v364 ev364; subst v364
  intro v365 ev365; subst v365
  intro v366 ev366; subst v366
  intro v367 ev367; subst v367
  intro v369 ev369
  intro v372 ev372
  intro v375 ev375
  intro v378 ev378
  intro v381 ev381
  intro v384 ev384
  intro v387 ev387
  intro v390 ev390
  intro cst_179 ecst_179; subst cst_179
  intro v370 ev370; have fv370 : v370 = (shapeCast S256x128 v369 shapeCasts_S256x128_S256x128) := ev370; clear ev370
  intro v373 ev373; have fv373 : v373 = (shapeCast S256x128 v372 shapeCasts_S256x128_S256x128) := ev373; clear ev373
  intro v376 ev376; have fv376 : v376 = (shapeCast S256x128 v375 shapeCasts_S256x128_S256x128) := ev376; clear ev376
  intro v379 ev379; have fv379 : v379 = (shapeCast S256x128 v378 shapeCasts_S256x128_S256x128) := ev379; clear ev379
  intro v382 ev382; have fv382 : v382 = (shapeCast S256x128 v381 shapeCasts_S256x128_S256x128) := ev382; clear ev382
  intro v385 ev385; have fv385 : v385 = (shapeCast S256x128 v384 shapeCasts_S256x128_S256x128) := ev385; clear ev385
  intro v388 ev388; have fv388 : v388 = (shapeCast S256x128 v387 shapeCasts_S256x128_S256x128) := ev388; clear ev388
  intro v391 ev391; have fv391 : v391 = (shapeCast S256x128 v390 shapeCasts_S256x128_S256x128) := ev391; clear ev391
  intro v392 ev392; have fv392 : v392 = (rowsMul E.q0 (shapeCast S256x128 v369 shapeCasts_S256x128_S256x128)) := ev392; clear ev392
  intro v393 ev393; have fv393 : v393 = (rowsMul E.q1 (shapeCast S256x128 v369 shapeCasts_S256x128_S256x128)) := ev393; clear ev393
  refine run_bind (part2 ?_)
  intro cst_199 ecst_199; subst cst_199
  intro v394 ev394; have fv394 : v394 = (rowsMul E.q0 v376) := ev394; clear ev394
  intro v395 ev395; have fv395 : v395 = (rowsMul E.q1 v376) := ev395; clear ev395
  intro v396 ev396; have fv396 : v396 = (rowsMul E.q0 v382) := ev396; clear ev396
  intro v397 ev397; have fv397 : v397 = (rowsMul E.q1 v382) := ev397; clear ev397
  intro v398 ev398; have fv398 : v398 = (rowsMul E.q0 v388) := ev398; clear ev398
  intro v399 ev399; have fv399 : v399 = (rowsMul E.q1 v388) := ev399; clear ev399
  intro v406 ev406; have fv406 : v406 = (rowsMul E.g0 (keep E.half 0#32 v373)) := ev406; clear ev406
  intro v413 ev413; have fv413 : v413 = (rowsMul E.g1 (keep E.half 1#32 v373)) := ev413; clear ev413
  intro v420 ev420; have fv420 : v420 = (rowsMul E.g0 (keep E.half 0#32 v379)) := ev420; clear ev420
  intro v427 ev427; have fv427 : v427 = (rowsMul E.g1 (keep E.half 1#32 v379)) := ev427; clear ev427
  intro v433 ev433; have fv433 : v433 = (keep E.half 0#32 v385) := ev433; clear ev433
  refine run_bind (part3 ?_)
  intro cst_215 ecst_215; subst cst_215
  intro v434 ev434; have fv434 : v434 = (rowsMul E.g0 v433) := ev434; clear ev434
  intro v441 ev441; have fv441 : v441 = (rowsMul E.g1 (keep E.half 1#32 v385)) := ev441; clear ev441
  intro v448 ev448; have fv448 : v448 = (rowsMul E.g0 (keep E.half 0#32 v391)) := ev448; clear ev448
  intro v455 ev455; have fv455 : v455 = (rowsMul E.g1 (keep E.half 1#32 v391)) := ev455; clear ev455
  intro v465 ev465; have fv465 : v465 = (logSig v392) := ev465; clear ev465
  intro v466 ev466; have fv466 : v466 = (subf (logSig v392) v392) := ev466; clear ev466
  intro v476 ev476; have fv476 : v476 = (logSig v393) := ev476; clear ev476
  intro v477 ev477; have fv477 : v477 = (subf (logSig v393) v393) := ev477; clear ev477
  refine run_bind (part4 ?_)
  intro cst_228 ecst_228; subst cst_228
  intro v487 ev487; have fv487 : v487 = (logSig v394) := ev487; clear ev487
  intro v488 ev488; have fv488 : v488 = (subf (logSig v394) v394) := ev488; clear ev488
  intro v498 ev498; have fv498 : v498 = (logSig v395) := ev498; clear ev498
  intro v499 ev499; have fv499 : v499 = (subf (logSig v395) v395) := ev499; clear ev499
  intro v509 ev509; have fv509 : v509 = (logSig v396) := ev509; clear ev509
  intro v510 ev510; have fv510 : v510 = (subf (logSig v396) v396) := ev510; clear ev510
  intro v520 ev520; have fv520 : v520 = (logSig v397) := ev520; clear ev520
  intro v521 ev521; have fv521 : v521 = (subf (logSig v397) v397) := ev521; clear ev521
  intro v523 ev523; subst v523
  intro v524 ev524; subst v524
  refine run_bind (part5 ?_)
  intro v560 ev560
  intro v562 ev562
  intro v531 ev531; have fv531 : v531 = (logSig v398) := ev531; clear ev531
  intro v532 ev532; have fv532 : v532 = (subf (logSig v398) v398) := ev532; clear ev532
  intro v542 ev542; have fv542 : v542 = (logSig v399) := ev542; clear ev542
  intro v543 ev543; have fv543 : v543 = (subf (logSig v399) v399) := ev543; clear ev543
  intro v545 ev545; have fv545 : v545 = (ordMul v466 E.later) := ev545; clear ev545
  intro v547 ev547; have fv547 : v547 = (ordMul v477 E.later) := ev547; clear ev547
  intro v549 ev549; have fv549 : v549 = (ordMul v488 E.later) := ev549; clear ev549
  intro v551 ev551; have fv551 : v551 = (ordMul v499 E.later) := ev551; clear ev551
  intro v553 ev553; have fv553 : v553 = (ordMul v510 E.later) := ev553; clear ev553
  intro v555 ev555; have fv555 : v555 = (ordMul v521 E.later) := ev555; clear ev555
  intro v557 ev557; have fv557 : v557 = (ordMul (subf (logSig v398) v398) E.later) := ev557; clear ev557
  intro v559 ev559; have fv559 : v559 = (ordMul (subf (logSig v399) v399) E.later) := ev559; clear ev559
  intro v561 ev561; have fv561 : v561 = (shapeCast S256x128 v560 shapeCasts_S1x256x128_S256x128) := ev561; clear ev561
  intro v563 ev563; have fv563 : v563 = (shapeCast S256x128 v562 shapeCasts_S1x256x128_S256x128) := ev563; clear ev563
  refine run_bind (part6 ?_)
  intro v564 ev564
  intro v566 ev566
  intro v565 ev565; have fv565 : v565 = (shapeCast S256x128 v564 shapeCasts_S1x256x128_S256x128) := ev565; clear ev565
  intro v567 ev567; have fv567 : v567 = (shapeCast S256x128 v566 shapeCasts_S1x256x128_S256x128) := ev567; clear ev567
  intro v578 ev578; have fv578 : v578 = (truncf .bf16 (wgt (fun x => x) E.l0 v465 v545 (rowAdd v561 v466)) bitsLt_bf16_f32) := ev578; clear ev578
  intro v579 ev579; have fv579 : v579 = (mulf v406 (wgt (fun x => x) E.l0 v465 v545 (rowAdd v561 v466))) := ev579; clear ev579
  intro v590 ev590; have fv590 : v590 = (truncf .bf16 (wgt (fun x => x) E.l1 v476 v547 (rowAdd v563 v477)) bitsLt_bf16_f32) := ev590; clear ev590
  intro v591 ev591; have fv591 : v591 = (mulf v413 (wgt (fun x => x) E.l1 v476 v547 (rowAdd v563 v477))) := ev591; clear ev591
  intro v595 ev595; have fv595 : v595 = (rowAdd (rowAdd v561 v466) v488) := ev595; clear ev595
  intro v602 ev602; have fv602 : v602 = (truncf .bf16 (wgt (fun x => x) E.l0 v487 v549 (rowAdd (rowAdd v561 v466) v488)) bitsLt_bf16_f32) := ev602; clear ev602
  intro v603 ev603; have fv603 : v603 = (mulf v420 (wgt (fun x => x) E.l0 v487 v549 (rowAdd (rowAdd v561 v466) v488))) := ev603; clear ev603
  intro v607 ev607; have fv607 : v607 = (rowAdd (rowAdd v563 v477) v499) := ev607; clear ev607
  intro v614 ev614; have fv614 : v614 = (truncf .bf16 (wgt (fun x => x) E.l1 v498 v551 (rowAdd (rowAdd v563 v477) v499)) bitsLt_bf16_f32) := ev614; clear ev614
  intro v615 ev615; have fv615 : v615 = (mulf v427 (wgt (fun x => x) E.l1 v498 v551 (rowAdd (rowAdd v563 v477) v499))) := ev615; clear ev615
  refine run_bind (part7 ?_)
  intro v626 ev626; have fv626 : v626 = (truncf .bf16 (wgt (fun x => x) E.l0 v509 v553 (rowAdd v595 v510)) bitsLt_bf16_f32) := ev626; clear ev626
  intro v627 ev627; have fv627 : v627 = (mulf v434 (wgt (fun x => x) E.l0 v509 v553 (rowAdd v595 v510))) := ev627; clear ev627
  intro v638 ev638; have fv638 : v638 = (truncf .bf16 (wgt (fun x => x) E.l1 v520 v555 (rowAdd v607 v521)) bitsLt_bf16_f32) := ev638; clear ev638
  intro v639 ev639; have fv639 : v639 = (mulf v441 (wgt (fun x => x) E.l1 v520 v555 (rowAdd v607 v521))) := ev639; clear ev639
  intro v643 ev643; have fv643 : v643 = (rowAdd (rowAdd v595 v510) v532) := ev643; clear ev643
  intro v650 ev650; have fv650 : v650 = (truncf .bf16 (wgt (fun x => x) E.l0 v531 v557 (rowAdd (rowAdd v595 v510) v532)) bitsLt_bf16_f32) := ev650; clear ev650
  intro v651 ev651; have fv651 : v651 = (mulf v448 (wgt (fun x => x) E.l0 v531 v557 (rowAdd (rowAdd v595 v510) v532))) := ev651; clear ev651
  intro v655 ev655; have fv655 : v655 = (rowAdd (rowAdd v607 v521) v543) := ev655; clear ev655
  intro v662 ev662; have fv662 : v662 = (truncf .bf16 (wgt (fun x => x) E.l1 v542 v559 (rowAdd (rowAdd v607 v521) v543)) bitsLt_bf16_f32) := ev662; clear ev662
  intro v663 ev663; have fv663 : v663 = (mulf v455 (wgt (fun x => x) E.l1 v542 v559 (rowAdd (rowAdd v607 v521) v543))) := ev663; clear ev663
  intro v665 ev665; have fv665 : v665 = (ordMul v579 E.before) := ev665; clear ev665
  intro v667 ev667; have fv667 : v667 = (ordMul v591 E.before) := ev667; clear ev667
  intro v669 ev669; have fv669 : v669 = (ordMul v603 E.before) := ev669; clear ev669
  refine run_bind (part8 ?_)
  intro v673 ev673; have fv673 : v673 = (ordMul v627 E.before) := ev673; clear ev673
  intro v675 ev675; have fv675 : v675 = (ordMul v639 E.before) := ev675; clear ev675
  intro v677 ev677; have fv677 : v677 = (ordMul v651 E.before) := ev677; clear ev677
  intro v679 ev679; have fv679 : v679 = (ordMul v663 E.before) := ev679; clear ev679
  intro v687 ev687; have fv687 : v687 = (scoreGrad (fun x => x) v465 v579 v665 v565) := ev687; clear ev687
  intro v699 ev699; have fv699 : v699 = (scoreGrad (fun x => x) v476 v591 v667 v567) := ev699; clear ev699
  intro v703 ev703; have fv703 : v703 = (rowAdd v567 v591) := ev703; clear ev703
  intro v711 ev711; have fv711 : v711 = (scoreGrad (fun x => x) v487 v603 v669 (rowAdd v565 v579)) := ev711; clear ev711
  intro v715 ev715; have fv715 : v715 = (rowAdd (rowAdd v565 v579) v603) := ev715; clear ev715
  intro v721 ev721; subst v721
  refine run_bind (part9 ?_)
  intro v723 ev723; have fv723 : v723 = (scoreGrad (fun x => x) v498 v615 (ordMul v615 E.before) (rowAdd v567 v591)) := ev723; clear ev723
  intro v735 ev735; have fv735 : v735 = (scoreGrad (fun x => x) v509 v627 v673 v715) := ev735; clear ev735
  intro v747 ev747; have fv747 : v747 = (scoreGrad (fun x => x) v520 v639 v675 (rowAdd v703 v615)) := ev747; clear ev747
  intro v759 ev759; have fv759 : v759 = (scoreGrad (fun x => x) v531 v651 v677 (rowAdd v715 v627)) := ev759; clear ev759
  intro v763 ev763; have fv763 : v763 = (rowAdd (rowAdd v715 v627) v651) := ev763; clear ev763
  intro v771 ev771; have fv771 : v771 = (scoreGrad (fun x => x) v542 v663 v679 (rowAdd (rowAdd v703 v615) v639)) := ev771; clear ev771
  intro v775 ev775; have fv775 : v775 = (rowAdd (rowAdd (rowAdd v703 v615) v639) v663) := ev775; clear ev775
  intro c0_i32_277 ec0_i32_277; subst c0_i32_277
  refine run_bind (part10 ?_)
  intro v782 ev782
  intro v786 ev786
  intro σ1 eσ1
  have fσ1 : σ1 = { σ with dq := Rect.overlay (Rect.unit (s := S2x256x128) ![0, 0, 0] S1x256x128.size inb_S2x256x128_S1x256x128_0_0_0) σ.dq (shapeCast S1x256x128 (addf (shapeCast S256x128 v782 shapeCasts_S1x256x128_S256x128) (dqMul v687 (keep E.half 0#32 v370))) shapeCasts_S256x128_S1x256x128) } := eσ1; clear eσ1
  intro v790 ev790
  intro v795 ev795
  intro σ2 eσ2
  have fσ2 : σ2 = { σ1 with dk := Rect.overlay (Rect.unit (s := S2048x128) (k0_off1 i k0_t1 0#32) S256x128.size (k0_off1_inb i k0_t1 0)) σ1.dk (addf (shapeCast S256x128 v790 shapeCasts_S256x128_S256x128) (dkMul v687 E.q0)) } := eσ2; clear eσ2
  intro v797 ev797
  intro v802 ev802
  intro σ3 eσ3
  have fσ3 : σ3 = { σ2 with dv := Rect.overlay (Rect.unit (s := S2048x128) (k0_off1 i k0_t1 0#32) S256x128.size (k0_off1_inb i k0_t1 0)) σ2.dv (addf (shapeCast S256x128 v797 shapeCasts_S256x128_S256x128) (dkMul v578 E.g0)) } := eσ3; clear eσ3
  intro v809 ev809
  intro v812 ev812; have fv812 : v812 = (addf (shapeCast S256x128 v809 shapeCasts_S1x256x128_S256x128) (dqMul v699 (keep E.half 1#32 v370))) := ev812; clear ev812
  refine run_bind (part11 ?_)
  intro v813 ev813
  intro σ4 eσ4
  have fσ4 : σ4 = { σ3 with dq := Rect.overlay (Rect.unit (s := S2x256x128) ![1, 0, 0] S1x256x128.size inb_S2x256x128_S1x256x128_1_0_0) σ3.dq (shapeCast S1x256x128 v812 shapeCasts_S256x128_S1x256x128) } := eσ4; clear eσ4
  intro v817 ev817
  intro v822 ev822
  intro σ5 eσ5
  have fσ5 : σ5 = { σ4 with dk := Rect.overlay (Rect.unit (s := S2048x128) (k0_off1 i k0_t1 0#32) S256x128.size (k0_off1_inb i k0_t1 0)) σ4.dk (addf (shapeCast S256x128 v817 shapeCasts_S256x128_S256x128) (dkMul v699 E.q1)) } := eσ5; clear eσ5
  intro v824 ev824
  intro v829 ev829
  intro σ6 eσ6
  have fσ6 : σ6 = { σ5 with dv := Rect.overlay (Rect.unit (s := S2048x128) (k0_off1 i k0_t1 0#32) S256x128.size (k0_off1_inb i k0_t1 0)) σ5.dv (addf (shapeCast S256x128 v824 shapeCasts_S256x128_S256x128) (dkMul v590 E.g1)) } := eσ6; clear eσ6
  intro v836 ev836
  intro v840 ev840
  intro σ7 eσ7
  have fσ7 : σ7 = { σ6 with dq := Rect.overlay (Rect.unit (s := S2x256x128) ![0, 0, 0] S1x256x128.size inb_S2x256x128_S1x256x128_0_0_0) σ6.dq (shapeCast S1x256x128 (addf (shapeCast S256x128 v836 shapeCasts_S1x256x128_S256x128) (dqMul v711 (keep E.half 0#32 v376))) shapeCasts_S256x128_S1x256x128) } := eσ7; clear eσ7
  intro v844 ev844
  intro v847 ev847; have fv847 : v847 = (addf (shapeCast S256x128 v844 shapeCasts_S256x128_S256x128) (dkMul v711 E.q0)) := ev847; clear ev847
  refine run_bind (part12 ?_)
  intro v849 ev849
  intro σ8 eσ8
  have fσ8 : σ8 = { σ7 with dk := Rect.overlay (Rect.unit (s := S2048x128) (k0_off1 i k0_t1 1#32) S256x128.size (k0_off1_inb i k0_t1 1)) σ7.dk v847 } := eσ8; clear eσ8
  intro v851 ev851
  intro v856 ev856
  intro σ9 eσ9
  have fσ9 : σ9 = { σ8 with dv := Rect.overlay (Rect.unit (s := S2048x128) (k0_off1 i k0_t1 1#32) S256x128.size (k0_off1_inb i k0_t1 1)) σ8.dv (addf (shapeCast S256x128 v851 shapeCasts_S256x128_S256x128) (dkMul v602 E.g0)) } := eσ9; clear eσ9
  intro v863 ev863
  intro v867 ev867
  intro σ10 eσ10
  have fσ10 : σ10 = { σ9 with dq := Rect.overlay (Rect.unit (s := S2x256x128) ![1, 0, 0] S1x256x128.size inb_S2x256x128_S1x256x128_1_0_0) σ9.dq (shapeCast S1x256x128 (addf (shapeCast S256x128 v863 shapeCasts_S1x256x128_S256x128) (dqMul v723 (keep E.half 1#32 v376))) shapeCasts_S256x128_S1x256x128) } := eσ10; clear eσ10
  intro v871 ev871
  intro v876 ev876
  intro σ11 eσ11
  have fσ11 : σ11 = { σ10 with dk := Rect.overlay (Rect.unit (s := S2048x128) (k0_off1 i k0_t1 1#32) S256x128.size (k0_off1_inb i k0_t1 1)) σ10.dk (addf (shapeCast S256x128 v871 shapeCasts_S256x128_S256x128) (dkMul v723 E.q1)) } := eσ11; clear eσ11
  intro v878 ev878
  intro v883 ev883
  intro σ12 eσ12
  have fσ12 : σ12 = { σ11 with dv := Rect.overlay (Rect.unit (s := S2048x128) (k0_off1 i k0_t1 1#32) S256x128.size (k0_off1_inb i k0_t1 1)) σ11.dv (addf (shapeCast S256x128 v878 shapeCasts_S256x128_S256x128) (dkMul v614 E.g1)) } := eσ12; clear eσ12
  intro c0_i32_337 ec0_i32_337; subst c0_i32_337
  refine run_bind (part13 ?_)
  intro v890 ev890
  intro v894 ev894
  intro σ13 eσ13
  have fσ13 : σ13 = { σ12 with dq := Rect.overlay (Rect.unit (s := S2x256x128) ![0, 0, 0] S1x256x128.size inb_S2x256x128_S1x256x128_0_0_0) σ12.dq (shapeCast S1x256x128 (addf (shapeCast S256x128 v890 shapeCasts_S1x256x128_S256x128) (dqMul v735 (keep E.half 0#32 v382))) shapeCasts_S256x128_S1x256x128) } := eσ13; clear eσ13
  intro v898 ev898
  intro v903 ev903
  intro σ14 eσ14
  have fσ14 : σ14 = { σ13 with dk := Rect.overlay (Rect.unit (s := S2048x128) (k0_off1 i k0_t1 2#32) S256x128.size (k0_off1_inb i k0_t1 2)) σ13.dk (addf (shapeCast S256x128 v898 shapeCasts_S256x128_S256x128) (dkMul v735 E.q0)) } := eσ14; clear eσ14
  intro v905 ev905
  intro v910 ev910
  intro σ15 eσ15
  have fσ15 : σ15 = { σ14 with dv := Rect.overlay (Rect.unit (s := S2048x128) (k0_off1 i k0_t1 2#32) S256x128.size (k0_off1_inb i k0_t1 2)) σ14.dv (addf (shapeCast S256x128 v905 shapeCasts_S256x128_S256x128) (dkMul v626 E.g0)) } := eσ15; clear eσ15
  intro v917 ev917
  intro v920 ev920; have fv920 : v920 = (addf (shapeCast S256x128 v917 shapeCasts_S1x256x128_S256x128) (dqMul v747 (keep E.half 1#32 v382))) := ev920; clear ev920
  refine run_bind (part14 ?_)
  intro v921 ev921
  intro σ16 eσ16
  have fσ16 : σ16 = { σ15 with dq := Rect.overlay (Rect.unit (s := S2x256x128) ![1, 0, 0] S1x256x128.size inb_S2x256x128_S1x256x128_1_0_0) σ15.dq (shapeCast S1x256x128 v920 shapeCasts_S256x128_S1x256x128) } := eσ16; clear eσ16
  intro v925 ev925
  intro v930 ev930
  intro σ17 eσ17
  have fσ17 : σ17 = { σ16 with dk := Rect.overlay (Rect.unit (s := S2048x128) (k0_off1 i k0_t1 2#32) S256x128.size (k0_off1_inb i k0_t1 2)) σ16.dk (addf (shapeCast S256x128 v925 shapeCasts_S256x128_S256x128) (dkMul v747 E.q1)) } := eσ17; clear eσ17
  intro v932 ev932
  intro v937 ev937
  intro σ18 eσ18
  have fσ18 : σ18 = { σ17 with dv := Rect.overlay (Rect.unit (s := S2048x128) (k0_off1 i k0_t1 2#32) S256x128.size (k0_off1_inb i k0_t1 2)) σ17.dv (addf (shapeCast S256x128 v932 shapeCasts_S256x128_S256x128) (dkMul v638 E.g1)) } := eσ18; clear eσ18
  intro v944 ev944
  intro v948 ev948
  intro σ19 eσ19
  have fσ19 : σ19 = { σ18 with dq := Rect.overlay (Rect.unit (s := S2x256x128) ![0, 0, 0] S1x256x128.size inb_S2x256x128_S1x256x128_0_0_0) σ18.dq (shapeCast S1x256x128 (addf (shapeCast S256x128 v944 shapeCasts_S1x256x128_S256x128) (dqMul v759 (keep E.half 0#32 v388))) shapeCasts_S256x128_S1x256x128) } := eσ19; clear eσ19
  intro v952 ev952
  intro v955 ev955; have fv955 : v955 = (addf (shapeCast S256x128 v952 shapeCasts_S256x128_S256x128) (dkMul v759 E.q0)) := ev955; clear ev955
  refine run_bind (part15 ?_)
  intro v957 ev957
  intro σ20 eσ20
  have fσ20 : σ20 = { σ19 with dk := Rect.overlay (Rect.unit (s := S2048x128) (k0_off1 i k0_t1 3#32) S256x128.size (k0_off1_inb i k0_t1 3)) σ19.dk v955 } := eσ20; clear eσ20
  intro v959 ev959
  intro v964 ev964
  intro σ21 eσ21
  have fσ21 : σ21 = { σ20 with dv := Rect.overlay (Rect.unit (s := S2048x128) (k0_off1 i k0_t1 3#32) S256x128.size (k0_off1_inb i k0_t1 3)) σ20.dv (addf (shapeCast S256x128 v959 shapeCasts_S256x128_S256x128) (dkMul v650 E.g0)) } := eσ21; clear eσ21
  intro v971 ev971
  intro v975 ev975
  intro σ22 eσ22
  have fσ22 : σ22 = { σ21 with dq := Rect.overlay (Rect.unit (s := S2x256x128) ![1, 0, 0] S1x256x128.size inb_S2x256x128_S1x256x128_1_0_0) σ21.dq (shapeCast S1x256x128 (addf (shapeCast S256x128 v971 shapeCasts_S1x256x128_S256x128) (dqMul v771 (keep E.half 1#32 v388))) shapeCasts_S256x128_S1x256x128) } := eσ22; clear eσ22
  intro v979 ev979
  intro v984 ev984
  intro σ23 eσ23
  have fσ23 : σ23 = { σ22 with dk := Rect.overlay (Rect.unit (s := S2048x128) (k0_off1 i k0_t1 3#32) S256x128.size (k0_off1_inb i k0_t1 3)) σ22.dk (addf (shapeCast S256x128 v979 shapeCasts_S256x128_S256x128) (dkMul v771 E.q1)) } := eσ23; clear eσ23
  intro v986 ev986
  intro v991 ev991
  intro σ24 eσ24
  have fσ24 : σ24 = { σ23 with dv := Rect.overlay (Rect.unit (s := S2048x128) (k0_off1 i k0_t1 3#32) S256x128.size (k0_off1_inb i k0_t1 3)) σ23.dv (addf (shapeCast S256x128 v986 shapeCasts_S256x128_S256x128) (dkMul v662 E.g1)) } := eσ24; clear eσ24
  refine load_cc ?_
  refine store_cc ?_; refine name_state ?_
  intro σ25 eσ25
  have fσ25 : σ25 = { σ24 with cc := Rect.overlay (Rect.unit (s := S2x256x128) ![0, 0, 0] S1x256x128.size inb_S2x256x128_S1x256x128_0_0_0) σ24.cc (shapeCast S1x256x128 v643 shapeCasts_S256x128_S1x256x128) } := eσ25; clear eσ25
  refine load_cg ?_
  refine store_cg ?_; refine name_state ?_
  intro σ26 eσ26
  have fσ26 : σ26 = { σ25 with cg := Rect.overlay (Rect.unit (s := S2x256x128) ![0, 0, 0] S1x256x128.size inb_S2x256x128_S1x256x128_0_0_0) σ25.cg (shapeCast S1x256x128 v763 shapeCasts_S256x128_S1x256x128) } := eσ26; clear eσ26
  refine load_cc ?_
  refine store_cc ?_; refine name_state ?_
  intro σ27 eσ27
  have fσ27 : σ27 = { σ26 with cc := Rect.overlay (Rect.unit (s := S2x256x128) ![1, 0, 0] S1x256x128.size inb_S2x256x128_S1x256x128_1_0_0) σ26.cc (shapeCast S1x256x128 v655 shapeCasts_S256x128_S1x256x128) } := eσ27; clear eσ27
  refine load_cg ?_
  refine store_cg ?_; refine name_state ?_
  intro σ28 eσ28
  have fσ28 : σ28 = { σ27 with cg := Rect.overlay (Rect.unit (s := S2x256x128) ![1, 0, 0] S1x256x128.size inb_S2x256x128_S1x256x128_1_0_0) σ27.cg (shapeCast S1x256x128 v775 shapeCasts_S256x128_S1x256x128) } := eσ28; clear eσ28
  refine run_pure ?_
  subst_vars
  with_reducible exact h

end Cert.Attn
-- ==== Proof.PartsB.lean ====
module

public import proofs.«01_k».proof.Proof.Spec

/-!
# The pieces of one and of two left-over key blocks, each as what it hands on
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

theorem part31 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {arg1 : BitVec 32} {v24 : IVec S1x128 32} {v49 : FVec F S256x128 .bf16} {v55 : FVec F S256x128 .bf16} {v61 : FVec F S256x128 .bf16} {v67 : FVec F S256x128 .bf16} {k0_h2 : k0_cond2 i = 1#1}
    {Q : (Σ' (v358 : BitVec 32) (v361 : FVec F S256x128 .bf16) (v366 : FVec F S256x256 .f32) (v373 : FVec F S256x256 .f32) (v380 : FVec F S256x256 .f32) (v390 : FVec F S256x256 .f32) (v391 : FVec F S256x256 .f32) (v393 : FVec F S256x256 .f32), FVec F S256x256 .f32) → sProp 𝕄}
    (h : ∀ v355 : BitVec 32, v355 = Scalar.subi arg1 1#32 →
      ∀ v356 : BitVec 32, v356 = Scalar.addi v355 0#32 →
      ∀ v357 : BitVec 32, v357 = Scalar.muli v356 256#32 →
      ∀ v358 : BitVec 32, v358 = v357 →
      ∀ v360 : Vec F S256x128 .bf16, v360 = View.ld σ.k (Rect.unit (s := S2048x128) (k0_off3 i) S256x128.size (k0_off3_inb i k0_h2)) →
      ∀ v363 : Vec F S256x128 .bf16, v363 = View.ld σ.v (Rect.unit (s := S2048x128) (k0_off3 i) S256x128.size (k0_off3_inb i k0_h2)) →
      ∀ v361 : FVec F S256x128 .bf16, v361 = k0_pay276 v360 →
      ∀ v366 : FVec F S256x256 .f32, v366 = k0_pay279 v55 v360 →
      ∀ v373 : FVec F S256x256 .f32, v373 = k0_pay280 v24 v61 v363 →
      ∀ v380 : FVec F S256x256 .f32, v380 = k0_pay281 v24 v67 v363 →
      ∀ v390 : FVec F S256x256 .f32, v390 = k0_pay282 v49 v360 →
      ∀ v391 : FVec F S256x256 .f32, v391 = k0_pay283 v49 v360 →
      ∀ v393 : FVec F S256x256 .f32, v393 = k0_pay284 v55 v360 →
      ∀ vr : FVec F S256x256 .f32, vr = k0_pay285 v55 v360 →
      Held c B σ ⊢ Q ⟨v358, v361, v366, v373, v380, v390, v391, v393, vr⟩) :
    Held c B σ ⊢ Wp c (k0_part31 i B.a2 h2 B.a3 h3 B.a4 h4 B.a5 h5 B.a6 h6 a7 h7 B.a8 h8 B.a9 h9 B.a10 h10 B.a11 h11 B.a12 h12 B.a13 h13 arg1 v24 v49 v55 v61 v67 k0_h2) Q := by
  rw [k0_part31_eq_skeleton]; unfold k0_part31_skel
  refine load_k ?_
  refine load_v ?_
  refine run_pure ?_
  exact h _ rfl _ rfl _ rfl _ rfl _ rfl _ rfl _ rfl _ rfl _ rfl _ rfl _ rfl _ rfl _ rfl _ rfl

theorem part32 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v31 : FVec F S256x256 .bf16} {v73 : FVec F S256x1 .f32} {v79 : FVec F S256x1 .f32} {v366 : FVec F S256x256 .f32} {v373 : FVec F S256x256 .f32} {v380 : FVec F S256x256 .f32} {v390 : FVec F S256x256 .f32} {v391 : FVec F S256x256 .f32} {v393 : FVec F S256x256 .f32} {v396 : FVec F S256x256 .f32}
    {Q : (Σ' (v401 : FVec F S256x256 .f32) (v412 : FVec F S256x128 .f32) (v414 : FVec F S256x128 .f32) (v418 : FVec F S256x128 .f32) (v425 : FVec F S256x256 .bf16) (v426 : FVec F S256x256 .f32) (v430 : FVec F S256x128 .f32) (v437 : FVec F S256x256 .bf16) (v438 : FVec F S256x256 .f32), FVec F S256x256 .bf16) → sProp 𝕄}
    (h : ∀ v407 : Vec F S1x256x128 .f32, v407 = View.ld σ.cc (Rect.unit (s := S2x256x128) ![0, 0, 0] S1x256x128.size inb_S2x256x128_S1x256x128_0_0_0) →
      ∀ v409 : Vec F S1x256x128 .f32, v409 = View.ld σ.cc (Rect.unit (s := S2x256x128) ![1, 0, 0] S1x256x128.size inb_S2x256x128_S1x256x128_1_0_0) →
      ∀ v411 : Vec F S1x256x128 .f32, v411 = View.ld σ.cg (Rect.unit (s := S2x256x128) ![0, 0, 0] S1x256x128.size inb_S2x256x128_S1x256x128_0_0_0) →
      ∀ v413 : Vec F S1x256x128 .f32, v413 = View.ld σ.cg (Rect.unit (s := S2x256x128) ![1, 0, 0] S1x256x128.size inb_S2x256x128_S1x256x128_1_0_0) →
      ∀ v401 : FVec F S256x256 .f32, v401 = k0_pay286 v393 v396 →
      ∀ v412 : FVec F S256x128 .f32, v412 = k0_pay288 v411 →
      ∀ v414 : FVec F S256x128 .f32, v414 = k0_pay289 v413 →
      ∀ v418 : FVec F S256x128 .f32, v418 = k0_pay290 v391 v407 →
      ∀ v425 : FVec F S256x256 .bf16, v425 = k0_pay292 v31 v73 v390 v391 v407 →
      ∀ v426 : FVec F S256x256 .f32, v426 = k0_pay293 v31 v73 v373 v390 v391 v407 →
      ∀ v430 : FVec F S256x128 .f32, v430 = k0_pay294 v366 v393 v396 v409 →
      ∀ v437 : FVec F S256x256 .bf16, v437 = k0_pay296 v31 v79 v366 v393 v396 v409 →
      ∀ v438 : FVec F S256x256 .f32, v438 = k0_pay297 v31 v79 v366 v380 v393 v396 v409 →
      ∀ vr : FVec F S256x256 .bf16, vr = k0_pay298 v31 v73 v373 v390 v391 v407 →
      Held c B σ ⊢ Q ⟨v401, v412, v414, v418, v425, v426, v430, v437, v438, vr⟩) :
    Held c B σ ⊢ Wp c (k0_part32 i B.a2 h2 B.a3 h3 B.a4 h4 B.a5 h5 B.a6 h6 a7 h7 B.a8 h8 B.a9 h9 B.a10 h10 B.a11 h11 B.a12 h12 B.a13 h13 v31 v73 v79 v366 v373 v380 v390 v391 v393 v396) Q := by
  rw [k0_part32_eq_skeleton]; unfold k0_part32_skel
  refine load_cc ?_
  refine load_cc ?_
  refine load_cg ?_
  refine load_cg ?_
  refine run_pure ?_
  exact h _ rfl _ rfl _ rfl _ rfl _ rfl _ rfl _ rfl _ rfl _ rfl _ rfl _ rfl _ rfl _ rfl _ rfl

theorem part33 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v37 : FVec F S256x256 .bf16} {v49 : FVec F S256x128 .bf16} {k0_h2 : k0_cond2 i = 1#1} {v358 : BitVec 32} {v361 : FVec F S256x128 .bf16} {v390 : FVec F S256x256 .f32} {v401 : FVec F S256x256 .f32} {v412 : FVec F S256x128 .f32} {v414 : FVec F S256x128 .f32} {v426 : FVec F S256x256 .f32} {v438 : FVec F S256x256 .f32} {v439 : FVec F S256x256 .bf16}
    {Q : (Σ' (v454 : FVec F S256x128 .f32) (v462 : FVec F S256x256 .bf16) (v466 : FVec F S256x128 .f32) (v482 : FVec F S256x128 .f32), FVec F S256x128 .f32) → sProp 𝕄}
    (h : ∀ v473 : Vec F S1x256x128 .f32, v473 = View.ld σ.dq (Rect.unit (s := S2x256x128) ![0, 0, 0] S1x256x128.size inb_S2x256x128_S1x256x128_0_0_0) →
      ∀ v477 : Vec F S1x256x128 .f32, v477 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay303 v24 v37 v361 v390 v412 v426 v439 v473) } →
      ∀ v481 : Vec F S256x128 .f32, v481 = View.ld σ1.dk (Rect.unit (s := S2048x128) (k0_off3 i) S256x128.size (k0_off3_inb i k0_h2)) →
      ∀ v454 : FVec F S256x128 .f32, v454 = k0_pay300 v412 v426 →
      ∀ v462 : FVec F S256x256 .bf16, v462 = k0_pay301 v37 v401 v414 v438 →
      ∀ v466 : FVec F S256x128 .f32, v466 = k0_pay302 v414 v438 →
      ∀ v482 : FVec F S256x128 .f32, v482 = k0_pay304 v481 →
      ∀ vr : FVec F S256x128 .f32, vr = k0_pay305 v37 v49 v390 v412 v426 v439 →
      Held c B σ1 ⊢ Q ⟨v454, v462, v466, v482, vr⟩) :
    Held c B σ ⊢ Wp c (k0_part33 i B.a2 h2 B.a3 h3 B.a4 h4 B.a5 h5 B.a6 h6 a7 h7 B.a8 h8 B.a9 h9 B.a10 h10 B.a11 h11 B.a12 h12 B.a13 h13 v24 v37 v49 k0_h2 v358 v361 v390 v401 v412 v414 v426 v438 v439) Q := by
  rw [k0_part33_eq_skeleton]; unfold k0_part33_skel
  refine load_dq ?_
  refine load_dq ?_
  refine store_dq ?_
  refine load_dk ?_
  refine run_pure ?_
  exact h _ rfl _ rfl _ rfl _ rfl _ rfl _ rfl _ rfl _ rfl _ rfl

theorem part34 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v55 : FVec F S256x128 .bf16} {v61 : FVec F S256x128 .bf16} {v67 : FVec F S256x128 .bf16} {k0_h2 : k0_cond2 i = 1#1} {v358 : BitVec 32} {v361 : FVec F S256x128 .bf16} {v425 : FVec F S256x256 .bf16} {v437 : FVec F S256x256 .bf16} {v462 : FVec F S256x256 .bf16} {v482 : FVec F S256x128 .f32} {v483 : FVec F S256x128 .f32}
    {Q : (FVec F S256x128 .f32) → sProp 𝕄}
    (h : ∀ v486 : Vec F S256x128 .f32, v486 = View.ld σ.dk (Rect.unit (s := S2048x128) (k0_off3 i) S256x128.size (k0_off3_inb i k0_h2)) →
      ∀ σ1 : St F, σ1 = { σ with dk := Rect.overlay (Rect.unit (s := S2048x128) (k0_off3 i) S256x128.size (k0_off3_inb i k0_h2)) σ.dk (k0_pay306 v482 v483) } →
      ∀ v488 : Vec F S256x128 .f32, v488 = View.ld σ1.dv (Rect.unit (s := S2048x128) (k0_off3 i) S256x128.size (k0_off3_inb i k0_h2)) →
      ∀ v493 : Vec F S256x128 .f32, v493 = View.ld σ1.dv (Rect.unit (s := S2048x128) (k0_off3 i) S256x128.size (k0_off3_inb i k0_h2)) →
      ∀ σ2 : St F, σ2 = { σ1 with dv := Rect.overlay (Rect.unit (s := S2048x128) (k0_off3 i) S256x128.size (k0_off3_inb i k0_h2)) σ1.dv (k0_pay307 v61 v425 v488) } →
      ∀ v500 : Vec F S1x256x128 .f32, v500 = View.ld σ2.dq (Rect.unit (s := S2x256x128) ![1, 0, 0] S1x256x128.size inb_S2x256x128_S1x256x128_1_0_0) →
      ∀ v504 : Vec F S1x256x128 .f32, v504 = View.ld σ2.dq (Rect.unit (s := S2x256x128) ![1, 0, 0] S1x256x128.size inb_S2x256x128_S1x256x128_1_0_0) →
      ∀ σ3 : St F, σ3 = { σ2 with dq := Rect.overlay (Rect.unit (s := S2x256x128) ![1, 0, 0] S1x256x128.size inb_S2x256x128_S1x256x128_1_0_0) σ2.dq (k0_pay308 v24 v361 v462 v500) } →
      ∀ v508 : Vec F S256x128 .f32, v508 = View.ld σ3.dk (Rect.unit (s := S2048x128) (k0_off3 i) S256x128.size (k0_off3_inb i k0_h2)) →
      ∀ v513 : Vec F S256x128 .f32, v513 = View.ld σ3.dk (Rect.unit (s := S2048x128) (k0_off3 i) S256x128.size (k0_off3_inb i k0_h2)) →
      ∀ σ4 : St F, σ4 = { σ3 with dk := Rect.overlay (Rect.unit (s := S2048x128) (k0_off3 i) S256x128.size (k0_off3_inb i k0_h2)) σ3.dk (k0_pay309 v55 v462 v508) } →
      ∀ v515 : Vec F S256x128 .f32, v515 = View.ld σ4.dv (Rect.unit (s := S2048x128) (k0_off3 i) S256x128.size (k0_off3_inb i k0_h2)) →
      ∀ v520 : Vec F S256x128 .f32, v520 = View.ld σ4.dv (Rect.unit (s := S2048x128) (k0_off3 i) S256x128.size (k0_off3_inb i k0_h2)) →
      ∀ vr : FVec F S256x128 .f32, vr = (k0_pay310 v67 v437 v515) →
      Held c B σ4 ⊢ Q vr) :
    Held c B σ ⊢ Wp c (k0_part34 i B.a2 h2 B.a3 h3 B.a4 h4 B.a5 h5 B.a6 h6 a7 h7 B.a8 h8 B.a9 h9 B.a10 h10 B.a11 h11 B.a12 h12 B.a13 h13 v24 v55 v61 v67 k0_h2 v358 v361 v425 v437 v462 v482 v483) Q := by
  rw [k0_part34_eq_skeleton]; unfold k0_part34_skel
  refine load_dk ?_
  refine store_dk ?_
  refine load_dv ?_
  refine load_dv ?_
  refine store_dv ?_
  refine load_dq ?_
  refine load_dq ?_
  refine store_dq ?_
  refine load_dk ?_
  refine load_dk ?_
  refine store_dk ?_
  refine load_dv ?_
  refine load_dv ?_
  refine run_pure ?_
  exact h _ rfl _ rfl _ rfl _ rfl _ rfl _ rfl _ rfl _ rfl _ rfl _ rfl _ rfl _ rfl _ rfl _ rfl

theorem part35 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {arg1 : BitVec 32} {v24 : IVec S1x128 32} {v49 : FVec F S256x128 .bf16} {v55 : FVec F S256x128 .bf16} {v61 : FVec F S256x128 .bf16} {v67 : FVec F S256x128 .bf16} {k0_h3 : k0_cond3 i = 1#1}
    {Q : (Σ' (v360 : BitVec 32) (v362 : BitVec 32) (v365 : FVec F S256x128 .bf16) (v371 : FVec F S256x128 .bf16) (v374 : FVec F S256x128 .bf16) (v375 : FVec F S256x256 .f32) (v376 : FVec F S256x256 .f32) (v377 : FVec F S256x256 .f32) (v378 : FVec F S256x256 .f32) (v385 : FVec F S256x256 .f32) (v392 : FVec F S256x256 .f32), IVec S1x128 32) → sProp 𝕄}
    (h : ∀ v355 : BitVec 32, v355 = Scalar.subi arg1 2#32 →
      ∀ v356 : BitVec 32, v356 = Scalar.addi v355 0#32 →
      ∀ v357 : BitVec 32, v357 = Scalar.subi arg1 2#32 →
      ∀ v358 : BitVec 32, v358 = Scalar.addi v357 1#32 →
      ∀ v359 : BitVec 32, v359 = Scalar.muli v356 256#32 →
      ∀ v360 : BitVec 32, v360 = v359 →
      ∀ v361 : BitVec 32, v361 = Scalar.muli v358 256#32 →
      ∀ v362 : BitVec 32, v362 = v361 →
      ∀ v364 : Vec F S256x128 .bf16, v364 = View.ld σ.k (Rect.unit (s := S2048x128) (k0_off4 i 0#32) S256x128.size (k0_off4_inb i k0_h3 0)) →
      ∀ v367 : Vec F S256x128 .bf16, v367 = View.ld σ.v (Rect.unit (s := S2048x128) (k0_off4 i 0#32) S256x128.size (k0_off4_inb i k0_h3 0)) →
      ∀ v370 : Vec F S256x128 .bf16, v370 = View.ld σ.k (Rect.unit (s := S2048x128) (k0_off4 i 1#32) S256x128.size (k0_off4_inb i k0_h3 1)) →
      ∀ v373 : Vec F S256x128 .bf16, v373 = View.ld σ.v (Rect.unit (s := S2048x128) (k0_off4 i 1#32) S256x128.size (k0_off4_inb i k0_h3 1)) →
      ∀ v365 : FVec F S256x128 .bf16, v365 = k0_pay311 v364 →
      ∀ v371 : FVec F S256x128 .bf16, v371 = k0_pay313 v370 →
      ∀ v374 : FVec F S256x128 .bf16, v374 = k0_pay314 v373 →
      ∀ v375 : FVec F S256x256 .f32, v375 = k0_pay315 v49 v364 →
      ∀ v376 : FVec F S256x256 .f32, v376 = k0_pay316 v55 v364 →
      ∀ v377 : FVec F S256x256 .f32, v377 = k0_pay317 v49 v370 →
      ∀ v378 : FVec F S256x256 .f32, v378 = k0_pay318 v55 v370 →
      ∀ v385 : FVec F S256x256 .f32, v385 = k0_pay319 v24 v61 v367 →
      ∀ v392 : FVec F S256x256 .f32, v392 = k0_pay320 v24 v67 v367 →
      ∀ vr : IVec S1x128 32, vr = k0_pay321 →
      Held c B σ ⊢ Q ⟨v360, v362, v365, v371, v374, v375, v376, v377, v378, v385, v392, vr⟩) :
    Held c B σ ⊢ Wp c (k0_part35 i B.a2 h2 B.a3 h3 B.a4 h4 B.a5 h5 B.a6 h6 a7 h7 B.a8 h8 B.a9 h9 B.a10 h10 B.a11 h11 B.a12 h12 B.a13 h13 arg1 v24 v49 v55 v61 v67 k0_h3) Q := by
  rw [k0_part35_eq_skeleton]; unfold k0_part35_skel
  refine load_k ?_
  refine load_v ?_
  refine load_k ?_
  refine load_v ?_
  refine run_pure ?_
  exact h _ rfl _ rfl _ rfl _ rfl _ rfl _ rfl _ rfl _ rfl _ rfl _ rfl _ rfl _ rfl _ rfl _ rfl _ rfl _ rfl _ rfl _ rfl _ rfl _ rfl _ rfl _ rfl

theorem part36 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v61 : FVec F S256x128 .bf16} {v67 : FVec F S256x128 .bf16} {v374 : FVec F S256x128 .bf16} {v375 : FVec F S256x256 .f32} {v376 : FVec F S256x256 .f32} {v377 : FVec F S256x256 .f32} {v393 : IVec S1x128 32}
    {Q : (Σ' (v399 : FVec F S256x256 .f32) (v406 : FVec F S256x256 .f32) (v416 : FVec F S256x256 .f32) (v417 : FVec F S256x256 .f32) (v427 : FVec F S256x256 .f32) (v428 : FVec F S256x256 .f32) (v438 : FVec F S256x256 .f32), FVec F S256x256 .f32) → sProp 𝕄}
    (h : ∀ v399 : FVec F S256x256 .f32, v399 = k0_pay322 v24 v61 v374 v393 →
      ∀ v406 : FVec F S256x256 .f32, v406 = k0_pay323 v24 v67 v374 →
      ∀ v416 : FVec F S256x256 .f32, v416 = k0_pay324 v375 →
      ∀ v417 : FVec F S256x256 .f32, v417 = k0_pay325 v375 →
      ∀ v427 : FVec F S256x256 .f32, v427 = k0_pay326 v376 →
      ∀ v428 : FVec F S256x256 .f32, v428 = k0_pay327 v376 →
      ∀ v438 : FVec F S256x256 .f32, v438 = k0_pay328 v377 →
      ∀ vr : FVec F S256x256 .f32, vr = k0_pay329 v377 →
      Held c B σ ⊢ Q ⟨v399, v406, v416, v417, v427, v428, v438, vr⟩) :
    Held c B σ ⊢ Wp c (k0_part36 i B.a2 h2 B.a3 h3 B.a4 h4 B.a5 h5 B.a6 h6 a7 h7 B.a8 h8 B.a9 h9 B.a10 h10 B.a11 h11 B.a12 h12 B.a13 h13 v24 v61 v67 v374 v375 v376 v377 v393) Q := by
  rw [k0_part36_eq_skeleton]; unfold k0_part36_skel
  refine run_pure ?_
  exact h _ rfl _ rfl _ rfl _ rfl _ rfl _ rfl _ rfl _ rfl

theorem part37 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v31 : FVec F S256x256 .bf16} {v73 : FVec F S256x1 .f32} {v378 : FVec F S256x256 .f32} {v385 : FVec F S256x256 .f32} {v416 : FVec F S256x256 .f32} {v417 : FVec F S256x256 .f32} {v428 : FVec F S256x256 .f32} {v439 : FVec F S256x256 .f32}
    {Q : (Σ' (v449 : FVec F S256x256 .f32) (v450 : FVec F S256x256 .f32) (v454 : FVec F S256x256 .f32) (v456 : FVec F S256x256 .f32) (v458 : FVec F S256x256 .f32) (v462 : FVec F S256x128 .f32) (v464 : FVec F S256x128 .f32) (v466 : FVec F S256x128 .f32) (v470 : FVec F S256x128 .f32) (v477 : FVec F S256x256 .bf16), FVec F S256x256 .f32) → sProp 𝕄}
    (h : ∀ v459 : Vec F S1x256x128 .f32, v459 = View.ld σ.cc (Rect.unit (s := S2x256x128) ![0, 0, 0] S1x256x128.size inb_S2x256x128_S1x256x128_0_0_0) →
      ∀ v461 : Vec F S1x256x128 .f32, v461 = View.ld σ.cc (Rect.unit (s := S2x256x128) ![1, 0, 0] S1x256x128.size inb_S2x256x128_S1x256x128_1_0_0) →
      ∀ v463 : Vec F S1x256x128 .f32, v463 = View.ld σ.cg (Rect.unit (s := S2x256x128) ![0, 0, 0] S1x256x128.size inb_S2x256x128_S1x256x128_0_0_0) →
      ∀ v465 : Vec F S1x256x128 .f32, v465 = View.ld σ.cg (Rect.unit (s := S2x256x128) ![1, 0, 0] S1x256x128.size inb_S2x256x128_S1x256x128_1_0_0) →
      ∀ v449 : FVec F S256x256 .f32, v449 = k0_pay330 v378 →
      ∀ v450 : FVec F S256x256 .f32, v450 = k0_pay331 v378 →
      ∀ v454 : FVec F S256x256 .f32, v454 = k0_pay332 v31 v428 →
      ∀ v456 : FVec F S256x256 .f32, v456 = k0_pay333 v31 v439 →
      ∀ v458 : FVec F S256x256 .f32, v458 = k0_pay334 v31 v378 →
      ∀ v462 : FVec F S256x128 .f32, v462 = k0_pay335 v461 →
      ∀ v464 : FVec F S256x128 .f32, v464 = k0_pay336 v463 →
      ∀ v466 : FVec F S256x128 .f32, v466 = k0_pay337 v465 →
      ∀ v470 : FVec F S256x128 .f32, v470 = k0_pay338 v417 v459 →
      ∀ v477 : FVec F S256x256 .bf16, v477 = k0_pay340 v31 v73 v416 v417 v459 →
      ∀ vr : FVec F S256x256 .f32, vr = k0_pay341 v31 v73 v385 v416 v417 v459 →
      Held c B σ ⊢ Q ⟨v449, v450, v454, v456, v458, v462, v464, v466, v470, v477, vr⟩) :
    Held c B σ ⊢ Wp c (k0_part37 i B.a2 h2 B.a3 h3 B.a4 h4 B.a5 h5 B.a6 h6 a7 h7 B.a8 h8 B.a9 h9 B.a10 h10 B.a11 h11 B.a12 h12 B.a13 h13 v31 v73 v378 v385 v416 v417 v428 v439) Q := by
  rw [k0_part37_eq_skeleton]; unfold k0_part37_skel
  refine load_cc ?_
  refine load_cc ?_
  refine load_cg ?_
  refine load_cg ?_
  refine run_pure ?_
  exact h _ rfl _ rfl _ rfl _ rfl _ rfl _ rfl _ rfl _ rfl _ rfl _ rfl _ rfl _ rfl _ rfl _ rfl _ rfl

theorem part38 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v37 : FVec F S256x256 .bf16} {v73 : FVec F S256x1 .f32} {v79 : FVec F S256x1 .f32} {v392 : FVec F S256x256 .f32} {v399 : FVec F S256x256 .f32} {v406 : FVec F S256x256 .f32} {v416 : FVec F S256x256 .f32} {v427 : FVec F S256x256 .f32} {v428 : FVec F S256x256 .f32} {v438 : FVec F S256x256 .f32} {v439 : FVec F S256x256 .f32} {v449 : FVec F S256x256 .f32} {v450 : FVec F S256x256 .f32} {v454 : FVec F S256x256 .f32} {v456 : FVec F S256x256 .f32} {v458 : FVec F S256x256 .f32} {v462 : FVec F S256x128 .f32} {v464 : FVec F S256x128 .f32} {v470 : FVec F S256x128 .f32} {v478 : FVec F S256x256 .f32}
    {Q : (Σ' (v489 : FVec F S256x256 .bf16) (v490 : FVec F S256x256 .f32) (v494 : FVec F S256x128 .f32) (v501 : FVec F S256x256 .bf16) (v502 : FVec F S256x256 .f32) (v506 : FVec F S256x128 .f32) (v513 : FVec F S256x256 .bf16) (v514 : FVec F S256x256 .f32) (v518 : FVec F S256x256 .f32) (v520 : FVec F S256x256 .f32) (v522 : FVec F S256x256 .f32) (v530 : FVec F S256x256 .bf16), FVec F S256 .f32) → sProp 𝕄}
    (h : ∀ v489 : FVec F S256x256 .bf16, v489 = k0_pay344 v79 v427 v428 v454 v462 →
      ∀ v490 : FVec F S256x256 .f32, v490 = k0_pay345 v79 v392 v427 v428 v454 v462 →
      ∀ v494 : FVec F S256x128 .f32, v494 = k0_pay346 v439 v470 →
      ∀ v501 : FVec F S256x256 .bf16, v501 = k0_pay348 v73 v438 v439 v456 v470 →
      ∀ v502 : FVec F S256x256 .f32, v502 = k0_pay349 v73 v399 v438 v439 v456 v470 →
      ∀ v506 : FVec F S256x128 .f32, v506 = k0_pay350 v428 v450 v462 →
      ∀ v513 : FVec F S256x256 .bf16, v513 = k0_pay352 v79 v428 v449 v450 v458 v462 →
      ∀ v514 : FVec F S256x256 .f32, v514 = k0_pay353 v79 v406 v428 v449 v450 v458 v462 →
      ∀ v518 : FVec F S256x256 .f32, v518 = k0_pay354 v37 v79 v392 v427 v428 v454 v462 →
      ∀ v520 : FVec F S256x256 .f32, v520 = k0_pay355 v37 v73 v399 v438 v439 v456 v470 →
      ∀ v522 : FVec F S256x256 .f32, v522 = k0_pay356 v37 v79 v406 v428 v449 v450 v458 v462 →
      ∀ v530 : FVec F S256x256 .bf16, v530 = k0_pay357 v37 v416 v464 v478 →
      ∀ vr : FVec F S256 .f32, vr = k0_pay358 v478 →
      Held c B σ ⊢ Q ⟨v489, v490, v494, v501, v502, v506, v513, v514, v518, v520, v522, v530, vr⟩) :
    Held c B σ ⊢ Wp c (k0_part38 i B.a2 h2 B.a3 h3 B.a4 h4 B.a5 h5 B.a6 h6 a7 h7 B.a8 h8 B.a9 h9 B.a10 h10 B.a11 h11 B.a12 h12 B.a13 h13 v37 v73 v79 v392 v399 v406 v416 v427 v428 v438 v439 v449 v450 v454 v456 v458 v462 v464 v470 v478) Q := by
  rw [k0_part38_eq_skeleton]; unfold k0_part38_skel
  refine run_pure ?_
  exact h _ rfl _ rfl _ rfl _ rfl _ rfl _ rfl _ rfl _ rfl _ rfl _ rfl _ rfl _ rfl _ rfl

theorem part39 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v365 : FVec F S256x128 .bf16} {v427 : FVec F S256x256 .f32} {v438 : FVec F S256x256 .f32} {v449 : FVec F S256x256 .f32} {v464 : FVec F S256x128 .f32} {v466 : FVec F S256x128 .f32} {v490 : FVec F S256x256 .f32} {v502 : FVec F S256x256 .f32} {v514 : FVec F S256x256 .f32} {v518 : FVec F S256x256 .f32} {v520 : FVec F S256x256 .f32} {v522 : FVec F S256x256 .f32} {v530 : FVec F S256x256 .bf16} {v531 : FVec F S256 .f32}
    {Q : (Σ' (v542 : FVec F S256x256 .bf16) (v554 : FVec F S256x256 .bf16) (v558 : FVec F S256x128 .f32) (v566 : FVec F S256x256 .bf16) (v570 : FVec F S256x128 .f32), FVec F S256x128 .f32) → sProp 𝕄}
    (h : ∀ v577 : Vec F S1x256x128 .f32, v577 = View.ld σ.dq (Rect.unit (s := S2x256x128) ![0, 0, 0] S1x256x128.size inb_S2x256x128_S1x256x128_0_0_0) →
      ∀ v542 : FVec F S256x256 .bf16, v542 = k0_pay360 v427 v466 v490 v518 →
      ∀ v554 : FVec F S256x256 .bf16, v554 = k0_pay362 v438 v464 v502 v520 v531 →
      ∀ v558 : FVec F S256x128 .f32, v558 = k0_pay363 v464 v502 v531 →
      ∀ v566 : FVec F S256x256 .bf16, v566 = k0_pay364 v449 v466 v490 v514 v522 →
      ∀ v570 : FVec F S256x128 .f32, v570 = k0_pay365 v466 v490 v514 →
      ∀ vr : FVec F S256x128 .f32, vr = k0_pay366 v24 v365 v530 v577 →
      Held c B σ ⊢ Q ⟨v542, v554, v558, v566, v570, vr⟩) :
    Held c B σ ⊢ Wp c (k0_part39 i B.a2 h2 B.a3 h3 B.a4 h4 B.a5 h5 B.a6 h6 a7 h7 B.a8 h8 B.a9 h9 B.a10 h10 B.a11 h11 B.a12 h12 B.a13 h13 v24 v365 v427 v438 v449 v464 v466 v490 v502 v514 v518 v520 v522 v530 v531) Q := by
  rw [k0_part39_eq_skeleton]; unfold k0_part39_skel
  refine load_dq ?_
  refine run_pure ?_
  exact h _ rfl _ rfl _ rfl _ rfl _ rfl _ rfl _ rfl

theorem part40 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v55 : FVec F S256x128 .bf16} {v61 : FVec F S256x128 .bf16} {k0_h3 : k0_cond3 i = 1#1} {v360 : BitVec 32} {v365 : FVec F S256x128 .bf16} {v477 : FVec F S256x256 .bf16} {v530 : FVec F S256x256 .bf16} {v542 : FVec F S256x256 .bf16} {v580 : FVec F S256x128 .f32}
    {Q : (FVec F S256x128 .f32) → sProp 𝕄}
    (h : ∀ v581 : Vec F S1x256x128 .f32, v581 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay367 v580) } →
      ∀ v585 : Vec F S256x128 .f32, v585 = View.ld σ1.dk (Rect.unit (s := S2048x128) (k0_off4 i 0#32) S256x128.size (k0_off4_inb i k0_h3 0)) →
      ∀ v590 : Vec F S256x128 .f32, v590 = View.ld σ1.dk (Rect.unit (s := S2048x128) (k0_off4 i 0#32) S256x128.size (k0_off4_inb i k0_h3 0)) →
      ∀ σ2 : St F, σ2 = { σ1 with dk := Rect.overlay (Rect.unit (s := S2048x128) (k0_off4 i 0#32) S256x128.size (k0_off4_inb i k0_h3 0)) σ1.dk (k0_pay368 v49 v530 v585) } →
      ∀ v592 : Vec F S256x128 .f32, v592 = View.ld σ2.dv (Rect.unit (s := S2048x128) (k0_off4 i 0#32) S256x128.size (k0_off4_inb i k0_h3 0)) →
      ∀ v597 : Vec F S256x128 .f32, v597 = View.ld σ2.dv (Rect.unit (s := S2048x128) (k0_off4 i 0#32) S256x128.size (k0_off4_inb i k0_h3 0)) →
      ∀ σ3 : St F, σ3 = { σ2 with dv := Rect.overlay (Rect.unit (s := S2048x128) (k0_off4 i 0#32) S256x128.size (k0_off4_inb i k0_h3 0)) σ2.dv (k0_pay369 v61 v477 v592) } →
      ∀ v604 : Vec F S1x256x128 .f32, v604 = View.ld σ3.dq (Rect.unit (s := S2x256x128) ![1, 0, 0] S1x256x128.size inb_S2x256x128_S1x256x128_1_0_0) →
      ∀ v608 : Vec F S1x256x128 .f32, v608 = View.ld σ3.dq (Rect.unit (s := S2x256x128) ![1, 0, 0] S1x256x128.size inb_S2x256x128_S1x256x128_1_0_0) →
      ∀ σ4 : St F, σ4 = { σ3 with dq := Rect.overlay (Rect.unit (s := S2x256x128) ![1, 0, 0] S1x256x128.size inb_S2x256x128_S1x256x128_1_0_0) σ3.dq (k0_pay370 v24 v365 v542 v604) } →
      ∀ v612 : Vec F S256x128 .f32, v612 = View.ld σ4.dk (Rect.unit (s := S2048x128) (k0_off4 i 0#32) S256x128.size (k0_off4_inb i k0_h3 0)) →
      ∀ v617 : Vec F S256x128 .f32, v617 = View.ld σ4.dk (Rect.unit (s := S2048x128) (k0_off4 i 0#32) S256x128.size (k0_off4_inb i k0_h3 0)) →
      ∀ vr : FVec F S256x128 .f32, vr = (k0_pay371 v55 v542 v612) →
      Held c B σ4 ⊢ Q vr) :
    Held c B σ ⊢ Wp c (k0_part40 i B.a2 h2 B.a3 h3 B.a4 h4 B.a5 h5 B.a6 h6 a7 h7 B.a8 h8 B.a9 h9 B.a10 h10 B.a11 h11 B.a12 h12 B.a13 h13 v24 v49 v55 v61 k0_h3 v360 v365 v477 v530 v542 v580) Q := by
  rw [k0_part40_eq_skeleton]; unfold k0_part40_skel
  refine load_dq ?_
  refine store_dq ?_
  refine load_dk ?_
  refine load_dk ?_
  refine store_dk ?_
  refine load_dv ?_
  refine load_dv ?_
  refine store_dv ?_
  refine load_dq ?_
  refine load_dq ?_
  refine store_dq ?_
  refine load_dk ?_
  refine load_dk ?_
  refine run_pure ?_
  exact h _ rfl _ rfl _ rfl _ rfl _ rfl _ rfl _ rfl _ rfl _ rfl _ rfl _ rfl _ rfl _ rfl _ rfl

theorem part41 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v61 : FVec F S256x128 .bf16} {v67 : FVec F S256x128 .bf16} {k0_h3 : k0_cond3 i = 1#1} {v360 : BitVec 32} {v362 : BitVec 32} {v371 : FVec F S256x128 .bf16} {v489 : FVec F S256x256 .bf16} {v501 : FVec F S256x256 .bf16} {v554 : FVec F S256x256 .bf16} {v615 : FVec F S256x128 .f32}
    {Q : (IVec S1x128 1) → sProp 𝕄}
    (h : ∀ σ1 : St F, σ1 = { σ with dk := Rect.overlay (Rect.unit (s := S2048x128) (k0_off4 i 0#32) S256x128.size (k0_off4_inb i k0_h3 0)) σ.dk v615 } →
      ∀ v619 : Vec F S256x128 .f32, v619 = View.ld σ1.dv (Rect.unit (s := S2048x128) (k0_off4 i 0#32) S256x128.size (k0_off4_inb i k0_h3 0)) →
      ∀ v624 : Vec F S256x128 .f32, v624 = View.ld σ1.dv (Rect.unit (s := S2048x128) (k0_off4 i 0#32) S256x128.size (k0_off4_inb i k0_h3 0)) →
      ∀ σ2 : St F, σ2 = { σ1 with dv := Rect.overlay (Rect.unit (s := S2048x128) (k0_off4 i 0#32) S256x128.size (k0_off4_inb i k0_h3 0)) σ1.dv (k0_pay372 v67 v489 v619) } →
      ∀ v631 : Vec F S1x256x128 .f32, v631 = View.ld σ2.dq (Rect.unit (s := S2x256x128) ![0, 0, 0] S1x256x128.size inb_S2x256x128_S1x256x128_0_0_0) →
      ∀ v635 : Vec F S1x256x128 .f32, v635 = View.ld σ2.dq (Rect.unit (s := S2x256x128) ![0, 0, 0] S1x256x128.size inb_S2x256x128_S1x256x128_0_0_0) →
      ∀ σ3 : St F, σ3 = { σ2 with dq := Rect.overlay (Rect.unit (s := S2x256x128) ![0, 0, 0] S1x256x128.size inb_S2x256x128_S1x256x128_0_0_0) σ2.dq (k0_pay373 v24 v371 v554 v631) } →
      ∀ v639 : Vec F S256x128 .f32, v639 = View.ld σ3.dk (Rect.unit (s := S2048x128) (k0_off4 i 1#32) S256x128.size (k0_off4_inb i k0_h3 1)) →
      ∀ v644 : Vec F S256x128 .f32, v644 = View.ld σ3.dk (Rect.unit (s := S2048x128) (k0_off4 i 1#32) S256x128.size (k0_off4_inb i k0_h3 1)) →
      ∀ σ4 : St F, σ4 = { σ3 with dk := Rect.overlay (Rect.unit (s := S2048x128) (k0_off4 i 1#32) S256x128.size (k0_off4_inb i k0_h3 1)) σ3.dk (k0_pay374 v49 v554 v639) } →
      ∀ v646 : Vec F S256x128 .f32, v646 = View.ld σ4.dv (Rect.unit (s := S2048x128) (k0_off4 i 1#32) S256x128.size (k0_off4_inb i k0_h3 1)) →
      ∀ v651 : Vec F S256x128 .f32, v651 = View.ld σ4.dv (Rect.unit (s := S2048x128) (k0_off4 i 1#32) S256x128.size (k0_off4_inb i k0_h3 1)) →
      ∀ σ5 : St F, σ5 = { σ4 with dv := Rect.overlay (Rect.unit (s := S2048x128) (k0_off4 i 1#32) S256x128.size (k0_off4_inb i k0_h3 1)) σ4.dv (k0_pay375 v61 v501 v646) } →
      ∀ vr : IVec S1x128 1, vr = (k0_pay376 v24) →
      Held c B σ5 ⊢ Q vr) :
    Held c B σ ⊢ Wp c (k0_part41 i B.a2 h2 B.a3 h3 B.a4 h4 B.a5 h5 B.a6 h6 a7 h7 B.a8 h8 B.a9 h9 B.a10 h10 B.a11 h11 B.a12 h12 B.a13 h13 v24 v49 v61 v67 k0_h3 v360 v362 v371 v489 v501 v554 v615) Q := by
  rw [k0_part41_eq_skeleton]; unfold k0_part41_skel
  refine store_dk ?_
  refine load_dv ?_
  refine load_dv ?_
  refine store_dv ?_
  refine load_dq ?_
  refine load_dq ?_
  refine store_dq ?_
  refine load_dk ?_
  refine load_dk ?_
  refine store_dk ?_
  refine load_dv ?_
  refine load_dv ?_
  refine store_dv ?_
  refine run_pure ?_
  exact h _ rfl _ rfl _ rfl _ rfl _ rfl _ rfl _ rfl _ rfl _ rfl _ rfl _ rfl _ rfl _ rfl _ rfl

theorem part42 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v55 : FVec F S256x128 .bf16} {v67 : FVec F S256x128 .bf16} {k0_h3 : k0_cond3 i = 1#1} {v362 : BitVec 32} {v371 : FVec F S256x128 .bf16} {v494 : FVec F S256x128 .f32} {v513 : FVec F S256x256 .bf16} {v558 : FVec F S256x128 .f32} {v566 : FVec F S256x256 .bf16} {v653 : IVec S1x128 1}
    {Q : (Vec F S1x256x128 .f32) → sProp 𝕄}
    (h : ∀ v658 : Vec F S1x256x128 .f32, v658 = View.ld σ.dq (Rect.unit (s := S2x256x128) ![1, 0, 0] S1x256x128.size inb_S2x256x128_S1x256x128_1_0_0) →
      ∀ v662 : Vec F S1x256x128 .f32, v662 = View.ld σ.dq (Rect.unit (s := S2x256x128) ![1, 0, 0] S1x256x128.size inb_S2x256x128_S1x256x128_1_0_0) →
      ∀ σ1 : St F, σ1 = { σ with dq := Rect.overlay (Rect.unit (s := S2x256x128) ![1, 0, 0] S1x256x128.size inb_S2x256x128_S1x256x128_1_0_0) σ.dq (k0_pay377 v371 v566 v653 v658) } →
      ∀ v666 : Vec F S256x128 .f32, v666 = View.ld σ1.dk (Rect.unit (s := S2048x128) (k0_off4 i 1#32) S256x128.size (k0_off4_inb i k0_h3 1)) →
      ∀ v671 : Vec F S256x128 .f32, v671 = View.ld σ1.dk (Rect.unit (s := S2048x128) (k0_off4 i 1#32) S256x128.size (k0_off4_inb i k0_h3 1)) →
      ∀ σ2 : St F, σ2 = { σ1 with dk := Rect.overlay (Rect.unit (s := S2048x128) (k0_off4 i 1#32) S256x128.size (k0_off4_inb i k0_h3 1)) σ1.dk (k0_pay378 v55 v566 v666) } →
      ∀ v673 : Vec F S256x128 .f32, v673 = View.ld σ2.dv (Rect.unit (s := S2048x128) (k0_off4 i 1#32) S256x128.size (k0_off4_inb i k0_h3 1)) →
      ∀ v678 : Vec F S256x128 .f32, v678 = View.ld σ2.dv (Rect.unit (s := S2048x128) (k0_off4 i 1#32) S256x128.size (k0_off4_inb i k0_h3 1)) →
      ∀ σ3 : St F, σ3 = { σ2 with dv := Rect.overlay (Rect.unit (s := S2048x128) (k0_off4 i 1#32) S256x128.size (k0_off4_inb i k0_h3 1)) σ2.dv (k0_pay379 v67 v513 v673) } →
      ∀ v679 : Vec F S1x256x128 .f32, v679 = View.ld σ3.cc (Rect.unit (s := S2x256x128) ![0, 0, 0] S1x256x128.size inb_S2x256x128_S1x256x128_0_0_0) →
      ∀ σ4 : St F, σ4 = { σ3 with cc := Rect.overlay (Rect.unit (s := S2x256x128) ![0, 0, 0] S1x256x128.size inb_S2x256x128_S1x256x128_0_0_0) σ3.cc (k0_pay380 v494) } →
      ∀ v682 : Vec F S1x256x128 .f32, v682 = View.ld σ4.cg (Rect.unit (s := S2x256x128) ![0, 0, 0] S1x256x128.size inb_S2x256x128_S1x256x128_0_0_0) →
      ∀ σ5 : St F, σ5 = { σ4 with cg := Rect.overlay (Rect.unit (s := S2x256x128) ![0, 0, 0] S1x256x128.size inb_S2x256x128_S1x256x128_0_0_0) σ4.cg (k0_pay381 v558) } →
      ∀ v685 : Vec F S1x256x128 .f32, v685 = View.ld σ5.cc (Rect.unit (s := S2x256x128) ![1, 0, 0] S1x256x128.size inb_S2x256x128_S1x256x128_1_0_0) →
      Held c B σ5 ⊢ Q v685) :
    Held c B σ ⊢ Wp c (k0_part42 i B.a2 h2 B.a3 h3 B.a4 h4 B.a5 h5 B.a6 h6 a7 h7 B.a8 h8 B.a9 h9 B.a10 h10 B.a11 h11 B.a12 h12 B.a13 h13 v55 v67 k0_h3 v362 v371 v494 v513 v558 v566 v653) Q := by
  rw [k0_part42_eq_skeleton]; unfold k0_part42_skel
  refine load_dq ?_
  refine load_dq ?_
  refine store_dq ?_
  refine load_dk ?_
  refine load_dk ?_
  refine store_dk ?_
  refine load_dv ?_
  refine load_dv ?_
  refine store_dv ?_
  refine load_cc ?_
  refine store_cc ?_
  refine load_cg ?_
  refine store_cg ?_
  refine load_cc ?_
  refine run_pure ?_
  exact h _ rfl _ rfl _ rfl _ rfl _ rfl _ rfl _ rfl _ rfl _ rfl _ rfl _ rfl _ rfl _ rfl _ rfl

end Cert.Attn
-- ==== Proof.Tail58.lean ====
module

public import proofs.«01_k».proof.Proof.PartsB

/-!
# The left-over key blocks
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

theorem part58 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {E : Env F} {arg1 : BitVec 32} {c4_i32_47 : BitVec 32} {c0_i32_48 : BitVec 32}
    {Q : (BitVec 1) → sProp 𝕄}
    (h : ∀ τ1 : St F, τ1 = (if hc : k0_cond2 i = 1#1 then left1 E i hc σ else σ) →
      ∀ τ2 : St F, τ2 = (if hc : k0_cond3 i = 1#1 then left2 E i hc τ1 else τ1) →
      ∀ v145 : BitVec 1, v145 = Scalar.cmpi .eq 4#32 0#32 →
      ∀ v146 : BitVec 32, v146 = Scalar.select v145 1#32 4#32 →
      ∀ v147 : BitVec 32, v147 = Scalar.remsi arg1 v146 →
      ∀ v148 : BitVec 1, v148 = Scalar.cmpi .ne v147 0#32 →
      ∀ v149 : BitVec 1, v149 = Scalar.cmpi .slt v147 0#32 →
      ∀ v150 : BitVec 1, v150 = Scalar.cmpi .slt v146 0#32 →
      ∀ v151 : BitVec 1, v151 = Scalar.xori v149 v150 →
      ∀ v152 : BitVec 1, v152 = Scalar.andi v151 v148 →
      ∀ v153 : BitVec 32, v153 = Scalar.addi v147 v146 →
      ∀ v154 : BitVec 32, v154 = Scalar.select v152 v153 v147 →
      ∀ v155 : BitVec 1, v155 = Scalar.cmpi .eq v154 3#32 →
      Held c B τ2 ⊢ Q v155) :
    Held c B σ ⊢ Wp c (k0_part58 i B.a2 h2 B.a3 h3 B.a4 h4 B.a5 h5 B.a6 h6 a7 h7 B.a8 h8 B.a9 h9 B.a10 h10 B.a11 h11 B.a12 h12 B.a13 h13 arg1 E.half E.later E.before E.q0 E.q1 E.g0 E.g1 E.l0 E.l1 c4_i32_47 c0_i32_48) Q := by
  rw [k0_part58_eq_skeleton]; unfold k0_part58_skel
  lift_lets
  intro v145 v146 v147 v148 v149 v150 v151 v152 v153 v154 v155 jp2 jp1
  generalize ej1 : jp1 = j1
  refine run_dite j1 (if hc : k0_cond2 i = 1#1 then left1 E i hc σ else σ) ?_ ?_ ?_
  · intro hc h'; clear h ej1 jp1
    rw [dif_pos hc] at h'
    refine run_bind (part31 ?_)
    intro v355 ev355; subst v355
    intro v356 ev356; subst v356
    intro v357 ev357; subst v357
    intro v358 ev358; subst v358
    intro v360 ev360
    intro v363 ev363
    intro v361 ev361; have fv361 : v361 = (shapeCast S256x128 v360 shapeCasts_S256x128_S256x128) := ev361; clear ev361
    intro v366 ev366; have fv366 : v366 = (rowsMul E.q1 (shapeCast S256x128 v360 shapeCasts_S256x128_S256x128)) := ev366; clear ev366
    intro v373 ev373; have fv373 : v373 = (rowsMul E.g0 (keep E.half 0#32 (shapeCast S256x128 v363 shapeCasts_S256x128_S256x128))) := ev373; clear ev373
    intro v380 ev380; have fv380 : v380 = (rowsMul E.g1 (keep E.half 1#32 (shapeCast S256x128 v363 shapeCasts_S256x128_S256x128))) := ev380; clear ev380
    intro v390 ev390; have fv390 : v390 = (logSig (rowsMul E.q0 (shapeCast S256x128 v360 shapeCasts_S256x128_S256x128))) := ev390; clear ev390
    intro v391 ev391; have fv391 : v391 = (subf (logSig (rowsMul E.q0 (shapeCast S256x128 v360 shapeCasts_S256x128_S256x128))) (rowsMul E.q0 (shapeCast S256x128 v360 shapeCasts_S256x128_S256x128))) := ev391; clear ev391
    intro v393 ev393; subst v393
    intro v396 ev396; subst v396
    refine run_bind (part32 ?_)
    intro v407 ev407
    intro v409 ev409
    intro v411 ev411
    intro v413 ev413
    intro v401 ev401; have fv401 : v401 = (logSig (rowsMul E.q1 (shapeCast S256x128 v360 shapeCasts_S256x128_S256x128))) := ev401; clear ev401
    intro v412 ev412; have fv412 : v412 = (shapeCast S256x128 v411 shapeCasts_S1x256x128_S256x128) := ev412; clear ev412
    intro v414 ev414; have fv414 : v414 = (shapeCast S256x128 v413 shapeCasts_S1x256x128_S256x128) := ev414; clear ev414
    intro v418 ev418; have fv418 : v418 = (rowAdd (shapeCast S256x128 v407 shapeCasts_S1x256x128_S256x128) v391) := ev418; clear ev418
    intro v425 ev425; subst v425
    intro v426 ev426; have fv426 : v426 = (mulf v373 (wgt (fun x => x) E.l0 v390 (ordMul v391 E.later) (rowAdd (shapeCast S256x128 v407 shapeCasts_S1x256x128_S256x128) v391))) := ev426; clear ev426
    intro v430 ev430; have fv430 : v430 = (rowAdd (shapeCast S256x128 v409 shapeCasts_S1x256x128_S256x128) (subf (logSig (rowsMul E.q1 (shapeCast S256x128 v360 shapeCasts_S256x128_S256x128))) v366)) := ev430; clear ev430
    intro v437 ev437; subst v437
    intro v438 ev438; have fv438 : v438 = (mulf v380 (wgt (fun x => x) E.l1 (logSig (rowsMul E.q1 (shapeCast S256x128 v360 shapeCasts_S256x128_S256x128))) (ordMul (subf (logSig (rowsMul E.q1 (shapeCast S256x128 v360 shapeCasts_S256x128_S256x128))) v366) E.later) (rowAdd (shapeCast S256x128 v409 shapeCasts_S1x256x128_S256x128) (subf (logSig (rowsMul E.q1 (shapeCast S256x128 v360 shapeCasts_S256x128_S256x128))) v366)))) := ev438; clear ev438
    intro v439 ev439; subst v439
    refine run_bind (part33 ?_)
    intro v473 ev473
    intro v477 ev477
    intro σ1 eσ1
    have fσ1 : σ1 = { σ with dq := Rect.overlay (Rect.unit (s := S2x256x128) ![0, 0, 0] S1x256x128.size inb_S2x256x128_S1x256x128_0_0_0) σ.dq (shapeCast S1x256x128 (addf (shapeCast S256x128 v473 shapeCasts_S1x256x128_S256x128) (dqMul (scoreGrad (fun x => x) v390 v426 (ordMul (mulf v373 (wgt (fun x => x) E.l0 v390 (ordMul v391 E.later) (rowAdd (shapeCast S256x128 v407 shapeCasts_S1x256x128_S256x128) v391))) E.before) v412) (keep E.half 0#32 v361))) shapeCasts_S256x128_S1x256x128) } := eσ1; clear eσ1
    intro v481 ev481
    intro v454 ev454; have fv454 : v454 = (rowAdd v412 v426) := ev454; clear ev454
    intro v462 ev462; have fv462 : v462 = (scoreGrad (fun x => x) v401 v438 (ordMul v438 E.before) v414) := ev462; clear ev462
    intro v466 ev466; have fv466 : v466 = (rowAdd v414 v438) := ev466; clear ev466
    intro v482 ev482; have fv482 : v482 = (shapeCast S256x128 v481 shapeCasts_S256x128_S256x128) := ev482; clear ev482
    intro v483 ev483; have fv483 : v483 = (dkMul (scoreGrad (fun x => x) v390 v426 (ordMul (mulf v373 (wgt (fun x => x) E.l0 v390 (ordMul v391 E.later) (rowAdd (shapeCast S256x128 v407 shapeCasts_S1x256x128_S256x128) v391))) E.before) v412) E.q0) := ev483; clear ev483
    refine run_bind (part34 ?_)
    intro v486 ev486
    intro σ2 eσ2
    have fσ2 : σ2 = { σ1 with dk := Rect.overlay (Rect.unit (s := S2048x128) (k0_off3 i) S256x128.size (k0_off3_inb i hc)) σ1.dk (addf v482 v483) } := eσ2; clear eσ2
    intro v488 ev488
    intro v493 ev493
    intro σ3 eσ3
    have fσ3 : σ3 = { σ2 with dv := Rect.overlay (Rect.unit (s := S2048x128) (k0_off3 i) S256x128.size (k0_off3_inb i hc)) σ2.dv (addf (shapeCast S256x128 v488 shapeCasts_S256x128_S256x128) (dkMul (truncf .bf16 (wgt (fun x => x) E.l0 v390 (ordMul v391 E.later) (rowAdd (shapeCast S256x128 v407 shapeCasts_S1x256x128_S256x128) v391)) bitsLt_bf16_f32) E.g0)) } := eσ3; clear eσ3
    intro v500 ev500
    intro v504 ev504
    intro σ4 eσ4
    have fσ4 : σ4 = { σ3 with dq := Rect.overlay (Rect.unit (s := S2x256x128) ![1, 0, 0] S1x256x128.size inb_S2x256x128_S1x256x128_1_0_0) σ3.dq (shapeCast S1x256x128 (addf (shapeCast S256x128 v500 shapeCasts_S1x256x128_S256x128) (dqMul v462 (keep E.half 1#32 v361))) shapeCasts_S256x128_S1x256x128) } := eσ4; clear eσ4
    intro v508 ev508
    intro v513 ev513
    intro σ5 eσ5
    have fσ5 : σ5 = { σ4 with dk := Rect.overlay (Rect.unit (s := S2048x128) (k0_off3 i) S256x128.size (k0_off3_inb i hc)) σ4.dk (addf (shapeCast S256x128 v508 shapeCasts_S256x128_S256x128) (dkMul v462 E.q1)) } := eσ5; clear eσ5
    intro v515 ev515
    intro v520 ev520
    intro v518 ev518; subst v518
    refine store_dv ?_; refine name_state ?_
    intro σ6 eσ6
    have fσ6 : σ6 = { σ5 with dv := Rect.overlay (Rect.unit (s := S2048x128) (k0_off3 i) S256x128.size (k0_off3_inb i hc)) σ5.dv (addf (shapeCast S256x128 v515 shapeCasts_S256x128_S256x128) (dkMul (truncf .bf16 (wgt (fun x => x) E.l1 (logSig (rowsMul E.q1 (shapeCast S256x128 v360 shapeCasts_S256x128_S256x128))) (ordMul (subf (logSig (rowsMul E.q1 (shapeCast S256x128 v360 shapeCasts_S256x128_S256x128))) v366) E.later) (rowAdd (shapeCast S256x128 v409 shapeCasts_S1x256x128_S256x128) (subf (logSig (rowsMul E.q1 (shapeCast S256x128 v360 shapeCasts_S256x128_S256x128))) v366))) bitsLt_bf16_f32) E.g1)) } := eσ6; clear eσ6
    refine load_cc ?_
    refine store_cc ?_; refine name_state ?_
    intro σ7 eσ7
    have fσ7 : σ7 = { σ6 with cc := Rect.overlay (Rect.unit (s := S2x256x128) ![0, 0, 0] S1x256x128.size inb_S2x256x128_S1x256x128_0_0_0) σ6.cc (shapeCast S1x256x128 v418 shapeCasts_S256x128_S1x256x128) } := eσ7; clear eσ7
    refine load_cg ?_
    refine store_cg ?_; refine name_state ?_
    intro σ8 eσ8
    have fσ8 : σ8 = { σ7 with cg := Rect.overlay (Rect.unit (s := S2x256x128) ![0, 0, 0] S1x256x128.size inb_S2x256x128_S1x256x128_0_0_0) σ7.cg (shapeCast S1x256x128 v454 shapeCasts_S256x128_S1x256x128) } := eσ8; clear eσ8
    refine load_cc ?_
    refine store_cc ?_; refine name_state ?_
    intro σ9 eσ9
    have fσ9 : σ9 = { σ8 with cc := Rect.overlay (Rect.unit (s := S2x256x128) ![1, 0, 0] S1x256x128.size inb_S2x256x128_S1x256x128_1_0_0) σ8.cc (shapeCast S1x256x128 v430 shapeCasts_S256x128_S1x256x128) } := eσ9; clear eσ9
    refine load_cg ?_
    refine store_cg ?_; refine name_state ?_
    intro σ10 eσ10
    have fσ10 : σ10 = { σ9 with cg := Rect.overlay (Rect.unit (s := S2x256x128) ![1, 0, 0] S1x256x128.size inb_S2x256x128_S1x256x128_1_0_0) σ9.cg (shapeCast S1x256x128 v466 shapeCasts_S256x128_S1x256x128) } := eσ10; clear eσ10
    subst_vars
    with_reducible exact h'
  · intro hc h'; clear h ej1 jp1
    rw [dif_neg hc] at h'
    exact h'
  subst ej1; unfold jp1
  refine name_state ?_; intro τ1 eτ1; specialize h _ eτ1
  generalize ej2 : jp2 = j2
  refine run_dite j2 (if hc : k0_cond3 i = 1#1 then left2 E i hc τ1 else τ1) ?_ ?_ ?_
  · intro hc h'; clear h ej2 jp1 jp2
    rw [dif_pos hc] at h'; clear eτ1
    refine run_bind (part35 ?_)
    intro v355 ev355; subst v355
    intro v356 ev356; subst v356
    intro v357 ev357; subst v357
    intro v358 ev358; subst v358
    intro v359 ev359; subst v359
    intro v360 ev360; subst v360
    intro v361 ev361; subst v361
    intro v362 ev362; subst v362
    intro v364 ev364
    intro v367 ev367
    intro v370 ev370
    intro v373 ev373
    intro v365 ev365; have fv365 : v365 = (shapeCast S256x128 v364 shapeCasts_S256x128_S256x128) := ev365; clear ev365
    intro v371 ev371; have fv371 : v371 = (shapeCast S256x128 v370 shapeCasts_S256x128_S256x128) := ev371; clear ev371
    intro v374 ev374; have fv374 : v374 = (shapeCast S256x128 v373 shapeCasts_S256x128_S256x128) := ev374; clear ev374
    intro v375 ev375; have fv375 : v375 = (rowsMul E.q0 (shapeCast S256x128 v364 shapeCasts_S256x128_S256x128)) := ev375; clear ev375
    intro v376 ev376; have fv376 : v376 = (rowsMul E.q1 (shapeCast S256x128 v364 shapeCasts_S256x128_S256x128)) := ev376; clear ev376
    intro v377 ev377; have fv377 : v377 = (rowsMul E.q0 (shapeCast S256x128 v370 shapeCasts_S256x128_S256x128)) := ev377; clear ev377
    intro v378 ev378; have fv378 : v378 = (rowsMul E.q1 (shapeCast S256x128 v370 shapeCasts_S256x128_S256x128)) := ev378; clear ev378
    intro v385 ev385; have fv385 : v385 = (rowsMul E.g0 (keep E.half 0#32 (shapeCast S256x128 v367 shapeCasts_S256x128_S256x128))) := ev385; clear ev385
    intro v392 ev392; have fv392 : v392 = (rowsMul E.g1 (keep E.half 1#32 (shapeCast S256x128 v367 shapeCasts_S256x128_S256x128))) := ev392; clear ev392
    intro v393 ev393; subst v393
    refine run_bind (part36 ?_)
    intro v399 ev399; have fv399 : v399 = (rowsMul E.g0 (keep E.half 0#32 v374)) := ev399; clear ev399
    intro v406 ev406; have fv406 : v406 = (rowsMul E.g1 (keep E.half 1#32 v374)) := ev406; clear ev406
    intro v416 ev416; have fv416 : v416 = (logSig v375) := ev416; clear ev416
    intro v417 ev417; have fv417 : v417 = (subf (logSig v375) v375) := ev417; clear ev417
    intro v427 ev427; have fv427 : v427 = (logSig v376) := ev427; clear ev427
    intro v428 ev428; have fv428 : v428 = (subf (logSig v376) v376) := ev428; clear ev428
    intro v438 ev438; have fv438 : v438 = (logSig v377) := ev438; clear ev438
    intro v439 ev439; have fv439 : v439 = (subf (logSig v377) v377) := ev439; clear ev439
    refine run_bind (part37 ?_)
    intro v459 ev459
    intro v461 ev461
    intro v463 ev463
    intro v465 ev465
    intro v449 ev449; have fv449 : v449 = (logSig v378) := ev449; clear ev449
    intro v450 ev450; have fv450 : v450 = (subf (logSig v378) v378) := ev450; clear ev450
    intro v454 ev454; have fv454 : v454 = (ordMul v428 E.later) := ev454; clear ev454
    intro v456 ev456; have fv456 : v456 = (ordMul v439 E.later) := ev456; clear ev456
    intro v458 ev458; have fv458 : v458 = (ordMul (subf (logSig v378) v378) E.later) := ev458; clear ev458
    intro v462 ev462; have fv462 : v462 = (shapeCast S256x128 v461 shapeCasts_S1x256x128_S256x128) := ev462; clear ev462
    intro v464 ev464; have fv464 : v464 = (shapeCast S256x128 v463 shapeCasts_S1x256x128_S256x128) := ev464; clear ev464
    intro v466 ev466; have fv466 : v466 = (shapeCast S256x128 v465 shapeCasts_S1x256x128_S256x128) := ev466; clear ev466
    intro v470 ev470; have fv470 : v470 = (rowAdd (shapeCast S256x128 v459 shapeCasts_S1x256x128_S256x128) v417) := ev470; clear ev470
    intro v477 ev477; subst v477
    intro v478 ev478; have fv478 : v478 = (mulf v385 (wgt (fun x => x) E.l0 v416 (ordMul v417 E.later) (rowAdd (shapeCast S256x128 v459 shapeCasts_S1x256x128_S256x128) v417))) := ev478; clear ev478
    refine run_bind (part38 ?_)
    intro v489 ev489; subst v489
    intro v490 ev490; have fv490 : v490 = (mulf v392 (wgt (fun x => x) E.l1 v427 v454 (rowAdd v462 v428))) := ev490; clear ev490
    intro v494 ev494; have fv494 : v494 = (rowAdd v470 v439) := ev494; clear ev494
    intro v501 ev501; subst v501
    intro v502 ev502; have fv502 : v502 = (mulf v399 (wgt (fun x => x) E.l0 v438 v456 (rowAdd v470 v439))) := ev502; clear ev502
    intro v506 ev506; have fv506 : v506 = (rowAdd (rowAdd v462 v428) v450) := ev506; clear ev506
    intro v513 ev513; subst v513
    intro v514 ev514; have fv514 : v514 = (mulf v406 (wgt (fun x => x) E.l1 v449 v458 (rowAdd (rowAdd v462 v428) v450))) := ev514; clear ev514
    intro v518 ev518; have fv518 : v518 = (ordMul (mulf v392 (wgt (fun x => x) E.l1 v427 v454 (rowAdd v462 v428))) E.before) := ev518; clear ev518
    intro v520 ev520; have fv520 : v520 = (ordMul (mulf v399 (wgt (fun x => x) E.l0 v438 v456 (rowAdd v470 v439))) E.before) := ev520; clear ev520
    intro v522 ev522; have fv522 : v522 = (ordMul (mulf v406 (wgt (fun x => x) E.l1 v449 v458 (rowAdd (rowAdd v462 v428) v450))) E.before) := ev522; clear ev522
    intro v530 ev530; have fv530 : v530 = (scoreGrad (fun x => x) v416 v478 (ordMul v478 E.before) v464) := ev530; clear ev530
    intro v531 ev531; subst v531
    refine run_bind (part39 ?_)
    intro v577 ev577
    intro v542 ev542; have fv542 : v542 = (scoreGrad (fun x => x) v427 v490 v518 v466) := ev542; clear ev542
    intro v554 ev554; have fv554 : v554 = (scoreGrad (fun x => x) v438 v502 v520 (rowAdd v464 v478)) := ev554; clear ev554
    intro v558 ev558; have fv558 : v558 = (rowAdd (rowAdd v464 v478) v502) := ev558; clear ev558
    intro v566 ev566; have fv566 : v566 = (scoreGrad (fun x => x) v449 v514 v522 (rowAdd v466 v490)) := ev566; clear ev566
    intro v570 ev570; have fv570 : v570 = (rowAdd (rowAdd v466 v490) v514) := ev570; clear ev570
    intro v580 ev580; subst v580
    refine run_bind (part40 ?_)
    intro v581 ev581
    intro σ1 eσ1
    have fσ1 : σ1 = { τ1 with dq := Rect.overlay (Rect.unit (s := S2x256x128) ![0, 0, 0] S1x256x128.size inb_S2x256x128_S1x256x128_0_0_0) τ1.dq (shapeCast S1x256x128 (addf (shapeCast S256x128 v577 shapeCasts_S1x256x128_S256x128) (dqMul v530 (keep E.half 0#32 v365))) shapeCasts_S256x128_S1x256x128) } := eσ1; clear eσ1
    intro v585 ev585
    intro v590 ev590
    intro σ2 eσ2
    have fσ2 : σ2 = { σ1 with dk := Rect.overlay (Rect.unit (s := S2048x128) (k0_off4 i 0#32) S256x128.size (k0_off4_inb i hc 0)) σ1.dk (addf (shapeCast S256x128 v585 shapeCasts_S256x128_S256x128) (dkMul v530 E.q0)) } := eσ2; clear eσ2
    intro v592 ev592
    intro v597 ev597
    intro σ3 eσ3
    have fσ3 : σ3 = { σ2 with dv := Rect.overlay (Rect.unit (s := S2048x128) (k0_off4 i 0#32) S256x128.size (k0_off4_inb i hc 0)) σ2.dv (addf (shapeCast S256x128 v592 shapeCasts_S256x128_S256x128) (dkMul (truncf .bf16 (wgt (fun x => x) E.l0 v416 (ordMul v417 E.later) (rowAdd (shapeCast S256x128 v459 shapeCasts_S1x256x128_S256x128) v417)) bitsLt_bf16_f32) E.g0)) } := eσ3; clear eσ3
    intro v604 ev604
    intro v608 ev608
    intro σ4 eσ4
    have fσ4 : σ4 = { σ3 with dq := Rect.overlay (Rect.unit (s := S2x256x128) ![1, 0, 0] S1x256x128.size inb_S2x256x128_S1x256x128_1_0_0) σ3.dq (shapeCast S1x256x128 (addf (shapeCast S256x128 v604 shapeCasts_S1x256x128_S256x128) (dqMul v542 (keep E.half 1#32 v365))) shapeCasts_S256x128_S1x256x128) } := eσ4; clear eσ4
    intro v612 ev612
    intro v617 ev617
    intro v615 ev615; subst v615
    refine run_bind (part41 ?_)
    intro σ5 eσ5
    have fσ5 : σ5 = { σ4 with dk := Rect.overlay (Rect.unit (s := S2048x128) (k0_off4 i 0#32) S256x128.size (k0_off4_inb i hc 0)) σ4.dk (addf (shapeCast S256x128 v612 shapeCasts_S256x128_S256x128) (dkMul v542 E.q1)) } := eσ5; clear eσ5
    intro v619 ev619
    intro v624 ev624
    intro σ6 eσ6
    have fσ6 : σ6 = { σ5 with dv := Rect.overlay (Rect.unit (s := S2048x128) (k0_off4 i 0#32) S256x128.size (k0_off4_inb i hc 0)) σ5.dv (addf (shapeCast S256x128 v619 shapeCasts_S256x128_S256x128) (dkMul (truncf .bf16 (wgt (fun x => x) E.l1 v427 v454 (rowAdd v462 v428)) bitsLt_bf16_f32) E.g1)) } := eσ6; clear eσ6
    intro v631 ev631
    intro v635 ev635
    intro σ7 eσ7
    have fσ7 : σ7 = { σ6 with dq := Rect.overlay (Rect.unit (s := S2x256x128) ![0, 0, 0] S1x256x128.size inb_S2x256x128_S1x256x128_0_0_0) σ6.dq (shapeCast S1x256x128 (addf (shapeCast S256x128 v631 shapeCasts_S1x256x128_S256x128) (dqMul v554 (keep E.half 0#32 v371))) shapeCasts_S256x128_S1x256x128) } := eσ7; clear eσ7
    intro v639 ev639
    intro v644 ev644
    intro σ8 eσ8
    have fσ8 : σ8 = { σ7 with dk := Rect.overlay (Rect.unit (s := S2048x128) (k0_off4 i 1#32) S256x128.size (k0_off4_inb i hc 1)) σ7.dk (addf (shapeCast S256x128 v639 shapeCasts_S256x128_S256x128) (dkMul v554 E.q0)) } := eσ8; clear eσ8
    intro v646 ev646
    intro v651 ev651
    intro σ9 eσ9
    have fσ9 : σ9 = { σ8 with dv := Rect.overlay (Rect.unit (s := S2048x128) (k0_off4 i 1#32) S256x128.size (k0_off4_inb i hc 1)) σ8.dv (addf (shapeCast S256x128 v646 shapeCasts_S256x128_S256x128) (dkMul (truncf .bf16 (wgt (fun x => x) E.l0 v438 v456 (rowAdd v470 v439)) bitsLt_bf16_f32) E.g0)) } := eσ9; clear eσ9
    intro v653 ev653; subst v653
    refine run_bind (part42 ?_)
    intro v658 ev658
    intro v662 ev662
    intro σ10 eσ10
    have fσ10 : σ10 = { σ9 with dq := Rect.overlay (Rect.unit (s := S2x256x128) ![1, 0, 0] S1x256x128.size inb_S2x256x128_S1x256x128_1_0_0) σ9.dq (shapeCast S1x256x128 (addf (shapeCast S256x128 v658 shapeCasts_S1x256x128_S256x128) (dqMul v566 (keep E.half 1#32 v371))) shapeCasts_S256x128_S1x256x128) } := eσ10; clear eσ10
    intro v666 ev666
    intro v671 ev671
    intro σ11 eσ11
    have fσ11 : σ11 = { σ10 with dk := Rect.overlay (Rect.unit (s := S2048x128) (k0_off4 i 1#32) S256x128.size (k0_off4_inb i hc 1)) σ10.dk (addf (shapeCast S256x128 v666 shapeCasts_S256x128_S256x128) (dkMul v566 E.q1)) } := eσ11; clear eσ11
    intro v673 ev673
    intro v678 ev678
    intro σ12 eσ12
    have fσ12 : σ12 = { σ11 with dv := Rect.overlay (Rect.unit (s := S2048x128) (k0_off4 i 1#32) S256x128.size (k0_off4_inb i hc 1)) σ11.dv (addf (shapeCast S256x128 v673 shapeCasts_S256x128_S256x128) (dkMul (truncf .bf16 (wgt (fun x => x) E.l1 v449 v458 (rowAdd (rowAdd v462 v428) v450)) bitsLt_bf16_f32) E.g1)) } := eσ12; clear eσ12
    intro v679 ev679
    intro σ13 eσ13
    have fσ13 : σ13 = { σ12 with cc := Rect.overlay (Rect.unit (s := S2x256x128) ![0, 0, 0] S1x256x128.size inb_S2x256x128_S1x256x128_0_0_0) σ12.cc (shapeCast S1x256x128 v494 shapeCasts_S256x128_S1x256x128) } := eσ13; clear eσ13
    intro v682 ev682
    intro σ14 eσ14
    have fσ14 : σ14 = { σ13 with cg := Rect.overlay (Rect.unit (s := S2x256x128) ![0, 0, 0] S1x256x128.size inb_S2x256x128_S1x256x128_0_0_0) σ13.cg (shapeCast S1x256x128 v558 shapeCasts_S256x128_S1x256x128) } := eσ14; clear eσ14
    intro v685 ev685
    refine store_cc ?_; refine name_state ?_
    intro σ15 eσ15
    have fσ15 : σ15 = { σ14 with cc := Rect.overlay (Rect.unit (s := S2x256x128) ![1, 0, 0] S1x256x128.size inb_S2x256x128_S1x256x128_1_0_0) σ14.cc (shapeCast S1x256x128 v506 shapeCasts_S256x128_S1x256x128) } := eσ15; clear eσ15
    refine load_cg ?_
    refine store_cg ?_; refine name_state ?_
    intro σ16 eσ16
    have fσ16 : σ16 = { σ15 with cg := Rect.overlay (Rect.unit (s := S2x256x128) ![1, 0, 0] S1x256x128.size inb_S2x256x128_S1x256x128_1_0_0) σ15.cg (shapeCast S1x256x128 v570 shapeCasts_S256x128_S1x256x128) } := eσ16; clear eσ16
    subst_vars
    with_reducible exact h'
  · intro hc h'; clear h ej2 jp1 jp2
    rw [dif_neg hc] at h'
    exact h'
  subst ej2; unfold jp2
  refine name_state ?_; intro τ2 eτ2; specialize h _ eτ2
  refine run_pure ?_
  exact h _ rfl _ rfl _ rfl _ rfl _ rfl _ rfl _ rfl _ rfl _ rfl _ rfl _ rfl

end Cert.Attn
-- ==== Proof.PartsC.lean ====
module

public import proofs.«01_k».proof.Proof.Spec

/-!
# The pieces of three left-over key blocks and of the diagonal, each as what it hands on
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

theorem part43 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {arg1 : BitVec 32} {v24 : IVec S1x128 32} {v49 : FVec F S256x128 .bf16} {v55 : FVec F S256x128 .bf16} {k0_h4 : k0_cond4 i = 1#1}
    {Q : (Σ' (v362 : BitVec 32) (v364 : BitVec 32) (v366 : BitVec 32) (v369 : FVec F S256x128 .bf16) (v372 : FVec F S256x128 .bf16) (v375 : FVec F S256x128 .bf16) (v378 : FVec F S256x128 .bf16) (v381 : FVec F S256x128 .bf16) (v384 : FVec F S256x128 .bf16) (v385 : FVec F S256x256 .f32) (v386 : FVec F S256x256 .f32) (v387 : FVec F S256x256 .f32) (v388 : FVec F S256x256 .f32) (v389 : FVec F S256x256 .f32) (v390 : FVec F S256x256 .f32), IVec S1x128 1) → sProp 𝕄}
    (h : ∀ v355 : BitVec 32, v355 = Scalar.subi arg1 3#32 →
      ∀ v356 : BitVec 32, v356 = Scalar.addi v355 0#32 →
      ∀ v357 : BitVec 32, v357 = Scalar.subi arg1 3#32 →
      ∀ v358 : BitVec 32, v358 = Scalar.addi v357 1#32 →
      ∀ v359 : BitVec 32, v359 = Scalar.subi arg1 3#32 →
      ∀ v360 : BitVec 32, v360 = Scalar.addi v359 2#32 →
      ∀ v361 : BitVec 32, v361 = Scalar.muli v356 256#32 →
      ∀ v362 : BitVec 32, v362 = v361 →
      ∀ v363 : BitVec 32, v363 = Scalar.muli v358 256#32 →
      ∀ v364 : BitVec 32, v364 = v363 →
      ∀ v365 : BitVec 32, v365 = Scalar.muli v360 256#32 →
      ∀ v366 : BitVec 32, v366 = v365 →
      ∀ v368 : Vec F S256x128 .bf16, v368 = View.ld σ.k (Rect.unit (s := S2048x128) (k0_off5 i 0#32) S256x128.size (k0_off5_inb i k0_h4 0)) →
      ∀ v371 : Vec F S256x128 .bf16, v371 = View.ld σ.v (Rect.unit (s := S2048x128) (k0_off5 i 0#32) S256x128.size (k0_off5_inb i k0_h4 0)) →
      ∀ v374 : Vec F S256x128 .bf16, v374 = View.ld σ.k (Rect.unit (s := S2048x128) (k0_off5 i 1#32) S256x128.size (k0_off5_inb i k0_h4 1)) →
      ∀ v377 : Vec F S256x128 .bf16, v377 = View.ld σ.v (Rect.unit (s := S2048x128) (k0_off5 i 1#32) S256x128.size (k0_off5_inb i k0_h4 1)) →
      ∀ v380 : Vec F S256x128 .bf16, v380 = View.ld σ.k (Rect.unit (s := S2048x128) (k0_off5 i 2#32) S256x128.size (k0_off5_inb i k0_h4 2)) →
      ∀ v383 : Vec F S256x128 .bf16, v383 = View.ld σ.v (Rect.unit (s := S2048x128) (k0_off5 i 2#32) S256x128.size (k0_off5_inb i k0_h4 2)) →
      ∀ v369 : FVec F S256x128 .bf16, v369 = k0_pay382 v368 →
      ∀ v372 : FVec F S256x128 .bf16, v372 = k0_pay383 v371 →
      ∀ v375 : FVec F S256x128 .bf16, v375 = k0_pay384 v374 →
      ∀ v378 : FVec F S256x128 .bf16, v378 = k0_pay385 v377 →
      ∀ v381 : FVec F S256x128 .bf16, v381 = k0_pay386 v380 →
      ∀ v384 : FVec F S256x128 .bf16, v384 = k0_pay387 v383 →
      ∀ v385 : FVec F S256x256 .f32, v385 = k0_pay388 v49 v368 →
      ∀ v386 : FVec F S256x256 .f32, v386 = k0_pay389 v55 v368 →
      ∀ v387 : FVec F S256x256 .f32, v387 = k0_pay390 v49 v374 →
      ∀ v388 : FVec F S256x256 .f32, v388 = k0_pay391 v55 v374 →
      ∀ v389 : FVec F S256x256 .f32, v389 = k0_pay392 v49 v380 →
      ∀ v390 : FVec F S256x256 .f32, v390 = k0_pay393 v55 v380 →
      ∀ vr : IVec S1x128 1, vr = k0_pay394 v24 →
      Held c B σ ⊢ Q ⟨v362, v364, v366, v369, v372, v375, v378, v381, v384, v385, v386, v387, v388, v389, v390, vr⟩) :
    Held c B σ ⊢ Wp c (k0_part43 i B.a2 h2 B.a3 h3 B.a4 h4 B.a5 h5 B.a6 h6 a7 h7 B.a8 h8 B.a9 h9 B.a10 h10 B.a11 h11 B.a12 h12 B.a13 h13 arg1 v24 v49 v55 k0_h4) Q := by
  rw [k0_part43_eq_skeleton]; unfold k0_part43_skel
  refine load_k ?_
  refine load_v ?_
  refine load_k ?_
  refine load_v ?_
  refine load_k ?_
  refine load_v ?_
  refine run_pure ?_
  exact h _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl

theorem part44 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v61 : FVec F S256x128 .bf16} {v67 : FVec F S256x128 .bf16} {v372 : FVec F S256x128 .bf16} {v378 : FVec F S256x128 .bf16} {v384 : FVec F S256x128 .bf16} {v385 : FVec F S256x256 .f32} {v392 : IVec S1x128 1}
    {Q : (Σ' (v397 : FVec F S256x256 .f32) (v404 : FVec F S256x256 .f32) (v411 : FVec F S256x256 .f32) (v418 : FVec F S256x256 .f32) (v425 : FVec F S256x256 .f32) (v432 : FVec F S256x256 .f32), FVec F S256x256 .f32) → sProp 𝕄}
    (h : ∀ v397 : FVec F S256x256 .f32, v397 = k0_pay395 v61 v372 v392 →
      ∀ v404 : FVec F S256x256 .f32, v404 = k0_pay396 v24 v67 v372 →
      ∀ v411 : FVec F S256x256 .f32, v411 = k0_pay397 v24 v61 v378 →
      ∀ v418 : FVec F S256x256 .f32, v418 = k0_pay398 v24 v67 v378 →
      ∀ v425 : FVec F S256x256 .f32, v425 = k0_pay399 v24 v61 v384 →
      ∀ v432 : FVec F S256x256 .f32, v432 = k0_pay400 v24 v67 v384 →
      ∀ vr : FVec F S256x256 .f32, vr = k0_pay401 v385 →
      Held c B σ ⊢ Q ⟨v397, v404, v411, v418, v425, v432, vr⟩) :
    Held c B σ ⊢ Wp c (k0_part44 i B.a2 h2 B.a3 h3 B.a4 h4 B.a5 h5 B.a6 h6 a7 h7 B.a8 h8 B.a9 h9 B.a10 h10 B.a11 h11 B.a12 h12 B.a13 h13 v24 v61 v67 v372 v378 v384 v385 v392) Q := by
  rw [k0_part44_eq_skeleton]; unfold k0_part44_skel
  refine run_pure ?_
  exact h _ rfl _ rfl _ rfl _ rfl _ rfl _ rfl _ rfl

theorem part45 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v385 : FVec F S256x256 .f32} {v386 : FVec F S256x256 .f32} {v387 : FVec F S256x256 .f32} {v388 : FVec F S256x256 .f32} {v389 : FVec F S256x256 .f32} {v434 : FVec F S256x256 .f32}
    {Q : (Σ' (v442 : FVec F S256x256 .f32) (v443 : FVec F S256x256 .f32) (v453 : FVec F S256x256 .f32) (v454 : FVec F S256x256 .f32) (v464 : FVec F S256x256 .f32) (v465 : FVec F S256x256 .f32) (v475 : FVec F S256x256 .f32) (v476 : FVec F S256x256 .f32) (v478 : FVec F S256x256 .f32), FVec F S256x256 .f32) → sProp 𝕄}
    (h : ∀ v442 : FVec F S256x256 .f32, v442 = k0_pay402 v385 v434 →
      ∀ v443 : FVec F S256x256 .f32, v443 = k0_pay403 v385 v434 →
      ∀ v453 : FVec F S256x256 .f32, v453 = k0_pay404 v386 →
      ∀ v454 : FVec F S256x256 .f32, v454 = k0_pay405 v386 →
      ∀ v464 : FVec F S256x256 .f32, v464 = k0_pay406 v387 →
      ∀ v465 : FVec F S256x256 .f32, v465 = k0_pay407 v387 →
      ∀ v475 : FVec F S256x256 .f32, v475 = k0_pay408 v388 →
      ∀ v476 : FVec F S256x256 .f32, v476 = k0_pay409 v388 →
      ∀ v478 : FVec F S256x256 .f32, v478 = k0_pay410 v389 →
      ∀ vr : FVec F S256x256 .f32, vr = k0_pay411 v389 →
      Held c B σ ⊢ Q ⟨v442, v443, v453, v454, v464, v465, v475, v476, v478, vr⟩) :
    Held c B σ ⊢ Wp c (k0_part45 i B.a2 h2 B.a3 h3 B.a4 h4 B.a5 h5 B.a6 h6 a7 h7 B.a8 h8 B.a9 h9 B.a10 h10 B.a11 h11 B.a12 h12 B.a13 h13 v385 v386 v387 v388 v389 v434) Q := by
  rw [k0_part45_eq_skeleton]; unfold k0_part45_skel
  refine run_pure ?_
  exact h _ rfl _ rfl _ rfl _ rfl _ rfl _ rfl _ rfl _ rfl _ rfl _ rfl

theorem part46 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v31 : FVec F S256x256 .bf16} {v389 : FVec F S256x256 .f32} {v390 : FVec F S256x256 .f32} {v443 : FVec F S256x256 .f32} {v454 : FVec F S256x256 .f32} {v465 : FVec F S256x256 .f32} {v476 : FVec F S256x256 .f32} {v478 : FVec F S256x256 .f32} {v481 : FVec F S256x256 .f32}
    {Q : (Σ' (v486 : FVec F S256x256 .f32) (v487 : FVec F S256x256 .f32) (v497 : FVec F S256x256 .f32) (v498 : FVec F S256x256 .f32) (v500 : FVec F S256x256 .f32) (v502 : FVec F S256x256 .f32) (v504 : FVec F S256x256 .f32) (v506 : FVec F S256x256 .f32) (v508 : FVec F S256x256 .f32) (v510 : FVec F S256x256 .f32) (v512 : FVec F S256x128 .f32) (v514 : FVec F S256x128 .f32) (v516 : FVec F S256x128 .f32), FVec F S256x128 .f32) → sProp 𝕄}
    (h : ∀ v511 : Vec F S1x256x128 .f32, v511 = View.ld σ.cc (Rect.unit (s := S2x256x128) ![0, 0, 0] S1x256x128.size inb_S2x256x128_S1x256x128_0_0_0) →
      ∀ v513 : Vec F S1x256x128 .f32, v513 = View.ld σ.cc (Rect.unit (s := S2x256x128) ![1, 0, 0] S1x256x128.size inb_S2x256x128_S1x256x128_1_0_0) →
      ∀ v515 : Vec F S1x256x128 .f32, v515 = View.ld σ.cg (Rect.unit (s := S2x256x128) ![0, 0, 0] S1x256x128.size inb_S2x256x128_S1x256x128_0_0_0) →
      ∀ v517 : Vec F S1x256x128 .f32, v517 = View.ld σ.cg (Rect.unit (s := S2x256x128) ![1, 0, 0] S1x256x128.size inb_S2x256x128_S1x256x128_1_0_0) →
      ∀ v486 : FVec F S256x256 .f32, v486 = k0_pay412 v478 v481 →
      ∀ v487 : FVec F S256x256 .f32, v487 = k0_pay413 v389 v478 v481 →
      ∀ v497 : FVec F S256x256 .f32, v497 = k0_pay414 v390 →
      ∀ v498 : FVec F S256x256 .f32, v498 = k0_pay415 v390 →
      ∀ v500 : FVec F S256x256 .f32, v500 = k0_pay416 v31 v443 →
      ∀ v502 : FVec F S256x256 .f32, v502 = k0_pay417 v31 v454 →
      ∀ v504 : FVec F S256x256 .f32, v504 = k0_pay418 v31 v465 →
      ∀ v506 : FVec F S256x256 .f32, v506 = k0_pay419 v31 v476 →
      ∀ v508 : FVec F S256x256 .f32, v508 = k0_pay420 v31 v389 v478 v481 →
      ∀ v510 : FVec F S256x256 .f32, v510 = k0_pay421 v31 v390 →
      ∀ v512 : FVec F S256x128 .f32, v512 = k0_pay422 v511 →
      ∀ v514 : FVec F S256x128 .f32, v514 = k0_pay423 v513 →
      ∀ v516 : FVec F S256x128 .f32, v516 = k0_pay424 v515 →
      ∀ vr : FVec F S256x128 .f32, vr = k0_pay425 v517 →
      Held c B σ ⊢ Q ⟨v486, v487, v497, v498, v500, v502, v504, v506, v508, v510, v512, v514, v516, vr⟩) :
    Held c B σ ⊢ Wp c (k0_part46 i B.a2 h2 B.a3 h3 B.a4 h4 B.a5 h5 B.a6 h6 a7 h7 B.a8 h8 B.a9 h9 B.a10 h10 B.a11 h11 B.a12 h12 B.a13 h13 v31 v389 v390 v443 v454 v465 v476 v478 v481) Q := by
  rw [k0_part46_eq_skeleton]; unfold k0_part46_skel
  refine load_cc ?_
  refine load_cc ?_
  refine load_cg ?_
  refine load_cg ?_
  refine run_pure ?_
  exact h _ rfl _ rfl _ rfl _ rfl _ rfl _ rfl _ rfl _ rfl _ rfl _ rfl _ rfl _ rfl _ rfl _ rfl _ rfl _ rfl _ rfl _ rfl

theorem part47 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v73 : FVec F S256x1 .f32} {v79 : FVec F S256x1 .f32} {v397 : FVec F S256x256 .f32} {v404 : FVec F S256x256 .f32} {v411 : FVec F S256x256 .f32} {v418 : FVec F S256x256 .f32} {v442 : FVec F S256x256 .f32} {v443 : FVec F S256x256 .f32} {v453 : FVec F S256x256 .f32} {v454 : FVec F S256x256 .f32} {v464 : FVec F S256x256 .f32} {v465 : FVec F S256x256 .f32} {v475 : FVec F S256x256 .f32} {v476 : FVec F S256x256 .f32} {v486 : FVec F S256x256 .f32} {v487 : FVec F S256x256 .f32} {v500 : FVec F S256x256 .f32} {v502 : FVec F S256x256 .f32} {v504 : FVec F S256x256 .f32} {v506 : FVec F S256x256 .f32} {v508 : FVec F S256x256 .f32} {v512 : FVec F S256x128 .f32} {v514 : FVec F S256x128 .f32}
    {Q : (Σ' (v529 : FVec F S256x256 .bf16) (v530 : FVec F S256x256 .f32) (v541 : FVec F S256x256 .bf16) (v542 : FVec F S256x256 .f32) (v553 : FVec F S256x256 .bf16) (v554 : FVec F S256x256 .f32) (v558 : FVec F S256x128 .f32) (v565 : FVec F S256x256 .bf16) (v566 : FVec F S256x256 .f32) (v570 : FVec F S256x128 .f32) (v571 : FVec F S256x256 .f32), FVec F S256x256 .f32) → sProp 𝕄}
    (h : ∀ v529 : FVec F S256x256 .bf16, v529 = k0_pay428 v73 v442 v443 v500 v512 →
      ∀ v530 : FVec F S256x256 .f32, v530 = k0_pay429 v73 v397 v442 v443 v500 v512 →
      ∀ v541 : FVec F S256x256 .bf16, v541 = k0_pay432 v79 v453 v454 v502 v514 →
      ∀ v542 : FVec F S256x256 .f32, v542 = k0_pay433 v79 v404 v453 v454 v502 v514 →
      ∀ v553 : FVec F S256x256 .bf16, v553 = k0_pay436 v73 v443 v464 v465 v504 v512 →
      ∀ v554 : FVec F S256x256 .f32, v554 = k0_pay437 v73 v411 v443 v464 v465 v504 v512 →
      ∀ v558 : FVec F S256x128 .f32, v558 = k0_pay438 v454 v476 v514 →
      ∀ v565 : FVec F S256x256 .bf16, v565 = k0_pay440 v79 v454 v475 v476 v506 v514 →
      ∀ v566 : FVec F S256x256 .f32, v566 = k0_pay441 v79 v418 v454 v475 v476 v506 v514 →
      ∀ v570 : FVec F S256x128 .f32, v570 = k0_pay442 v443 v465 v487 v512 →
      ∀ v571 : FVec F S256x256 .f32, v571 = k0_pay443 v486 v508 →
      ∀ vr : FVec F S256x256 .f32, vr = k0_pay444 v73 v443 v465 v487 v512 →
      Held c B σ ⊢ Q ⟨v529, v530, v541, v542, v553, v554, v558, v565, v566, v570, v571, vr⟩) :
    Held c B σ ⊢ Wp c (k0_part47 i B.a2 h2 B.a3 h3 B.a4 h4 B.a5 h5 B.a6 h6 a7 h7 B.a8 h8 B.a9 h9 B.a10 h10 B.a11 h11 B.a12 h12 B.a13 h13 v73 v79 v397 v404 v411 v418 v442 v443 v453 v454 v464 v465 v475 v476 v486 v487 v500 v502 v504 v506 v508 v512 v514) Q := by
  rw [k0_part47_eq_skeleton]; unfold k0_part47_skel
  refine run_pure ?_
  exact h _ rfl _ rfl _ rfl _ rfl _ rfl _ rfl _ rfl _ rfl _ rfl _ rfl _ rfl _ rfl

theorem part48 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v37 : FVec F S256x256 .bf16} {v79 : FVec F S256x1 .f32} {v425 : FVec F S256x256 .f32} {v432 : FVec F S256x256 .f32} {v442 : FVec F S256x256 .f32} {v453 : FVec F S256x256 .f32} {v497 : FVec F S256x256 .f32} {v498 : FVec F S256x256 .f32} {v510 : FVec F S256x256 .f32} {v516 : FVec F S256x128 .f32} {v518 : FVec F S256x128 .f32} {v530 : FVec F S256x256 .f32} {v542 : FVec F S256x256 .f32} {v554 : FVec F S256x256 .f32} {v558 : FVec F S256x128 .f32} {v566 : FVec F S256x256 .f32} {v571 : FVec F S256x256 .f32} {v574 : FVec F S256x256 .f32}
    {Q : (Σ' (v577 : FVec F S256x256 .bf16) (v578 : FVec F S256x256 .f32) (v582 : FVec F S256x128 .f32) (v589 : FVec F S256x256 .bf16) (v590 : FVec F S256x256 .f32) (v596 : FVec F S256x256 .f32) (v598 : FVec F S256x256 .f32) (v600 : FVec F S256x256 .f32) (v602 : FVec F S256x256 .f32) (v610 : FVec F S256x256 .bf16) (v614 : FVec F S256x128 .f32) (v622 : FVec F S256x256 .bf16), FVec F S256x128 .f32) → sProp 𝕄}
    (h : ∀ v577 : FVec F S256x256 .bf16, v577 = k0_pay446 v571 v574 →
      ∀ v578 : FVec F S256x256 .f32, v578 = k0_pay447 v425 v571 v574 →
      ∀ v582 : FVec F S256x128 .f32, v582 = k0_pay448 v498 v558 →
      ∀ v589 : FVec F S256x256 .bf16, v589 = k0_pay450 v79 v497 v498 v510 v558 →
      ∀ v590 : FVec F S256x256 .f32, v590 = k0_pay451 v79 v432 v497 v498 v510 v558 →
      ∀ v596 : FVec F S256x256 .f32, v596 = k0_pay452 v37 v554 →
      ∀ v598 : FVec F S256x256 .f32, v598 = k0_pay453 v37 v566 →
      ∀ v600 : FVec F S256x256 .f32, v600 = k0_pay454 v37 v425 v571 v574 →
      ∀ v602 : FVec F S256x256 .f32, v602 = k0_pay455 v37 v79 v432 v497 v498 v510 v558 →
      ∀ v610 : FVec F S256x256 .bf16, v610 = k0_pay456 v37 v442 v516 v530 →
      ∀ v614 : FVec F S256x128 .f32, v614 = k0_pay457 v516 v530 →
      ∀ v622 : FVec F S256x256 .bf16, v622 = k0_pay458 v37 v453 v518 v542 →
      ∀ vr : FVec F S256x128 .f32, vr = k0_pay459 v542 →
      Held c B σ ⊢ Q ⟨v577, v578, v582, v589, v590, v596, v598, v600, v602, v610, v614, v622, vr⟩) :
    Held c B σ ⊢ Wp c (k0_part48 i B.a2 h2 B.a3 h3 B.a4 h4 B.a5 h5 B.a6 h6 a7 h7 B.a8 h8 B.a9 h9 B.a10 h10 B.a11 h11 B.a12 h12 B.a13 h13 v37 v79 v425 v432 v442 v453 v497 v498 v510 v516 v518 v530 v542 v554 v558 v566 v571 v574) Q := by
  rw [k0_part48_eq_skeleton]; unfold k0_part48_skel
  refine run_pure ?_
  exact h _ rfl _ rfl _ rfl _ rfl _ rfl _ rfl _ rfl _ rfl _ rfl _ rfl _ rfl _ rfl _ rfl

theorem part49 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v464 : FVec F S256x256 .f32} {v475 : FVec F S256x256 .f32} {v486 : FVec F S256x256 .f32} {v497 : FVec F S256x256 .f32} {v518 : FVec F S256x128 .f32} {v554 : FVec F S256x256 .f32} {v566 : FVec F S256x256 .f32} {v578 : FVec F S256x256 .f32} {v590 : FVec F S256x256 .f32} {v596 : FVec F S256x256 .f32} {v598 : FVec F S256x256 .f32} {v600 : FVec F S256x256 .f32} {v602 : FVec F S256x256 .f32} {v614 : FVec F S256x128 .f32} {v625 : FVec F S256x128 .f32}
    {Q : (Σ' (v634 : FVec F S256x256 .bf16) (v646 : FVec F S256x256 .bf16) (v658 : FVec F S256x256 .bf16) (v662 : FVec F S256x128 .f32) (v670 : FVec F S256x256 .bf16) (v674 : FVec F S256x128 .f32) (v677 : FVec F S256x128 .bf16), IVec S256x128 1) → sProp 𝕄}
    (h : ∀ v634 : FVec F S256x256 .bf16, v634 = k0_pay461 v464 v554 v596 v614 →
      ∀ v646 : FVec F S256x256 .bf16, v646 = k0_pay463 v475 v518 v566 v598 v625 →
      ∀ v658 : FVec F S256x256 .bf16, v658 = k0_pay465 v486 v554 v578 v600 v614 →
      ∀ v662 : FVec F S256x128 .f32, v662 = k0_pay466 v554 v578 v614 →
      ∀ v670 : FVec F S256x256 .bf16, v670 = k0_pay467 v497 v518 v566 v590 v602 v625 →
      ∀ v674 : FVec F S256x128 .f32, v674 = k0_pay468 v518 v566 v590 v625 →
      ∀ v677 : FVec F S256x128 .bf16, v677 = k0_pay469 (F := F) →
      ∀ vr : IVec S256x128 1, vr = k0_pay470 v24 →
      Held c B σ ⊢ Q ⟨v634, v646, v658, v662, v670, v674, v677, vr⟩) :
    Held c B σ ⊢ Wp c (k0_part49 i B.a2 h2 B.a3 h3 B.a4 h4 B.a5 h5 B.a6 h6 a7 h7 B.a8 h8 B.a9 h9 B.a10 h10 B.a11 h11 B.a12 h12 B.a13 h13 v24 v464 v475 v486 v497 v518 v554 v566 v578 v590 v596 v598 v600 v602 v614 v625) Q := by
  rw [k0_part49_eq_skeleton]; unfold k0_part49_skel
  refine run_pure ?_
  exact h _ rfl _ rfl _ rfl _ rfl _ rfl _ rfl _ rfl _ rfl

theorem part50 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v61 : FVec F S256x128 .bf16} {k0_h4 : k0_cond4 i = 1#1} {v362 : BitVec 32} {v369 : FVec F S256x128 .bf16} {v529 : FVec F S256x256 .bf16} {v610 : FVec F S256x256 .bf16} {v622 : FVec F S256x256 .bf16} {v677 : FVec F S256x128 .bf16} {v679 : IVec S256x128 1}
    {Q : (FVec F S1x256x128 .f32) → sProp 𝕄}
    (h : ∀ v681 : Vec F S1x256x128 .f32, v681 = View.ld σ.dq (Rect.unit (s := S2x256x128) ![0, 0, 0] S1x256x128.size inb_S2x256x128_S1x256x128_0_0_0) →
      ∀ v685 : Vec F S1x256x128 .f32, v685 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay471 v369 v610 v677 v679 v681) } →
      ∀ v689 : Vec F S256x128 .f32, v689 = View.ld σ1.dk (Rect.unit (s := S2048x128) (k0_off5 i 0#32) S256x128.size (k0_off5_inb i k0_h4 0)) →
      ∀ v694 : Vec F S256x128 .f32, v694 = View.ld σ1.dk (Rect.unit (s := S2048x128) (k0_off5 i 0#32) S256x128.size (k0_off5_inb i k0_h4 0)) →
      ∀ σ2 : St F, σ2 = { σ1 with dk := Rect.overlay (Rect.unit (s := S2048x128) (k0_off5 i 0#32) S256x128.size (k0_off5_inb i k0_h4 0)) σ1.dk (k0_pay472 v49 v610 v689) } →
      ∀ v696 : Vec F S256x128 .f32, v696 = View.ld σ2.dv (Rect.unit (s := S2048x128) (k0_off5 i 0#32) S256x128.size (k0_off5_inb i k0_h4 0)) →
      ∀ v701 : Vec F S256x128 .f32, v701 = View.ld σ2.dv (Rect.unit (s := S2048x128) (k0_off5 i 0#32) S256x128.size (k0_off5_inb i k0_h4 0)) →
      ∀ σ3 : St F, σ3 = { σ2 with dv := Rect.overlay (Rect.unit (s := S2048x128) (k0_off5 i 0#32) S256x128.size (k0_off5_inb i k0_h4 0)) σ2.dv (k0_pay473 v61 v529 v696) } →
      ∀ v708 : Vec F S1x256x128 .f32, v708 = View.ld σ3.dq (Rect.unit (s := S2x256x128) ![1, 0, 0] S1x256x128.size inb_S2x256x128_S1x256x128_1_0_0) →
      ∀ v712 : Vec F S1x256x128 .f32, v712 = View.ld σ3.dq (Rect.unit (s := S2x256x128) ![1, 0, 0] S1x256x128.size inb_S2x256x128_S1x256x128_1_0_0) →
      ∀ vr : FVec F S1x256x128 .f32, vr = (k0_pay474 v24 v369 v622 v708) →
      Held c B σ3 ⊢ Q vr) :
    Held c B σ ⊢ Wp c (k0_part50 i B.a2 h2 B.a3 h3 B.a4 h4 B.a5 h5 B.a6 h6 a7 h7 B.a8 h8 B.a9 h9 B.a10 h10 B.a11 h11 B.a12 h12 B.a13 h13 v24 v49 v61 k0_h4 v362 v369 v529 v610 v622 v677 v679) Q := by
  rw [k0_part50_eq_skeleton]; unfold k0_part50_skel
  refine load_dq ?_
  refine load_dq ?_
  refine store_dq ?_
  refine load_dk ?_
  refine load_dk ?_
  refine store_dk ?_
  refine load_dv ?_
  refine load_dv ?_
  refine store_dv ?_
  refine load_dq ?_
  refine load_dq ?_
  refine run_pure ?_
  exact h _ rfl _ rfl _ rfl _ rfl _ rfl _ rfl _ rfl _ rfl _ rfl _ rfl _ rfl _ rfl

theorem part51 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v55 : FVec F S256x128 .bf16} {v67 : FVec F S256x128 .bf16} {k0_h4 : k0_cond4 i = 1#1} {v362 : BitVec 32} {v364 : BitVec 32} {v375 : FVec F S256x128 .bf16} {v541 : FVec F S256x256 .bf16} {v622 : FVec F S256x256 .bf16} {v634 : FVec F S256x256 .bf16} {v714 : FVec F S1x256x128 .f32}
    {Q : (Vec F S256x128 .f32) → sProp 𝕄}
    (h : ∀ σ1 : St F, σ1 = { σ with dq := Rect.overlay (Rect.unit (s := S2x256x128) ![1, 0, 0] S1x256x128.size inb_S2x256x128_S1x256x128_1_0_0) σ.dq v714 } →
      ∀ v716 : Vec F S256x128 .f32, v716 = View.ld σ1.dk (Rect.unit (s := S2048x128) (k0_off5 i 0#32) S256x128.size (k0_off5_inb i k0_h4 0)) →
      ∀ v721 : Vec F S256x128 .f32, v721 = View.ld σ1.dk (Rect.unit (s := S2048x128) (k0_off5 i 0#32) S256x128.size (k0_off5_inb i k0_h4 0)) →
      ∀ σ2 : St F, σ2 = { σ1 with dk := Rect.overlay (Rect.unit (s := S2048x128) (k0_off5 i 0#32) S256x128.size (k0_off5_inb i k0_h4 0)) σ1.dk (k0_pay475 v55 v622 v716) } →
      ∀ v723 : Vec F S256x128 .f32, v723 = View.ld σ2.dv (Rect.unit (s := S2048x128) (k0_off5 i 0#32) S256x128.size (k0_off5_inb i k0_h4 0)) →
      ∀ v728 : Vec F S256x128 .f32, v728 = View.ld σ2.dv (Rect.unit (s := S2048x128) (k0_off5 i 0#32) S256x128.size (k0_off5_inb i k0_h4 0)) →
      ∀ σ3 : St F, σ3 = { σ2 with dv := Rect.overlay (Rect.unit (s := S2048x128) (k0_off5 i 0#32) S256x128.size (k0_off5_inb i k0_h4 0)) σ2.dv (k0_pay476 v67 v541 v723) } →
      ∀ v735 : Vec F S1x256x128 .f32, v735 = View.ld σ3.dq (Rect.unit (s := S2x256x128) ![0, 0, 0] S1x256x128.size inb_S2x256x128_S1x256x128_0_0_0) →
      ∀ v739 : Vec F S1x256x128 .f32, v739 = View.ld σ3.dq (Rect.unit (s := S2x256x128) ![0, 0, 0] S1x256x128.size inb_S2x256x128_S1x256x128_0_0_0) →
      ∀ σ4 : St F, σ4 = { σ3 with dq := Rect.overlay (Rect.unit (s := S2x256x128) ![0, 0, 0] S1x256x128.size inb_S2x256x128_S1x256x128_0_0_0) σ3.dq (k0_pay477 v24 v375 v634 v735) } →
      ∀ v743 : Vec F S256x128 .f32, v743 = View.ld σ4.dk (Rect.unit (s := S2048x128) (k0_off5 i 1#32) S256x128.size (k0_off5_inb i k0_h4 1)) →
      ∀ v748 : Vec F S256x128 .f32, v748 = View.ld σ4.dk (Rect.unit (s := S2048x128) (k0_off5 i 1#32) S256x128.size (k0_off5_inb i k0_h4 1)) →
      ∀ σ5 : St F, σ5 = { σ4 with dk := Rect.overlay (Rect.unit (s := S2048x128) (k0_off5 i 1#32) S256x128.size (k0_off5_inb i k0_h4 1)) σ4.dk (k0_pay478 v49 v634 v743) } →
      ∀ v750 : Vec F S256x128 .f32, v750 = View.ld σ5.dv (Rect.unit (s := S2048x128) (k0_off5 i 1#32) S256x128.size (k0_off5_inb i k0_h4 1)) →
      Held c B σ5 ⊢ Q v750) :
    Held c B σ ⊢ Wp c (k0_part51 i B.a2 h2 B.a3 h3 B.a4 h4 B.a5 h5 B.a6 h6 a7 h7 B.a8 h8 B.a9 h9 B.a10 h10 B.a11 h11 B.a12 h12 B.a13 h13 v24 v49 v55 v67 k0_h4 v362 v364 v375 v541 v622 v634 v714) Q := by
  rw [k0_part51_eq_skeleton]; unfold k0_part51_skel
  refine store_dq ?_
  refine load_dk ?_
  refine load_dk ?_
  refine store_dk ?_
  refine load_dv ?_
  refine load_dv ?_
  refine store_dv ?_
  refine load_dq ?_
  refine load_dq ?_
  refine store_dq ?_
  refine load_dk ?_
  refine load_dk ?_
  refine store_dk ?_
  refine load_dv ?_
  refine run_pure ?_
  exact h _ rfl _ rfl _ rfl _ rfl _ rfl _ rfl _ rfl _ rfl _ rfl _ rfl _ rfl _ rfl _ rfl _ rfl

theorem part52 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v55 : FVec F S256x128 .bf16} {v61 : FVec F S256x128 .bf16} {v67 : FVec F S256x128 .bf16} {k0_h4 : k0_cond4 i = 1#1} {v364 : BitVec 32} {v375 : FVec F S256x128 .bf16} {v553 : FVec F S256x256 .bf16} {v565 : FVec F S256x256 .bf16} {v646 : FVec F S256x256 .bf16} {v750 : Vec F S256x128 .f32}
    {Q : (Σ' (v785 : FVec F S256x128 .bf16), IVec S256x128 1) → sProp 𝕄}
    (h : ∀ v755 : Vec F S256x128 .f32, v755 = View.ld σ.dv (Rect.unit (s := S2048x128) (k0_off5 i 1#32) S256x128.size (k0_off5_inb i k0_h4 1)) →
      ∀ σ1 : St F, σ1 = { σ with dv := Rect.overlay (Rect.unit (s := S2048x128) (k0_off5 i 1#32) S256x128.size (k0_off5_inb i k0_h4 1)) σ.dv (k0_pay479 v61 v553 v750) } →
      ∀ v762 : Vec F S1x256x128 .f32, v762 = View.ld σ1.dq (Rect.unit (s := S2x256x128) ![1, 0, 0] S1x256x128.size inb_S2x256x128_S1x256x128_1_0_0) →
      ∀ v766 : Vec F S1x256x128 .f32, v766 = View.ld σ1.dq (Rect.unit (s := S2x256x128) ![1, 0, 0] S1x256x128.size inb_S2x256x128_S1x256x128_1_0_0) →
      ∀ σ2 : St F, σ2 = { σ1 with dq := Rect.overlay (Rect.unit (s := S2x256x128) ![1, 0, 0] S1x256x128.size inb_S2x256x128_S1x256x128_1_0_0) σ1.dq (k0_pay480 v24 v375 v646 v762) } →
      ∀ v770 : Vec F S256x128 .f32, v770 = View.ld σ2.dk (Rect.unit (s := S2048x128) (k0_off5 i 1#32) S256x128.size (k0_off5_inb i k0_h4 1)) →
      ∀ v775 : Vec F S256x128 .f32, v775 = View.ld σ2.dk (Rect.unit (s := S2048x128) (k0_off5 i 1#32) S256x128.size (k0_off5_inb i k0_h4 1)) →
      ∀ σ3 : St F, σ3 = { σ2 with dk := Rect.overlay (Rect.unit (s := S2048x128) (k0_off5 i 1#32) S256x128.size (k0_off5_inb i k0_h4 1)) σ2.dk (k0_pay481 v55 v646 v770) } →
      ∀ v777 : Vec F S256x128 .f32, v777 = View.ld σ3.dv (Rect.unit (s := S2048x128) (k0_off5 i 1#32) S256x128.size (k0_off5_inb i k0_h4 1)) →
      ∀ v782 : Vec F S256x128 .f32, v782 = View.ld σ3.dv (Rect.unit (s := S2048x128) (k0_off5 i 1#32) S256x128.size (k0_off5_inb i k0_h4 1)) →
      ∀ σ4 : St F, σ4 = { σ3 with dv := Rect.overlay (Rect.unit (s := S2048x128) (k0_off5 i 1#32) S256x128.size (k0_off5_inb i k0_h4 1)) σ3.dv (k0_pay482 v67 v565 v777) } →
      ∀ v785 : FVec F S256x128 .bf16, v785 = k0_pay483 (F := F) →
      ∀ vr : IVec S256x128 1, vr = k0_pay484 v24 →
      Held c B σ4 ⊢ Q ⟨v785, vr⟩) :
    Held c B σ ⊢ Wp c (k0_part52 i B.a2 h2 B.a3 h3 B.a4 h4 B.a5 h5 B.a6 h6 a7 h7 B.a8 h8 B.a9 h9 B.a10 h10 B.a11 h11 B.a12 h12 B.a13 h13 v24 v55 v61 v67 k0_h4 v364 v375 v553 v565 v646 v750) Q := by
  rw [k0_part52_eq_skeleton]; unfold k0_part52_skel
  refine load_dv ?_
  refine store_dv ?_
  refine load_dq ?_
  refine load_dq ?_
  refine store_dq ?_
  refine load_dk ?_
  refine load_dk ?_
  refine store_dk ?_
  refine load_dv ?_
  refine load_dv ?_
  refine store_dv ?_
  refine run_pure ?_
  exact h _ rfl _ rfl _ rfl _ rfl _ rfl _ rfl _ rfl _ rfl _ rfl _ rfl _ rfl _ rfl _ rfl

theorem part53 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v61 : FVec F S256x128 .bf16} {k0_h4 : k0_cond4 i = 1#1} {v366 : BitVec 32} {v381 : FVec F S256x128 .bf16} {v577 : FVec F S256x256 .bf16} {v658 : FVec F S256x256 .bf16} {v670 : FVec F S256x256 .bf16} {v785 : FVec F S256x128 .bf16} {v787 : IVec S256x128 1}
    {Q : (FVec F S1x256x128 .f32) → sProp 𝕄}
    (h : ∀ v789 : Vec F S1x256x128 .f32, v789 = View.ld σ.dq (Rect.unit (s := S2x256x128) ![0, 0, 0] S1x256x128.size inb_S2x256x128_S1x256x128_0_0_0) →
      ∀ v793 : Vec F S1x256x128 .f32, v793 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay485 v381 v658 v785 v787 v789) } →
      ∀ v797 : Vec F S256x128 .f32, v797 = View.ld σ1.dk (Rect.unit (s := S2048x128) (k0_off5 i 2#32) S256x128.size (k0_off5_inb i k0_h4 2)) →
      ∀ v802 : Vec F S256x128 .f32, v802 = View.ld σ1.dk (Rect.unit (s := S2048x128) (k0_off5 i 2#32) S256x128.size (k0_off5_inb i k0_h4 2)) →
      ∀ σ2 : St F, σ2 = { σ1 with dk := Rect.overlay (Rect.unit (s := S2048x128) (k0_off5 i 2#32) S256x128.size (k0_off5_inb i k0_h4 2)) σ1.dk (k0_pay486 v49 v658 v797) } →
      ∀ v804 : Vec F S256x128 .f32, v804 = View.ld σ2.dv (Rect.unit (s := S2048x128) (k0_off5 i 2#32) S256x128.size (k0_off5_inb i k0_h4 2)) →
      ∀ v809 : Vec F S256x128 .f32, v809 = View.ld σ2.dv (Rect.unit (s := S2048x128) (k0_off5 i 2#32) S256x128.size (k0_off5_inb i k0_h4 2)) →
      ∀ σ3 : St F, σ3 = { σ2 with dv := Rect.overlay (Rect.unit (s := S2048x128) (k0_off5 i 2#32) S256x128.size (k0_off5_inb i k0_h4 2)) σ2.dv (k0_pay487 v61 v577 v804) } →
      ∀ v816 : Vec F S1x256x128 .f32, v816 = View.ld σ3.dq (Rect.unit (s := S2x256x128) ![1, 0, 0] S1x256x128.size inb_S2x256x128_S1x256x128_1_0_0) →
      ∀ v820 : Vec F S1x256x128 .f32, v820 = View.ld σ3.dq (Rect.unit (s := S2x256x128) ![1, 0, 0] S1x256x128.size inb_S2x256x128_S1x256x128_1_0_0) →
      ∀ vr : FVec F S1x256x128 .f32, vr = (k0_pay488 v24 v381 v670 v816) →
      Held c B σ3 ⊢ Q vr) :
    Held c B σ ⊢ Wp c (k0_part53 i B.a2 h2 B.a3 h3 B.a4 h4 B.a5 h5 B.a6 h6 a7 h7 B.a8 h8 B.a9 h9 B.a10 h10 B.a11 h11 B.a12 h12 B.a13 h13 v24 v49 v61 k0_h4 v366 v381 v577 v658 v670 v785 v787) Q := by
  rw [k0_part53_eq_skeleton]; unfold k0_part53_skel
  refine load_dq ?_
  refine load_dq ?_
  refine store_dq ?_
  refine load_dk ?_
  refine load_dk ?_
  refine store_dk ?_
  refine load_dv ?_
  refine load_dv ?_
  refine store_dv ?_
  refine load_dq ?_
  refine load_dq ?_
  refine run_pure ?_
  exact h _ rfl _ rfl _ rfl _ rfl _ rfl _ rfl _ rfl _ rfl _ rfl _ rfl _ rfl _ rfl

theorem part55 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole}
    {Q : (Σ' (arg1 : BitVec 32) (v24 : IVec S1x128 32) (v25 : IVec S256x128 32) (v31 : FVec F S256x256 .bf16) (v37 : FVec F S256x256 .bf16) (v39 : FVec F S256x128 .bf16) (v41 : FVec F S256x128 .bf16) (v43 : FVec F S256x128 .f32), BitVec 32) → sProp 𝕄}
    (h : ∀ arg1 : BitVec 32, arg1 = BitVec.ofNat 32 (i 1).val →
      ∀ v25 : IVec S256x128 32, v25 = iota .tc S256x128 32 [1] iota_S256x128_d1_w32 →
      ∀ v38 : Vec F S256x128 .bf16, v38 = View.ld σ.q (Rect.unit (s := S256x128) ![0, 0] S256x128.size inb_S256x128_S256x128_0_0) →
      ∀ v40 : Vec F S256x128 .f32, v40 = View.ld σ.dO (Rect.unit (s := S256x128) ![0, 0] S256x128.size inb_S256x128_S256x128_0_0) →
      ∀ v42 : Vec F S256x128 .f32, v42 = View.ld σ.lt (Rect.unit (s := S256x128) ![0, 0] S256x128.size inb_S256x128_S256x128_0_0) →
      ∀ v24 : IVec S1x128 32, v24 = k0_pay494 →
      ∀ v31 : FVec F S256x256 .bf16, v31 = k0_pay495 (F := F) →
      ∀ v37 : FVec F S256x256 .bf16, v37 = k0_pay496 (F := F) →
      ∀ v39 : FVec F S256x128 .bf16, v39 = k0_pay497 v38 →
      ∀ v41 : FVec F S256x128 .bf16, v41 = k0_pay498 v40 →
      ∀ v43 : FVec F S256x128 .f32, v43 = k0_pay499 v42 →
      ∀ vr : BitVec 32, vr = 0#32 →
      Held c B σ ⊢ Q ⟨arg1, v24, v25, v31, v37, v39, v41, v43, vr⟩) :
    Held c B σ ⊢ Wp c (k0_part55 i B.a2 h2 B.a3 h3 B.a4 h4 B.a5 h5 B.a6 h6 a7 h7 B.a8 h8 B.a9 h9 B.a10 h10 B.a11 h11 B.a12 h12 B.a13 h13 ) Q := by
  rw [k0_part55_eq_skeleton]; unfold k0_part55_skel
  refine load_q ?_
  refine load_dO ?_
  refine load_lt ?_
  refine run_pure ?_
  exact h _ rfl _ rfl _ rfl _ rfl _ rfl _ rfl _ rfl _ rfl _ rfl _ rfl _ rfl _ rfl

theorem part60 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v31 : FVec F S256x256 .bf16} {v73 : FVec F S256x1 .f32} {v167 : FVec F S256x256 .f32} {v174 : FVec F S256x256 .f32} {v184 : IVec S256x256 1} {v194 : FVec F S256x256 .f32} {v197 : FVec F S256x256 .f32} {cst_83 : F .f32}
    {Q : (Σ' (v207 : FVec F S256x256 .f32) (v214 : FVec F S256x256 .f32) (v218 : FVec F S256x128 .f32) (v220 : FVec F S256x128 .f32) (v222 : FVec F S256x128 .f32) (v226 : FVec F S256x128 .f32) (v235 : FVec F S256x256 .bf16) (v236 : FVec F S256x256 .f32), FVec F S256 .f32) → sProp 𝕄}
    (h : ∀ v215 : Vec F S1x256x128 .f32, v215 = View.ld σ.cc (Rect.unit (s := S2x256x128) ![0, 0, 0] S1x256x128.size inb_S2x256x128_S1x256x128_0_0_0) →
      ∀ v217 : Vec F S1x256x128 .f32, v217 = View.ld σ.cc (Rect.unit (s := S2x256x128) ![1, 0, 0] S1x256x128.size inb_S2x256x128_S1x256x128_1_0_0) →
      ∀ v219 : Vec F S1x256x128 .f32, v219 = View.ld σ.cg (Rect.unit (s := S2x256x128) ![0, 0, 0] S1x256x128.size inb_S2x256x128_S1x256x128_0_0_0) →
      ∀ v221 : Vec F S1x256x128 .f32, v221 = View.ld σ.cg (Rect.unit (s := S2x256x128) ![1, 0, 0] S1x256x128.size inb_S2x256x128_S1x256x128_1_0_0) →
      ∀ v207 : FVec F S256x256 .f32, v207 = k0_pay536 v167 cst_83 →
      ∀ v214 : FVec F S256x256 .f32, v214 = k0_pay538 v31 v167 v184 cst_83 →
      ∀ v218 : FVec F S256x128 .f32, v218 = k0_pay539 v217 →
      ∀ v220 : FVec F S256x128 .f32, v220 = k0_pay540 v219 →
      ∀ v222 : FVec F S256x128 .f32, v222 = k0_pay541 v221 →
      ∀ v226 : FVec F S256x128 .f32, v226 = k0_pay542 v197 v215 →
      ∀ v235 : FVec F S256x256 .bf16, v235 = k0_pay544 v31 v73 v184 v194 v197 v215 →
      ∀ v236 : FVec F S256x256 .f32, v236 = k0_pay545 v31 v73 v174 v184 v194 v197 v215 →
      ∀ vr : FVec F S256 .f32, vr = k0_pay546 v167 v184 cst_83 →
      Held c B σ ⊢ Q ⟨v207, v214, v218, v220, v222, v226, v235, v236, vr⟩) :
    Held c B σ ⊢ Wp c (k0_part60 i B.a2 h2 B.a3 h3 B.a4 h4 B.a5 h5 B.a6 h6 a7 h7 B.a8 h8 B.a9 h9 B.a10 h10 B.a11 h11 B.a12 h12 B.a13 h13 v31 v73 v167 v174 v184 v194 v197 cst_83) Q := by
  rw [k0_part60_eq_skeleton]; unfold k0_part60_skel
  refine load_cc ?_
  refine load_cc ?_
  refine load_cg ?_
  refine load_cg ?_
  refine run_pure ?_
  exact h _ rfl _ rfl _ rfl _ rfl _ rfl _ rfl _ rfl _ rfl _ rfl _ rfl _ rfl _ rfl _ rfl

theorem part61 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v37 : FVec F S256x256 .bf16} {v79 : FVec F S256x1 .f32} {v162 : FVec F S256x128 .bf16} {v181 : FVec F S256x256 .f32} {v184 : IVec S256x256 1} {v194 : FVec F S256x256 .f32} {v207 : FVec F S256x256 .f32} {v214 : FVec F S256x256 .f32} {v218 : FVec F S256x128 .f32} {v220 : FVec F S256x128 .f32} {v222 : FVec F S256x128 .f32} {v236 : FVec F S256x256 .f32} {v237 : FVec F S256 .f32}
    {Q : (Σ' (v240 : FVec F S256x128 .f32) (v249 : FVec F S256x256 .bf16) (v264 : FVec F S256x256 .bf16) (v268 : FVec F S256x128 .f32) (v278 : FVec F S256x256 .bf16) (v282 : FVec F S256x128 .f32), FVec F S256x128 .bf16) → sProp 𝕄}
    (h : ∀ v240 : FVec F S256x128 .f32, v240 = k0_pay547 v218 v237 →
      ∀ v249 : FVec F S256x256 .bf16, v249 = k0_pay549 v79 v184 v207 v214 v218 v237 →
      ∀ v264 : FVec F S256x256 .bf16, v264 = k0_pay551 v37 v184 v194 v220 v236 →
      ∀ v268 : FVec F S256x128 .f32, v268 = k0_pay552 v220 v236 →
      ∀ v278 : FVec F S256x256 .bf16, v278 = k0_pay553 v37 v79 v181 v184 v207 v214 v218 v222 v237 →
      ∀ v282 : FVec F S256x128 .f32, v282 = k0_pay554 v79 v181 v184 v207 v214 v218 v222 v237 →
      ∀ vr : FVec F S256x128 .bf16, vr = k0_pay555 v24 v162 →
      Held c B σ ⊢ Q ⟨v240, v249, v264, v268, v278, v282, vr⟩) :
    Held c B σ ⊢ Wp c (k0_part61 i B.a2 h2 B.a3 h3 B.a4 h4 B.a5 h5 B.a6 h6 a7 h7 B.a8 h8 B.a9 h9 B.a10 h10 B.a11 h11 B.a12 h12 B.a13 h13 v24 v37 v79 v162 v181 v184 v194 v207 v214 v218 v220 v222 v236 v237) Q := by
  rw [k0_part61_eq_skeleton]; unfold k0_part61_skel
  refine run_pure ?_
  exact h _ rfl _ rfl _ rfl _ rfl _ rfl _ rfl _ rfl

theorem part62 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v49 : FVec F S256x128 .bf16} {v61 : FVec F S256x128 .bf16} {v159 : BitVec 32} {v162 : FVec F S256x128 .bf16} {v235 : FVec F S256x256 .bf16} {v264 : FVec F S256x256 .bf16} {v278 : FVec F S256x256 .bf16} {v288 : FVec F S256x128 .bf16}
    {Q : (PUnit) → sProp 𝕄}
    (h : ∀ v289 : Vec F S1x256x128 .f32, v289 = View.ld σ.dq (Rect.unit (s := S2x256x128) ![0, 0, 0] S1x256x128.size inb_S2x256x128_S1x256x128_0_0_0) →
      ∀ v293 : Vec F S1x256x128 .f32, v293 = View.ld σ.dq (Rect.unit (s := S2x256x128) ![0, 0, 0] S1x256x128.size inb_S2x256x128_S1x256x128_0_0_0) →
      ∀ σ1 : St F, σ1 = { σ with dq := Rect.overlay (Rect.unit (s := S2x256x128) ![0, 0, 0] S1x256x128.size inb_S2x256x128_S1x256x128_0_0_0) σ.dq (k0_pay556 v264 v288 v289) } →
      ∀ v297 : Vec F S256x128 .f32, v297 = View.ld σ1.dk (Rect.unit (s := S2048x128) (k0_off6 i) S256x128.size (k0_off6_inb i)) →
      ∀ v302 : Vec F S256x128 .f32, v302 = View.ld σ1.dk (Rect.unit (s := S2048x128) (k0_off6 i) S256x128.size (k0_off6_inb i)) →
      ∀ σ2 : St F, σ2 = { σ1 with dk := Rect.overlay (Rect.unit (s := S2048x128) (k0_off6 i) S256x128.size (k0_off6_inb i)) σ1.dk (k0_pay557 v49 v264 v297) } →
      ∀ v304 : Vec F S256x128 .f32, v304 = View.ld σ2.dv (Rect.unit (s := S2048x128) (k0_off6 i) S256x128.size (k0_off6_inb i)) →
      ∀ v309 : Vec F S256x128 .f32, v309 = View.ld σ2.dv (Rect.unit (s := S2048x128) (k0_off6 i) S256x128.size (k0_off6_inb i)) →
      ∀ σ3 : St F, σ3 = { σ2 with dv := Rect.overlay (Rect.unit (s := S2048x128) (k0_off6 i) S256x128.size (k0_off6_inb i)) σ2.dv (k0_pay558 v61 v235 v304) } →
      ∀ v316 : Vec F S1x256x128 .f32, v316 = View.ld σ3.dq (Rect.unit (s := S2x256x128) ![1, 0, 0] S1x256x128.size inb_S2x256x128_S1x256x128_1_0_0) →
      ∀ v320 : Vec F S1x256x128 .f32, v320 = View.ld σ3.dq (Rect.unit (s := S2x256x128) ![1, 0, 0] S1x256x128.size inb_S2x256x128_S1x256x128_1_0_0) →
      ∀ σ4 : St F, σ4 = { σ3 with dq := Rect.overlay (Rect.unit (s := S2x256x128) ![1, 0, 0] S1x256x128.size inb_S2x256x128_S1x256x128_1_0_0) σ3.dq (k0_pay559 v24 v162 v278 v316) } →
      Held c B σ4 ⊢ Q ⟨⟩) :
    Held c B σ ⊢ Wp c (k0_part62 i B.a2 h2 B.a3 h3 B.a4 h4 B.a5 h5 B.a6 h6 a7 h7 B.a8 h8 B.a9 h9 B.a10 h10 B.a11 h11 B.a12 h12 B.a13 h13 v24 v49 v61 v159 v162 v235 v264 v278 v288) Q := by
  rw [k0_part62_eq_skeleton]; unfold k0_part62_skel
  refine load_dq ?_
  refine load_dq ?_
  refine store_dq ?_
  refine load_dk ?_
  refine load_dk ?_
  refine store_dk ?_
  refine load_dv ?_
  refine load_dv ?_
  refine store_dv ?_
  refine load_dq ?_
  refine load_dq ?_
  refine store_dq ?_
  refine run_pure ?_
  exact h _ rfl _ rfl _ rfl _ rfl _ rfl _ rfl _ rfl _ rfl _ rfl _ rfl _ rfl _ rfl

theorem part63 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v55 : FVec F S256x128 .bf16} {v67 : FVec F S256x128 .bf16} {v159 : BitVec 32} {v226 : FVec F S256x128 .f32} {v240 : FVec F S256x128 .f32} {v249 : FVec F S256x256 .bf16} {v268 : FVec F S256x128 .f32} {v278 : FVec F S256x256 .bf16} {v282 : FVec F S256x128 .f32}
    {Q : (Σ' (v350 : FVec F S256x128 .f32), FVec F S256x128 .f32) → sProp 𝕄}
    (h : ∀ v324 : Vec F S256x128 .f32, v324 = View.ld σ.dk (Rect.unit (s := S2048x128) (k0_off6 i) S256x128.size (k0_off6_inb i)) →
      ∀ v329 : Vec F S256x128 .f32, v329 = View.ld σ.dk (Rect.unit (s := S2048x128) (k0_off6 i) S256x128.size (k0_off6_inb i)) →
      ∀ σ1 : St F, σ1 = { σ with dk := Rect.overlay (Rect.unit (s := S2048x128) (k0_off6 i) S256x128.size (k0_off6_inb i)) σ.dk (k0_pay560 v55 v278 v324) } →
      ∀ v331 : Vec F S256x128 .f32, v331 = View.ld σ1.dv (Rect.unit (s := S2048x128) (k0_off6 i) S256x128.size (k0_off6_inb i)) →
      ∀ v336 : Vec F S256x128 .f32, v336 = View.ld σ1.dv (Rect.unit (s := S2048x128) (k0_off6 i) S256x128.size (k0_off6_inb i)) →
      ∀ σ2 : St F, σ2 = { σ1 with dv := Rect.overlay (Rect.unit (s := S2048x128) (k0_off6 i) S256x128.size (k0_off6_inb i)) σ1.dv (k0_pay561 v67 v249 v331) } →
      ∀ v337 : Vec F S1x256x128 .f32, v337 = View.ld σ2.cc (Rect.unit (s := S2x256x128) ![0, 0, 0] S1x256x128.size inb_S2x256x128_S1x256x128_0_0_0) →
      ∀ σ3 : St F, σ3 = { σ2 with cc := Rect.overlay (Rect.unit (s := S2x256x128) ![0, 0, 0] S1x256x128.size inb_S2x256x128_S1x256x128_0_0_0) σ2.cc (k0_pay562 v226) } →
      ∀ v340 : Vec F S1x256x128 .f32, v340 = View.ld σ3.cg (Rect.unit (s := S2x256x128) ![0, 0, 0] S1x256x128.size inb_S2x256x128_S1x256x128_0_0_0) →
      ∀ σ4 : St F, σ4 = { σ3 with cg := Rect.overlay (Rect.unit (s := S2x256x128) ![0, 0, 0] S1x256x128.size inb_S2x256x128_S1x256x128_0_0_0) σ3.cg (k0_pay563 v268) } →
      ∀ v343 : Vec F S1x256x128 .f32, v343 = View.ld σ4.cc (Rect.unit (s := S2x256x128) ![1, 0, 0] S1x256x128.size inb_S2x256x128_S1x256x128_1_0_0) →
      ∀ σ5 : St F, σ5 = { σ4 with cc := Rect.overlay (Rect.unit (s := S2x256x128) ![1, 0, 0] S1x256x128.size inb_S2x256x128_S1x256x128_1_0_0) σ4.cc (k0_pay564 v240) } →
      ∀ v346 : Vec F S1x256x128 .f32, v346 = View.ld σ5.cg (Rect.unit (s := S2x256x128) ![1, 0, 0] S1x256x128.size inb_S2x256x128_S1x256x128_1_0_0) →
      ∀ σ6 : St F, σ6 = { σ5 with cg := Rect.overlay (Rect.unit (s := S2x256x128) ![1, 0, 0] S1x256x128.size inb_S2x256x128_S1x256x128_1_0_0) σ5.cg (k0_pay565 v282) } →
      ∀ v349 : Vec F S1x256x128 .f32, v349 = View.ld σ6.dq (Rect.unit (s := S2x256x128) ![0, 0, 0] S1x256x128.size inb_S2x256x128_S1x256x128_0_0_0) →
      ∀ v351 : Vec F S1x256x128 .f32, v351 = View.ld σ6.dq (Rect.unit (s := S2x256x128) ![1, 0, 0] S1x256x128.size inb_S2x256x128_S1x256x128_1_0_0) →
      ∀ v350 : FVec F S256x128 .f32, v350 = k0_pay566 v349 →
      ∀ vr : FVec F S256x128 .f32, vr = k0_pay567 v351 →
      Held c B σ6 ⊢ Q ⟨v350, vr⟩) :
    Held c B σ ⊢ Wp c (k0_part63 i B.a2 h2 B.a3 h3 B.a4 h4 B.a5 h5 B.a6 h6 a7 h7 B.a8 h8 B.a9 h9 B.a10 h10 B.a11 h11 B.a12 h12 B.a13 h13 v55 v67 v159 v226 v240 v249 v268 v278 v282) Q := by
  rw [k0_part63_eq_skeleton]; unfold k0_part63_skel
  refine load_dk ?_
  refine load_dk ?_
  refine store_dk ?_
  refine load_dv ?_
  refine load_dv ?_
  refine store_dv ?_
  refine load_cc ?_
  refine store_cc ?_
  refine load_cg ?_
  refine store_cg ?_
  refine load_cc ?_
  refine store_cc ?_
  refine load_cg ?_
  refine store_cg ?_
  refine load_dq ?_
  refine load_dq ?_
  refine run_pure ?_
  exact h _ rfl _ rfl _ rfl _ rfl _ rfl _ rfl _ rfl _ rfl _ rfl _ rfl _ rfl _ rfl _ rfl _ rfl _ rfl _ rfl _ rfl _ rfl

end Cert.Attn
-- ==== Proof.Tail59.lean ====
module

public import proofs.«01_k».proof.Proof.PartsC

/-!
# The left-over key blocks
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

theorem part59 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {E : Env F} {arg1 : BitVec 32} {v155 : BitVec 1}
    {Q : (Σ' (v159 : BitVec 32) (v162 : FVec F S256x128 .bf16) (v167 : FVec F S256x256 .f32) (v174 : FVec F S256x256 .f32) (v181 : FVec F S256x256 .f32) (v184 : IVec S256x256 1) (v194 : FVec F S256x256 .f32) (v197 : FVec F S256x256 .f32), F .f32) → sProp 𝕄}
    (h : ∀ τ1 : St F, τ1 = (if hc : k0_cond4 i = 1#1 then left3 E i hc σ else σ) →
      ∀ v158 : BitVec 32, v158 = Scalar.muli arg1 256#32 →
      ∀ v159 : BitVec 32, v159 = v158 →
      ∀ v161 : Vec F S256x128 .bf16, v161 = View.ld τ1.k (Rect.unit (s := S2048x128) (k0_off6 i) S256x128.size (k0_off6_inb i)) →
      ∀ v164 : Vec F S256x128 .bf16, v164 = View.ld τ1.v (Rect.unit (s := S2048x128) (k0_off6 i) S256x128.size (k0_off6_inb i)) →
      ∀ cst_83 : F .f32, cst_83 = Scalar.ofBits .f32 0x00000000#32 →
      ∀ v162 : FVec F S256x128 .bf16, v162 = k0_pay527 v161 →
      ∀ v167 : FVec F S256x256 .f32, v167 = k0_pay530 E.q1 v161 →
      ∀ v174 : FVec F S256x256 .f32, v174 = k0_pay531 E.half E.g0 v164 →
      ∀ v181 : FVec F S256x256 .f32, v181 = k0_pay532 E.half E.g1 v164 →
      ∀ v184 : IVec S256x256 1, v184 = k0_pay533 →
      ∀ v194 : FVec F S256x256 .f32, v194 = k0_pay534 E.q0 v161 →
      ∀ v197 : FVec F S256x256 .f32, v197 = k0_pay535 E.q0 v161 →
      Held c B τ1 ⊢ Q ⟨v159, v162, v167, v174, v181, v184, v194, v197, cst_83⟩) :
    Held c B σ ⊢ Wp c (k0_part59 i B.a2 h2 B.a3 h3 B.a4 h4 B.a5 h5 B.a6 h6 a7 h7 B.a8 h8 B.a9 h9 B.a10 h10 B.a11 h11 B.a12 h12 B.a13 h13 arg1 E.half E.later E.before E.q0 E.q1 E.g0 E.g1 E.l0 E.l1 v155) Q := by
  rw [k0_part59_eq_skeleton]; unfold k0_part59_skel
  lift_lets
  intro v158 v159 cst_83 jp1
  generalize ej1 : jp1 = j1
  refine run_dite j1 (if hc : k0_cond4 i = 1#1 then left3 E i hc σ else σ) ?_ ?_ ?_
  · intro hc h'; clear h ej1 jp1
    rw [dif_pos hc] at h'
    refine run_bind ?_; rw [k0_part54_eq_skeleton]; unfold k0_part54_skel
    refine run_bind (part43 ?_)
    intro v355 ev355; subst v355
    intro v356 ev356; subst v356
    intro v357 ev357; subst v357
    intro v358 ev358; subst v358
    intro v359 ev359; subst v359
    intro v360 ev360; subst v360
    intro v361 ev361; subst v361
    intro v362 ev362; subst v362
    intro v363 ev363; subst v363
    intro v364 ev364; subst v364
    intro v365 ev365; subst v365
    intro v366 ev366; subst v366
    intro v368 ev368
    intro v371 ev371
    intro v374 ev374
    intro v377 ev377
    intro v380 ev380
    intro v383 ev383
    intro v369 ev369; have fv369 : v369 = (shapeCast S256x128 v368 shapeCasts_S256x128_S256x128) := ev369; clear ev369
    intro v372 ev372; have fv372 : v372 = (shapeCast S256x128 v371 shapeCasts_S256x128_S256x128) := ev372; clear ev372
    intro v375 ev375; have fv375 : v375 = (shapeCast S256x128 v374 shapeCasts_S256x128_S256x128) := ev375; clear ev375
    intro v378 ev378; have fv378 : v378 = (shapeCast S256x128 v377 shapeCasts_S256x128_S256x128) := ev378; clear ev378
    intro v381 ev381; have fv381 : v381 = (shapeCast S256x128 v380 shapeCasts_S256x128_S256x128) := ev381; clear ev381
    intro v384 ev384; have fv384 : v384 = (shapeCast S256x128 v383 shapeCasts_S256x128_S256x128) := ev384; clear ev384
    intro v385 ev385; have fv385 : v385 = (rowsMul E.q0 (shapeCast S256x128 v368 shapeCasts_S256x128_S256x128)) := ev385; clear ev385
    intro v386 ev386; have fv386 : v386 = (rowsMul E.q1 (shapeCast S256x128 v368 shapeCasts_S256x128_S256x128)) := ev386; clear ev386
    intro v387 ev387; have fv387 : v387 = (rowsMul E.q0 (shapeCast S256x128 v374 shapeCasts_S256x128_S256x128)) := ev387; clear ev387
    intro v388 ev388; have fv388 : v388 = (rowsMul E.q1 (shapeCast S256x128 v374 shapeCasts_S256x128_S256x128)) := ev388; clear ev388
    intro v389 ev389; have fv389 : v389 = (rowsMul E.q0 (shapeCast S256x128 v380 shapeCasts_S256x128_S256x128)) := ev389; clear ev389
    intro v390 ev390; have fv390 : v390 = (rowsMul E.q1 (shapeCast S256x128 v380 shapeCasts_S256x128_S256x128)) := ev390; clear ev390
    intro v392 ev392; subst v392
    refine run_bind (part44 ?_)
    intro v397 ev397; have fv397 : v397 = (rowsMul E.g0 (keep E.half 0#32 v372)) := ev397; clear ev397
    intro v404 ev404; have fv404 : v404 = (rowsMul E.g1 (keep E.half 1#32 v372)) := ev404; clear ev404
    intro v411 ev411; have fv411 : v411 = (rowsMul E.g0 (keep E.half 0#32 v378)) := ev411; clear ev411
    intro v418 ev418; have fv418 : v418 = (rowsMul E.g1 (keep E.half 1#32 v378)) := ev418; clear ev418
    intro v425 ev425; have fv425 : v425 = (rowsMul E.g0 (keep E.half 0#32 v384)) := ev425; clear ev425
    intro v432 ev432; have fv432 : v432 = (rowsMul E.g1 (keep E.half 1#32 v384)) := ev432; clear ev432
    intro v434 ev434; subst v434
    refine run_bind (part45 ?_)
    intro v442 ev442; have fv442 : v442 = (logSig v385) := ev442; clear ev442
    intro v443 ev443; have fv443 : v443 = (subf (logSig v385) v385) := ev443; clear ev443
    intro v453 ev453; have fv453 : v453 = (logSig v386) := ev453; clear ev453
    intro v454 ev454; have fv454 : v454 = (subf (logSig v386) v386) := ev454; clear ev454
    intro v464 ev464; have fv464 : v464 = (logSig v387) := ev464; clear ev464
    intro v465 ev465; have fv465 : v465 = (subf (logSig v387) v387) := ev465; clear ev465
    intro v475 ev475; have fv475 : v475 = (logSig v388) := ev475; clear ev475
    intro v476 ev476; have fv476 : v476 = (subf (logSig v388) v388) := ev476; clear ev476
    intro v478 ev478; subst v478
    intro v481 ev481; subst v481
    refine run_bind (part46 ?_)
    intro v511 ev511
    intro v513 ev513
    intro v515 ev515
    intro v517 ev517
    intro v486 ev486; have fv486 : v486 = (logSig v389) := ev486; clear ev486
    intro v487 ev487; have fv487 : v487 = (subf (logSig v389) v389) := ev487; clear ev487
    intro v497 ev497; have fv497 : v497 = (logSig v390) := ev497; clear ev497
    intro v498 ev498; have fv498 : v498 = (subf (logSig v390) v390) := ev498; clear ev498
    intro v500 ev500; have fv500 : v500 = (ordMul v443 E.later) := ev500; clear ev500
    intro v502 ev502; have fv502 : v502 = (ordMul v454 E.later) := ev502; clear ev502
    intro v504 ev504; have fv504 : v504 = (ordMul v465 E.later) := ev504; clear ev504
    intro v506 ev506; have fv506 : v506 = (ordMul v476 E.later) := ev506; clear ev506
    intro v508 ev508; have fv508 : v508 = (ordMul (subf (logSig v389) v389) E.later) := ev508; clear ev508
    intro v510 ev510; have fv510 : v510 = (ordMul (subf (logSig v390) v390) E.later) := ev510; clear ev510
    intro v512 ev512; have fv512 : v512 = (shapeCast S256x128 v511 shapeCasts_S1x256x128_S256x128) := ev512; clear ev512
    intro v514 ev514; have fv514 : v514 = (shapeCast S256x128 v513 shapeCasts_S1x256x128_S256x128) := ev514; clear ev514
    intro v516 ev516; have fv516 : v516 = (shapeCast S256x128 v515 shapeCasts_S1x256x128_S256x128) := ev516; clear ev516
    intro v518 ev518; have fv518 : v518 = (shapeCast S256x128 v517 shapeCasts_S1x256x128_S256x128) := ev518; clear ev518
    refine run_bind (part47 ?_)
    intro v529 ev529; subst v529
    intro v530 ev530; have fv530 : v530 = (mulf v397 (wgt (fun x => x) E.l0 v442 v500 (rowAdd v512 v443))) := ev530; clear ev530
    intro v541 ev541; subst v541
    intro v542 ev542; have fv542 : v542 = (mulf v404 (wgt (fun x => x) E.l1 v453 v502 (rowAdd v514 v454))) := ev542; clear ev542
    intro v553 ev553; subst v553
    intro v554 ev554; have fv554 : v554 = (mulf v411 (wgt (fun x => x) E.l0 v464 v504 (rowAdd (rowAdd v512 v443) v465))) := ev554; clear ev554
    intro v558 ev558; have fv558 : v558 = (rowAdd (rowAdd v514 v454) v476) := ev558; clear ev558
    intro v565 ev565; subst v565
    intro v566 ev566; have fv566 : v566 = (mulf v418 (wgt (fun x => x) E.l1 v475 v506 (rowAdd (rowAdd v514 v454) v476))) := ev566; clear ev566
    intro v570 ev570; have fv570 : v570 = (rowAdd (rowAdd (rowAdd v512 v443) v465) v487) := ev570; clear ev570
    intro v571 ev571; subst v571
    intro v574 ev574; subst v574
    refine run_bind (part48 ?_)
    intro v577 ev577; subst v577
    intro v578 ev578; have fv578 : v578 = (mulf v425 (wgt (fun x => x) E.l0 v486 v508 (rowAdd (rowAdd (rowAdd v512 v443) v465) v487))) := ev578; clear ev578
    intro v582 ev582; have fv582 : v582 = (rowAdd v558 v498) := ev582; clear ev582
    intro v589 ev589; subst v589
    intro v590 ev590; have fv590 : v590 = (mulf v432 (wgt (fun x => x) E.l1 v497 v510 (rowAdd v558 v498))) := ev590; clear ev590
    intro v596 ev596; have fv596 : v596 = (ordMul v554 E.before) := ev596; clear ev596
    intro v598 ev598; have fv598 : v598 = (ordMul v566 E.before) := ev598; clear ev598
    intro v600 ev600; have fv600 : v600 = (ordMul (mulf v425 (wgt (fun x => x) E.l0 v486 v508 (rowAdd (rowAdd (rowAdd v512 v443) v465) v487))) E.before) := ev600; clear ev600
    intro v602 ev602; have fv602 : v602 = (ordMul (mulf v432 (wgt (fun x => x) E.l1 v497 v510 (rowAdd v558 v498))) E.before) := ev602; clear ev602
    intro v610 ev610; have fv610 : v610 = (scoreGrad (fun x => x) v442 v530 (ordMul v530 E.before) v516) := ev610; clear ev610
    intro v614 ev614; have fv614 : v614 = (rowAdd v516 v530) := ev614; clear ev614
    intro v622 ev622; have fv622 : v622 = (scoreGrad (fun x => x) v453 v542 (ordMul v542 E.before) v518) := ev622; clear ev622
    intro v625 ev625; subst v625
    refine run_bind (part49 ?_)
    intro v634 ev634; have fv634 : v634 = (scoreGrad (fun x => x) v464 v554 v596 v614) := ev634; clear ev634
    intro v646 ev646; have fv646 : v646 = (scoreGrad (fun x => x) v475 v566 v598 (rowAdd v518 v542)) := ev646; clear ev646
    intro v658 ev658; have fv658 : v658 = (scoreGrad (fun x => x) v486 v578 v600 (rowAdd v614 v554)) := ev658; clear ev658
    intro v662 ev662; have fv662 : v662 = (rowAdd (rowAdd v614 v554) v578) := ev662; clear ev662
    intro v670 ev670; have fv670 : v670 = (scoreGrad (fun x => x) v497 v590 v602 (rowAdd (rowAdd v518 v542) v566)) := ev670; clear ev670
    intro v674 ev674; have fv674 : v674 = (rowAdd (rowAdd (rowAdd v518 v542) v566) v590) := ev674; clear ev674
    intro v677 ev677; subst v677
    intro v679 ev679; subst v679
    refine run_bind (part50 ?_)
    intro v681 ev681
    intro v685 ev685
    intro σ1 eσ1
    have fσ1 : σ1 = { σ with dq := Rect.overlay (Rect.unit (s := S2x256x128) ![0, 0, 0] S1x256x128.size inb_S2x256x128_S1x256x128_0_0_0) σ.dq (shapeCast S1x256x128 (addf (shapeCast S256x128 v681 shapeCasts_S1x256x128_S256x128) (dqMul v610 (keep E.half 0#32 v369))) shapeCasts_S256x128_S1x256x128) } := eσ1; clear eσ1
    intro v689 ev689
    intro v694 ev694
    intro σ2 eσ2
    have fσ2 : σ2 = { σ1 with dk := Rect.overlay (Rect.unit (s := S2048x128) (k0_off5 i 0#32) S256x128.size (k0_off5_inb i hc 0)) σ1.dk (addf (shapeCast S256x128 v689 shapeCasts_S256x128_S256x128) (dkMul v610 E.q0)) } := eσ2; clear eσ2
    intro v696 ev696
    intro v701 ev701
    intro σ3 eσ3
    have fσ3 : σ3 = { σ2 with dv := Rect.overlay (Rect.unit (s := S2048x128) (k0_off5 i 0#32) S256x128.size (k0_off5_inb i hc 0)) σ2.dv (addf (shapeCast S256x128 v696 shapeCasts_S256x128_S256x128) (dkMul (truncf .bf16 (wgt (fun x => x) E.l0 v442 v500 (rowAdd v512 v443)) bitsLt_bf16_f32) E.g0)) } := eσ3; clear eσ3
    intro v708 ev708
    intro v712 ev712
    intro v714 ev714; have fv714 : v714 = (shapeCast S1x256x128 (addf (shapeCast S256x128 v708 shapeCasts_S1x256x128_S256x128) (dqMul v622 (keep E.half 1#32 v369))) shapeCasts_S256x128_S1x256x128) := ev714; clear ev714
    refine run_bind (part51 ?_)
    intro σ4 eσ4
    have fσ4 : σ4 = { σ3 with dq := Rect.overlay (Rect.unit (s := S2x256x128) ![1, 0, 0] S1x256x128.size inb_S2x256x128_S1x256x128_1_0_0) σ3.dq v714 } := eσ4; clear eσ4
    intro v716 ev716
    intro v721 ev721
    intro σ5 eσ5
    have fσ5 : σ5 = { σ4 with dk := Rect.overlay (Rect.unit (s := S2048x128) (k0_off5 i 0#32) S256x128.size (k0_off5_inb i hc 0)) σ4.dk (addf (shapeCast S256x128 v716 shapeCasts_S256x128_S256x128) (dkMul v622 E.q1)) } := eσ5; clear eσ5
    intro v723 ev723
    intro v728 ev728
    intro σ6 eσ6
    have fσ6 : σ6 = { σ5 with dv := Rect.overlay (Rect.unit (s := S2048x128) (k0_off5 i 0#32) S256x128.size (k0_off5_inb i hc 0)) σ5.dv (addf (shapeCast S256x128 v723 shapeCasts_S256x128_S256x128) (dkMul (truncf .bf16 (wgt (fun x => x) E.l1 v453 v502 (rowAdd v514 v454)) bitsLt_bf16_f32) E.g1)) } := eσ6; clear eσ6
    intro v735 ev735
    intro v739 ev739
    intro σ7 eσ7
    have fσ7 : σ7 = { σ6 with dq := Rect.overlay (Rect.unit (s := S2x256x128) ![0, 0, 0] S1x256x128.size inb_S2x256x128_S1x256x128_0_0_0) σ6.dq (shapeCast S1x256x128 (addf (shapeCast S256x128 v735 shapeCasts_S1x256x128_S256x128) (dqMul v634 (keep E.half 0#32 v375))) shapeCasts_S256x128_S1x256x128) } := eσ7; clear eσ7
    intro v743 ev743
    intro v748 ev748
    intro σ8 eσ8
    have fσ8 : σ8 = { σ7 with dk := Rect.overlay (Rect.unit (s := S2048x128) (k0_off5 i 1#32) S256x128.size (k0_off5_inb i hc 1)) σ7.dk (addf (shapeCast S256x128 v743 shapeCasts_S256x128_S256x128) (dkMul v634 E.q0)) } := eσ8; clear eσ8
    intro v750 ev750
    refine run_bind (part52 ?_)
    intro v755 ev755
    intro σ9 eσ9
    have fσ9 : σ9 = { σ8 with dv := Rect.overlay (Rect.unit (s := S2048x128) (k0_off5 i 1#32) S256x128.size (k0_off5_inb i hc 1)) σ8.dv (addf (shapeCast S256x128 v750 shapeCasts_S256x128_S256x128) (dkMul (truncf .bf16 (wgt (fun x => x) E.l0 v464 v504 (rowAdd (rowAdd v512 v443) v465)) bitsLt_bf16_f32) E.g0)) } := eσ9; clear eσ9
    intro v762 ev762
    intro v766 ev766
    intro σ10 eσ10
    have fσ10 : σ10 = { σ9 with dq := Rect.overlay (Rect.unit (s := S2x256x128) ![1, 0, 0] S1x256x128.size inb_S2x256x128_S1x256x128_1_0_0) σ9.dq (shapeCast S1x256x128 (addf (shapeCast S256x128 v762 shapeCasts_S1x256x128_S256x128) (dqMul v646 (keep E.half 1#32 v375))) shapeCasts_S256x128_S1x256x128) } := eσ10; clear eσ10
    intro v770 ev770
    intro v775 ev775
    intro σ11 eσ11
    have fσ11 : σ11 = { σ10 with dk := Rect.overlay (Rect.unit (s := S2048x128) (k0_off5 i 1#32) S256x128.size (k0_off5_inb i hc 1)) σ10.dk (addf (shapeCast S256x128 v770 shapeCasts_S256x128_S256x128) (dkMul v646 E.q1)) } := eσ11; clear eσ11
    intro v777 ev777
    intro v782 ev782
    intro σ12 eσ12
    have fσ12 : σ12 = { σ11 with dv := Rect.overlay (Rect.unit (s := S2048x128) (k0_off5 i 1#32) S256x128.size (k0_off5_inb i hc 1)) σ11.dv (addf (shapeCast S256x128 v777 shapeCasts_S256x128_S256x128) (dkMul (truncf .bf16 (wgt (fun x => x) E.l1 v475 v506 (rowAdd (rowAdd v514 v454) v476)) bitsLt_bf16_f32) E.g1)) } := eσ12; clear eσ12
    intro v785 ev785; subst v785
    intro v787 ev787; subst v787
    refine run_bind (part53 ?_)
    intro v789 ev789
    intro v793 ev793
    intro σ13 eσ13
    have fσ13 : σ13 = { σ12 with dq := Rect.overlay (Rect.unit (s := S2x256x128) ![0, 0, 0] S1x256x128.size inb_S2x256x128_S1x256x128_0_0_0) σ12.dq (shapeCast S1x256x128 (addf (shapeCast S256x128 v789 shapeCasts_S1x256x128_S256x128) (dqMul v658 (keep E.half 0#32 v381))) shapeCasts_S256x128_S1x256x128) } := eσ13; clear eσ13
    intro v797 ev797
    intro v802 ev802
    intro σ14 eσ14
    have fσ14 : σ14 = { σ13 with dk := Rect.overlay (Rect.unit (s := S2048x128) (k0_off5 i 2#32) S256x128.size (k0_off5_inb i hc 2)) σ13.dk (addf (shapeCast S256x128 v797 shapeCasts_S256x128_S256x128) (dkMul v658 E.q0)) } := eσ14; clear eσ14
    intro v804 ev804
    intro v809 ev809
    intro σ15 eσ15
    have fσ15 : σ15 = { σ14 with dv := Rect.overlay (Rect.unit (s := S2048x128) (k0_off5 i 2#32) S256x128.size (k0_off5_inb i hc 2)) σ14.dv (addf (shapeCast S256x128 v804 shapeCasts_S256x128_S256x128) (dkMul (truncf .bf16 (wgt (fun x => x) E.l0 v486 v508 (rowAdd (rowAdd (rowAdd v512 v443) v465) v487)) bitsLt_bf16_f32) E.g0)) } := eσ15; clear eσ15
    intro v816 ev816
    intro v820 ev820
    intro v822 ev822; have fv822 : v822 = (shapeCast S1x256x128 (addf (shapeCast S256x128 v816 shapeCasts_S1x256x128_S256x128) (dqMul v670 (keep E.half 1#32 v381))) shapeCasts_S256x128_S1x256x128) := ev822; clear ev822
    refine store_dq ?_; refine name_state ?_
    intro σ16 eσ16
    have fσ16 : σ16 = { σ15 with dq := Rect.overlay (Rect.unit (s := S2x256x128) ![1, 0, 0] S1x256x128.size inb_S2x256x128_S1x256x128_1_0_0) σ15.dq v822 } := eσ16; clear eσ16
    refine load_dk ?_
    refine load_dk ?_
    refine store_dk ?_; refine name_state ?_
    intro σ17 eσ17
    have fσ17 : σ17 = { σ16 with dk := Rect.overlay (Rect.unit (s := S2048x128) (k0_off5 i 2#32) S256x128.size (k0_off5_inb i hc 2)) σ16.dk (addf (shapeCast S256x128 (View.ld (Val := Elt F) (e' := .f32) σ16.dk (Rect.unit (s := S2048x128) (k0_off5 i 2#32) S256x128.size (k0_off5_inb i hc 2))) shapeCasts_S256x128_S256x128) (dkMul v670 E.q1)) } := eσ17; clear eσ17
    refine load_dv ?_
    refine load_dv ?_
    refine store_dv ?_; refine name_state ?_
    intro σ18 eσ18
    have fσ18 : σ18 = { σ17 with dv := Rect.overlay (Rect.unit (s := S2048x128) (k0_off5 i 2#32) S256x128.size (k0_off5_inb i hc 2)) σ17.dv (addf (shapeCast S256x128 (View.ld (Val := Elt F) (e' := .f32) σ17.dv (Rect.unit (s := S2048x128) (k0_off5 i 2#32) S256x128.size (k0_off5_inb i hc 2))) shapeCasts_S256x128_S256x128) (dkMul (truncf .bf16 (wgt (fun x => x) E.l1 v497 v510 (rowAdd v558 v498)) bitsLt_bf16_f32) E.g1)) } := eσ18; clear eσ18
    refine load_cc ?_
    refine store_cc ?_; refine name_state ?_
    intro σ19 eσ19
    have fσ19 : σ19 = { σ18 with cc := Rect.overlay (Rect.unit (s := S2x256x128) ![0, 0, 0] S1x256x128.size inb_S2x256x128_S1x256x128_0_0_0) σ18.cc (shapeCast S1x256x128 v570 shapeCasts_S256x128_S1x256x128) } := eσ19; clear eσ19
    refine load_cg ?_
    refine store_cg ?_; refine name_state ?_
    intro σ20 eσ20
    have fσ20 : σ20 = { σ19 with cg := Rect.overlay (Rect.unit (s := S2x256x128) ![0, 0, 0] S1x256x128.size inb_S2x256x128_S1x256x128_0_0_0) σ19.cg (shapeCast S1x256x128 v662 shapeCasts_S256x128_S1x256x128) } := eσ20; clear eσ20
    refine load_cc ?_
    refine store_cc ?_; refine name_state ?_
    intro σ21 eσ21
    have fσ21 : σ21 = { σ20 with cc := Rect.overlay (Rect.unit (s := S2x256x128) ![1, 0, 0] S1x256x128.size inb_S2x256x128_S1x256x128_1_0_0) σ20.cc (shapeCast S1x256x128 v582 shapeCasts_S256x128_S1x256x128) } := eσ21; clear eσ21
    refine load_cg ?_
    refine run_pure ?_
    refine store_cg ?_; refine name_state ?_
    intro σ22 eσ22
    have fσ22 : σ22 = { σ21 with cg := Rect.overlay (Rect.unit (s := S2x256x128) ![1, 0, 0] S1x256x128.size inb_S2x256x128_S1x256x128_1_0_0) σ21.cg (shapeCast S1x256x128 v674 shapeCasts_S256x128_S1x256x128) } := eσ22; clear eσ22
    subst_vars
    with_reducible exact h'
  · intro hc h'; clear h ej1 jp1
    rw [dif_neg hc] at h'
    exact h'
  subst ej1; unfold jp1
  refine name_state ?_; intro τ1 eτ1; specialize h _ eτ1
  refine load_k ?_
  refine load_v ?_
  refine run_pure ?_
  exact h _ rfl _ rfl _ rfl _ rfl _ rfl _ rfl _ rfl _ rfl _ rfl _ rfl _ rfl _ rfl

end Cert.Attn
-- ==== Proof.Body.lean ====
module

public import proofs.«01_k».proof.Proof.Group1
public import proofs.«01_k».proof.Proof.Tail58
public import proofs.«01_k».proof.Proof.Tail59

/-!
# What the body does at a grid point
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {B : Bufs} {a7 : Memref sig .tc .vmem S8x128 .f32} {σ : St F}

/-- The loop over the left-over groups is empty: the first loop runs every group. -/
theorem t2_trips : ∀ i : grid0.Coords, (k0_t2_loop i).trips = 0 := by decide +kernel

theorem part56 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {v24 : IVec S1x128 32} {v25 : IVec S256x128 32}
    {v39 v41 : FVec F S256x128 .bf16} {v43 : FVec F S256x128 .f32} {z : BitVec 32}
    {Q : (Σ' (v49 : FVec F S256x128 .bf16) (v55 : FVec F S256x128 .bf16) (v61 : FVec F S256x128 .bf16) (v67 : FVec F S256x128 .bf16) (v73 : FVec F S256x1 .f32) (v79 : FVec F S256x1 .f32), FVec F S2x256x128 .f32) → sProp 𝕄}
    (h : ∀ v49, v49 = k0_pay500 v24 v39 z → ∀ v55, v55 = k0_pay501 v24 v39 → ∀ v61, v61 = k0_pay502 v24 v41 →
      ∀ v67, v67 = k0_pay503 v24 v41 → ∀ v73, v73 = k0_pay504 v25 v43 → ∀ v79, v79 = k0_pay505 v25 v43 →
      Held c B (fresh i σ) ⊢ Q ⟨v49, v55, v61, v67, v73, v79, k0_pay508 (F := F)⟩) :
    Held c B σ ⊢ Wp c (k0_part56 i B.a2 h2 B.a3 h3 B.a4 h4 B.a5 h5 B.a6 h6 a7 h7 B.a8 h8 B.a9 h9 B.a10 h10 B.a11 h11 B.a12 h12 B.a13 h13 (BitVec.ofNat 32 (i 1).val) v24 v25 v39 v41 v43 z) Q := by
  rw [k0_part56_eq_skeleton]; unfold k0_part56_skel
  lift_lets
  intro v80 v81 v82 jp1
  generalize ej1 : jp1 = j1
  refine run_dite j1 (fresh i σ) ?_ ?_ ?_
  · intro hc h'; clear h ej1 jp1
    unfold fresh at h'
    rw [if_pos hc] at h'
    refine load_dk ?_
    refine store_dk ?_
    refine load_dv ?_
    refine store_dv ?_
    exact h'
  · intro hc h'; clear h ej1 jp1
    unfold fresh at h'
    rw [if_neg hc] at h'
    exact h'
  subst ej1; unfold jp1
  exact run_pure (h _ rfl _ rfl _ rfl _ rfl _ rfl _ rfl)

theorem part57 {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {E : Env F} {arg1 : BitVec 32}
    {Q : (Σ' (c4_i32_47 : BitVec 32), BitVec 32) → sProp 𝕄}
    (h : Held c B (fours E i (clear σ) (k0_t1_loop i).trips) ⊢ Q ⟨4#32, 0#32⟩) :
    Held c B σ ⊢ Wp c (k0_part57 i B.a2 h2 B.a3 h3 B.a4 h4 B.a5 h5 B.a6 h6 a7 h7 B.a8 h8 B.a9 h9 B.a10 h10 B.a11 h11 B.a12 h12 B.a13 h13 arg1 E.half E.later E.before E.q0 E.q1 E.g0 E.g1 E.l0 E.l1 k0_pay508) Q := by
  rw [k0_part57_eq_skeleton]; unfold k0_part57_skel
  refine load_dq ?_
  refine store_dq ?_
  refine load_cc ?_
  refine store_cc ?_
  refine load_cg ?_
  refine store_cg ?_
  refine run_for (fours E i (clear σ)) ?_ ?_
  · intro t u Q' h'
    refine trip1 t u ?_
    unfold fours at h'
    rw [dif_pos t.isLt] at h'
    exact h'
  refine run_for_none (t2_trips i) ?_
  exact run_pure h

set_option maxHeartbeats 1000000 in
/-- The body takes the buffers from `σ` to `bodySt i σ`. -/
theorem run_body {i : grid0.Coords} {h2 : B.a2.IsWhole} {h3 : B.a3.IsWhole} {h4 : B.a4.IsWhole} {h5 : B.a5.IsWhole} {h6 : B.a6.IsWhole} {h7 : a7.IsWhole} {h8 : B.a8.IsWhole} {h9 : B.a9.IsWhole} {h10 : B.a10.IsWhole} {h11 : B.a11.IsWhole} {h12 : B.a12.IsWhole} {h13 : B.a13.IsWhole} {Q : PUnit → sProp 𝕄}
    (h : Held c B (bodySt i σ) ⊢ Q ⟨⟩) :
    Held c B σ ⊢ Wp c (cc0_attn_bwd i B.a2 h2 B.a3 h3 B.a4 h4 B.a5 h5 B.a6 h6 a7 h7 B.a8 h8 B.a9 h9 B.a10 h10 B.a11 h11 B.a12 h12 B.a13 h13) Q := by
  unfold bodySt writeOut at h
  rw [cc0_attn_bwd_eq_skeleton]; unfold cc0_attn_bwd_skel
  refine run_bind (part55 ?_)
  intro arg1 earg1
  intro v25 ev25
  intro v38 ev38
  intro v40 ev40
  intro v42 ev42
  intro v24 ev24
  intro v31 ev31
  intro v37 ev37
  intro v39 ev39
  intro v41 ev41
  intro v43 ev43
  intro vr evr
  subst earg1
  refine run_bind (part56 ?_)
  intro v49 ev49 v55 ev55 v61 ev61 v67 ev67 v73 ev73 v79 ev79
  obtain ⟨E, hE⟩ : ∃ E : Env F, E = envOf σ := ⟨_, rfl⟩
  rw [← hE] at h
  have fv24 : v24 = E.half := by subst_vars; rfl
  have fv31 : v31 = E.later := by subst_vars; rfl
  have fv37 : v37 = E.before := by subst_vars; rfl
  have fv49 : v49 = E.q0 := by subst_vars; rfl
  have fv55 : v55 = E.q1 := by subst_vars; rfl
  have fv61 : v61 = E.g0 := by subst_vars; rfl
  have fv67 : v67 = E.g1 := by subst_vars; rfl
  have fv73 : v73 = E.l0 := by subst_vars; rfl
  have fv79 : v79 = E.l1 := by subst_vars; rfl
  clear hE ev24 ev31 ev37 ev49 ev55 ev61 ev67 ev73 ev79
  subst fv24
  subst fv31
  subst fv37
  subst fv49
  subst fv55
  subst fv61
  subst fv67
  subst fv73
  subst fv79
  refine run_bind (part57 ?_)
  refine run_bind (part58 ?_)
  intro τ1 eτ1 τ2 eτ2
  intro v145 ev145; clear ev145
  intro v146 ev146; clear ev146
  intro v147 ev147; clear ev147
  intro v148 ev148; clear ev148
  intro v149 ev149; clear ev149
  intro v150 ev150; clear ev150
  intro v151 ev151; clear ev151
  intro v152 ev152; clear ev152
  intro v153 ev153; clear ev153
  intro v154 ev154; clear ev154
  intro v155 ev155; clear ev155
  refine run_bind (part59 ?_)
  intro τ3 eτ3
  have fτ3 : τ3 = lefts E i (fours E i (clear (fresh i σ)) (k0_t1_loop i).trips) := by rw [eτ3, eτ2, eτ1]; rfl
  clear eτ3 eτ2 eτ1 τ1 τ2
  rw [← fτ3] at h; clear fτ3
  intro v158 ev158; subst v158
  intro v159 ev159; subst v159
  intro v161 ev161
  intro v164 ev164
  intro cst_83 ecst_83; subst cst_83
  intro v162 ev162; have fv162 : v162 = (shapeCast S256x128 v161 shapeCasts_S256x128_S256x128) := ev162; clear ev162
  intro v167 ev167; have fv167 : v167 = (rowsMul E.q1 (shapeCast S256x128 v161 shapeCasts_S256x128_S256x128)) := ev167; clear ev167
  intro v174 ev174; have fv174 : v174 = (rowsMul E.g0 (keep E.half 0#32 (shapeCast S256x128 v164 shapeCasts_S256x128_S256x128))) := ev174; clear ev174
  intro v181 ev181; have fv181 : v181 = (rowsMul E.g1 (keep E.half 1#32 (shapeCast S256x128 v164 shapeCasts_S256x128_S256x128))) := ev181; clear ev181
  intro v184 ev184; subst v184
  intro v194 ev194; have fv194 : v194 = (logSig (rowsMul E.q0 (shapeCast S256x128 v161 shapeCasts_S256x128_S256x128))) := ev194; clear ev194
  intro v197 ev197; have fv197 : v197 = (below (subf (logSig (rowsMul E.q0 (shapeCast S256x128 v161 shapeCasts_S256x128_S256x128))) (rowsMul E.q0 (shapeCast S256x128 v161 shapeCasts_S256x128_S256x128)))) := ev197; clear ev197
  refine run_bind (part60 ?_)
  intro v215 ev215
  intro v217 ev217
  intro v219 ev219
  intro v221 ev221
  intro v207 ev207; have fv207 : v207 = (logSig v167) := ev207; clear ev207
  intro v214 ev214; have fv214 : v214 = (ordMul (below (subf (logSig v167) v167)) E.later) := ev214; clear ev214
  intro v218 ev218; have fv218 : v218 = (shapeCast S256x128 v217 shapeCasts_S1x256x128_S256x128) := ev218; clear ev218
  intro v220 ev220; have fv220 : v220 = (shapeCast S256x128 v219 shapeCasts_S1x256x128_S256x128) := ev220; clear ev220
  intro v222 ev222; have fv222 : v222 = (shapeCast S256x128 v221 shapeCasts_S1x256x128_S256x128) := ev222; clear ev222
  intro v226 ev226; have fv226 : v226 = (rowAdd (shapeCast S256x128 v215 shapeCasts_S1x256x128_S256x128) v197) := ev226; clear ev226
  intro v235 ev235; subst v235
  intro v236 ev236; have fv236 : v236 = (mulf v174 (wgt below E.l0 v194 (ordMul v197 E.later) (rowAdd (shapeCast S256x128 v215 shapeCasts_S1x256x128_S256x128) v197))) := ev236; clear ev236
  intro v237 ev237; subst v237
  refine run_bind (part61 ?_)
  intro v240 ev240; have fv240 : v240 = (rowAdd v218 (below (subf (logSig v167) v167))) := ev240; clear ev240
  intro v249 ev249; subst v249
  intro v264 ev264; have fv264 : v264 = (scoreGrad below v194 v236 (ordMul v236 E.before) v220) := ev264; clear ev264
  intro v268 ev268; have fv268 : v268 = (rowAdd v220 v236) := ev268; clear ev268
  intro v278 ev278; have fv278 : v278 = (scoreGrad below v207 (mulf v181 (wgt below E.l1 v207 v214 (rowAdd v218 (below (subf (logSig v167) v167))))) (ordMul (mulf v181 (wgt below E.l1 v207 v214 (rowAdd v218 (below (subf (logSig v167) v167))))) E.before) v222) := ev278; clear ev278
  intro v282 ev282; have fv282 : v282 = (rowAdd v222 (mulf v181 (wgt below E.l1 v207 v214 (rowAdd v218 (below (subf (logSig v167) v167)))))) := ev282; clear ev282
  intro v288 ev288; have fv288 : v288 = (keep E.half 0#32 v162) := ev288; clear ev288
  refine run_bind (part62 ?_)
  intro v289 ev289
  intro v293 ev293
  intro σ1 eσ1
  have fσ1 : σ1 = { τ3 with dq := Rect.overlay (Rect.unit (s := S2x256x128) ![0, 0, 0] S1x256x128.size inb_S2x256x128_S1x256x128_0_0_0) τ3.dq (shapeCast S1x256x128 (addf (shapeCast S256x128 v289 shapeCasts_S1x256x128_S256x128) (dqMul v264 v288)) shapeCasts_S256x128_S1x256x128) } := eσ1; clear eσ1
  intro v297 ev297
  intro v302 ev302
  intro σ2 eσ2
  have fσ2 : σ2 = { σ1 with dk := Rect.overlay (Rect.unit (s := S2048x128) (k0_off6 i) S256x128.size (k0_off6_inb i)) σ1.dk (addf (shapeCast S256x128 v297 shapeCasts_S256x128_S256x128) (dkMul v264 E.q0)) } := eσ2; clear eσ2
  intro v304 ev304
  intro v309 ev309
  intro σ3 eσ3
  have fσ3 : σ3 = { σ2 with dv := Rect.overlay (Rect.unit (s := S2048x128) (k0_off6 i) S256x128.size (k0_off6_inb i)) σ2.dv (addf (shapeCast S256x128 v304 shapeCasts_S256x128_S256x128) (dkMul (truncf .bf16 (wgt below E.l0 v194 (ordMul v197 E.later) (rowAdd (shapeCast S256x128 v215 shapeCasts_S1x256x128_S256x128) v197)) bitsLt_bf16_f32) E.g0)) } := eσ3; clear eσ3
  intro v316 ev316
  intro v320 ev320
  intro σ4 eσ4
  have fσ4 : σ4 = { σ3 with dq := Rect.overlay (Rect.unit (s := S2x256x128) ![1, 0, 0] S1x256x128.size inb_S2x256x128_S1x256x128_1_0_0) σ3.dq (shapeCast S1x256x128 (addf (shapeCast S256x128 v316 shapeCasts_S1x256x128_S256x128) (dqMul v278 (keep E.half 1#32 v162))) shapeCasts_S256x128_S1x256x128) } := eσ4; clear eσ4
  refine run_bind (part63 ?_)
  intro v324 ev324
  intro v329 ev329
  intro σ5 eσ5
  have fσ5 : σ5 = { σ4 with dk := Rect.overlay (Rect.unit (s := S2048x128) (k0_off6 i) S256x128.size (k0_off6_inb i)) σ4.dk (addf (shapeCast S256x128 v324 shapeCasts_S256x128_S256x128) (dkMul v278 E.q1)) } := eσ5; clear eσ5
  intro v331 ev331
  intro v336 ev336
  intro σ6 eσ6
  have fσ6 : σ6 = { σ5 with dv := Rect.overlay (Rect.unit (s := S2048x128) (k0_off6 i) S256x128.size (k0_off6_inb i)) σ5.dv (addf (shapeCast S256x128 v331 shapeCasts_S256x128_S256x128) (dkMul (truncf .bf16 (wgt below E.l1 v207 v214 (rowAdd v218 (below (subf (logSig v167) v167)))) bitsLt_bf16_f32) E.g1)) } := eσ6; clear eσ6
  intro v337 ev337
  intro σ7 eσ7
  have fσ7 : σ7 = { σ6 with cc := Rect.overlay (Rect.unit (s := S2x256x128) ![0, 0, 0] S1x256x128.size inb_S2x256x128_S1x256x128_0_0_0) σ6.cc (shapeCast S1x256x128 v226 shapeCasts_S256x128_S1x256x128) } := eσ7; clear eσ7
  intro v340 ev340
  intro σ8 eσ8
  have fσ8 : σ8 = { σ7 with cg := Rect.overlay (Rect.unit (s := S2x256x128) ![0, 0, 0] S1x256x128.size inb_S2x256x128_S1x256x128_0_0_0) σ7.cg (shapeCast S1x256x128 v268 shapeCasts_S256x128_S1x256x128) } := eσ8; clear eσ8
  intro v343 ev343
  intro σ9 eσ9
  have fσ9 : σ9 = { σ8 with cc := Rect.overlay (Rect.unit (s := S2x256x128) ![1, 0, 0] S1x256x128.size inb_S2x256x128_S1x256x128_1_0_0) σ8.cc (shapeCast S1x256x128 v240 shapeCasts_S256x128_S1x256x128) } := eσ9; clear eσ9
  intro v346 ev346
  intro σ10 eσ10
  have fσ10 : σ10 = { σ9 with cg := Rect.overlay (Rect.unit (s := S2x256x128) ![1, 0, 0] S1x256x128.size inb_S2x256x128_S1x256x128_1_0_0) σ9.cg (shapeCast S1x256x128 v282 shapeCasts_S256x128_S1x256x128) } := eσ10; clear eσ10
  intro v349 ev349
  intro v351 ev351
  intro v350 ev350; have fv350 : v350 = (shapeCast S256x128 v349 shapeCasts_S1x256x128_S256x128) := ev350; clear ev350
  intro v352 ev352; have fv352 : v352 = (shapeCast S256x128 v351 shapeCasts_S1x256x128_S256x128) := ev352; clear ev352
  refine load_out ?_
  refine store_out ?_; refine name_state ?_
  intro σ11 eσ11
  have fσ11 : σ11 = { σ10 with out := Rect.overlay (Rect.unit (s := S256x128) ![0, 0] S256x128.size inb_S256x128_S256x128_0_0) σ10.out (addf v350 v352) } := eσ11; clear eσ11
  refine run_pure ?_
  subst_vars
  with_reducible exact h

end Cert.Attn
-- ==== Proof.Run.lean ====
module

public import proofs.«01_k».proof.Proof.Step
public import proofs.«01_k».proof.Proof.Body

/-!
# The run of the kernel

What the windows hold after each grid point, by recursion on the point: a pair's later query blocks add to the key and
value gradients its earlier ones left. From it, the run of the whole program over any float values.
-/

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` starts from, the key and value gradients `dk` and `dv` left by the point before. -/
def startSt (c : Dev nD) (t : Fin cfg0.N) (dk dv : S2048x128.Idx → Elt F .f32) : St F where
  dO := iblk m c 0 t
  q := iblk m c 1 t
  k := iblk m c 2 t
  v := iblk m c 3 t
  lt := iblk m c 4 t
  out := constant S256x128 .f32 0x00000000#32
  dk := dk
  dv := dv
  dq := k0_pay510
  cc := k0_pay510
  cg := k0_pay510

/-- What point `n` leaves. -/
def pointSt (c : Dev nD) : (n : Nat) → n < cfg0.N → St F
  | 0, h => bodySt (grid0.coords ⟨0, h⟩) (startSt m c ⟨0, h⟩ k0_pay506 k0_pay507)
  | n + 1, h => bodySt (grid0.coords ⟨n + 1, h⟩)
      (startSt m c ⟨n + 1, h⟩ (pointSt c n (Nat.lt_of_succ_lt h)).dk (pointSt c n (Nat.lt_of_succ_lt h)).dv)

/-- The data of the run on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (pointSt m c t.val t.isLt).out
    | ⟨7, _⟩ => (pointSt m c t.val t.isLt).dk
    | ⟨8, _⟩ => (pointSt m c t.val t.isLt).dv
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (pointSt m c t.val t.isLt).out := by dsimp only [dats]
theorem after_7 (c : Dev nD) (t : Fin cfg0.N) : (dats m 0 c).after 7 t = (pointSt m c t.val t.isLt).dk := by dsimp only [dats]
theorem after_8 (c : Dev nD) (t : Fin cfg0.N) : (dats m 0 c).after 8 t = (pointSt m c t.val t.isLt).dv := by dsimp only [dats]

/-- A pair's first query block, by the point's number. -/
theorem isFirst_iff : ∀ t : Fin cfg0.N, isFirst (grid0.coords t) ↔ t.val % 8 = 0 := by decide +kernel

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The key gradients' buffer, at a point that is not a pair's first, holds what the point before left. -/
theorem before_7 (c : Dev nD) (t : Fin cfg0.N) (h : t.val % 8 ≠ 0) (h' : t.val - 1 < cfg0.N) (d) :
    (dats m 0 c).before 7 t d = (pointSt m c (t.val - 1) h').dk := by
  rw [(dats m 0 c).before_out_kept 7 rfl t (by omega) ?_ (fun _ => rfl) (fun _ _ => rfl), after_7]
  rw [Bool.eq_false_iff]
  intro hf
  have := (flush0_7 _).mp hf
  simp only at this
  omega

/-- The value gradients' buffer likewise. -/
theorem before_8 (c : Dev nD) (t : Fin cfg0.N) (h : t.val % 8 ≠ 0) (h' : t.val - 1 < cfg0.N) (d) :
    (dats m 0 c).before 8 t d = (pointSt m c (t.val - 1) h').dv := by
  rw [(dats m 0 c).before_out_kept 8 rfl t (by omega) ?_ (fun _ => rfl) (fun _ _ => rfl), after_8]
  rw [Bool.eq_false_iff]
  intro hf
  have := (flush0_8 _).mp hf
  simp only at this
  omega

/-- The buffers the body works on at point `t`. -/
def bufs (t : Fin cfg0.N) : Bufs where
  a2 := win0_0.stage (cfg0.slots t 0)
  a3 := win0_1.stage (cfg0.slots t 1)
  a4 := win0_2.stage (cfg0.slots t 2)
  a5 := win0_3.stage (cfg0.slots t 3)
  a6 := win0_4.stage (cfg0.slots t 4)
  a8 := win0_6.stage (cfg0.slots t 6)
  a9 := win0_7.stage (cfg0.slots t 7)
  a10 := win0_8.stage (cfg0.slots t 8)
  a11 := Memref.whole cc0_scratch0
  a12 := Memref.whole cc0_scratch1
  a13 := Memref.whole cc0_scratch2

theorem pointSt_zero (c : Dev nD) (h : 0 < cfg0.N) :
    pointSt m c 0 h = bodySt (grid0.coords ⟨0, h⟩) (startSt m c ⟨0, h⟩ k0_pay506 k0_pay507) := by
  unfold pointSt; with_reducible rfl

theorem pointSt_succ (c : Dev nD) (n : Nat) (h : n + 1 < cfg0.N) :
    pointSt m c (n + 1) h = bodySt (grid0.coords ⟨n + 1, h⟩)
      (startSt m c ⟨n + 1, h⟩ (pointSt m c n (Nat.lt_of_succ_lt h)).dk (pointSt m c n (Nat.lt_of_succ_lt h)).dv) := by
  conv_lhs => unfold pointSt

theorem startSt_same (c : Dev nD) (t : Fin cfg0.N) (dk dv dk' dv' : S2048x128.Idx → Elt F .f32) :
    Same (startSt m c t dk dv) (startSt m c t dk' dv') := ⟨rfl, rfl, rfl, rfl, rfl⟩

/-- Whatever the written buffers held, a point leaves `pointSt`. -/
theorem pointSt_eq (c : Dev nD) (t : Fin cfg0.N) (σ : St F) (dk dv) (hs : Same σ (startSt m c t dk dv))
    (h5 : ∀ (_ : t.val % 8 ≠ 0) (h' : t.val - 1 < cfg0.N), σ.dk = (pointSt m c (t.val - 1) h').dk)
    (h6 : ∀ (_ : t.val % 8 ≠ 0) (h' : t.val - 1 < cfg0.N), σ.dv = (pointSt m c (t.val - 1) h').dv) :
    bodySt (grid0.coords t) σ = pointSt m c t.val t.isLt := by
  obtain ⟨n, hn⟩ := t
  have hk : ¬isFirst (grid0.coords ⟨n, hn⟩) → n % 8 ≠ 0 := fun h h' => h ((isFirst_iff ⟨n, hn⟩).mpr h')
  cases n with
  | zero =>
    have hs' := hs.trans (startSt_same m c ⟨0, hn⟩ dk dv k0_pay506 k0_pay507)
    refine Eq.trans ?_ (pointSt_zero m c hn).symm
    exact bodySt_congr _ _ _ hs'.dO hs'.q hs'.k hs'.v hs'.lt (fun h => absurd (Nat.zero_mod 8) (hk h)) (fun h => absurd (Nat.zero_mod 8) (hk h))
  | succ n =>
    have hs' := hs.trans (startSt_same m c ⟨n + 1, hn⟩ dk dv (pointSt m c n (Nat.lt_of_succ_lt hn)).dk (pointSt m c n (Nat.lt_of_succ_lt hn)).dv)
    refine Eq.trans ?_ (pointSt_succ m c n hn).symm
    exact bodySt_congr _ _ _ hs'.dO hs'.q hs'.k hs'.v hs'.lt (fun h => h5 (hk h) (Nat.lt_of_succ_lt hn)) (fun h => h6 (hk h) (Nat.lt_of_succ_lt hn))

/-- What the body is called with at point `t`. -/
def bodyPre (c : Dev nD) (t : Fin cfg0.N) : sProp 𝕄 :=
  iprop((dats m 0 c).Φ t.castSucc ∗ (dats m 0 c).owesAt () t.castSucc
    ∗ ((∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))))

/-- What it returns. -/
def bodyPost (c : Dev nD) (t : Fin cfg0.N) : sProp 𝕄 :=
  iprop((dats m 0 c).Φ t.succ ∗ (dats m 0 c).owesAt () t.succ
    ∗ (owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)))

/-- A run with a resource it does not touch. -/
theorem wp_carry {c : Dev nD} {p : Prog (TpuEff nD τ sig (Elt F) Λ₀ .tc) PUnit} {A R : sProp 𝕄} {Q Q' : PUnit → sProp 𝕄}
    (h : A ⊢ Wp c p Q) (hq : ∀ a, iprop(Q a ∗ R) ⊢ Q' a) : iprop(A ∗ R) ⊢ Wp c p Q' :=
  (sep_mono h .rfl).trans ((wp_frame_r _ _ _).trans (wp_mono _ _ _ hq))

/-- The body at point `t` on the buffers at `σ`. -/
theorem run_at (c : Dev nD) (t : Fin cfg0.N) (σ : St F) :
    Held c (bufs t) σ ⊢ wp frame (wpE (defs₀ (F := F)) 𝒱₀ c none) Set.univ (bodyAt0 t)
      (fun _ => Held c (bufs t) (bodySt (grid0.coords t) σ)) := by
  unfold bodyAt0
  exact run_body (c := c) (B := bufs t) (σ := σ) .rfl

set_option maxHeartbeats 4000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨⟨%f0, HS0⟩, ⟨%f1, HS1⟩, ⟨%f2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0, before_1, before_2, before_3, before_4, before_5]
  obtain ⟨σ, hdO, hq, hk, hv, hlt, hout, hdk, hdv, hdq, hcc, hcg⟩ : ∃ σ : St F, σ.dO = iblk m c 0 t ∧ σ.q = iblk m c 1 t
      ∧ σ.k = iblk m c 2 t ∧ σ.v = iblk m c 3 t ∧ σ.lt = iblk m c 4 t ∧ σ.out = (dats m 0 c).before 6 t d6
      ∧ σ.dk = (dats m 0 c).before 7 t d7 ∧ σ.dv = (dats m 0 c).before 8 t d8 ∧ σ.dq = f0 ∧ σ.cc = f1 ∧ σ.cg = f2 :=
    ⟨⟨iblk m c 0 t, iblk m c 1 t, iblk m c 2 t, iblk m c 3 t, iblk m c 4 t, (dats m 0 c).before 6 t d6,
      (dats m 0 c).before 7 t d7, (dats m 0 c).before 8 t d8, f0, f1, f2⟩, rfl, rfl, rfl, rfl, rfl, rfl, rfl, rfl, rfl, rfl, rfl⟩
  have hσ : bodySt (grid0.coords t) σ = pointSt m c t.val t.isLt :=
    pointSt_eq m c t σ k0_pay506 k0_pay507 ⟨hdO, hq, hk, hv, hlt⟩
      (fun h h' => hdk.trans (before_7 m c t h h' d7)) (fun h h' => hdv.trans (before_8 m c t h h' d8))
  have hs : Same (bodySt (grid0.coords t) σ) σ := bodySt_same _ σ
  rw [after_0, after_1, after_2, after_3, after_4, after_5, after_6, after_7, after_8, ← hσ]
  have hrun := run_at (F := F) c t σ
  generalize bodySt (grid0.coords t) σ = σ' at hs hrun ⊢
  generalize bodyAt0 (F := F) t = p at hrun ⊢
  iapply (wp_carry (R := iprop((∃ r, prngReg c r) ∗ (dats m 0 c).owesAt () t.castSucc ∗ owns (c : Thread nD τ) (st0_5 t) fullShare (iblk m c 5 t))) hrun ?_)
  swap
  · isplitr [Hg Ho H5]
    swap
    · isplitl [Hg]; · iexact Hg
      isplitl [Ho]; · iexact Ho
      iexact H5
    unfold Held
    rw [hdO, hq, hk, hv, hlt, hout, hdk, hdv, hdq, hcc, hcg]
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [HS0]
    · unfold bufs; dsimp only; rw [owns_whole_eq]; iexists f0; isplitr; · ipureintro; rfl
      iexact HS0
    isplitl [HS1]
    · unfold bufs; dsimp only; rw [owns_whole_eq]; iexists f1; isplitr; · ipureintro; rfl
      iexact HS1
    · unfold bufs; dsimp only; rw [owns_whole_eq]; iexists f2; isplitr; · ipureintro; rfl
      iexact HS2
  intro _
  unfold Held bufs
  dsimp only
  rw [hs.dO, hs.q, hs.k, hs.v, hs.lt, hdO, hq, hk, hv, hlt, owns_whole_eq, owns_whole_eq, owns_whole_eq]
  iintro ⟨⟨H0, H1, H2, H3, H4, H6, H7, H8, ⟨%g0, -, HS0⟩, ⟨%g1, -, HS1⟩, ⟨%g2, -, HS2⟩⟩, Hg, Ho, H5⟩
  isplitl [HS0 HS1 HS2 Hg]
  · isplitr [Hg]
    · isplitl [HS0]; · iexists _; iexact HS0
      isplitl [HS1]; · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- Every run of the program ends, its arrays at what the points left, its counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main
    (hbody := fun c => (body_obligation m c).loose) (hshare := fun c w => by fin_cases w <;> rfl) (howed := fun _ _ => rfl)
    (V₀ := V0 m) (opss := [hostOps1]) (hsub := sfx_sub) (hfresh := sfx_fresh) (hkeep := sfx_keeps) (hmain := hmain m 𝒱₀)
    (hA := fun _ _ => rfl) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.Attn
-- ==== Proof.Operands.lean ====
module

public import proofs.«01_k».proof.Proof.Soft
public import proofs.«01_k».proof.Proof.Run
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe
open Idealize.SL.Sem
open Finset (range)

variable (m : (ℓ : Loc nD τ sig) → Buf (Elt Ideal) ℓ) (c : Dev nD)
variable {q k v : ℕ → ℕ → ℝ}

theorem flat_ops : (List.flatten [hostOps0, hostOps0_1, hostOps0_2, hostOps0_3, hostOps0_4] : List (HloOp τ sig (Elt Ideal)))
    = hostOps0 ++ (hostOps0_1 ++ (hostOps0_2 ++ (hostOps0_3 ++ hostOps0_4))) := by
  simp only [List.flatten_cons, List.flatten_nil, List.append_nil]

theorem V_v2 : V m c main_v2 = mulf (truncf (F := Ideal) .bf16 (m ((c : Thread nD τ).loc main_arg1)) bitsLt_bf16_f32)
    (broadcastInDim S2048x512 ![] bcast_S_S2048x512 (constant (F := Ideal) S_ .bf16 0x3E00#16)) := by
  show StableHlo.after (List.flatten _) (fun b => m (c, b)) (Proc.devRef .tc main_v2) = _
  rw [flat_ops]
  simp only [List.cons_append, List.nil_append]
  after_results

theorem V_v3 : V m c main_v3 = truncf (F := Ideal) .bf16 (m ((c : Thread nD τ).loc main_arg2)) bitsLt_bf16_f32 := by
  show StableHlo.after (List.flatten _) (fun b => m (c, b)) (Proc.devRef .tc main_v3) = _
  rw [flat_ops]
  simp only [List.cons_append, List.nil_append]
  after_results

theorem V_v23 : V m c main_v23 = truncf (F := Ideal) .bf16 (m ((c : Thread nD τ).loc main_arg3)) bitsLt_bf16_f32 := by
  show StableHlo.after (List.flatten _) (fun b => m (c, b)) (Proc.devRef .tc main_v23) = _
  rw [flat_ops]
  simp only [List.cons_append, List.nil_append]
  after_results

/-- The scores of all heads: the products of a head's queries and keys, scaled. -/
def scores (q k : FVec Ideal S2048x512 .f32) : FVec Ideal S8x2048x2048 .f32 :=
  mulf (Host.dotGeneral dot_S2048x8x64_S2048x8x64_S8x2048x2048_2_2_0_0_1_1 none
      (shapeCast S2048x8x64 q shapeCasts_S2048x512_S2048x8x64) (shapeCast S2048x8x64 k shapeCasts_S2048x512_S2048x8x64))
    (broadcastInDim S8x2048x2048 ![] bcast_S_S8x2048x2048 (constant (F := Ideal) S_ .f32 0x3E000000#32))

/-- The sum over the keys of the log-remainders. -/
def totals (z : FVec Ideal S8x2048x2048 .f32) : FVec Ideal S8x2048 .f32 :=
  Host.reduceAdd (select (earlier bcast_S1x2048_S2048x2048_0_1 bcast_S2048_S1x2048_1 bcast_S2048x1_S2048x2048_0_1 bcast_S2048_S2048x1_0 bcast_S2048x2048_S8x2048x2048_1_2)
      (Host.negf (softp (Host.negf (Host.negf z)) (broadcastInDim S8x2048x2048 ![] bcast_S_S8x2048x2048 (constant (F := Ideal) S_ .f32 0#32))))
      (broadcastInDim S8x2048x2048 ![] bcast_S_S8x2048x2048 (id (constant (F := Ideal) S_ .f32 0#32))))
    (constant (F := Ideal) S_ .f32 0#32) reducesTo_S8x2048x2048_S8x2048_d2 h_S_

theorem V_v22 : V m c main_v22 = shapeCast S2048x512 (broadcastInDim S2048x8x64 ![0, 1] bcast_S2048x8_S2048x8x64_0_1
    (transpose S2048x8 [1, 0] (totals (scores (m ((c : Thread nD τ).loc main_arg1)) (m ((c : Thread nD τ).loc main_arg2))))
      transposes_S8x2048_S2048x8_1_0)) shapeCasts_S2048x8x64_S2048x512 := by
  show StableHlo.after (List.flatten _) (fun b => m (c, b)) (Proc.devRef .tc main_v22) = _
  rw [flat_ops]
  simp only [List.cons_append, List.nil_append]
  after_results
  rfl

theorem eighth32 : Ideal.ofBits FTy.f32 0x3E000000#32 = (((1 / 8 : ℝ)) : EReal) := by
  simp [Ideal.ofBits, Ideal.ieee, -EReal.coe_mul]
  norm_num

theorem eighth16 : Ideal.ofBits FTy.bf16 0x3E00#16 = (((1 / 8 : ℝ)) : EReal) := by
  simp [Ideal.ofBits, Ideal.ieee, -EReal.coe_mul]
  norm_num

theorem isT_scores {A B : FVec Ideal S2048x512 .f32} {a b : ℕ → ℕ → ℝ} (ha : IsM A a) (hb : IsM B b) :
    IsT (scores A B) (fun h t s => sc a b h t s) := by
  intro h t s
  pointwise [scores]
  have e : (∑ l ∈ range 64, a t ((h : ℕ) * 64 + l) * b s ((h : ℕ) * 64 + l)) * (1 / 8) = sc a b h t s := by
    rw [sc, Finset.sum_mul]
    exact Finset.sum_congr rfl fun l _ => by rw [mul_comm 64 (h : ℕ)]; ring
  rw [eighth32, ← e, EReal.coe_mul, ← sum_axis]
  congr 1
  exact Finset.sum_congr rfl fun l _ => by rw [ha, hb, EReal.coe_mul]

theorem isM_totals {Z : FVec Ideal S8x2048x2048 .f32} {z : ℕ → ℕ → ℕ → ℝ} (hz : IsT Z z) :
    IsM (totals Z) (fun h t => ∑ s ∈ range 2048, rem (z h) t s) := by
  intro h t
  unfold totals
  have hx := isT_earlier (H1 := bcast_S1x2048_S2048x2048_0_1) (H2 := bcast_S2048_S1x2048_1) (H3 := bcast_S2048x1_S2048x2048_0_1)
    (H4 := bcast_S2048_S2048x1_0) (H5 := bcast_S2048x2048_S8x2048x2048_1_2)
    (isT_negf (isT_softp (isT_negf (isT_negf hz)) (isT_zero (H := bcast_S_S8x2048x2048)))) (isT_zero' (H := bcast_S_S8x2048x2048))
  revert hx
  generalize select _ _ _ = X
  intro hx
  pointwise
  rw [← sum_axis]
  exact Finset.sum_congr rfl fun s _ => (hx h t s).trans (by dsimp only; rw [rem, neg_neg, sp_pos, neg_sub])

theorem op_q (hq : IsM (φ := .f32) (m ((c : Thread nD τ).loc main_arg1)) q) : IsM (φ := .bf16) (V m c main_v2) (fun t j => q t j * (1 / 8)) := by
  intro t j
  rw [V_v2]
  pointwise
  rw [hq t j, eighth16, EReal.coe_mul]

theorem op_k (hk : IsM (φ := .f32) (m ((c : Thread nD τ).loc main_arg2)) k) : IsM (φ := .bf16) (V m c main_v3) k := by
  intro t j
  rw [V_v3]
  exact hk t j

theorem op_v (hv : IsM (φ := .f32) (m ((c : Thread nD τ).loc main_arg3)) v) : IsM (φ := .bf16) (V m c main_v23) v := by
  intro t j
  rw [V_v23]
  exact hv t j

theorem op_l (hq : IsM (φ := .f32) (m ((c : Thread nD τ).loc main_arg1)) q) (hk : IsM (φ := .f32) (m ((c : Thread nD τ).loc main_arg2)) k) :
    IsM (φ := .f32) (V m c main_v22) (fun t j => ∑ s ∈ range 2048, rem (sc q k (j / 64)) t s) := by
  intro t j
  rw [V_v22]
  have hx := isM_totals (isT_scores hq hk)
  revert hx
  generalize totals _ = X
  intro hx
  pointwise
  exact hx ⟨(j : ℕ) / 64, by omega⟩ t

end Cert.Attn
-- ==== Proof.Reads.lean ====
module

public import proofs.«01_k».proof.Proof.Model
public import proofs.«01_k».proof.Proof.Step

/-!
# Reading and replacing part of an array

The rows of a key block, and the rows of one head, read from an array and replaced in it, element by element.
-/

@[expose] public section

set_option maxRecDepth 16384

noncomputable section

namespace Cert.Attn

open Cert.KernelIdeal Cert.KernelIdeal.Gen
open Idealize.ShloMosaic Idealize.ShloMosaic.TcCoe
open Idealize.SL.Sem
open Finset (range)

section Rect
variable {s : Shape} {α : Type}

/-- An index the rectangle reaches holds the new value, -/
theorem overlay_at (r : Rect s) (X : s.Idx → α) (v : r.shape.Idx → α) (i : r.shape.Idx) (j : s.Idx)
    (h : ∀ a, (r.emb i a : ℕ) = j a) : r.overlay X v j = v i := by
  have e : r.emb i = j := funext fun a => Fin.ext (h a)
  rw [← e, Rect.overlay_emb]

/-- one it does not reach the old. -/
theorem overlay_off (r : Rect s) (X : s.Idx → α) (v : r.shape.Idx → α) (j : s.Idx)
    (h : ∀ i, ∃ a, (r.emb i a : ℕ) ≠ j a) : r.overlay X v j = X j := by
  refine Rect.overlay_of_not_mem r X v fun hm => ?_
  rw [← Rect.map_emb_univ, Finset.mem_map] at hm
  obtain ⟨i, -, e⟩ := hm
  obtain ⟨a, ha⟩ := h i
  exact ha (by rw [e])

end Rect

section Rows
variable {φ : FTy} {o : Fin 2 → Nat} {inb : ∀ a, o a + S256x128.size a ≤ S2048x128.size a} {b : ℕ}

/-- A key block's row. -/
theorem row_lt (hb : b < 8) (c : Fin 256) : 256 * b + (c : ℕ) < 2048 := by have := c.2; omega

theorem rowsOf_apply (X : FVec Ideal S2048x128 .bf16) (h0 : o 0 = 256 * b) (h1 : o 1 = 0) (hb : b < 8) (c : Fin 256) (l : Fin 128) :
    rowsOf X o inb (ix2 c l) = X (ix2 ⟨256 * b + c, row_lt hb c⟩ l) := by
  pointwise
  refine congrArg X ?_
  idx_ext

theorem isM_rowsOf {X : FVec Ideal S2048x128 .bf16} {x : ℕ → ℕ → ℝ} (hX : IsM X x) (h0 : o 0 = 256 * b) (h1 : o 1 = 0) (hb : b < 8) :
    IsM (rowsOf X o inb) (fun c l => x (256 * b + c) l) := fun c l => by
  rw [rowsOf_apply X h0 h1 hb, hX]

/-- The rows of a key block read from the gradients, the block as an index of rows. -/
theorem ld_row (X : FVec Ideal S2048x128 .f32) (h0 : o 0 = 256 * b) (h1 : o 1 = 0) (hb : b < 8) (c : Fin 256) (l : Fin 128) :
    View.ld (Val := Elt Ideal) (e' := .f32) X (Rect.unit (s := S2048x128) o S256x128.size inb) (ix2 c l : S256x128.Idx)
      = X (ix2 ⟨256 * b + c, row_lt hb c⟩ l) := by
  pointwise
  refine congrArg X ?_
  idx_ext

theorem overlay_row_in (X : FVec Ideal S2048x128 .f32) (v : FVec Ideal S256x128 .f32) (h0 : o 0 = 256 * b) (h1 : o 1 = 0)
    (c : Fin 256) (s : Fin 2048) (hs : (s : ℕ) = 256 * b + c) (l : Fin 128) :
    (Rect.unit (s := S2048x128) o S256x128.size inb).overlay X v (ix2 s l) = v (ix2 c l) := by
  refine overlay_at (Rect.unit (s := S2048x128) o S256x128.size inb) X v (ix2 c l : S256x128.Idx) _ fun a => ?_
  rw [Rect.emb_apply]
  match a with
  | 0 => show o 0 + 1 * (c : ℕ) = s; omega
  | 1 => show o 1 + 1 * (l : ℕ) = l; omega

theorem overlay_row_out (X : FVec Ideal S2048x128 .f32) (v : FVec Ideal S256x128 .f32) (h0 : o 0 = 256 * b)
    (s : Fin 2048) (hs : (s : ℕ) < 256 * b ∨ 256 * (b + 1) ≤ s) (l : Fin 128) :
    (Rect.unit (s := S2048x128) o S256x128.size inb).overlay X v (ix2 s l) = X (ix2 s l) := by
  refine overlay_off (Rect.unit (s := S2048x128) o S256x128.size inb) X v _ fun i => ⟨0, ?_⟩
  rw [Rect.emb_apply]
  have hi : (i 0 : ℕ) < 256 := (i 0).isLt
  show o 0 + 1 * (i 0 : ℕ) ≠ s
  omega

/-- A block's rows of the gradients with a product added. -/
theorem isM_dkAdd {X : FVec Ideal S2048x128 .f32} {x : ℕ → ℕ → ℝ} (hX : IsM X x) (h0 : o 0 = 256 * b) (h1 : o 1 = 0) (hb : b < 8)
    {w : FVec Ideal S256x256 .bf16} {q : FVec Ideal S256x128 .bf16} {y : ℕ → ℕ → ℝ} (hy : IsM (dkMul w q) y) :
    IsM ((Rect.unit (s := S2048x128) o S256x128.size inb).overlay X
        (dkAdd w q (View.ld (Val := Elt Ideal) (e' := .f32) X (Rect.unit (s := S2048x128) o S256x128.size inb))))
      (fun s l => x s l + if 256 * b ≤ s ∧ s < 256 * (b + 1) then y (s - 256 * b) l else 0) := by
  intro s l
  by_cases hs : 256 * b ≤ (s : ℕ) ∧ (s : ℕ) < 256 * (b + 1)
  · have hc : (s : ℕ) - 256 * b < 256 := by omega
    have e : (s : ℕ) = 256 * b + ((⟨(s : ℕ) - 256 * b, hc⟩ : Fin 256) : ℕ) := by simp only; omega
    rw [overlay_row_in X _ h0 h1 ⟨(s : ℕ) - 256 * b, hc⟩ s e l]
    dsimp only
    rw [if_pos hs, EReal.coe_add]
    have e2 : (⟨256 * b + ((⟨(s : ℕ) - 256 * b, hc⟩ : Fin 256) : ℕ), row_lt hb _⟩ : Fin 2048) = s := Fin.ext e.symm
    have h3 : shapeCast S256x128 (View.ld (Val := Elt Ideal) (e' := .f32) X (Rect.unit (s := S2048x128) o S256x128.size inb))
        shapeCasts_S256x128_S256x128 (ix2 ⟨(s : ℕ) - 256 * b, hc⟩ l) = ((x s l : ℝ) : EReal) := by
      pointwise
      rw [← hX s l]
      refine congrArg X ?_
      idx_ext
    show shapeCast S256x128 (View.ld (Val := Elt Ideal) (e' := .f32) X (Rect.unit (s := S2048x128) o S256x128.size inb))
        shapeCasts_S256x128_S256x128 (ix2 ⟨(s : ℕ) - 256 * b, hc⟩ l) + dkMul w q (ix2 ⟨(s : ℕ) - 256 * b, hc⟩ l) = _
    rw [h3, hy ⟨(s : ℕ) - 256 * b, hc⟩ l]
  · rw [overlay_row_out X _ h0 s (by omega) l]
    dsimp only
    rw [if_neg hs, add_zero, hX]

end Rows

/-- An array of two heads holds the real numbers `x`. -/
def IsH (X : FVec Ideal S2x256x128 .f32) (x : ℕ → ℕ → ℕ → ℝ) : Prop :=
  ∀ (h : Fin 2) (a : Fin 256) (l : Fin 128), X (ix3 h a l) = ((x h a l : ℝ) : EReal)

section Heads
variable (X : FVec Ideal S2x256x128 .f32) (v : FVec Ideal S1x256x128 .f32)

theorem slab0_at0 (a : Fin 256) (l : Fin 128) : slab0.overlay X v (ix3 0 a l) = v (ix3 0 a l) := by
  refine overlay_at slab0 X v (ix3 0 a l : S1x256x128.Idx) _ fun x => ?_
  rw [Rect.emb_apply]
  match x with
  | 0 => show 0 + 1 * 0 = 0; omega
  | 1 => show 0 + 1 * (a : ℕ) = a; omega
  | 2 => show 0 + 1 * (l : ℕ) = l; omega

theorem slab0_at1 (a : Fin 256) (l : Fin 128) : slab0.overlay X v (ix3 1 a l) = X (ix3 1 a l) := by
  refine overlay_off slab0 X v _ fun i => ⟨0, ?_⟩
  rw [Rect.emb_apply]
  have hi : (i 0 : ℕ) < 1 := (i 0).isLt
  show 0 + 1 * (i 0 : ℕ) ≠ 1
  omega

theorem slab1_at1 (a : Fin 256) (l : Fin 128) : slab1.overlay X v (ix3 1 a l) = v (ix3 0 a l) := by
  refine overlay_at slab1 X v (ix3 0 a l : S1x256x128.Idx) _ fun x => ?_
  rw [Rect.emb_apply]
  match x with
  | 0 => show 1 + 1 * 0 = 1; omega
  | 1 => show 0 + 1 * (a : ℕ) = a; omega
  | 2 => show 0 + 1 * (l : ℕ) = l; omega

theorem slab1_at0 (a : Fin 256) (l : Fin 128) : slab1.overlay X v (ix3 0 a l) = X (ix3 0 a l) := by
  refine overlay_off slab1 X v _ fun i => ⟨0, ?_⟩
  rw [Rect.emb_apply]
  show 1 + 1 * (i 0 : ℕ) ≠ 0
  omega

theorem flat0 (a : Fin 256) (l : Fin 128) :
    flat (View.ld (Val := Elt Ideal) (e' := .f32) X slab0) (ix2 a l) = X (ix3 0 a l) := by
  pointwise

theorem flat1 (a : Fin 256) (l : Fin 128) :
    flat (View.ld (Val := Elt Ideal) (e' := .f32) X slab1) (ix2 a l) = X (ix3 1 a l) := by
  pointwise

theorem tall_apply (y : FVec Ideal S256x128 .f32) (a : Fin 256) (l : Fin 128) : tall y (ix3 0 a l) = y (ix2 a l) := by
  pointwise

end Heads

end Cert.Attn
-- ==== Proof.Chain.lean ====
module

public import proofs.«01_k».proof.Proof.Reads

/-!
# One key block

What a chain computes at query block `i` of pair `p` over key block `b`, of real numbers, and what one key block adds to the
gradients and to the running sums.
-/

@[expose] public section

set_option maxRecDepth 16384

noncomputable section

namespace Cert.Attn

open Cert.KernelIdeal Cert.KernelIdeal.Gen
open Idealize.ShloMosaic Idealize.ShloMosaic.TcCoe
open Idealize.SL.Sem
open Finset (range)

/-- The key is before the query. -/
abbrev Before (i b a c : ℕ) : Prop := 256 * b + c < 256 * i + a

section Chain
variable {q k v d : ℕ → ℕ → ℝ} {p i b h : ℕ} (hh : h < 2) (hb : b < 8)
  {m : FVec Ideal S256x256 .f32 → FVec Ideal S256x256 .f32} (hm : MaskIs m (Before i b))
  {Q K G V : FVec Ideal S256x128 .bf16}
  (hQ : IsM Q (fun a l => if l / 64 = h then q (256 * i + a) (128 * p + l) * (1 / 8) else 0))
  (hK : IsM K (fun c l => k (256 * b + c) (128 * p + l)))

include hh hQ hK in
theorem chain_scores : IsM (rowsMul Q K) (fun a c => sc q k (2 * p + h) (256 * i + a) (256 * b + c)) := by
  refine (isM_rowsMul hQ hK).congr fun a _ c _ => ?_
  simp only [sc, ite_mul, zero_mul]
  refine (sum_half (fun l => q (256 * i + a) (128 * p + l) * (1 / 8) * k (256 * b + c) (128 * p + l)) h hh).trans ?_
  exact Finset.sum_congr rfl fun l _ => by rw [show 128 * p + (64 * h + l) = 64 * (2 * p + h) + l from by ring]

variable (hG : IsM G (fun a l => if l / 64 = h then d (256 * i + a) (128 * p + l) else 0))
  (hV : IsM V (fun c l => if l / 64 = h then v (256 * b + c) (128 * p + l) else 0))

include hh hG hV in
theorem chain_dw : IsM (rowsMul G V) (fun a c => dw v d (2 * p + h) (256 * i + a) (256 * b + c)) := by
  refine (isM_rowsMul hG hV).congr fun a _ c _ => ?_
  rw [dw, Finset.sum_congr rfl fun l _ => show (if l / 64 = h then d (256 * i + a) (128 * p + l) else 0)
      * (if l / 64 = h then v (256 * b + c) (128 * p + l) else 0)
      = if l / 64 = h then d (256 * i + a) (128 * p + l) * v (256 * b + c) (128 * p + l) else 0 from by
    by_cases e : l / 64 = h
    · rw [if_pos e, if_pos e, if_pos e]
    · rw [if_neg e, if_neg e, if_neg e, zero_mul]]
  refine (sum_half (fun l => d (256 * i + a) (128 * p + l) * v (256 * b + c) (128 * p + l)) h hh).trans ?_
  exact Finset.sum_congr rfl fun l _ => by rw [show 128 * p + (64 * h + l) = 64 * (2 * p + h) + l from by ring]

end Chain

section Scores
variable {z da : ℕ → ℕ → ℝ} {i b : ℕ} (hb : b < 8)
  {m : FVec Ideal S256x256 .f32 → FVec Ideal S256x256 .f32} (hm : MaskIs m (Before i b)) {E : Env Ideal}
  (hl : E.later = k0_pay495) (he : E.before = k0_pay496)
  {Q K G V : FVec Ideal S256x128 .bf16} {w : BitVec 32}
  (hz : IsM (rowsMul Q K) (fun a c => z (256 * i + a) (256 * b + c)))
  (hd : IsM (rowsMul G (keep E.half w V)) (fun a c => da (256 * i + a) (256 * b + c)))
  {lt : FVec Ideal S256x1 .f32} (ht : IsM lt (fun a _ => ∑ s ∈ range 2048, rem z (256 * i + a) s))
  {cc cg : FVec Ideal S256x128 .f32} (hc : IsM cc (fun a _ => ∑ s ∈ range (256 * b), rem z (256 * i + a) s))
  (hg : IsM cg (fun a _ => ∑ s ∈ range (256 * b), gr z da (256 * i + a) s))

include hm hz in
theorem chain_rem : IsM (logRem m Q K) (fun a c => rem z (256 * i + a) (256 * b + c)) :=
  hm _ _ (isM_subf (isM_logSig hz) hz)

include hm hz hc in
theorem chain_cc : IsM (ccNext m Q K cc) (fun a _ => ∑ s ∈ range (256 * (b + 1)), rem z (256 * i + a) s) :=
  (isM_rowAdd hc (chain_rem hm hz)).congr fun a _ c _ => (sum_block _ b).symm

include hb hm hl hz ht hc in
theorem chain_wt : IsM (chainW m E Q K lt cc) (fun a c => wt z (256 * i + a) (256 * b + c)) := by
  show IsM (wgt m lt (logSig (rowsMul Q K)) (ordMul (logRem m Q K) E.later) (ccNext m Q K cc)) _
  rw [hl]
  refine (isM_wgt hm ht (isM_logSig hz) (isM_later (chain_rem hm hz)) (chain_cc hm hz hc)).congr fun a _ c h => ?_
  rw [wt]
  by_cases e : 256 * b + c < 256 * i + a
  · rw [if_pos e, if_pos e, sum_after _ b c hb h, add_assoc]
  · rw [if_neg e, if_neg e]

include hb hm hl hz hd ht hc in
theorem chain_gr : IsM (chainG m E w Q G K V lt cc) (fun a c => gr z da (256 * i + a) (256 * b + c)) :=
  isM_mulf hd (chain_wt hb hm hl hz ht hc)

include hb hm hl hz hd ht hc hg in
theorem chain_cg : IsM (cgNext m E w Q G K V lt cc cg) (fun a _ => ∑ s ∈ range (256 * (b + 1)), gr z da (256 * i + a) s) :=
  (isM_rowAdd hg (chain_gr hb hm hl hz hd ht hc)).congr fun a _ c _ => (sum_block _ b).symm

include hb hm hl he hz hd ht hc hg in
theorem chain_dsc : IsM (chainZ m E w Q G K V lt cc cg) (fun a c => dsc z da (256 * i + a) (256 * b + c)) := by
  show IsM (scoreGrad m (logSig (rowsMul Q K)) (chainG m E w Q G K V lt cc) (ordMul (chainG m E w Q G K V lt cc) E.before) cg) _
  rw [he]
  have h1 := chain_gr hb hm hl hz hd ht hc
  refine (isM_scoreGrad hm (isM_logSig hz) h1 (isM_before h1) hg).congr fun a _ c h => ?_
  rw [dsc]
  by_cases e : 256 * b + c < 256 * i + a
  · rw [if_pos e, if_pos e, sum_before _ b c h, add_comm (∑ j ∈ range 256, _)]
  · rw [if_neg e, if_neg e]

end Scores

/-- A product added to each head's rows. -/
theorem isH_add {X : FVec Ideal S2x256x128 .f32} {x : ℕ → ℕ → ℕ → ℝ} (hX : IsH X x) {z0 z1 : FVec Ideal S256x256 .bf16}
    {k0 k1 : FVec Ideal S256x128 .bf16} {y0 y1 : ℕ → ℕ → ℝ} (h0 : IsM (dqMul z0 k0) y0) (h1 : IsM (dqMul z1 k1) y1) :
    IsH (slab1.overlay (slab0.overlay X (dqAdd z0 k0 (View.ld (Val := Elt Ideal) (e' := .f32) X slab0)))
      (dqAdd z1 k1 (View.ld (Val := Elt Ideal) (e' := .f32)
        (slab0.overlay X (dqAdd z0 k0 (View.ld (Val := Elt Ideal) (e' := .f32) X slab0))) slab1)))
      (fun h a l => x h a l + if h = 0 then y0 a l else y1 a l) := by
  intro h a l
  match h with
  | 0 =>
    show _ = (((x 0 a l) + y0 a l : ℝ) : EReal)
    refine (slab1_at0 _ _ a l).trans ((slab0_at0 _ _ a l).trans ((tall_apply _ a l).trans ?_))
    exact (congrArg₂ (· + ·) ((flat0 _ a l).trans (hX 0 a l)) (h0 a l)).trans (EReal.coe_add _ _).symm
  | 1 =>
    show _ = (((x 1 a l) + y1 a l : ℝ) : EReal)
    refine (slab1_at1 _ _ a l).trans ((tall_apply _ a l).trans ?_)
    exact (congrArg₂ (· + ·) ((flat1 _ a l).trans ((slab0_at1 _ _ a l).trans (hX 1 a l))) (h1 a l)).trans
      (EReal.coe_add _ _).symm

section Point
variable (q k v d dk dv : ℕ → ℕ → ℝ) (p i : ℕ)

/-- The gradient of a score of one of the pair's heads. -/
abbrev ds (h t s : ℕ) : ℝ := dsc (sc q k (2 * p + h)) (dw v d (2 * p + h)) t s

/-- The lanes of one head, of row `t`. -/
abbrev lanes (x : ℕ → ℕ → ℝ) (h t l : ℕ) : ℝ := if l / 64 = h then x t (128 * p + l) else 0

/-- The scaled queries. -/
abbrev qs (t j : ℕ) : ℝ := q t j * (1 / 8)

/-- What the body prepared of its query block. -/
structure EnvIs (E : Env Ideal) : Prop where
  half : E.half = k0_pay494
  later : E.later = k0_pay495
  before : E.before = k0_pay496
  q0 : IsM E.q0 (fun a l => lanes p (qs q) 0 (256 * i + a) l)
  q1 : IsM E.q1 (fun a l => lanes p (qs q) 1 (256 * i + a) l)
  g0 : IsM E.g0 (fun a l => lanes p d 0 (256 * i + a) l)
  g1 : IsM E.g1 (fun a l => lanes p d 1 (256 * i + a) l)
  l0 : IsM E.l0 (fun a _ => ∑ s ∈ range 2048, rem (sc q k (2 * p + 0)) (256 * i + a) s)
  l1 : IsM E.l1 (fun a _ => ∑ s ∈ range 2048, rem (sc q k (2 * p + 1)) (256 * i + a) s)

/-- What one query block adds to the gradient of key `s`. -/
def kAdd (s l : ℕ) : ℝ :=
  ∑ a ∈ range 256, ds q k v d p 0 (256 * i + a) s * lanes p (qs q) 0 (256 * i + a) l
    + ∑ a ∈ range 256, ds q k v d p 1 (256 * i + a) s * lanes p (qs q) 1 (256 * i + a) l

/-- What one query block adds to the gradient of value `s`. -/
def vAdd (s l : ℕ) : ℝ :=
  ∑ a ∈ range 256, wt (sc q k (2 * p + 0)) (256 * i + a) s * lanes p d 0 (256 * i + a) l
    + ∑ a ∈ range 256, wt (sc q k (2 * p + 1)) (256 * i + a) s * lanes p d 1 (256 * i + a) l

/-- The state once the key blocks before `b` are done, the running sums in registers. -/
structure Done (b : ℕ) (σ : St Ideal) (r : Reg Ideal) : Prop where
  keys : IsM (φ := .bf16) σ.k (fun s l => k s (128 * p + l))
  vals : IsM (φ := .bf16) σ.v (fun s l => v s (128 * p + l))
  gq : IsH σ.dq (fun h a l => ∑ s ∈ range (256 * b), ds q k v d p h (256 * i + a) s * lanes p k h s l)
  gk : IsM (φ := .f32) σ.dk (fun s l => dk s l + if s < 256 * b then kAdd q k v d p i s l else 0)
  gv : IsM (φ := .f32) σ.dv (fun s l => dv s l + if s < 256 * b then vAdd q k d p i s l else 0)
  cc0 : IsM r.cc0 (fun a _ => ∑ s ∈ range (256 * b), rem (sc q k (2 * p + 0)) (256 * i + a) s)
  cc1 : IsM r.cc1 (fun a _ => ∑ s ∈ range (256 * b), rem (sc q k (2 * p + 1)) (256 * i + a) s)
  cg0 : IsM r.cg0 (fun a _ => ∑ s ∈ range (256 * b), gr (sc q k (2 * p + 0)) (dw v d (2 * p + 0)) (256 * i + a) s)
  cg1 : IsM r.cg1 (fun a _ => ∑ s ∈ range (256 * b), gr (sc q k (2 * p + 1)) (dw v d (2 * p + 1)) (256 * i + a) s)

variable {q k v d dk dv p i}

/-- A block's part of the gradients, added in two halves. -/
theorem add_halves (x y f g : ℕ → ℕ → ℝ) (b : ℕ) (s l : ℕ) (hx : f (s - 256 * b) l + g (s - 256 * b) l = y s l ∨ ¬(256 * b ≤ s ∧ s < 256 * (b + 1))) :
    (x s l + if s < 256 * b then y s l else 0) + (if 256 * b ≤ s ∧ s < 256 * (b + 1) then f (s - 256 * b) l else 0)
        + (if 256 * b ≤ s ∧ s < 256 * (b + 1) then g (s - 256 * b) l else 0)
      = x s l + if s < 256 * (b + 1) then y s l else 0 := by
  by_cases h : 256 * b ≤ s ∧ s < 256 * (b + 1)
  · rw [if_neg (by omega), if_pos h, if_pos h, if_pos h.2, add_zero, add_assoc, hx.resolve_right (by simpa using h)]
  · by_cases h' : s < 256 * b
    · rw [if_pos h', if_neg h, if_neg h, if_pos (by omega), add_zero, add_zero]
    · rw [if_neg h', if_neg h, if_neg h, if_neg (by omega), add_zero, add_zero]

/-- One key block. -/
theorem block_done {E : Env Ideal} (hE : EnvIs q k d p i E) {m : FVec Ideal S256x256 .f32 → FVec Ideal S256x256 .f32}
    {b : ℕ} (hb : b < 8) (hm : MaskIs m (Before i b)) {o : Fin 2 → Nat} (inb : ∀ a, o a + S256x128.size a ≤ S2048x128.size a)
    (h0 : o 0 = 256 * b) (h1 : o 1 = 0) {σ : St Ideal} {r : Reg Ideal} (H : Done q k v d dk dv p i b σ r) :
    Done q k v d dk dv p i (b + 1) (blockStep m E o inb (σ, r)).1 (blockStep m E o inb (σ, r)).2 := by
  have hK := isM_rowsOf (inb := inb) H.keys h0 h1 hb
  have hV := isM_rowsOf (inb := inb) H.vals h0 h1 hb
  have hz0 := chain_scores (h := 0) (by omega) hE.q0 hK
  have hz1 := chain_scores (h := 1) (by omega) hE.q1 hK
  have hd0 : IsM (rowsMul E.g0 (keep E.half 0#32 (rowsOf σ.v o inb))) _ :=
    chain_dw (h := 0) (by omega) hE.g0 (by rw [hE.half]; exact isM_keep0 hV)
  have hd1 : IsM (rowsMul E.g1 (keep E.half 1#32 (rowsOf σ.v o inb))) _ :=
    chain_dw (h := 1) (by omega) hE.g1 (by rw [hE.half]; exact isM_keep1 hV)
  have ds0 := chain_dsc hb hm hE.later hE.before hz0 hd0 hE.l0 H.cc0 H.cg0
  have ds1 := chain_dsc hb hm hE.later hE.before hz1 hd1 hE.l1 H.cc1 H.cg1
  have w0 : IsM (φ := .bf16) (truncf .bf16 (chainW m E E.q0 (rowsOf σ.k o inb) E.l0 r.cc0) bitsLt_bf16_f32)
      (fun a c => wt (sc q k (2 * p + 0)) (256 * i + a) (256 * b + c)) :=
    chain_wt hb hm hE.later hz0 hE.l0 H.cc0
  have w1 : IsM (φ := .bf16) (truncf .bf16 (chainW m E E.q1 (rowsOf σ.k o inb) E.l1 r.cc1) bitsLt_bf16_f32)
      (fun a c => wt (sc q k (2 * p + 1)) (256 * i + a) (256 * b + c)) :=
    chain_wt hb hm hE.later hz1 hE.l1 H.cc1
  have hK0 : IsM (keep E.half 0#32 (rowsOf σ.k o inb)) (fun c l => lanes p k 0 (256 * b + c) l) := by rw [hE.half]; exact isM_keep0 hK
  have hK1 : IsM (keep E.half 1#32 (rowsOf σ.k o inb)) (fun c l => lanes p k 1 (256 * b + c) l) := by rw [hE.half]; exact isM_keep1 hK
  have e0 := isM_dqMul ds0 hK0
  have e1 := isM_dqMul ds1 hK1
  have k0 := isM_dkMul ds0 hE.q0
  have k1 := isM_dkMul ds1 hE.q1
  have v0 := isM_dkMul w0 hE.g0
  have v1 := isM_dkMul w1 hE.g1
  refine ⟨H.keys, H.vals, ?_, ?_, ?_, chain_cc hm hz0 H.cc0, chain_cc hm hz1 H.cc1,
    chain_cg hb hm hE.later hz0 hd0 hE.l0 H.cc0 H.cg0, chain_cg hb hm hE.later hz1 hd1 hE.l1 H.cc1 H.cg1⟩
  · intro h a l
    refine (isH_add H.gq e0 e1 h a l).trans (congrArg _ ?_)
    dsimp only
    rw [sum_block]
    match h with
    | 0 => rfl
    | 1 => rfl
  · refine (isM_dkAdd (isM_dkAdd H.gk h0 h1 hb k0) h0 h1 hb k1).congr fun s _ l _ => ?_
    refine add_halves dk (kAdd q k v d p i)
      (fun c l => ∑ a ∈ range 256, ds q k v d p 0 (256 * i + a) (256 * b + c) * lanes p (qs q) 0 (256 * i + a) l)
      (fun c l => ∑ a ∈ range 256, ds q k v d p 1 (256 * i + a) (256 * b + c) * lanes p (qs q) 1 (256 * i + a) l) b s l ?_
    by_cases hs : 256 * b ≤ s ∧ s < 256 * (b + 1)
    · left
      simp only [kAdd, show 256 * b + (s - 256 * b) = s from by omega]
    · exact .inr hs
  · refine (isM_dkAdd (isM_dkAdd H.gv h0 h1 hb v0) h0 h1 hb v1).congr fun s _ l _ => ?_
    refine add_halves dv (vAdd q k d p i)
      (fun c l => ∑ a ∈ range 256, wt (sc q k (2 * p + 0)) (256 * i + a) (256 * b + c) * lanes p d 0 (256 * i + a) l)
      (fun c l => ∑ a ∈ range 256, wt (sc q k (2 * p + 1)) (256 * i + a) (256 * b + c) * lanes p d 1 (256 * i + a) l) b s l ?_
    by_cases hs : 256 * b ≤ s ∧ s < 256 * (b + 1)
    · left
      simp only [vAdd, show 256 * b + (s - 256 * b) = s from by omega]
    · exact .inr hs

end Point

end Cert.Attn
-- ==== Proof.Point.lean ====
module

public import proofs.«01_k».proof.Proof.Chain
public import proofs.«01_k».proof.Proof.Run

/-!
# A query block

The key blocks a grid point visits: groups of four, those left over, and the one on the diagonal. After them the
buffers hold the block's query gradients and its part of the key and value gradients.
-/

@[expose] public section

set_option maxRecDepth 16384

noncomputable section

namespace Cert.Attn

open Cert.KernelIdeal Cert.KernelIdeal.Gen
open Idealize.ShloMosaic Idealize.ShloMosaic.TcCoe
open Idealize.SL.Sem
open Finset (range)

/-- The groups of four at point `t`. -/
theorem trips_eq : ∀ t : Fin cfg0.N, (k0_t1_loop (grid0.coords t)).trips = t.val % 8 / 4 := by decide +kernel

theorem off1_eq : ∀ (t : Fin cfg0.N) (n : Fin (k0_t1_loop (grid0.coords t)).trips) (x : Fin 4),
    k0_off1 (grid0.coords t) n (BitVec.ofNat 32 x.val) 0 = 256 * (4 * n.val + x.val)
      ∧ k0_off1 (grid0.coords t) n (BitVec.ofNat 32 x.val) 1 = 0 := by decide +kernel

theorem cond2_iff : ∀ t : Fin cfg0.N, k0_cond2 (grid0.coords t) = 1#1 ↔ t.val % 8 % 4 = 1 := by decide +kernel
theorem cond3_iff : ∀ t : Fin cfg0.N, k0_cond3 (grid0.coords t) = 1#1 ↔ t.val % 8 % 4 = 2 := by decide +kernel
theorem cond4_iff : ∀ t : Fin cfg0.N, k0_cond4 (grid0.coords t) = 1#1 ↔ t.val % 8 % 4 = 3 := by decide +kernel

theorem off3_eq : ∀ t : Fin cfg0.N, t.val % 8 % 4 = 1 → k0_off3 (grid0.coords t) 0 = 256 * (t.val % 8 - 1)
    ∧ k0_off3 (grid0.coords t) 1 = 0 := by decide +kernel
theorem off4_eq : ∀ (t : Fin cfg0.N) (x : Fin 2), t.val % 8 % 4 = 2 →
    k0_off4 (grid0.coords t) (BitVec.ofNat 32 x.val) 0 = 256 * (t.val % 8 - 2 + x.val)
      ∧ k0_off4 (grid0.coords t) (BitVec.ofNat 32 x.val) 1 = 0 := by decide +kernel
theorem off5_eq : ∀ (t : Fin cfg0.N) (x : Fin 3), t.val % 8 % 4 = 3 →
    k0_off5 (grid0.coords t) (BitVec.ofNat 32 x.val) 0 = 256 * (t.val % 8 - 3 + x.val)
      ∧ k0_off5 (grid0.coords t) (BitVec.ofNat 32 x.val) 1 = 0 := by decide +kernel
theorem off6_eq : ∀ t : Fin cfg0.N, k0_off6 (grid0.coords t) 0 = 256 * (t.val % 8)
    ∧ k0_off6 (grid0.coords t) 1 = 0 := by decide +kernel

variable (q k v d dk dv : ℕ → ℕ → ℝ) (p i : ℕ)

/-- The state once the key blocks before `b` are done, the running sums in the scratch arrays. -/
structure Kept (b : ℕ) (σ : St Ideal) : Prop where
  keys : IsM (φ := .bf16) σ.k (fun s l => k s (128 * p + l))
  vals : IsM (φ := .bf16) σ.v (fun s l => v s (128 * p + l))
  gq : IsH σ.dq (fun h a l => ∑ s ∈ range (256 * b), ds q k v d p h (256 * i + a) s * lanes p k h s l)
  gk : IsM (φ := .f32) σ.dk (fun s l => dk s l + if s < 256 * b then kAdd q k v d p i s l else 0)
  gv : IsM (φ := .f32) σ.dv (fun s l => dv s l + if s < 256 * b then vAdd q k d p i s l else 0)
  cc : IsH σ.cc (fun h a _ => ∑ s ∈ range (256 * b), rem (sc q k (2 * p + h)) (256 * i + a) s)
  cg : IsH σ.cg (fun h a _ => ∑ s ∈ range (256 * b), gr (sc q k (2 * p + h)) (dw v d (2 * p + h)) (256 * i + a) s)

variable {q k v d dk dv p i} {b : ℕ} {E : Env Ideal}

/-- Two heads' rows written to a scratch array. -/
theorem isH_put (X : FVec Ideal S2x256x128 .f32) {y0 y1 : FVec Ideal S256x128 .f32} {y : ℕ → ℕ → ℕ → ℝ}
    (h0 : IsM y0 (y 0)) (h1 : IsM y1 (y 1)) : IsH (slab1.overlay (slab0.overlay X (tall y0)) (tall y1)) y := by
  intro h a l
  match h with
  | 0 => exact (slab1_at0 _ _ a l).trans ((slab0_at0 _ _ a l).trans ((tall_apply _ a l).trans (h0 a l)))
  | 1 => exact (slab1_at1 _ _ a l).trans ((tall_apply _ a l).trans (h1 a l))

theorem begin_done {σ : St Ideal} (H : Kept q k v d dk dv p i b σ) : Done q k v d dk dv p i b (begin σ).1 (begin σ).2 :=
  ⟨H.keys, H.vals, H.gq, H.gk, H.gv, fun a l => (flat0 _ a l).trans (H.cc 0 a l), fun a l => (flat1 _ a l).trans (H.cc 1 a l),
    fun a l => (flat0 _ a l).trans (H.cg 0 a l), fun a l => (flat1 _ a l).trans (H.cg 1 a l)⟩

theorem finish_kept {x : St Ideal × Reg Ideal} (H : Done q k v d dk dv p i b x.1 x.2) : Kept q k v d dk dv p i b (finish x) :=
  ⟨H.keys, H.vals, H.gq, H.gk, H.gv, isH_put _ H.cc0 H.cc1, isH_put _ H.cg0 H.cg1⟩

/-- A key block before the query block. -/
theorem full_done (hE : EnvIs q k d p i E) (hb : b < i) (hi : i < 8) {o : Fin 2 → Nat}
    (inb : ∀ a, o a + S256x128.size a ≤ S2048x128.size a) (h0 : o 0 = 256 * b) (h1 : o 1 = 0) {x : St Ideal × Reg Ideal}
    (H : Done q k v d dk dv p i b x.1 x.2) :
    Done q k v d dk dv p i (b + 1) (blockStep (fun x => x) E o inb x).1 (blockStep (fun x => x) E o inb x).2 :=
  block_done hE (by omega) (maskIs_id fun a _ c _ => by show 256 * b + c < 256 * i + a; omega) inb h0 h1 H

variable (t : Fin cfg0.N) (hi : t.val % 8 = i)

include hi in
theorem four_kept (hE : EnvIs q k d p i E) (n : Fin (k0_t1_loop (grid0.coords t)).trips) {σ : St Ideal}
    (H : Kept q k v d dk dv p i (4 * n.val) σ) : Kept q k v d dk dv p i (4 * (n.val + 1)) (four E (grid0.coords t) n σ) := by
  have hn : n.val < t.val % 8 / 4 := lt_of_lt_of_eq n.2 (trips_eq t)
  refine finish_kept (b := 4 * n.val + 3 + 1) ?_
  refine full_done hE (by omega) (by omega) _ (off1_eq t n 3).1 (off1_eq t n 3).2 ?_
  refine full_done hE (b := 4 * n.val + 2) (by omega) (by omega) _ (off1_eq t n 2).1 (off1_eq t n 2).2 ?_
  refine full_done hE (b := 4 * n.val + 1) (by omega) (by omega) _ (off1_eq t n 1).1 (off1_eq t n 1).2 ?_
  exact full_done hE (by omega) (by omega) _ (off1_eq t n 0).1 (off1_eq t n 0).2 (begin_done H)

include hi in
theorem fours_kept (hE : EnvIs q k d p i E) {σ : St Ideal} (H : Kept q k v d dk dv p i 0 σ) :
    ∀ n ≤ i / 4, Kept q k v d dk dv p i (4 * n) (fours E (grid0.coords t) σ n) := by
  intro n
  induction n with
  | zero => intro _; exact H
  | succ n ih =>
    intro hn
    have h : n < (k0_t1_loop (grid0.coords t)).trips := by rw [trips_eq]; omega
    unfold fours
    rw [dif_pos h]
    exact four_kept t hi hE ⟨n, h⟩ (ih (by omega))

/-- The number of key blocks by another name. -/
theorem Kept.cast {b b' : ℕ} {σ : St Ideal} (H : Kept q k v d dk dv p i b σ) (e : b = b') : Kept q k v d dk dv p i b' σ := e ▸ H

include hi in
theorem left1_kept (hE : EnvIs q k d p i E) (h) {σ : St Ideal} (e : i % 4 = 1) (H : Kept q k v d dk dv p i (i - 1) σ) :
    Kept q k v d dk dv p i i (left1 E (grid0.coords t) h σ) := by
  have o := off3_eq t (by omega)
  rw [hi] at o
  refine Kept.cast (b := i - 1 + 1) (finish_kept ?_) (by omega)
  exact full_done hE (by omega) (by omega) _ o.1 o.2 (begin_done H)

include hi in
theorem left2_kept (hE : EnvIs q k d p i E) (h) {σ : St Ideal} (e : i % 4 = 2) (H : Kept q k v d dk dv p i (i - 2) σ) :
    Kept q k v d dk dv p i i (left2 E (grid0.coords t) h σ) := by
  have o := fun x => off4_eq t x (by omega)
  rw [hi] at o
  refine Kept.cast (b := i - 2 + 1 + 1) (finish_kept ?_) (by omega)
  refine full_done hE (b := i - 2 + 1) (by omega) (by omega) _ (o 1).1 (o 1).2 ?_
  exact full_done hE (by omega) (by omega) _ (o 0).1 (o 0).2 (begin_done H)

include hi in
theorem left3_kept (hE : EnvIs q k d p i E) (h) {σ : St Ideal} (e : i % 4 = 3) (H : Kept q k v d dk dv p i (i - 3) σ) :
    Kept q k v d dk dv p i i (left3 E (grid0.coords t) h σ) := by
  have o := fun x => off5_eq t x (by omega)
  rw [hi] at o
  refine Kept.cast (b := i - 3 + 2 + 1) (finish_kept ?_) (by omega)
  refine full_done hE (b := i - 3 + 2) (by omega) (by omega) _ (o 2).1 (o 2).2 ?_
  refine full_done hE (b := i - 3 + 1) (by omega) (by omega) _ (o 1).1 (o 1).2 ?_
  exact full_done hE (by omega) (by omega) _ (o 0).1 (o 0).2 (begin_done H)

include hi in
theorem lefts_kept (hE : EnvIs q k d p i E) {σ : St Ideal} (H : Kept q k v d dk dv p i (4 * (i / 4)) σ) :
    Kept q k v d dk dv p i i (lefts E (grid0.coords t) σ) := by
  rw [lefts_eq]
  have h2 := cond2_iff t
  have h3 := cond3_iff t
  have h4 := cond4_iff t
  rw [hi] at h2 h3 h4
  unfold opt
  rcases (by omega : i % 4 = 0 ∨ i % 4 = 1 ∨ i % 4 = 2 ∨ i % 4 = 3) with e | e | e | e
  · rw [dif_neg (fun h => by have := h4.mp h; omega), dif_neg (fun h => by have := h3.mp h; omega),
      dif_neg (fun h => by have := h2.mp h; omega)]
    exact H.cast (by omega)
  · rw [dif_neg (fun h => by have := h4.mp h; omega), dif_neg (fun h => by have := h3.mp h; omega),
      dif_pos (h2.mpr e)]
    exact left1_kept t hi hE _ e (H.cast (by omega))
  · rw [dif_neg (fun h => by have := h4.mp h; omega), dif_pos (h3.mpr e),
      dif_neg (fun h => by have := h2.mp h; omega)]
    exact left2_kept t hi hE _ e (H.cast (by omega))
  · rw [dif_pos (h4.mpr e), dif_neg (fun h => by have := h3.mp h; omega),
      dif_neg (fun h => by have := h2.mp h; omega)]
    exact left3_kept t hi hE _ e (H.cast (by omega))

include hi in
theorem diag_kept (hE : EnvIs q k d p i E) {σ : St Ideal} (H : Kept q k v d dk dv p i i σ) :
    Kept q k v d dk dv p i (i + 1) (diag E (grid0.coords t) σ) := by
  have o := off6_eq t
  rw [hi] at o
  refine finish_kept ?_
  exact block_done hE (by omega) (maskIs_below fun a _ c _ => by show 256 * i + c < 256 * i + a ↔ c < a; omega) _ o.1 o.2
    (begin_done H)

/-- The gradient of the scaled queries. -/
def gradS (q k v d : ℕ → ℕ → ℝ) (t j : ℕ) : ℝ :=
  ∑ s ∈ range 2048, dsc (sc q k (j / 64)) (dw v d (j / 64)) t s * k s j

/-- The gradient of the keys from the queries before `n`, -/
def partK (q k v d : ℕ → ℕ → ℝ) (n s j : ℕ) : ℝ :=
  ∑ t ∈ range n, dsc (sc q k (j / 64)) (dw v d (j / 64)) t s * (q t j * (1 / 8))

/-- and of the values. -/
def partV (q k d : ℕ → ℕ → ℝ) (n s j : ℕ) : ℝ :=
  ∑ t ∈ range n, wt (sc q k (j / 64)) t s * d t j

/-- One of the two heads is the lane's. -/
theorem head_pick (f : ℕ → ℝ) (x : ℝ) (l : ℕ) (hl : l < 128) :
    f (2 * p + 0) * (if l / 64 = 0 then x else 0) + f (2 * p + 1) * (if l / 64 = 1 then x else 0)
      = f ((128 * p + l) / 64) * x := by
  rcases (by omega : l / 64 = 0 ∨ l / 64 = 1) with e | e
  · rw [if_pos e, if_neg (by omega), mul_zero, add_zero, show (128 * p + l) / 64 = 2 * p + 0 from by omega]
  · rw [if_neg (by omega), if_pos e, mul_zero, zero_add, show (128 * p + l) / 64 = 2 * p + 1 from by omega]

theorem kAdd_eq (s l : ℕ) (hl : l < 128) : (if s < 256 * (i + 1) then kAdd q k v d p i s l else 0)
    = ∑ a ∈ range 256, dsc (sc q k ((128 * p + l) / 64)) (dw v d ((128 * p + l) / 64)) (256 * i + a) s
        * (q (256 * i + a) (128 * p + l) * (1 / 8)) := by
  by_cases h : s < 256 * (i + 1)
  · rw [if_pos h, kAdd, ← Finset.sum_add_distrib]
    exact Finset.sum_congr rfl fun a _ =>
      head_pick (fun h => dsc (sc q k h) (dw v d h) (256 * i + a) s) (qs q (256 * i + a) (128 * p + l)) l hl
  · rw [if_neg h]
    refine (Finset.sum_eq_zero fun a ha => ?_).symm
    have := Finset.mem_range.mp ha
    rw [dsc_of_le _ _ (by omega), zero_mul]

theorem vAdd_eq (s l : ℕ) (hl : l < 128) : (if s < 256 * (i + 1) then vAdd q k d p i s l else 0)
    = ∑ a ∈ range 256, wt (sc q k ((128 * p + l) / 64)) (256 * i + a) s * d (256 * i + a) (128 * p + l) := by
  by_cases h : s < 256 * (i + 1)
  · rw [if_pos h, vAdd, ← Finset.sum_add_distrib]
    exact Finset.sum_congr rfl fun a _ => head_pick (fun h => wt (sc q k h) (256 * i + a) s) (d (256 * i + a) (128 * p + l)) l hl
  · rw [if_neg h]
    refine (Finset.sum_eq_zero fun a ha => ?_).symm
    have := Finset.mem_range.mp ha
    rw [wt_of_le _ (by omega), zero_mul]

theorem gradS_eq (a l : ℕ) (ha : a < 256) (hl : l < 128) (hi8 : i < 8) :
    ∑ s ∈ range (256 * (i + 1)), ds q k v d p 0 (256 * i + a) s * lanes p k 0 s l
      + ∑ s ∈ range (256 * (i + 1)), ds q k v d p 1 (256 * i + a) s * lanes p k 1 s l
    = gradS q k v d (256 * i + a) (128 * p + l) := by
  rw [gradS, ← Finset.sum_add_distrib, Finset.sum_congr rfl fun s _ =>
    head_pick (fun h => dsc (sc q k h) (dw v d h) (256 * i + a) s) (k s (128 * p + l)) l hl]
  refine Finset.sum_subset (fun x hx => Finset.mem_range.mpr (by have := Finset.mem_range.mp hx; omega)) fun s _ hs => ?_
  have : ¬s < 256 * (i + 1) := fun h => hs (Finset.mem_range.mpr h)
  rw [dsc_of_le _ _ (by omega), zero_mul]

/-- The buffers a point starts from. -/
structure Ready (σ : St Ideal) : Prop where
  env : EnvIs q k d p i (envOf σ)
  keys : IsM (φ := .bf16) σ.k (fun s l => k s (128 * p + l))
  vals : IsM (φ := .bf16) σ.v (fun s l => v s (128 * p + l))
  gk : 0 < i → IsM (φ := .f32) σ.dk (fun s l => partK q k v d (256 * i) s (128 * p + l))
  gv : 0 < i → IsM (φ := .f32) σ.dv (fun s l => partV q k d (256 * i) s (128 * p + l))

include hi in
theorem clear_kept {σ : St Ideal} (H : Ready (q := q) (k := k) (v := v) (d := d) (p := p) (i := i) σ) :
    Kept q k v d (fun s l => partK q k v d (256 * i) s (128 * p + l)) (fun s l => partV q k d (256 * i) s (128 * p + l))
      p i 0 (clear (fresh (grid0.coords t) σ)) := by
  have hf := isFirst_iff t
  rw [hi] at hf
  rw [clear_fresh]
  refine ⟨H.keys, H.vals, fun h a l => ?_, ?_, ?_, fun h a l => ?_, fun h a l => ?_⟩
  · simp only [mul_zero, Finset.range_zero, Finset.sum_empty, EReal.coe_zero]
    pointwise [k0_pay509, k0_pay508]
  · refine IsM.congr (x := fun s l => partK q k v d (256 * i) s (128 * p + l)) ?_ fun s _ l _ => by
      rw [if_neg (by omega), add_zero]
    by_cases h : i = 0
    · intro s l
      simp only [if_pos (hf.mpr h), h, partK, mul_zero, Finset.range_zero, Finset.sum_empty, EReal.coe_zero]
      pointwise [k0_pay506]
    · simp only [if_neg (mt hf.mp h)]
      exact H.gk (by omega)
  · refine IsM.congr (x := fun s l => partV q k d (256 * i) s (128 * p + l)) ?_ fun s _ l _ => by
      rw [if_neg (by omega), add_zero]
    by_cases h : i = 0
    · intro s l
      simp only [if_pos (hf.mpr h), h, partV, mul_zero, Finset.range_zero, Finset.sum_empty, EReal.coe_zero]
      pointwise [k0_pay507]
    · simp only [if_neg (mt hf.mp h)]
      exact H.gv (by omega)
  · simp only [mul_zero, Finset.range_zero, Finset.sum_empty, EReal.coe_zero]
    pointwise [k0_pay510]
  · simp only [mul_zero, Finset.range_zero, Finset.sum_empty, EReal.coe_zero]
    pointwise [k0_pay511]

include hi in
/-- What a point leaves. -/
theorem body_main {σ : St Ideal} (H : Ready (q := q) (k := k) (v := v) (d := d) (p := p) (i := i) σ) :
    IsM (φ := .f32) (bodySt (grid0.coords t) σ).out (fun a l => gradS q k v d (256 * i + a) (128 * p + l))
      ∧ IsM (φ := .f32) (bodySt (grid0.coords t) σ).dk (fun s l => partK q k v d (256 * (i + 1)) s (128 * p + l))
      ∧ IsM (φ := .f32) (bodySt (grid0.coords t) σ).dv (fun s l => partV q k d (256 * (i + 1)) s (128 * p + l)) := by
  have K := diag_kept t hi H.env (lefts_kept t hi H.env (fours_kept t hi H.env (clear_kept t hi H) (i / 4) le_rfl))
  unfold bodySt
  rw [trips_eq, hi]
  revert K
  generalize diag (envOf σ) (grid0.coords t) _ = τ
  intro K
  refine ⟨?_, ?_, ?_⟩
  · intro a l
    show (rowsAll.overlay τ.out _ : FVec Ideal S256x128 .f32) _ = _
    rw [overlay_rows]
    dsimp only
    rw [← gradS_eq (i := i) (p := p) a l a.2 l.2 (by omega), EReal.coe_add]
    exact congrArg₂ (· + ·) ((flat0 _ a l).trans (K.gq 0 a l)) ((flat1 _ a l).trans (K.gq 1 a l))
  · refine IsM.congr K.gk fun s _ l hl => ?_
    rw [kAdd_eq s l hl]
    exact (sum_block _ i).symm
  · refine IsM.congr K.gv fun s _ l hl => ?_
    rw [vAdd_eq s l hl]
    exact (sum_block _ i).symm

end Cert.Attn
-- ==== Proof.Blocks.lean ====
module

public import proofs.«01_k».proof.Proof.Operands
public import proofs.«01_k».proof.Proof.Point

/-!
# What the points start from and leave

The blocks of the five operands at a point, read from the arrays; the query block the body prepares of them; and, point after
point, the gradients in the buffers.
-/

@[expose] public section

set_option maxRecDepth 16384

noncomputable section

namespace Cert.Attn

open Cert.KernelIdeal Cert.KernelIdeal.Gen
open Idealize.ShloMosaic Idealize.ShloMosaic.TcCoe
open Idealize.SL.Sem
open Finset (range)

variable (m : (ℓ : Loc nD τ sig) → Buf (Elt Ideal) ℓ) (c : Dev nD)

theorem idx : ∀ t : Fin cfg0.N, win0_0.index t = ![t.val % 8, 2 + t.val / 8] ∧ win0_1.index t = ![t.val % 8, t.val / 8]
    ∧ win0_2.index t = ![0, t.val / 8] ∧ win0_3.index t = ![0, t.val / 8] ∧ win0_4.index t = ![t.val % 8, t.val / 8]
    ∧ win0_6.index t = ![t.val % 8, t.val / 8] ∧ win0_7.index t = ![0, t.val / 8] ∧ win0_8.index t = ![0, t.val / 8]
    ∧ t.val / 8 < 4 :=
  (by decide +kernel : ∀ t : Fin grid0.N, _)

theorem iblk_0 (t : Fin cfg0.N) (a : Fin 256) (l : Fin 128) (ha : 256 * (t.val % 8) + a < 2048) (hl : 256 + (128 * (t.val / 8) + l) < 1024) :
    iblk m c 0 t (ix2 a l) = m ((c : Thread nD τ).loc main_arg0) (ix2 ⟨256 * (t.val % 8) + a, ha⟩ ⟨256 + (128 * (t.val / 8) + l), hl⟩) := by
  blk_ext [iblk, V_main_arg0, idx t]

theorem iblk_1 (t : Fin cfg0.N) (a : Fin 256) (l : Fin 128) (ha : 256 * (t.val % 8) + a < 2048) (hl : 128 * (t.val / 8) + l < 512) :
    iblk m c 1 t (ix2 a l) = V m c main_v2 (ix2 ⟨256 * (t.val % 8) + a, ha⟩ ⟨128 * (t.val / 8) + l, hl⟩) := by
  blk_ext [iblk, idx t]

theorem iblk_2 (t : Fin cfg0.N) (s : Fin 2048) (l : Fin 128) (hl : 128 * (t.val / 8) + l < 512) :
    iblk m c 2 t (ix2 s l) = V m c main_v3 (ix2 s ⟨128 * (t.val / 8) + l, hl⟩) := by
  blk_ext [iblk, idx t]

theorem iblk_3 (t : Fin cfg0.N) (s : Fin 2048) (l : Fin 128) (hl : 128 * (t.val / 8) + l < 512) :
    iblk m c 3 t (ix2 s l) = V m c main_v23 (ix2 s ⟨128 * (t.val / 8) + l, hl⟩) := by
  blk_ext [iblk, idx t]

theorem iblk_4 (t : Fin cfg0.N) (a : Fin 256) (l : Fin 128) (ha : 256 * (t.val % 8) + a < 2048) (hl : 128 * (t.val / 8) + l < 512) :
    iblk m c 4 t (ix2 a l) = V m c main_v22 (ix2 ⟨256 * (t.val % 8) + a, ha⟩ ⟨128 * (t.val / 8) + l, hl⟩) := by
  blk_ext [iblk, idx t]

variable {q k v g : ℕ → ℕ → ℝ}

theorem isM_first {L : FVec Ideal S256x128 .f32} {x : ℕ → ℕ → ℝ} (hx : IsM L x) :
    IsM (k0_pay504 (iota .tc S256x128 32 [1] iota_S256x128_d1_w32) L) (fun a _ => x a 0) := by
  intro a z
  pointwise [k0_pay504]
  rw [Finset.sum_eq_single (0 : Fin 128)]
  · exact hx a 0
  · intro l _ hl
    have e : IntOp.cmpi .eq (BitVec.ofNat 32 (l : ℕ)) 0#32 = BitVec.ofBool (decide ((l : ℕ) = 0)) := by word_cmp
    rw [e, decide_eq_false (fun h : (l : ℕ) = 0 => hl (Fin.ext h))]
    rfl
  · exact fun h => absurd (Finset.mem_univ _) h

theorem isM_second {L : FVec Ideal S256x128 .f32} {x : ℕ → ℕ → ℝ} (hx : IsM L x) :
    IsM (k0_pay505 (iota .tc S256x128 32 [1] iota_S256x128_d1_w32) L) (fun a _ => x a 64) := by
  intro a z
  pointwise [k0_pay505]
  rw [Finset.sum_eq_single (64 : Fin 128)]
  · exact hx a 64
  · intro l _ hl
    have e : IntOp.cmpi .eq (BitVec.ofNat 32 (l : ℕ)) 64#32 = BitVec.ofBool (decide ((l : ℕ) = 64)) := by word_cmp
    rw [e, decide_eq_false (fun h : (l : ℕ) = 64 => hl (Fin.ext h))]
    rfl
  · exact fun h => absurd (Finset.mem_univ _) h

/-- The gradient of the attention's result, of the last columns of the gradient of the mixed rows. -/
def mixed (g : ℕ → ℕ → ℝ) (t j : ℕ) : ℝ := g t (256 + j)

section Args
variable (hg : IsM (φ := .f32) (m ((c : Thread nD τ).loc main_arg0)) g) (hq : IsM (φ := .f32) (m ((c : Thread nD τ).loc main_arg1)) q)
  (hk : IsM (φ := .f32) (m ((c : Thread nD τ).loc main_arg2)) k) (hv : IsM (φ := .f32) (m ((c : Thread nD τ).loc main_arg3)) v)

theorem pair_lt (t : Fin cfg0.N) : t.val / 8 < 4 := (idx t).2.2.2.2.2.2.2.2

include hg hq hk in
theorem env_start (t : Fin cfg0.N) (dk dv) :
    EnvIs q k (mixed g) (t.val / 8) (t.val % 8) (envOf (startSt m c t dk dv)) := by
  have hp := pair_lt t
  have hQ : IsM (φ := .bf16) (k0_pay497 (View.ld (Val := Elt Ideal) (e' := .bf16) (startSt m c t dk dv).q rowsAll))
      (fun a l => qs q (256 * (t.val % 8) + a) (128 * (t.val / 8) + l)) := by
    intro a l
    pointwise [k0_pay497]
    exact (iblk_1 m c t a l (by omega) (by omega)).trans (op_q m c hq _ _)
  have hG : IsM (φ := .bf16) (k0_pay498 (View.ld (Val := Elt Ideal) (e' := .f32) (startSt m c t dk dv).dO rowsAll))
      (fun a l => mixed g (256 * (t.val % 8) + a) (128 * (t.val / 8) + l)) := by
    intro a l
    pointwise [k0_pay498]
    exact (iblk_0 m c t a l (by omega) (by omega)).trans (hg _ _)
  have hL : IsM (φ := .f32) (k0_pay499 (View.ld (Val := Elt Ideal) (e' := .f32) (startSt m c t dk dv).lt rowsAll))
      (fun a l => ∑ s ∈ range 2048, rem (sc q k ((128 * (t.val / 8) + l) / 64)) (256 * (t.val % 8) + a) s) := by
    intro a l
    pointwise [k0_pay499]
    exact (iblk_4 m c t a l (by omega) (by omega)).trans (op_l m c hq hk _ _)
  refine ⟨rfl, rfl, rfl, isM_keep0 hQ, isM_keep1 hQ, isM_keep0 hG, isM_keep1 hG, (isM_first hL).congr fun a _ _ _ => ?_,
    (isM_second hL).congr fun a _ _ _ => ?_⟩
  · rw [show (128 * (t.val / 8) + 0) / 64 = 2 * (t.val / 8) + 0 by omega]
  · rw [show (128 * (t.val / 8) + 64) / 64 = 2 * (t.val / 8) + 1 by omega]

include hg hq hk hv in
theorem ready_start (t : Fin cfg0.N) (dk dv)
    (h7 : 0 < t.val % 8 → IsM (φ := .f32) dk (fun s l => partK q k v (mixed g) (256 * (t.val % 8)) s (128 * (t.val / 8) + l)))
    (h8 : 0 < t.val % 8 → IsM (φ := .f32) dv (fun s l => partV q k (mixed g) (256 * (t.val % 8)) s (128 * (t.val / 8) + l))) :
    Ready (q := q) (k := k) (v := v) (d := mixed g) (p := t.val / 8) (i := t.val % 8) (startSt m c t dk dv) := by
  have hp := pair_lt t
  refine ⟨env_start m c hg hq hk t dk dv, fun s l => ?_, fun s l => ?_, h7, h8⟩
  · exact (iblk_2 m c t s l (by omega)).trans (op_k m c hk _ _)
  · exact (iblk_3 m c t s l (by omega)).trans (op_v m c hv _ _)

include hg hq hk hv in
/-- What each point leaves: a block of the query gradients, and the key and value gradients of the query blocks so far. -/
theorem point_grads : ∀ (n : ℕ) (h : n < cfg0.N),
    IsM (φ := .f32) (pointSt m c n h).out (fun a l => gradS q k v (mixed g) (256 * (n % 8) + a) (128 * (n / 8) + l))
      ∧ IsM (φ := .f32) (pointSt m c n h).dk (fun s l => partK q k v (mixed g) (256 * (n % 8 + 1)) s (128 * (n / 8) + l))
      ∧ IsM (φ := .f32) (pointSt m c n h).dv (fun s l => partV q k (mixed g) (256 * (n % 8 + 1)) s (128 * (n / 8) + l))
  | 0, h => by
    rw [pointSt_zero]
    exact body_main ⟨0, h⟩ rfl (ready_start m c hg hq hk hv ⟨0, h⟩ _ _ (fun h' => absurd h' (lt_irrefl 0)) (fun h' => absurd h' (lt_irrefl 0)))
  | n + 1, h => by
    have ih := point_grads n (Nat.lt_of_succ_lt h)
    rw [pointSt_succ]
    refine body_main ⟨n + 1, h⟩ rfl (ready_start m c hg hq hk hv ⟨n + 1, h⟩ _ _ (fun h' => ?_) (fun h' => ?_))
    · dsimp only at h' ⊢
      rw [show (n + 1) % 8 = n % 8 + 1 by omega, show (n + 1) / 8 = n / 8 by omega]
      exact ih.2.1
    · dsimp only at h' ⊢
      rw [show (n + 1) % 8 = n % 8 + 1 by omega, show (n + 1) / 8 = n / 8 by omega]
      exact ih.2.2

/-- An array of real numbers. -/
def real2 {a b : ℕ} (x : ℕ → ℕ → ℝ) : (⟨2, ![a, b]⟩ : Shape).Idx → EReal := fun i => ((x (i 0).val (i 1).val : ℝ) : EReal)

include hg hq hk hv in
theorem final_6 : (dats m 0 c).arrAt 6 (cfgs 0).N = real2 (a := 2048) (b := 512) (gradS q k v (mixed g)) := by
  refine (dats m 0 c).arrAt_eq_of_covers 6 _ (by decide +kernel) fun t hf y => ?_
  blk_simp
  rw [after_6]
  idx_vars y
  refine ((point_grads m c hg hq hk hv t.val t.isLt).1 y0 y1).trans ?_
  unfold real2
  blk_simp [idx t]
  rw [mul_comm 256 (t.val % 8), mul_comm 128 (t.val / 8)]

include hg hq hk hv in
theorem final_7 : (dats m 0 c).arrAt 7 (cfgs 0).N = real2 (a := 2048) (b := 512) (gradK q k v (mixed g)) := by
  refine (dats m 0 c).arrAt_eq_of_covers 7 _ (by decide +kernel) fun t hf y => ?_
  have h7 := (flush0_7 _).mp hf
  blk_simp
  rw [after_7]
  idx_vars y
  refine ((point_grads m c hg hq hk hv t.val t.isLt).2.1 y0 y1).trans ?_
  unfold real2
  blk_simp [idx t]
  rw [h7, mul_comm 128 (t.val / 8)]
  rfl

include hg hq hk hv in
theorem final_8 : (dats m 0 c).arrAt 8 (cfgs 0).N = real2 (a := 2048) (b := 512) (gradV q k (mixed g)) := by
  refine (dats m 0 c).arrAt_eq_of_covers 8 _ (by decide +kernel) fun t hf y => ?_
  have h8 := (flush0_8 _).mp hf
  blk_simp
  rw [after_8]
  idx_vars y
  refine ((point_grads m c hg hq hk hv t.val t.isLt).2.2 y0 y1).trans ?_
  unfold real2
  blk_simp [idx t]
  rw [h8, mul_comm 128 (t.val / 8)]
  rfl

end Args

end Cert.Attn
-- ==== Proof.Final.lean ====
module

public import proofs.«01_k».proof.Proof.Blocks

/-!
# The kernel's results

The three arrays a run ends with, of real operands.
-/

@[expose] public section

set_option maxRecDepth 16384

noncomputable section

namespace Cert.Attn

open Cert.KernelIdeal Cert.KernelIdeal.Gen
open Idealize.ShloMosaic Idealize.ShloMosaic.TcCoe
open Idealize.SL.Sem
open Finset (range)

variable (m : (ℓ : Loc nD τ sig) → Buf (Elt Ideal) ℓ) (c : Dev nD) {q k v g : ℕ → ℕ → ℝ}
  (hg : IsM (φ := .f32) (m ((c : Thread nD τ).loc main_arg0)) g) (hq : IsM (φ := .f32) (m ((c : Thread nD τ).loc main_arg1)) q)
  (hk : IsM (φ := .f32) (m ((c : Thread nD τ).loc main_arg2)) k) (hv : IsM (φ := .f32) (m ((c : Thread nD τ).loc main_arg3)) v)

include hg hq hk hv in
theorem tail_27 : Pipeline.afterTail₀ cfgs (dats m) 0 (V0 m) [hostOps1] c main_v27 = real2 (a := 2048) (b := 512) (gradQ q k v (mixed g)) := by
  unfold Pipeline.afterTail₀
  rw [List.flatten_cons, List.flatten_nil, List.append_nil]
  have h6 : Pipeline.withArrays (cfgs 0).spec c (V0 m c) (fun w => (dats m 0 c).arrAt w (cfgs 0).N) (Proc.devRef .tc main_v25_0)
      = real2 (a := 2048) (b := 512) (gradS q k v (mixed g)) :=
    (Pipeline.withArrays_arr (cfgs 0).spec launch0.win.arr_inj c (V0 m c) (fun w => (dats m 0 c).arrAt w (cfgs 0).N) 6).trans
      (final_6 m c hg hq hk hv)
  revert h6
  generalize Pipeline.withArrays _ _ _ _ = W
  intro h6
  after_results
  rw [h6]
  funext i
  idx_vars i
  pointwise [real2]
  rw [eighth32, gradQ, EReal.coe_mul]
  rfl

/-- A run ends with the three gradients. -/
theorem run_grads (ρ : Dev nD → PrngReg) (G Q K W : Dev nD → ℕ → ℕ → ℝ)
    (hg : ∀ c : Dev nD, IsM (φ := .f32) (m ((c : Thread nD τ).loc main_arg0)) (G c))
    (hq : ∀ c : Dev nD, IsM (φ := .f32) (m ((c : Thread nD τ).loc main_arg1)) (Q c))
    (hk : ∀ c : Dev nD, IsM (φ := .f32) (m ((c : Thread nD τ).loc main_arg2)) (K c))
    (hv : ∀ c : Dev nD, IsM (φ := .f32) (m ((c : Thread nD τ).loc main_arg3)) (W c)) :
    θ_run (defs (F := Ideal)) (onTc (τ := τ) (main (F := Ideal))) ⟨m, fun _ => 0, ρ⟩ (fun r => ∀ c : Dev nD,
      r.2.mem ((c.tc : Thread nD τ).loc main_v27) = real2 (a := 2048) (b := 512) (gradQ (Q c) (K c) (W c) (mixed (G c)))
      ∧ r.2.mem ((c.tc : Thread nD τ).loc main_v25_1) = real2 (a := 2048) (b := 512) (gradK (Q c) (K c) (W c) (mixed (G c)))
      ∧ r.2.mem ((c.tc : Thread nD τ).loc main_v25_2) = real2 (a := 2048) (b := 512) (gradV (Q c) (K c) (mixed (G c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨
      ((h.1 c).2 main_v27 (Pipeline.mem_restRefs_of main_v27 (by decide) (by decide))).trans (tail_27 m c (hg c) (hq c) (hk c) (hv c)),
      ((h.1 c).1 7).trans (final_7 m c (hg c) (hq c) (hk c) (hv c)),
      ((h.1 c).1 8).trans (final_8 m c (hg c) (hq c) (hk c) (hv c)),
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩)
    (run_main m ρ)

end Cert.Attn
-- ==== Proof.Plain.lean ====
module

public import proofs.«01_k».proof.Proof.Operands
public import proofs.«01_k».proof.Proof.Blocks
public import proofs.«01_k».proof.Proof.Gen.ReferenceIdeal.Run

/-!
# The reference's results

The reference's stages, each as a function of tensors, and what they are of real numbers.
-/

@[expose] public section

set_option maxRecDepth 16384

noncomputable section

namespace Cert.Plain

open Cert.ReferenceIdeal Cert.ReferenceIdeal.Gen Cert.ReferenceIdeal.Value Cert.Attn
open Idealize.ShloMosaic Idealize.ShloMosaic.TcCoe
open Idealize.SL.Sem
open Finset (range)

/-- A tensor over heads, queries and keys. -/
abbrev T3 := FVec Ideal S8x2048x2048 .f32
/-- The rows of all heads. -/
abbrev H3 := FVec Ideal S2048x8x64 .f32

def zeros : T3 := broadcastInDim S8x2048x2048 ![] bcast_S_S8x2048x2048 (constant S_ .f32 0x00000000#32)
def zeros' : T3 := broadcastInDim S8x2048x2048 ![] bcast_S_S8x2048x2048 (id (constant S_ .f32 0x00000000#32))
def zero0 : FVec Ideal S_ .f32 := broadcastInDim S_ ![] bcast_S_S_ (constant S_ .f32 0x00000000#32)
def eighths : T3 := broadcastInDim S8x2048x2048 ![] bcast_S_S8x2048x2048 (constant S_ .f32 0x3E000000#32)
def tops : T3 := broadcastInDim S8x2048x2048 ![] bcast_S_S8x2048x2048 (constant S_ .f32 0x7F800000#32)

/-- The keys before the query. -/
def mask : IVec S8x2048x2048 1 :=
  earlier bcast_S1x2048_S2048x2048_0_1 bcast_S2048_S1x2048_1 bcast_S2048x1_S2048x2048_0_1 bcast_S2048_S2048x1_0 bcast_S2048x2048_S8x2048x2048_1_2

/-- The rows of all heads. -/
def heads (x : FVec Ideal S2048x512 .f32) : H3 := shapeCast _ x shapeCasts_S2048x512_S2048x8x64

/-- The scores. -/
def score (q k : H3) : T3 := mulf (Host.dotGeneral dot_S2048x8x64_S2048x8x64_S8x2048x2048_2_2_0_0_1_1 none q k) eighths

/-- The logarithm of the softplus's slope. -/
def slope (x s : T3) : T3 := subf (select (cmpf .oeq x tops) zeros x) (select (cmpf .oeq s tops) zeros s)

/-- The log-remainders before the query. -/
def rems (s : T3) : T3 := select mask (Host.negf s) zeros'

/-- The sums from each key on. -/
def sumFrom (x : T3) : T3 :=
  Host.reduceWindowAdd ![1, 1, 2048] ![1, 1, 1] ![0, 0, 0] ![0, 0, 2047] x zero0
    reduceWindows_S8x2048x2048_S8x2048x2048_w1s1p0_0_w1s1p0_0_w2048s1p0_2047 h_S_

/-- The sums up to each key. -/
def sumUpto (x : T3) : T3 :=
  Host.reduceWindowAdd ![1, 1, 2048] ![1, 1, 1] ![0, 0, 2047] ![0, 0, 0] x zero0
    reduceWindows_S8x2048x2048_S8x2048x2048_w1s1p0_0_w1s1p0_0_w2048s1p2047_0 h_S_

/-- The weights before masking, of the softplus of minus the scores and of the scores. -/
def weights (s r : T3) : T3 := Host.exp (addf (Host.negf s) (subf (sumFrom (rems r)) (rems r)))

/-- The gradients of the attention's result, by head and channel. -/
def outGrad (g : FVec Ideal S2048x1024 .f32) : FVec Ideal S8x64x2048 .f32 :=
  transpose S8x64x2048 [1, 2, 0] (heads (extractStridedSlice S2048x512 ![0, 256] g slices_S2048x1024_S2048x512_0_256))
    transposes_S2048x8x64_S8x64x2048_1_2_0

/-- The gradients of the weights. -/
def weightGrad (g : FVec Ideal S8x64x2048 .f32) (v : H3) : T3 :=
  Host.dotGeneral dot_S8x64x2048_S2048x8x64_S8x2048x2048_1_2_2_0_0_1 none g v

/-- The weights times their gradients. -/
def prods (a w : T3) : T3 := mulf (select mask a zeros) w

/-- The gradients of the scores. -/
def scoreGrads (u e1 e2 : T3) : T3 :=
  addf (Host.negf (Host.negf (mulf (Host.negf (select mask (addf (Host.negf u) (sumUpto u)) zeros)) (Host.exp e2))))
    (Host.negf (mulf (Host.negf u) (Host.exp e1)))

def keyGrad (e : T3) (q : H3) : FVec Ideal S2048x512 .f32 :=
  shapeCast S2048x512 (transpose S2048x8x64 [1, 0, 2] (Host.dotGeneral dot_S8x2048x2048_S2048x8x64_S8x2048x64_1_0_2_2_0_1 none (mulf e eighths) q)
    transposes_S8x2048x64_S2048x8x64_1_0_2) shapeCasts_S2048x8x64_S2048x512

def queryGrad (e : T3) (k : H3) : FVec Ideal S2048x512 .f32 :=
  shapeCast S2048x512 (transpose S2048x8x64 [1, 0, 2] (Host.dotGeneral dot_S8x2048x2048_S2048x8x64_S8x2048x64_2_0_1_2_0_1 none (mulf e eighths) k)
    transposes_S8x2048x64_S2048x8x64_1_0_2) shapeCasts_S2048x8x64_S2048x512

def valueGrad (g : FVec Ideal S8x64x2048 .f32) (w : T3) : FVec Ideal S2048x512 .f32 :=
  shapeCast S2048x512 (transpose S2048x8x64 [2, 0, 1]
    (Host.dotGeneral dot_S8x64x2048_S8x2048x2048_S8x64x2048_2_1_1_2_0_0 none g (select mask w zeros'))
    transposes_S8x64x2048_S2048x8x64_2_0_1) shapeCasts_S2048x8x64_S2048x512

/-- The softplus of minus the scores. -/
def spn (z : T3) : T3 := softp (Host.negf z) zeros
/-- The softplus of the scores. -/
def spp (z : T3) : T3 := softp (Host.negf (Host.negf z)) zeros

/-- The gradients of the scores, of the scores and of the gradients of the weights. -/
def allGrads (z a : T3) : T3 :=
  scoreGrads (prods a (weights (spn z) (spp z))) (slope (Host.negf z) (spn z)) (slope (Host.negf (Host.negf z)) (spp z))

variable (m : (ℓ : Loc nD τ sig) → Buf (Elt Ideal) ℓ) (c : Dev nD)

set_option maxHeartbeats 4000000 in
theorem res47 : res_main_v47 (F := Ideal) m c = valueGrad (outGrad (m ((c.tc : Thread nD τ).loc main_arg0)))
    (weights (spn (score (heads (m ((c.tc : Thread nD τ).loc main_arg1))) (heads (m ((c.tc : Thread nD τ).loc main_arg2)))))
      (spp (score (heads (m ((c.tc : Thread nD τ).loc main_arg1))) (heads (m ((c.tc : Thread nD τ).loc main_arg2)))))) := rfl

set_option maxHeartbeats 4000000 in
theorem res48 : res_main_v48 (F := Ideal) m c = keyGrad (allGrads (score (heads (m ((c.tc : Thread nD τ).loc main_arg1))) (heads (m ((c.tc : Thread nD τ).loc main_arg2))))
    (weightGrad (outGrad (m ((c.tc : Thread nD τ).loc main_arg0))) (heads (m ((c.tc : Thread nD τ).loc main_arg3)))))
    (heads (m ((c.tc : Thread nD τ).loc main_arg1))) := rfl

set_option maxHeartbeats 4000000 in
theorem res49 : res_main_v49 (F := Ideal) m c = queryGrad (allGrads (score (heads (m ((c.tc : Thread nD τ).loc main_arg1))) (heads (m ((c.tc : Thread nD τ).loc main_arg2))))
    (weightGrad (outGrad (m ((c.tc : Thread nD τ).loc main_arg0))) (heads (m ((c.tc : Thread nD τ).loc main_arg3)))))
    (heads (m ((c.tc : Thread nD τ).loc main_arg2))) := rfl

section Reals
variable {Z A S : T3} {z a s : ℕ → ℕ → ℕ → ℝ}

theorem isT_spn (hz : IsT Z z) : IsT (spn Z) (fun h t j => -lam (z h t j)) :=
  (isT_softp (isT_negf hz) isT_zero).congr fun h _ t _ j _ => sp_neg _

theorem isT_spp (hz : IsT Z z) : IsT (spp Z) (fun h t j => z h t j - lam (z h t j)) :=
  (isT_softp (isT_negf (isT_negf hz)) isT_zero).congr fun h _ t _ j _ => by rw [neg_neg, sp_pos]

theorem isT_slope (hz : IsT Z z) (hs : IsT S s) : IsT (slope Z S) (fun h t j => z h t j - s h t j) :=
  isT_subf (isT_fin hz) (isT_fin hs)

theorem isT_rems (hs : IsT S s) : IsT (rems S) (fun h t j => if j < t then -s h t j else 0) :=
  isT_earlier (isT_negf hs) isT_zero'

theorem zero0_apply (i) : zero0 i = 0 := by
  pointwise [zero0]

theorem isT_sumFrom (hz : IsT Z z) : IsT (sumFrom Z) (fun h t j => z h t j + ∑ i ∈ range 2048, if j < i then z h t i else 0) :=
  (isT_window hz zero0_apply _ _).congr fun h _ t _ j hj => sum_from hj

theorem isT_sumUpto (hz : IsT Z z) : IsT (sumUpto Z) (fun h t j => z h t j + ∑ i ∈ range j, z h t i) :=
  (isT_window hz zero0_apply _ _).congr fun h _ t _ j hj => sum_upto hj

/-- The exponent of a weight. -/
def expo (z : ℕ → ℕ → ℝ) (t j : ℕ) : ℝ := lam (z t j) + ∑ i ∈ range 2048, if j < i then rem z t i else 0

theorem isT_weights (hz : IsT Z z) : IsT (weights (spn Z) (spp Z)) (fun h t j => Real.exp (expo (z h) t j)) := by
  have hr := isT_rems (isT_spp hz)
  refine (isT_exp (isT_addf (isT_negf (isT_spn hz)) (isT_subf (isT_sumFrom hr) hr))).congr fun h _ t _ j _ => ?_
  simp only [expo, rem, neg_neg, neg_sub, add_sub_cancel_left]

theorem isT_prods (hz : IsT Z z) (ha : IsT A a) : IsT (prods A (weights (spn Z) (spp Z))) (fun h => gr (z h) (a h)) := by
  refine (isT_mulf (isT_earlier ha isT_zero) (isT_weights hz)).congr fun h _ t _ j _ => ?_
  unfold gr wt expo
  split <;> simp

/-- The gradients of the scores, of real numbers. -/
theorem isT_allGrads (hz : IsT Z z) (ha : IsT A a) : IsT (allGrads Z A) (fun h => dsc (z h) (a h)) := by
  have hu := isT_prods hz ha
  have h1 := isT_slope (isT_negf hz) (isT_spn hz)
  have h2 := isT_slope (isT_negf (isT_negf hz)) (isT_spp hz)
  refine (isT_addf (isT_negf (isT_negf (isT_mulf (isT_negf (isT_earlier (isT_addf (isT_negf hu) (isT_sumUpto hu)) isT_zero)) (isT_exp h2))))
    (isT_negf (isT_mulf (isT_negf hu) (isT_exp h1)))).congr fun h _ t _ j _ => ?_
  have e := exp_lam (z h t j)
  have e1 : -z h t j - -lam (z h t j) = lam (z h t j) - z h t j := by ring
  have e2 : - -z h t j - (z h t j - lam (z h t j)) = lam (z h t j) := by ring
  rw [e1, e2, show Real.exp (lam (z h t j) - z h t j) = 1 - Real.exp (lam (z h t j)) by linarith, dsc]
  by_cases hjt : j < t
  · rw [if_pos hjt, if_pos hjt]
    ring
  · rw [if_neg hjt, if_neg hjt, gr, wt, if_neg hjt]
    ring

end Reals

section Rows
variable {X Y : FVec Ideal S2048x512 .f32} {x y : ℕ → ℕ → ℝ}

theorem heads_apply (X : FVec Ideal S2048x512 .f32) (t : Fin 2048) (h : Fin 8) (l : Fin 64) (hl : 64 * (h : ℕ) + l < 512) :
    heads X (ix3 t h l) = X (ix2 t ⟨64 * (h : ℕ) + l, hl⟩) := by
  pointwise [heads]
  congr 2
  exact Fin.ext (by simp only; omega)

theorem isT_score (hx : IsM X x) (hy : IsM Y y) : IsT (score (heads X) (heads Y)) (sc x y) := isT_scores hx hy

variable {G : FVec Ideal S2048x1024 .f32} {g : ℕ → ℕ → ℝ}

theorem heads_is (hx : IsM X x) (t : Fin 2048) (h : Fin 8) (l : Fin 64) :
    heads X (ix3 t h l) = ((x t (64 * h + l) : ℝ) : EReal) :=
  (heads_apply X t h l (by omega)).trans (hx t ⟨64 * (h : ℕ) + l, by omega⟩)

theorem heads_col (hx : IsM X x) (t : Fin 2048) (j : Fin 512) (h1 : (j : ℕ) / 64 < 8) (h2 : (j : ℕ) % 64 < 64) :
    heads X (ix3 t ⟨(j : ℕ) / 64, h1⟩ ⟨(j : ℕ) % 64, h2⟩) = ((x t j : ℝ) : EReal) := by
  rw [heads_is hx]
  dsimp only
  rw [Nat.div_add_mod]

theorem outGrad_apply (hg : IsM G g) (h : Fin 8) (l : Fin 64) (t : Fin 2048) :
    outGrad G (ix3 h l t) = ((mixed g t (64 * h + l) : ℝ) : EReal) := by
  pointwise [outGrad, heads]
  rw [mixed, mul_comm 64 (h : ℕ)]
  exact hg t _

theorem outGrad_col (hg : IsM G g) (t : Fin 2048) (j : Fin 512) (h1 : (j : ℕ) / 64 < 8) (h2 : (j : ℕ) % 64 < 64) :
    outGrad G (ix3 ⟨(j : ℕ) / 64, h1⟩ ⟨(j : ℕ) % 64, h2⟩ t) = ((mixed g t j : ℝ) : EReal) := by
  rw [outGrad_apply hg]
  dsimp only
  rw [Nat.div_add_mod]

theorem isT_weightGrad (hg : IsM G g) (hx : IsM X x) : IsT (weightGrad (outGrad G) (heads X)) (dw x (mixed g)) := by
  intro h t s
  pointwise [weightGrad]
  rw [dw, ← sum_axis]
  exact Finset.sum_congr rfl fun l _ => by rw [outGrad_apply hg, heads_is hx, EReal.coe_mul]

theorem isM_queryGrad {E : T3} {e : ℕ → ℕ → ℕ → ℝ} (he : IsT E e) (hx : IsM X x) :
    IsM (queryGrad E (heads X)) (fun t j => (∑ s ∈ range 2048, e (j / 64) t s * x s j) * (1 / 8)) := by
  intro t j
  pointwise [queryGrad, eighths]
  rw [Finset.sum_mul, ← sum_axis]
  exact Finset.sum_congr rfl fun s _ => by
    rw [heads_col hx, eighth32, he, ← EReal.coe_mul, ← EReal.coe_mul]
    exact congrArg _ (mul_right_comm _ _ _)

theorem isM_keyGrad {E : T3} {e : ℕ → ℕ → ℕ → ℝ} (he : IsT E e) (hx : IsM X x) :
    IsM (keyGrad E (heads X)) (fun s j => ∑ t ∈ range 2048, e (j / 64) t s * (x t j * (1 / 8))) := by
  intro s j
  pointwise [keyGrad, eighths]
  rw [← sum_axis]
  exact Finset.sum_congr rfl fun t _ => by
    rw [heads_col hx, eighth32, he, ← EReal.coe_mul, ← EReal.coe_mul]
    exact congrArg _ ((mul_right_comm _ _ _).trans (mul_assoc _ _ _))

theorem isM_valueGrad {W : T3} {w : ℕ → ℕ → ℕ → ℝ} (hw : IsT W w) (hg : IsM G g) :
    IsM (valueGrad (outGrad G) W) (fun s j => ∑ t ∈ range 2048, (if s < t then w (j / 64) t s else 0) * mixed g t j) := by
  have hm : IsT (select mask W zeros') (fun h t s => if s < t then w h t s else 0) := isT_earlier hw isT_zero'
  intro s j
  unfold valueGrad
  revert hm
  generalize select mask W zeros' = M
  intro hm
  pointwise
  rw [← sum_axis]
  exact Finset.sum_congr rfl fun t _ => by
    rw [outGrad_col hg, hm, ← EReal.coe_mul, mul_comm]

end Rows

section Results
variable (m : (ℓ : Loc nD τ sig) → Buf (Elt Ideal) ℓ) (c : Dev nD) {q k v g : ℕ → ℕ → ℝ}
  (hg : IsM (φ := .f32) (m ((c.tc : Thread nD τ).loc main_arg0)) g) (hq : IsM (φ := .f32) (m ((c.tc : Thread nD τ).loc main_arg1)) q)
  (hk : IsM (φ := .f32) (m ((c.tc : Thread nD τ).loc main_arg2)) k) (hv : IsM (φ := .f32) (m ((c.tc : Thread nD τ).loc main_arg3)) v)

theorem real2_of {a b : ℕ} {X : FVec Ideal ⟨2, ![a, b]⟩ .f32} {x : ℕ → ℕ → ℝ} (hx : IsM X x) : X = real2 x := by
  funext i
  have e : i = ix2 (i 0) (i 1) := by
    funext r
    match r with
    | ⟨0, _⟩ => rfl
    | ⟨1, _⟩ => rfl
  rw [e]
  exact hx (i 0) (i 1)

include hg hq hk hv in
theorem queries : res_main_v49 (F := Ideal) m c = real2 (a := 2048) (b := 512) (gradQ q k v (mixed g)) := by
  rw [res49]
  exact real2_of (isM_queryGrad (isT_allGrads (isT_score hq hk) (isT_weightGrad hg hv)) hk)

include hg hq hk hv in
theorem keys : res_main_v48 (F := Ideal) m c = real2 (a := 2048) (b := 512) (gradK q k v (mixed g)) := by
  rw [res48]
  exact real2_of (isM_keyGrad (isT_allGrads (isT_score hq hk) (isT_weightGrad hg hv)) hq)

include hg hq hk in
theorem values : res_main_v47 (F := Ideal) m c = real2 (a := 2048) (b := 512) (gradV q k (mixed g)) := by
  rw [res47]
  exact real2_of (isM_valueGrad (isT_weights (isT_score hq hk)) hg)

end Results

end Cert.Plain
-- ==== Proof.Finite.lean ====
module

public import proofs.«01_k».proof.Pre_finite
public import proofs.«01_k».proof.Proof.Tile
public import Idealize.ShloMosaic.Lib.ReduceAll

/-!
# Finite arguments

An array of which every element is smaller in size than infinity is an array of real numbers.
-/

@[expose] public section

set_option maxRecDepth 16384

noncomputable section

namespace Cert.Attn

open Idealize.ShloMosaic
open Cert.Pre_finite (S_ S2048x1024 S2048x512)

theorem infinity : Ideal.ofBits FTy.f32 0x7F800000#32 = ⊤ := by simp [Ideal.ofBits, Ideal.ieee]

/-- A number smaller in size than infinity is real. -/
theorem real_of_lt {x : EReal} (h : max x (-x) < ⊤) : ((x.toReal : ℝ) : EReal) = x := by
  refine EReal.coe_toReal (fun e => ?_) (fun e => ?_)
  · rw [e] at h
    exact absurd h (by simp)
  · rw [e] at h
    exact absurd h (by simp)

/-- An array's elements as real numbers, zero past its sides. -/
def reals {n k : Nat} (X : FVec Ideal ⟨2, ![n, k]⟩ .f32) (a c : ℕ) : ℝ :=
  if h : a < n ∧ c < k then EReal.toReal (X (ix2 ⟨a, h.1⟩ ⟨c, h.2⟩)) else 0

theorem isM_reals {n k : Nat} {X : FVec Ideal ⟨2, ![n, k]⟩ .f32} {T : FVec Ideal ⟨2, ![n, k]⟩ .f32}
    (hT : ∀ i, T i = ⊤) (h : ∀ i, cmpf .olt (Host.absf X) T i = 1#1) : IsM X (reals X) := by
  intro a c
  have e : reals X a c = EReal.toReal (X (ix2 a c)) := dif_pos ⟨a.2, c.2⟩
  rw [e]
  refine (real_of_lt ?_).symm
  have hh : BitVec.ofBool (decide (FloatOps.absf (X (ix2 a c)) < T (ix2 a c))) = 1#1 := by
    have := h (ix2 a c)
    revert this
    pointwise
    exact id
  by_contra hn
  have hn' : ¬ (FloatOps.absf (X (ix2 a c)) < T (ix2 a c)) := by
    rw [hT]
    exact hn
  rw [decide_eq_false hn'] at hh
  exact absurd hh (by decide)

instance : Subsingleton S_.Idx := ⟨fun i j => funext fun a => a.elim0⟩

/-- Arguments of which `finite` holds are arrays of real numbers. -/
theorem real_args [Cert.Pre_finite.Facts] {A : FVec Ideal S2048x1024 .f32} {B C D : FVec Ideal S2048x512 .f32}
    (h : Cert.Pre_finite.fn (F := Ideal) A B C D = fun _ => 1#1) :
    IsM A (reals A) ∧ IsM B (reals B) ∧ IsM C (reals C) ∧ IsM D (reals D) := by
  have h0 := congrFun h (fun a => a.elim0 : S_.Idx)
  unfold Cert.Pre_finite.fn Cert.Pre_finite.fn_part1 at h0
  obtain ⟨h1, hD⟩ := IntOp.andi_eq_one.1 h0
  obtain ⟨h2, hC⟩ := IntOp.andi_eq_one.1 h1
  obtain ⟨hA, hB⟩ := IntOp.andi_eq_one.1 h2
  exact ⟨isM_reals (fun _ => infinity) (Host.reduce_andi_all _ _ _ _ _ hA), isM_reals (fun _ => infinity) (Host.reduce_andi_all _ _ _ _ _ hB),
    isM_reals (fun _ => infinity) (Host.reduce_andi_all _ _ _ _ _ hC), isM_reals (fun _ => infinity) (Host.reduce_andi_all _ _ _ _ _ hD)⟩

end Cert.Attn
-- ==== Proof.Du.lean ====
module

public import proofs.«01_k».proof.Kernel2Ideal
public import proofs.«01_k».proof.Reference2Ideal
public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

/-!
The gradient of the feed-forward hidden rows: the program that multiplies the incoming gradient by the
second weight matrix, and by twice the root of the saved activations, leaves the derivative of the squared ramp.
-/

set_option maxRecDepth 16384

noncomputable section

namespace Cert.Du

open Cert.Kernel2Ideal Cert.Kernel2Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val]
    ∧ win0_3.index t = ![0, t.val] ∧ t.val < 8 :=
  (by decide +kernel : ∀ t : Fin grid0.N, _)

/-- The hidden rows before the ramp, the second weight matrix and the incoming gradient. -/
def U : FVec Ideal S2048x4096 .f32 := m ((c : Thread nD τ).loc main_arg0)
def W : FVec Ideal S4096x1024 .f32 := m ((c : Thread nD τ).loc main_arg1)
def G : FVec Ideal S2048x1024 .f32 := m ((c : Thread nD τ).loc main_arg2)

theorem blk0 (t : Fin cfg0.N) (a : Fin 2048) (l : Fin 1024) : iblk m c 0 t (ix2 a l) = G m c (ix2 a l) := by
  blk_ext [iblk, idx t]

theorem blk1 (t : Fin cfg0.N) (a : Fin 512) (l : Fin 1024) (h : 512 * t.val + a < 4096) :
    iblk m c 1 t (ix2 a l) = W m c (ix2 ⟨512 * t.val + a, h⟩ l) := by
  blk_ext [iblk, idx t]

theorem blk2 (t : Fin cfg0.N) (a : Fin 2048) (l : Fin 512) (h : 512 * t.val + l < 4096) :
    iblk m c 2 t (ix2 a l) = max (U m c (ix2 a ⟨512 * t.val + l, h⟩)) 0 * max (U m c (ix2 a ⟨512 * t.val + l, h⟩)) 0 := by
  have e : iblk m c 2 t (ix2 a l) = V m c main_v3 (ix2 a ⟨512 * t.val + l, h⟩) := by
    blk_ext [iblk, idx t]
  rw [e]
  entry_read
  pointwise [U]

/-- The root of the squared ramp is the ramp. -/
theorem root_ramp (u : EReal) : Ideal.sqrt (max u 0 * max u 0) = max u 0 := by
  have sq : ∀ x : ℝ, 0 ≤ x → Ideal.sqrt ((x : EReal) * (x : EReal)) = x := fun x h => by
    rw [← EReal.coe_mul, Ideal.sqrt_coe, if_neg (not_lt.mpr (mul_nonneg h h)), Real.sqrt_mul_self h]
  rcases le_total u 0 with h | h
  · rw [max_eq_right h]
    exact sq 0 le_rfl
  · rw [max_eq_left h]
    induction u using EReal.rec with
    | bot => exact absurd h (by simp)
    | top => simp
    | coe x => exact sq x (EReal.coe_nonneg.mp h)

/-- The gradient of the hidden rows, plainly. -/
def spec : FVec Ideal S2048x4096 .bf16 :=
  truncf .bf16 (select (cmpf .ogt (U m c) (broadcastInDim S2048x4096 ![] bcast_S_S2048x4096 (constant S_ .f32 0x00000000#32)))
    (mulf (Host.dotGeneral Cert.Reference2Ideal.dot_S2048x1024_S4096x1024_S2048x4096_1_1_0_0_n_n none (G m c) (W m c))
      (mulf (broadcastInDim S2048x4096 ![] bcast_S_S2048x4096 (constant S_ .f32 0x40000000#32))
        (maximumf (U m c) (broadcastInDim S2048x4096 ![] bcast_S_S2048x4096 (constant S_ .f32 0x00000000#32)))))
    (broadcastInDim S2048x4096 ![] bcast_S_S2048x4096 (constant S_ .f32 0x00000000#32))) bitsLt_bf16_f32

theorem point (t : Fin cfg0.N) (a : Fin 2048) (l : Fin 512) (h : 512 * t.val + l < 4096) :
    k0_pay1 (iblk m c 0 t) (iblk m c 1 t) (iblk m c 2 t) (ix2 a l) = spec m c (ix2 a ⟨512 * t.val + l, h⟩) := by
  pointwise [k0_pay1, spec]
  simp only [blk0, blk1 m c t _ _ h, blk2 m c t _ _ h, root_ramp]
  split_ifs with hu
  · rfl
  · rw [max_eq_right (not_lt.mp hu), mul_zero, mul_zero]

theorem final : (dats m 0 c).arrAt 3 cfg0.N = spec m c := by
  refine (dats m 0 c).arrAt_eq_of_covers 3 _ (by decide +kernel) fun t _ y => ?_
  have ht := (idx t).2.2.2.2
  blk_simp
  rw [after0_3]
  frame_out
  obtain ⟨a, l, rfl⟩ : ∃ a l, y = ix2 a l := ⟨_, _, eq_ix2 (n0 := 2048) (n1 := 512) y⟩
  refine (point m c t a l (by omega)).trans (congrArg _ ?_)
  blk_ext [idx t]

end Cert.Du
-- ==== Proof.DuClaim.lean ====
module

public import proofs.«01_k».proof.Defs
public import proofs.«01_k».proof.Proof.Gen.Kernel2
public import proofs.«01_k».proof.Proof.Du

/-!
# The program that finds the gradient of the hidden rows

The claims of it: a run leaves the arguments alone, and ends with the reference's values.
-/

@[expose] public section

set_option maxRecDepth 16384

noncomputable section

namespace Cert.Du

open Idealize.ShloMosaic Idealize.ShloMosaic.TcCoe
open Idealize.SL.Sem

/-- The two programs have the same body, -/
theorem body_eq {F : FTy → Type} [FloatOps F] :
    @Cert.Kernel2.cc0_du F _ Cert.Kernel2.Gen.facts = @Cert.Kernel2Ideal.cc0_du F _ Cert.Kernel2Ideal.Gen.facts := rfl

/-- the same table of bodies, -/
theorem bodies_eq {F : FTy → Type} [FloatOps F] : Cert.Kernel2.defs₀ (F := F) = Cert.Kernel2Ideal.defs₀ (F := F) := by
  unfold Cert.Kernel2.defs₀
  rw [body_eq]
  unfold Cert.Kernel2Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel2.defs (F := F) = Cert.Kernel2Ideal.defs (F := F) :=
  congrArg (Pipeline.defs Cert.Kernel2Ideal.pcfgs) bodies_eq

set_option maxHeartbeats 8000000 in
/-- and a run of the one is a run of the other. -/
theorem frame_kernel : Cert.quiescent_Kernel2 := fun m ρ _ => by
  have h := Cert.Kernel2Ideal.Gen.frame (F := Bits) m ρ
  rw [← defs_eq] at h
  exact h

theorem frame_kernelIdeal : Cert.quiescent_Kernel2Ideal := fun m ρ _ => Cert.Kernel2Ideal.Gen.frame (F := Ideal) m ρ

theorem frame_referenceIdeal : Cert.quiescent_Reference2Ideal := fun m ρ _ =>
  (θ_run (Cert.Reference2Ideal.defs (F := Ideal)) _ _).mono
    (fun r h => ⟨fun c => (h c).2, Idealize.ShloMosaic.sem_eq_zero_of_no_sems (by decide) r.2⟩)
    (Cert.Reference2Ideal.Value.run (F := Ideal) m ρ)

/-- Kernel and reference end with the same gradient of the hidden rows. -/
theorem same : Cert.algebraic_Kernel2Ideal_Reference2Ideal := fun m ρ m' ρ' _ hs => by
  refine ⟨fun c => spec m c, (θ_run _ _ _).mono (fun r h c => ⟨(h c).1.trans (final m c), (h c).2⟩)
    (Cert.Kernel2Ideal.Value.run_blocks (F := Ideal) m ρ), ?_⟩
  refine (θ_run _ _ _).mono (fun r h c => ⟨(h c).1.trans ?_, (h c).2⟩) (Cert.Reference2Ideal.Value.run (F := Ideal) m' ρ')
  obtain ⟨e0, e1, e2⟩ := hs c
  simp only [e0, e1, e2]
  rfl

end Cert.Du
-- ==== Proof.Dwff2.lean ====
module

public import proofs.«01_k».proof.Kernel3Ideal
public import proofs.«01_k».proof.Reference3Ideal
public import proofs.«01_k».proof.Proof.Gen.Kernel3Ideal.Value
public import proofs.«01_k».proof.Proof.Gen.Reference3Ideal.Run
public import Idealize.ShloMosaic.Lib.Pipeline.ValueKit
public import Idealize.ShloMosaic.Lib.Claim

/-!
# The gradient of the second feed-forward matrix

A block of rows of it is the product of a block of columns of the squared ramp, laid on its side, and the incoming gradient.
-/

@[expose] public section

set_option maxRecDepth 16384

noncomputable section

namespace Cert.Dwff2

open Cert.Kernel3Ideal Cert.Kernel3Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] ∧ t.val < 4 :=
  (by decide +kernel : ∀ t : Fin grid0.N, _)

/-- The hidden rows before the ramp, and the incoming gradient. -/
def U : FVec Ideal S2048x4096 .f32 := m ((c : Thread nD τ).loc main_arg0)
def G : FVec Ideal S2048x1024 .f32 := m ((c : Thread nD τ).loc main_arg2)

theorem blk0 (t : Fin cfg0.N) (a : Fin 2048) (l : Fin 1024) (h : 1024 * t.val + l < 4096) :
    iblk m c 0 t (ix2 a l) = max (U m c (ix2 a ⟨1024 * t.val + l, h⟩)) 0 * max (U m c (ix2 a ⟨1024 * t.val + l, h⟩)) 0 := by
  have e : iblk m c 0 t (ix2 a l) = V m c main_v3 (ix2 a ⟨1024 * t.val + l, h⟩) := by
    blk_ext [iblk, idx t]
  rw [e]
  entry_read
  pointwise [U]

theorem blk1 (t : Fin cfg0.N) (a : Fin 2048) (l : Fin 1024) : iblk m c 1 t (ix2 a l) = G m c (ix2 a l) := by
  blk_ext [iblk, idx t]

/-- The gradient of the second matrix, plainly. -/
def spec : FVec Ideal S4096x1024 .bf16 :=
  truncf .bf16 (transpose S4096x1024 [1, 0] (Host.dotGeneral Cert.Reference3Ideal.dot_S2048x1024_S2048x4096_S1024x4096_0_0_1_1_n_n none
    (G m c) (mulf (maximumf (U m c) (broadcastInDim S2048x4096 ![] bcast_S_S2048x4096 (constant S_ .f32 0x00000000#32)))
      (maximumf (U m c) (broadcastInDim S2048x4096 ![] bcast_S_S2048x4096 (constant S_ .f32 0x00000000#32)))))
    Cert.Reference3Ideal.Gen.transposes_S1024x4096_S4096x1024_1_0) bitsLt_bf16_f32

theorem point (t : Fin cfg0.N) (a : Fin 1024) (l : Fin 1024) (h : 1024 * t.val + a < 4096) :
    k0_pay1 (iblk m c 0 t) (iblk m c 1 t) (ix2 a l) = spec m c (ix2 ⟨1024 * t.val + a, h⟩ l) := by
  pointwise [k0_pay1, spec]
  simp only [blk0 m c t _ _ h, blk1]
  exact Finset.sum_congr rfl fun _ _ => mul_comm _ _

theorem final : (dats m 0 c).arrAt 2 cfg0.N = spec m c := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 1024) (n1 := 1024) y⟩
  refine (point m c t a l (by omega)).trans (congrArg _ ?_)
  blk_ext [idx t]

end Cert.Dwff2
-- ==== Proof.Dwff2Claim.lean ====
module

public import proofs.«01_k».proof.Defs
public import proofs.«01_k».proof.Proof.Gen.Kernel3
public import proofs.«01_k».proof.Proof.Dwff2

/-!
# The program that finds the gradient of the second feed-forward matrix

The claims of it: a run leaves the arguments alone, and ends with the reference's values.
-/

@[expose] public section

set_option maxRecDepth 16384

noncomputable section

namespace Cert.Dwff2

open Idealize.ShloMosaic Idealize.ShloMosaic.TcCoe
open Idealize.SL.Sem

/-- The two programs have the same body, -/
theorem body_eq {F : FTy → Type} [FloatOps F] :
    @Cert.Kernel3.cc0_dwff2 F _ Cert.Kernel3.Gen.facts = @Cert.Kernel3Ideal.cc0_dwff2 F _ Cert.Kernel3Ideal.Gen.facts := rfl

/-- the same table of bodies, -/
theorem bodies_eq {F : FTy → Type} [FloatOps F] : Cert.Kernel3.defs₀ (F := F) = Cert.Kernel3Ideal.defs₀ (F := F) := by
  unfold Cert.Kernel3.defs₀
  rw [body_eq]
  unfold Cert.Kernel3Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel3.defs (F := F) = Cert.Kernel3Ideal.defs (F := F) :=
  congrArg (Pipeline.defs Cert.Kernel3Ideal.pcfgs) bodies_eq

set_option maxHeartbeats 8000000 in
/-- and a run of the one is a run of the other. -/
theorem frame_kernel : Cert.quiescent_Kernel3 := fun m ρ _ => by
  have h := Cert.Kernel3Ideal.Gen.frame (F := Bits) m ρ
  rw [← defs_eq] at h
  exact h

theorem frame_kernelIdeal : Cert.quiescent_Kernel3Ideal := fun m ρ _ => Cert.Kernel3Ideal.Gen.frame (F := Ideal) m ρ

theorem frame_referenceIdeal : Cert.quiescent_Reference3Ideal := fun m ρ _ =>
  (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m ρ)

/-- Kernel and reference end with the same gradient of the second matrix. -/
theorem same : Cert.algebraic_Kernel3Ideal_Reference3Ideal := fun m ρ m' ρ' _ hs => by
  refine ⟨fun c => spec m c, (θ_run _ _ _).mono (fun r h c => ⟨(h c).1.trans (final m c), (h c).2⟩)
    (Cert.Kernel3Ideal.Value.run_blocks (F := Ideal) m ρ), ?_⟩
  refine (θ_run _ _ _).mono (fun r h c => ⟨(h c).1.trans ?_, (h c).2⟩) (Cert.Reference3Ideal.Value.run (F := Ideal) m' ρ')
  obtain ⟨e0, e1, e2⟩ := hs c
  simp only [e0, e1, e2]
  rfl

end Cert.Dwff2
-- ==== Proof.Rms.lean ====
module

public import Idealize.ShloMosaic.Lib.Pipeline.ValueKit

/-!
# The gradient through a row's normalisation

A row divided by the root of its mean square. The gradient can be written with the derivative of the inverse root, or with the
normalised row and the mean of its product with the gradient; both are the same extended real numbers, whatever the row.
-/

@[expose] public section

noncomputable section

namespace Cert.Rms

open Idealize.ShloMosaic

theorem kappa : Ideal.ofBits FTy.f32 0x44800000#32 = ((1024 : ℝ) : EReal) := by
  simp [Ideal.ofBits, Ideal.ieee, -EReal.coe_mul]
  norm_num

theorem minus_half : Ideal.ofBits FTy.f32 0xBF000000#32 = ((-(1 / 2) : ℝ) : EReal) := by
  simp [Ideal.ofBits, Ideal.ieee, -EReal.coe_mul]
  norm_num

theorem small : ∃ e : ℝ, 0 < e ∧ Ideal.ofBits FTy.f32 0x358637BD#32 = (e : EReal) := by
  refine ⟨8796093 / 2 ^ 43, by norm_num, ?_⟩
  simp [Ideal.ofBits, Ideal.ieee, -EReal.coe_mul]
  norm_num

/-- A real number that is not negative passes through a sum. -/
theorem sum_mul_real {ι : Type} (s : Finset ι) (f : ι → EReal) {p : ℝ} (hp : 0 ≤ p) :
    ∑ k ∈ s, f k * (p : EReal) = (∑ k ∈ s, f k) * (p : EReal) := by
  classical
  induction s using Finset.induction_on with
  | empty => simp
  | insert a s ha ih =>
    rw [Finset.sum_insert ha, Finset.sum_insert ha, ih,
      EReal.right_distrib_of_nonneg_of_ne_top (EReal.coe_nonneg.mpr hp) (EReal.coe_ne_top p)]

/-- A sum of real numbers among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem mul_self_nonneg' (x : EReal) : 0 ≤ x * x := by
  induction x using EReal.rec with
  | bot => simp
  | top => simp
  | coe x => exact_mod_cast mul_self_nonneg x

theorem twice (y : EReal) : y + y = ((2 : ℝ) : EReal) * y := by
  induction y using EReal.rec with
  | bot => simp [EReal.coe_mul_bot_of_pos]
  | top => simp [EReal.coe_mul_top_of_pos]
  | coe y => exact_mod_cast (two_mul y).symm

theorem div_real (x : EReal) {k : ℝ} (hk : k ≠ 0) : Ideal.div x (k : EReal) = x * ((k⁻¹ : ℝ) : EReal) := by
  unfold Ideal.div
  rw [if_neg (by exact_mod_cast hk), EReal.coe_inv]

variable {n : ℕ} (H E : Fin n → EReal) (d : EReal) (j : Fin n)

/-- The mean square of a row, with a little added. -/
def meanSq : EReal := Ideal.div (∑ k, H k * H k) (Ideal.ofBits FTy.f32 0x44800000#32) + Ideal.ofBits FTy.f32 0x358637BD#32

/-- The inverse root of it. -/
def inv : EReal := Ideal.rsqrt (meanSq H)

/-- The common factor of the row in the derivative of the inverse root. -/
def slope : EReal :=
  Ideal.div ((∑ k, H k * E k) * (Ideal.ofBits FTy.f32 0xBF000000#32 * Ideal.div (inv H) (meanSq H))) (Ideal.ofBits FTy.f32 0x44800000#32)

/-- Either the row is infinite, or it is of real numbers and its mean square is positive. -/
theorem cases : meanSq H = ⊤ ∨ ((∀ k, ∃ x : ℝ, H k = x) ∧ ∃ a : ℝ, 0 < a ∧ meanSq H = a) := by
  obtain ⟨e, he, hs⟩ := small
  by_cases hr : ∀ k, ∃ x : ℝ, H k = x
  · right
    refine ⟨hr, ?_⟩
    choose x hx using hr
    refine ⟨(∑ k, x k * x k) * 1024⁻¹ + e, by have := Finset.sum_nonneg (s := Finset.univ) fun k _ => mul_self_nonneg (x k); positivity, ?_⟩
    unfold meanSq
    rw [kappa, hs, div_real _ (by norm_num), Finset.sum_congr rfl fun k _ => by rw [hx k, ← EReal.coe_mul], ← coe_sum,
      ← EReal.coe_mul, ← EReal.coe_add]
  · left
    obtain ⟨k, hk⟩ := not_forall.mp hr
    have hkk : H k * H k = ⊤ := by
      induction h : H k using EReal.rec with
      | bot => simp
      | top => simp
      | coe x => exact absurd ⟨x, h⟩ hk
    have hsum : ∑ k, H k * H k = ⊤ :=
      top_le_iff.mp (hkk.symm.le.trans (Finset.single_le_sum (f := fun k => H k * H k) (fun k _ => mul_self_nonneg' (H k)) (Finset.mem_univ k)))
    unfold meanSq
    rw [hsum, kappa, hs, div_real _ (by norm_num), EReal.top_mul_coe_of_pos (by norm_num)]
    rfl

/-- THE TWO FORMS AGREE. -/
theorem forms : d + E j * inv H + H j * slope H E + slope H E * H j
    = d + inv H * (E j - H j * inv H * Ideal.div (∑ k, E k * (H k * inv H)) (Ideal.ofBits FTy.f32 0x44800000#32)) := by
  rcases cases H with h | ⟨hx, a, ha, h⟩
  · have hi : inv H = 0 := by unfold inv; rw [h]; rfl
    have hs : slope H E = 0 := by
      unfold slope
      rw [hi, h, kappa, div_real _ (by norm_num)]
      simp [Ideal.div]
    rw [hs, hi]
    simp
  · choose x hx using hx
    have hsq : 0 < Real.sqrt a := Real.sqrt_pos.mpr ha
    have hp : 0 < (Real.sqrt a)⁻¹ := inv_pos.mpr hsq
    have hi : inv H = (((Real.sqrt a)⁻¹ : ℝ) : EReal) := by
      unfold inv
      rw [h, Ideal.rsqrt_coe, if_neg (not_lt.mpr ha.le), if_neg ha.ne']
    have hpa : a⁻¹ = (Real.sqrt a)⁻¹ * (Real.sqrt a)⁻¹ := by rw [← mul_inv, Real.mul_self_sqrt ha.le]
    revert hi hp hpa
    generalize (Real.sqrt a)⁻¹ = p
    intro hp hi hpa
    have hs : slope H E = (∑ k, H k * E k) * ((-(1 / 2) * p * (p * p) * 1024⁻¹ : ℝ) : EReal) := by
      unfold slope
      rw [hi, h, kappa, minus_half, div_real _ (by norm_num), div_real _ ha.ne', hpa, ← EReal.coe_mul, ← EReal.coe_mul, mul_assoc,
        ← EReal.coe_mul]
      congr 2
      ring
    have hc : ∑ k, E k * (H k * inv H) = (∑ k, H k * E k) * (p : EReal) := by
      rw [← sum_mul_real _ _ hp.le, hi]
      refine Finset.sum_congr rfl fun k _ => ?_
      rw [← mul_assoc, mul_comm (E k)]
    rw [hs, hc, hi, hx j, kappa, div_real _ (by norm_num)]
    generalize (∑ k, H k * E k) = S
    generalize x j = y
    generalize E j = z
    have e1 : ((y : ℝ) : EReal) * (p : EReal) * (S * (p : EReal) * ((1024⁻¹ : ℝ) : EReal)) = ((y * p * p * 1024⁻¹ : ℝ) : EReal) * S := by
      rw [EReal.coe_mul, EReal.coe_mul, EReal.coe_mul]
      simp only [mul_assoc, mul_comm, mul_left_comm]
    have e2 : ((y : ℝ) : EReal) * (S * ((-(1 / 2) * p * (p * p) * 1024⁻¹ : ℝ) : EReal))
        = ((y * (-(1 / 2) * p * (p * p) * 1024⁻¹) : ℝ) : EReal) * S := by
      rw [EReal.coe_mul y, mul_comm S, ← mul_assoc]
    rw [e1, mul_comm (S * _) (y : EReal), e2, add_assoc, twice, ← mul_assoc, ← EReal.coe_mul, sub_eq_add_neg, ← EReal.neg_mul, ← EReal.coe_neg,
      EReal.left_distrib_of_nonneg_of_ne_top (EReal.coe_nonneg.mpr hp.le) (EReal.coe_ne_top p),
      ← mul_assoc (p : EReal) (_ : EReal) S, ← EReal.coe_mul p, mul_comm z, add_assoc]
    congr 4
    ring

end Cert.Rms
-- ==== Proof.Dh1.lean ====
module

public import proofs.«01_k».proof.Kernel4Ideal
public import proofs.«01_k».proof.Reference4Ideal
public import proofs.«01_k».proof.Proof.Gen.Kernel4Ideal.Value
public import proofs.«01_k».proof.Proof.Gen.Reference4Ideal.Run
public import proofs.«01_k».proof.Proof.Rms
public import Idealize.ShloMosaic.Lib.Pipeline.ValueKit
public import Idealize.ShloMosaic.Lib.Claim

/-!
# The gradient through the first normalisation of the feed-forward part

The gradient of the hidden rows times the first matrix laid on its side, taken back through the normalisation of the rows and
added to the gradient that went round it; and the gradient of the normalisation's gain.
-/

@[expose] public section

set_option maxRecDepth 16384

noncomputable section

namespace Cert.Dh1

open Cert.Kernel4Ideal Cert.Kernel4Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ t.val < 4 :=
  (by decide +kernel : ∀ t : Fin grid0.N, _)

/-- The rows, the gain, the matrix, the gradient of the hidden rows and the gradient that goes round. -/
def H : FVec Ideal S2048x1024 .f32 := m ((c : Thread nD τ).loc main_arg0)
def G : FVec Ideal S1x1024 .f32 := m ((c : Thread nD τ).loc main_arg1)
def W : FVec Ideal S1024x4096 .f32 := m ((c : Thread nD τ).loc main_arg2)
def D : FVec Ideal S2048x4096 .f32 := m ((c : Thread nD τ).loc main_arg3)
def R : FVec Ideal S2048x1024 .f32 := m ((c : Thread nD τ).loc main_arg4)

theorem blk0 (t : Fin cfg0.N) (a : Fin 512) (l : Fin 4096) (h : 512 * t.val + a < 2048) :
    iblk m c 0 t (ix2 a l) = D m c (ix2 ⟨512 * t.val + a, h⟩ l) := by
  blk_ext [iblk, idx t]

theorem blk1 (t : Fin cfg0.N) (a : Fin 1024) (l : Fin 4096) : iblk m c 1 t (ix2 a l) = W m c (ix2 a l) := by
  blk_ext [iblk, idx t]

theorem blk2 (t : Fin cfg0.N) (a : Fin 512) (l : Fin 1024) (h : 512 * t.val + a < 2048) :
    iblk m c 2 t (ix2 a l) = H m c (ix2 ⟨512 * t.val + a, h⟩ l) := by
  blk_ext [iblk, V_main_arg0, idx t]

theorem blk3 (t : Fin cfg0.N) (l : Fin 1024) : iblk m c 3 t (ix2 0 l) = G m c (ix2 0 l) := by
  blk_ext [iblk, V_main_arg1, idx t]

theorem blk4 (t : Fin cfg0.N) (a : Fin 512) (l : Fin 1024) (h : 512 * t.val + a < 2048) :
    iblk m c 4 t (ix2 a l) = R m c (ix2 ⟨512 * t.val + a, h⟩ l) := by
  blk_ext [iblk, V_main_arg4, idx t]

section Plain
variable (h : FVec Ideal S2048x1024 .f32) (g : FVec Ideal S1x1024 .f32) (w : FVec Ideal S1024x4096 .f32) (d : FVec Ideal S2048x4096 .f32)
  (r : FVec Ideal S2048x1024 .f32)

/-- The gradient of the normalised rows, at a row and column. -/
def dot (t : Fin 2048) (j : Fin 1024) : EReal := ∑ x : Fin 4096, d (ix2 t x) * w (ix2 j x)

def rows (t : Fin 2048) (j : Fin 1024) : EReal := h (ix2 t j)

def gained (t : Fin 2048) (j : Fin 1024) : EReal := dot w d t j * g (ix2 0 j)

/-- The gradient of the rows. -/
def dh (t : Fin 2048) (j : Fin 1024) : EReal :=
  r (ix2 t j) + gained g w d t j * Rms.inv (rows h t) + rows h t j * Rms.slope (rows h t) (gained g w d t)
    + Rms.slope (rows h t) (gained g w d t) * rows h t j

/-- The gradient of the gain. -/
def dg (j : Fin 1024) : EReal := ∑ t : Fin 2048, rows h t j * Rms.inv (rows h t) * dot w d t j

def dh32 : FVec Ideal S2048x1024 .f32 := fun i => dh h g w d r (i 0) (i 1)
def dh16 : FVec Ideal S2048x1024 .bf16 := fun i => dh h g w d r (i 0) (i 1)
def dg32 : FVec Ideal S1x1024 .f32 := fun i => dg h w d (i 1)

end Plain

theorem pay6 (t : Fin cfg0.N) (a : Fin 512) (j : Fin 1024) (h : 512 * t.val + a < 2048) :
    k0_pay6 (F := Ideal) (iblk m c 2 t) (iblk m c 0 t) (iblk m c 1 t) (iblk m c 3 t) (iblk m c 4 t) (ix2 a j)
      = dh (H m c) (G m c) (W m c) (D m c) (R m c) ⟨512 * t.val + a, h⟩ j := by
  refine Eq.trans ?_ (Rms.forms _ _ _ j).symm
  pointwise [k0_pay6, k0_pay5, k0_pay4, k0_pay3]
  simp only [blk0 m c t _ _ h, blk1, blk2 m c t _ _ h, blk3, blk4 m c t _ _ h]
  rfl

theorem pay7 (t : Fin cfg0.N) (a : Fin 512) (j : Fin 1024) (h : 512 * t.val + a < 2048) :
    k0_pay7 (F := Ideal) (iblk m c 2 t) (iblk m c 0 t) (iblk m c 1 t) (iblk m c 3 t) (iblk m c 4 t) (ix2 a j)
      = dh (H m c) (G m c) (W m c) (D m c) (R m c) ⟨512 * t.val + a, h⟩ j := pay6 m c t a j h

theorem final5 : (dats m 0 c).arrAt 5 cfg0.N = dh32 (H m c) (G m c) (W m c) (D m c) (R m c) := by
  refine (dats m 0 c).arrAt_eq_of_covers 5 _ (by decide +kernel) fun t _ y => ?_
  have ht := (idx t).2.2.2.2.2.2.2.2
  obtain ⟨a, l, rfl⟩ : ∃ a l, y = ix2 a l := ⟨_, _, eq_ix2 (n0 := 512) (n1 := 1024) y⟩
  have key := pay6 m c t a l (by omega)
  have place : dh32 (H m c) (G m c) (W m c) (D m c) (R m c) (((View.whole main_v2_0).slice (win0_5.rect t)).emb (ix2 a l))
      = dh32 (H m c) (G m c) (W m c) (D m c) (R m c) (ix2 ⟨512 * t.val + a, by omega⟩ l) := by
    refine congrArg _ ?_
    blk_ext [idx t]
  blk_simp
  rw [after0_5]
  rcases Nat.eq_zero_or_pos (t.val % 4) with h | h
  · rw [outsAt0_A m c t h]
    frame_out
    exact key.trans place.symm
  · rw [outsAt0_B m c t (by omega)]
    frame_out
    exact key.trans place.symm

theorem final6 : (dats m 0 c).arrAt 6 cfg0.N = dh16 (H m c) (G m c) (W m c) (D m c) (R m c) := by
  refine (dats m 0 c).arrAt_eq_of_covers 6 _ (by decide +kernel) fun t _ y => ?_
  have ht := (idx t).2.2.2.2.2.2.2.2
  obtain ⟨a, l, rfl⟩ : ∃ a l, y = ix2 a l := ⟨_, _, eq_ix2 (n0 := 512) (n1 := 1024) y⟩
  have key := pay7 m c t a l (by omega)
  have place : dh16 (H m c) (G m c) (W m c) (D m c) (R m c) (((View.whole main_v2_1).slice (win0_6.rect t)).emb (ix2 a l))
      = dh16 (H m c) (G m c) (W m c) (D m c) (R m c) (ix2 ⟨512 * t.val + a, by omega⟩ l) := by
    refine congrArg _ ?_
    blk_ext [idx t]
  blk_simp
  rw [after0_6]
  rcases Nat.eq_zero_or_pos (t.val % 4) with h | h
  · rw [outsAt0_A m c t h]
    frame_out
    exact key.trans place.symm
  · rw [outsAt0_B m c t (by omega)]
    frame_out
    exact key.trans place.symm

theorem hzero (j : S1x1024.Idx) : k0_pay1 (F := Ideal) j = 0 := by pointwise [k0_pay1]

theorem hpay (x2 : FVec Ideal S512x1024 .f32) (x0 : FVec Ideal S512x4096 .bf16) (x1 : FVec Ideal S1024x4096 .bf16) (x : FVec Ideal S1x1024 .f32)
    (j : S1x1024.Idx) :
    k0_pay2 (F := Ideal) (k0_pay3 x0 x1) (k0_pay5 x2) x j = x j + ∑ k : Fin 512, (∑ l : Fin 4096, x0 (ix2 k l) * x1 (ix2 (j 1) l))
      * (x2 (ix2 k (j 1)) * Rms.inv fun i : Fin 1024 => x2 (ix2 k i)) := by
  pointwise [k0_pay2, k0_pay5, k0_pay4, k0_pay3]
  rfl

theorem piece (x0 : FVec Ideal S512x4096 .bf16) (x1 : FVec Ideal S1024x4096 .bf16) (x2 : FVec Ideal S512x1024 .f32) (k : Fin 512) (q : Fin 1024)
    (T : Fin 2048) (h0 : ∀ l, x0 (ix2 k l) = D m c (ix2 T l)) (h1 : ∀ l, x1 (ix2 q l) = W m c (ix2 q l))
    (h2 : ∀ l, x2 (ix2 k l) = H m c (ix2 T l)) :
    (∑ l : Fin 4096, x0 (ix2 k l) * x1 (ix2 q l)) * (x2 (ix2 k q) * Rms.inv fun i : Fin 1024 => x2 (ix2 k i))
      = rows (H m c) T q * Rms.inv (rows (H m c) T) * dot (W m c) (D m c) T q := by
  simp only [h0, h1, h2]
  exact mul_comm _ _

theorem final7 : (dats m 0 c).arrAt 7 cfg0.N = dg32 (H m c) (W m c) (D m c) := by
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold dg32 dg
  refine Fin.sum_mul_add_congr fun s k hl => ?_
  have e : (⟨s.val * 512 + k, hl⟩ : Fin 2048) = ⟨512 * s.val + k, by omega⟩ := Fin.ext (by show s.val * 512 + k.val = 512 * s.val + k.val; omega)
  rw [e]
  exact piece m c (iblk m c 0 s) (iblk m c 1 s) (iblk m c 2 s) k (j 1) _ (fun l => blk0 m c s k l _) (fun l => blk1 m c s (j 1) l)
    (fun l => blk2 m c s k l _)

section Reference
open Cert.Reference4Ideal (main_arg0 main_arg1 main_arg2 main_arg3 main_arg4)
variable (m' : (ℓ : Loc Cert.Reference4Ideal.nD Cert.Reference4Ideal.τ Cert.Reference4Ideal.sig) → Buf (Elt Ideal) ℓ) (c' : Dev Cert.Reference4Ideal.nD)

theorem ref5 : Cert.Reference4Ideal.Value.res_main_v36 m' c'
    = dh32 (m' (c'.tc.loc main_arg0)) (m' (c'.tc.loc main_arg1)) (m' (c'.tc.loc main_arg2)) (m' (c'.tc.loc main_arg3)) (m' (c'.tc.loc main_arg4)) := by
  funext i
  obtain ⟨t, j, rfl⟩ : ∃ a l, i = ix2 a l := ⟨_, _, eq_ix2 (n0 := 2048) (n1 := 1024) i⟩
  pointwise [Cert.Reference4Ideal.Value.res_main_v36]
  simp only [Finset.univ_unique, Finset.sum_singleton]
  rfl

theorem ref6 : Cert.Reference4Ideal.Value.res_main_v37 m' c'
    = dh16 (m' (c'.tc.loc main_arg0)) (m' (c'.tc.loc main_arg1)) (m' (c'.tc.loc main_arg2)) (m' (c'.tc.loc main_arg3)) (m' (c'.tc.loc main_arg4)) :=
  ref5 m' c'

open Cert.Reference4Ideal (S_ S2048x1) in
open Cert.Reference4Ideal.Gen in
theorem ref7 (h : FVec Ideal S2048x1024 .f32) (w : FVec Ideal S1024x4096 .f32) (d : FVec Ideal S2048x4096 .f32) :
    shapeCast S1x1024 (Host.reduceAdd (mulf (mulf h (broadcastInDim S2048x1024 ![0, 1] bcast_S2048x1_S2048x1024_0_1 (Host.rsqrt
        (addf (Host.divf (broadcastInDim S2048x1 ![0] bcast_S2048_S2048x1_0 (Host.reduceAdd (mulf h h) (constant S_ .f32 0x00000000#32)
          reducesTo_S2048x1024_S2048_d1 h_S_)) (broadcastInDim S2048x1 ![] bcast_S_S2048x1 (constant S_ .f32 0x44800000#32)))
          (broadcastInDim S2048x1 ![] bcast_S_S2048x1 (constant S_ .f32 0x358637BD#32))))))
        (Host.dotGeneral Cert.Reference4Ideal.dot_S2048x4096_S1024x4096_S2048x1024_1_1_0_0_n_n none d w)) (constant S_ .f32 0x00000000#32)
          reducesTo_S2048x1024_S1024_d0 h_S_) Cert.Kernel4Ideal.Gen.shapeCasts_S1024_S1x1024 = dg32 h w d := by
  funext i
  obtain ⟨z, j, rfl⟩ : ∃ a l, i = ix2 a l := ⟨_, _, eq_ix2 (n0 := 1) (n1 := 1024) i⟩
  pointwise
  rfl

end Reference

end Cert.Dh1
-- ==== Proof.Dh1Claim.lean ====
module

public import proofs.«01_k».proof.Defs
public import proofs.«01_k».proof.Proof.Gen.Kernel4
public import proofs.«01_k».proof.Proof.Dh1

/-!
# The program that takes the gradient through the first matrix and the normalisation before it

The claims of it: a run leaves the arguments alone, and ends with the reference's values.
-/

@[expose] public section

set_option maxRecDepth 16384

noncomputable section

namespace Cert.Dh1

open Idealize.ShloMosaic Idealize.ShloMosaic.TcCoe
open Idealize.SL.Sem

/-- The two programs have the same body, -/
theorem body_eq {F : FTy → Type} [FloatOps F] :
    @Cert.Kernel4.cc0_dh1 F _ Cert.Kernel4.Gen.facts = @Cert.Kernel4Ideal.cc0_dh1 F _ Cert.Kernel4Ideal.Gen.facts := rfl

/-- the same table of bodies, -/
theorem bodies_eq {F : FTy → Type} [FloatOps F] : Cert.Kernel4.defs₀ (F := F) = Cert.Kernel4Ideal.defs₀ (F := F) := by
  unfold Cert.Kernel4.defs₀
  rw [body_eq]
  unfold Cert.Kernel4Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel4.defs (F := F) = Cert.Kernel4Ideal.defs (F := F) :=
  congrArg (Pipeline.defs Cert.Kernel4Ideal.pcfgs) bodies_eq

set_option maxHeartbeats 8000000 in
/-- and a run of the one is a run of the other. -/
theorem frame_kernel : Cert.quiescent_Kernel4 := fun m ρ _ => by
  have h := Cert.Kernel4Ideal.Gen.frame (F := Bits) m ρ
  rw [← defs_eq] at h
  exact h

theorem frame_kernelIdeal : Cert.quiescent_Kernel4Ideal := fun m ρ _ => Cert.Kernel4Ideal.Gen.frame (F := Ideal) m ρ

theorem frame_referenceIdeal : Cert.quiescent_Reference4Ideal := fun m ρ _ =>
  (θ_run (Cert.Reference4Ideal.defs (F := Ideal)) _ _).mono
    (fun r h => ⟨fun c => (h c).2.2.2, Idealize.ShloMosaic.sem_eq_zero_of_no_sems (by decide) r.2⟩)
    (Cert.Reference4Ideal.Value.run (F := Ideal) m ρ)

/-- Kernel and reference end with the same gradients of the rows and of the gain. -/
theorem same : Cert.algebraic_Kernel4Ideal_Reference4Ideal := fun m ρ m' ρ' _ hs => by
  refine ⟨fun c => dh32 (H m c) (G m c) (W m c) (D m c) (R m c), fun c => dh16 (H m c) (G m c) (W m c) (D m c) (R m c),
    fun c => dg32 (H m c) (W m c) (D m c),
    (θ_run _ _ _).mono (fun r h c => ⟨(h c).1.trans (final5 m c), (h c).2.1.trans (final6 m c), (h c).2.2.1.trans (final7 m c), (h c).2.2.2⟩)
      (Cert.Kernel4Ideal.Value.run_blocks (F := Ideal) m ρ), ?_⟩
  refine (θ_run _ _ _).mono (fun r h c => ⟨(h c).1.trans ((ref5 m' c).trans ?_), (h c).2.1.trans ((ref6 m' c).trans ?_),
    (h c).2.2.1.trans ((ref7 _ _ _).trans ?_), (h c).2.2.2⟩) (Cert.Reference4Ideal.Value.run (F := Ideal) m' ρ')
  all_goals
    obtain ⟨e0, e1, e2, e3, e4⟩ := hs c
    simp only [e0, e1, e2, e3, e4]
    rfl

end Cert.Dh1
-- ==== Proof.Dwff1.lean ====
module

public import proofs.«01_k».proof.Kernel5Ideal
public import proofs.«01_k».proof.Reference5Ideal
public import proofs.«01_k».proof.Proof.Gen.Kernel5Ideal.Value
public import proofs.«01_k».proof.Proof.Gen.Reference5Ideal.Run
public import Idealize.ShloMosaic.Lib.Pipeline.ValueKit
public import Idealize.ShloMosaic.Lib.Claim

/-!
# The gradient of the first feed-forward matrix

A block of rows of it is the product of a block of columns of the rows multiplied, laid on its side, and the gradient of the
hidden rows; its columns are left in eight parts.
-/

@[expose] public section

set_option maxRecDepth 16384

noncomputable section

namespace Cert.Dwff1

open Cert.Kernel5Ideal Cert.Kernel5Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 0] ∧ win0_2.index t = ![0, t.val, 0] ∧ t.val < 4 :=
  (by decide +kernel : ∀ t : Fin grid0.N, _)

/-- The rows multiplied, and the gradient of the hidden rows. -/
def H : FVec Ideal S2048x1024 .f32 := m ((c : Thread nD τ).loc main_arg0)
def G : FVec Ideal S2048x4096 .f32 := m ((c : Thread nD τ).loc main_arg2)

theorem blk0 (t : Fin cfg0.N) (a : Fin 2048) (l : Fin 256) (h : 256 * t.val + l < 1024) :
    iblk m c 0 t (ix2 a l) = H m c (ix2 a ⟨256 * t.val + l, h⟩) := by
  blk_ext [iblk, idx t]

theorem blk1 (t : Fin cfg0.N) (a : Fin 2048) (l : Fin 4096) : iblk m c 1 t (ix2 a l) = G m c (ix2 a l) := by
  blk_ext [iblk, idx t]

/-- The gradient of the first matrix, plainly: its columns in eight parts. -/
def spec : FVec Ideal S8x1024x512 .bf16 :=
  truncf .bf16 (transpose S8x1024x512 [1, 0, 2] (shapeCast Cert.Reference5Ideal.S1024x8x512 (transpose Cert.Reference5Ideal.S1024x4096 [1, 0]
    (Host.dotGeneral Cert.Reference5Ideal.dot_S2048x4096_S2048x1024_S4096x1024_0_0_1_1_n_n none (G m c) (H m c))
    Cert.Reference5Ideal.Gen.transposes_S4096x1024_S1024x4096_1_0) Cert.Reference5Ideal.Gen.shapeCasts_S1024x4096_S1024x8x512)
    Cert.Reference5Ideal.Gen.transposes_S1024x8x512_S8x1024x512_1_0_2) bitsLt_bf16_f32

theorem spec_apply (b : Fin 8) (a : Fin 1024) (l : Fin 512) :
    spec m c (ix3 b a l) = ∑ r : Fin 2048, G m c (ix2 r ⟨512 * b + l, by omega⟩) * H m c (ix2 r a) := by
  pointwise [spec]
  simp only [mul_comm (b : ℕ) 512]

theorem at_ix (P : FVec Ideal S2048x256 .bf16) (Q : FVec Ideal S2048x4096 .bf16) (b : Fin 8) (a : Fin 256) (l : Fin 512) :
    Value.E2 (F := Ideal) P Q (ix3 b a l) = k0_pay4 (F := Ideal) P Q (ix2 a ⟨512 * b + l, by omega⟩) := by
  have e : Value.ix2_0 (ix3 b a l) = ix2 (n0 := 256) (n1 := 4096) a ⟨512 * b + l, by omega⟩ := by
    funext i
    match i with
    | ⟨0, _⟩ => rfl
    | ⟨1, _⟩ => exact Fin.ext (congrArg (· + (l : ℕ)) (mul_comm (b : ℕ) 512))
  exact congrArg (k0_pay4 (F := Ideal) P Q) e

theorem point (t : Fin cfg0.N) (b : Fin 8) (a : Fin 256) (l : Fin 512) (h : 256 * t.val + a < 1024) :
    Value.E2 (iblk m c 0 t) (iblk m c 1 t) (ix3 b a l) = spec m c (ix3 b ⟨256 * t.val + a, h⟩ l) := by
  refine (at_ix _ _ b a l).trans ?_
  rw [spec_apply]
  pointwise [k0_pay4]
  simp only [blk0 m c t _ _ h, blk1]
  exact Finset.sum_congr rfl fun _ _ => mul_comm _ _

theorem final : (dats m 0 c).arrAt 2 cfg0.N = spec m c := by
  refine (dats m 0 c).arrAt_eq_of_covers 2 _ (by decide +kernel) fun t _ y => ?_
  have ht := (idx t).2.2.2
  blk_simp
  rw [after0_2]
  unfold_out out0_2
  frame_out
  rw [Value.canon2_eq]
  obtain ⟨b, a, l, rfl⟩ : ∃ b a l, y = ix3 b a l := ⟨_, _, _, eq_ix3 (n0 := 8) (n1 := 256) (n2 := 512) y⟩
  refine (point m c t b a l (by omega)).trans (congrArg _ ?_)
  blk_ext [idx t]

end Cert.Dwff1
-- ==== Proof.Dwff1Claim.lean ====
module

public import proofs.«01_k».proof.Defs
public import proofs.«01_k».proof.Proof.Gen.Kernel5
public import proofs.«01_k».proof.Proof.Dwff1

/-!
# The program that finds the gradient of the first feed-forward matrix

The claims of it: a run leaves the arguments alone, and ends with the reference's values.
-/

@[expose] public section

set_option maxRecDepth 16384

noncomputable section

namespace Cert.Dwff1

open Idealize.ShloMosaic Idealize.ShloMosaic.TcCoe
open Idealize.SL.Sem

/-- The two programs have the same body, -/
theorem body_eq {F : FTy → Type} [FloatOps F] :
    @Cert.Kernel5.cc0_dwff1 F _ Cert.Kernel5.Gen.facts = @Cert.Kernel5Ideal.cc0_dwff1 F _ Cert.Kernel5Ideal.Gen.facts := rfl

/-- the same table of bodies, -/
theorem bodies_eq {F : FTy → Type} [FloatOps F] : Cert.Kernel5.defs₀ (F := F) = Cert.Kernel5Ideal.defs₀ (F := F) := by
  unfold Cert.Kernel5.defs₀
  rw [body_eq]
  unfold Cert.Kernel5Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel5.defs (F := F) = Cert.Kernel5Ideal.defs (F := F) :=
  congrArg (Pipeline.defs Cert.Kernel5Ideal.pcfgs) bodies_eq

set_option maxHeartbeats 8000000 in
/-- and a run of the one is a run of the other. -/
theorem frame_kernel : Cert.quiescent_Kernel5 := fun m ρ _ => by
  have h := Cert.Kernel5Ideal.Gen.frame (F := Bits) m ρ
  rw [← defs_eq] at h
  exact h

theorem frame_kernelIdeal : Cert.quiescent_Kernel5Ideal := fun m ρ _ => Cert.Kernel5Ideal.Gen.frame (F := Ideal) m ρ

theorem frame_referenceIdeal : Cert.quiescent_Reference5Ideal := fun m ρ _ =>
  (θ_run (Cert.Reference5Ideal.defs (F := Ideal)) _ _).mono
    (fun r h => ⟨fun c => (h c).2, Idealize.ShloMosaic.sem_eq_zero_of_no_sems (by decide) r.2⟩)
    (Cert.Reference5Ideal.Value.run (F := Ideal) m ρ)

/-- Kernel and reference end with the same gradient of the first matrix. -/
theorem same : Cert.algebraic_Kernel5Ideal_Reference5Ideal := fun m ρ m' ρ' _ hs => by
  refine ⟨fun c => spec m c, (θ_run _ _ _).mono (fun r h c => ⟨(h c).1.trans (final m c), (h c).2⟩)
    (Cert.Kernel5Ideal.Value.run_blocks (F := Ideal) m ρ), ?_⟩
  refine (θ_run _ _ _).mono (fun r h c => ⟨(h c).1.trans ?_, (h c).2⟩) (Cert.Reference5Ideal.Value.run (F := Ideal) m' ρ')
  obtain ⟨e0, e1, e2⟩ := hs c
  simp only [e0, e1, e2]
  rfl

end Cert.Dwff1
-- ==== Proof.Dmix.lean ====
module

public import proofs.«01_k».proof.Kernel6Ideal
public import proofs.«01_k».proof.Reference6Ideal
public import proofs.«01_k».proof.Proof.Gen.Kernel6Ideal.Value
public import proofs.«01_k».proof.Proof.Gen.Reference6Ideal.Run
public import Idealize.ShloMosaic.Lib.Pipeline.ValueKit
public import Idealize.ShloMosaic.Lib.Claim

/-!
# The gradient of the mixed rows

A block of columns of it is the product of the incoming gradient and a block of rows of the output matrix laid on its side.
-/

@[expose] public section

set_option maxRecDepth 16384

noncomputable section

namespace Cert.Dmix

open Cert.Kernel6Ideal Cert.Kernel6Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val]
    ∧ t.val < 4 :=
  (by decide +kernel : ∀ t : Fin grid0.N, _)

/-- The output matrix and the incoming gradient. -/
def W : FVec Ideal S1024x1024 .f32 := m ((c : Thread nD τ).loc main_arg1)
def D : FVec Ideal S2048x1024 .f32 := m ((c : Thread nD τ).loc main_arg2)

theorem blk0 (t : Fin cfg0.N) (a : Fin 2048) (l : Fin 1024) : iblk m c 0 t (ix2 a l) = D m c (ix2 a l) := by
  blk_ext [iblk, idx t]

theorem blk1 (t : Fin cfg0.N) (a : Fin 256) (l : Fin 1024) (h : 256 * t.val + a < 1024) : iblk m c 1 t (ix2 a l) = W m c (ix2 ⟨256 * t.val + a, h⟩ l) := by
  blk_ext [iblk, idx t]

/-- The gradient of the mixed rows, plainly. -/
def spec (w : FVec Ideal S1024x1024 .f32) (d : FVec Ideal S2048x1024 .f32) : FVec Ideal S2048x1024 .f32 :=
  fun i => ∑ x : Fin 1024, d (ix2 (i 0) x) * w (ix2 (i 1) x)

theorem point (t : Fin cfg0.N) (a : Fin 2048) (l : Fin 256) (h : 256 * t.val + l < 1024) :
    k0_pay1 (F := Ideal) (iblk m c 0 t) (iblk m c 1 t) (ix2 a l) = spec (W m c) (D m c) (ix2 a ⟨256 * t.val + l, h⟩) := by
  pointwise [k0_pay1]
  simp only [blk0, blk1 m c t _ _ h]
  rfl

theorem final : (dats m 0 c).arrAt 2 cfg0.N = spec (W m c) (D m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 2048) (n1 := 256) y⟩
  refine (point m c t a l (by omega)).trans (congrArg _ ?_)
  blk_ext [idx t]

end Cert.Dmix
-- ==== Proof.DmixClaim.lean ====
module

public import proofs.«01_k».proof.Defs
public import proofs.«01_k».proof.Proof.Gen.Kernel6
public import proofs.«01_k».proof.Proof.Dmix

/-!
# The program that finds the gradient of the mixed rows

The claims of it: a run leaves the arguments alone, and ends with the reference's values.
-/

@[expose] public section

set_option maxRecDepth 16384

noncomputable section

namespace Cert.Dmix

open Idealize.ShloMosaic Idealize.ShloMosaic.TcCoe
open Idealize.SL.Sem

/-- The two programs have the same body, -/
theorem body_eq {F : FTy → Type} [FloatOps F] :
    @Cert.Kernel6.cc0_dmix F _ Cert.Kernel6.Gen.facts = @Cert.Kernel6Ideal.cc0_dmix F _ Cert.Kernel6Ideal.Gen.facts := rfl

/-- the same table of bodies, -/
theorem bodies_eq {F : FTy → Type} [FloatOps F] : Cert.Kernel6.defs₀ (F := F) = Cert.Kernel6Ideal.defs₀ (F := F) := by
  unfold Cert.Kernel6.defs₀
  rw [body_eq]
  unfold Cert.Kernel6Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel6.defs (F := F) = Cert.Kernel6Ideal.defs (F := F) :=
  congrArg (Pipeline.defs Cert.Kernel6Ideal.pcfgs) bodies_eq

set_option maxHeartbeats 8000000 in
/-- and a run of the one is a run of the other. -/
theorem frame_kernel : Cert.quiescent_Kernel6 := fun m ρ _ => by
  have h := Cert.Kernel6Ideal.Gen.frame (F := Bits) m ρ
  rw [← defs_eq] at h
  exact h

theorem frame_kernelIdeal : Cert.quiescent_Kernel6Ideal := fun m ρ _ => Cert.Kernel6Ideal.Gen.frame (F := Ideal) m ρ

theorem frame_referenceIdeal : Cert.quiescent_Reference6Ideal := fun m ρ _ =>
  (θ_run (Cert.Reference6Ideal.defs (F := Ideal)) _ _).mono
    (fun r h => ⟨fun c => (h c).2, Idealize.ShloMosaic.sem_eq_zero_of_no_sems (by decide) r.2⟩)
    (Cert.Reference6Ideal.Value.run (F := Ideal) m ρ)

/-- Kernel and reference end with the same gradient of the mixed rows. -/
theorem same : Cert.algebraic_Kernel6Ideal_Reference6Ideal := fun m ρ m' ρ' _ hs => by
  refine ⟨fun c => spec (W m c) (D m c), (θ_run _ _ _).mono (fun r h c => ⟨(h c).1.trans (final m c), (h c).2⟩)
    (Cert.Kernel6Ideal.Value.run_blocks (F := Ideal) m ρ), ?_⟩
  refine (θ_run _ _ _).mono (fun r h c => ⟨(h c).1.trans ?_, (h c).2⟩) (Cert.Reference6Ideal.Value.run (F := Ideal) m' ρ')
  obtain ⟨e0, e1, e2⟩ := hs c
  simp only [e0, e1, e2]
  funext i
  obtain ⟨a, l, rfl⟩ : ∃ a l, i = ix2 a l := ⟨_, _, eq_ix2 (n0 := 2048) (n1 := 1024) i⟩
  pointwise
  rfl

end Cert.Dmix
-- ==== Proof.Dwout.lean ====
module

public import proofs.«01_k».proof.Kernel7Ideal
public import proofs.«01_k».proof.Reference7Ideal
public import proofs.«01_k».proof.Proof.Gen.Kernel7Ideal.Value
public import proofs.«01_k».proof.Proof.Gen.Reference7Ideal.Run
public import Idealize.ShloMosaic.Lib.Pipeline.ValueKit
public import Idealize.ShloMosaic.Lib.Claim

/-!
# The gradient of the output matrix

A block of rows of it is the product of a block of columns of the mixed rows, laid on its side, and the incoming gradient.
-/

@[expose] public section

set_option maxRecDepth 16384

noncomputable section

namespace Cert.Dwout

open Cert.Kernel7Ideal Cert.Kernel7Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0]
    ∧ t.val < 2 :=
  (by decide +kernel : ∀ t : Fin grid0.N, _)

/-- The two arrays multiplied. -/
def X : FVec Ideal S2048x1024 .f32 := m ((c : Thread nD τ).loc main_arg0)
def Y : FVec Ideal S2048x1024 .f32 := m ((c : Thread nD τ).loc main_arg2)

theorem blk0 (t : Fin cfg0.N) (a : Fin 2048) (l : Fin 512) (h : 512 * t.val + l < 1024) : iblk m c 0 t (ix2 a l) = X m c (ix2 a ⟨512 * t.val + l, h⟩) := by
  blk_ext [iblk, idx t]

theorem blk1 (t : Fin cfg0.N) (a : Fin 2048) (l : Fin 1024) : iblk m c 1 t (ix2 a l) = Y m c (ix2 a l) := by
  blk_ext [iblk, idx t]

/-- The gradient of the matrix, plainly. -/
def spec (x : FVec Ideal S2048x1024 .f32) (y : FVec Ideal S2048x1024 .f32) : FVec Ideal S1024x1024 .bf16 :=
  fun i => ∑ r : Fin 2048, x (ix2 r (i 0)) * y (ix2 r (i 1))

theorem point (t : Fin cfg0.N) (a : Fin 512) (l : Fin 1024) (h : 512 * t.val + a < 1024) :
    k0_pay1 (F := Ideal) (iblk m c 0 t) (iblk m c 1 t) (ix2 a l) = spec (X m c) (Y m c) (ix2 ⟨512 * t.val + a, h⟩ l) := by
  pointwise [k0_pay1]
  simp only [blk0 m c t _ _ h, blk1]
  rfl

theorem final : (dats m 0 c).arrAt 2 cfg0.N = spec (X m c) (Y m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 512) (n1 := 1024) y⟩
  refine (point m c t a l (by omega)).trans (congrArg _ ?_)
  blk_ext [idx t]

end Cert.Dwout
-- ==== Proof.DwoutClaim.lean ====
module

public import proofs.«01_k».proof.Defs
public import proofs.«01_k».proof.Proof.Gen.Kernel7
public import proofs.«01_k».proof.Proof.Dwout

/-!
# The program that finds the gradient of the output matrix

The claims of it: a run leaves the arguments alone, and ends with the reference's values.
-/

@[expose] public section

set_option maxRecDepth 16384

noncomputable section

namespace Cert.Dwout

open Idealize.ShloMosaic Idealize.ShloMosaic.TcCoe
open Idealize.SL.Sem

/-- The two programs have the same body, -/
theorem body_eq {F : FTy → Type} [FloatOps F] :
    @Cert.Kernel7.cc0_dwout F _ Cert.Kernel7.Gen.facts = @Cert.Kernel7Ideal.cc0_dwout F _ Cert.Kernel7Ideal.Gen.facts := rfl

/-- the same table of bodies, -/
theorem bodies_eq {F : FTy → Type} [FloatOps F] : Cert.Kernel7.defs₀ (F := F) = Cert.Kernel7Ideal.defs₀ (F := F) := by
  unfold Cert.Kernel7.defs₀
  rw [body_eq]
  unfold Cert.Kernel7Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel7.defs (F := F) = Cert.Kernel7Ideal.defs (F := F) :=
  congrArg (Pipeline.defs Cert.Kernel7Ideal.pcfgs) bodies_eq

set_option maxHeartbeats 8000000 in
/-- and a run of the one is a run of the other. -/
theorem frame_kernel : Cert.quiescent_Kernel7 := fun m ρ _ => by
  have h := Cert.Kernel7Ideal.Gen.frame (F := Bits) m ρ
  rw [← defs_eq] at h
  exact h

theorem frame_kernelIdeal : Cert.quiescent_Kernel7Ideal := fun m ρ _ => Cert.Kernel7Ideal.Gen.frame (F := Ideal) m ρ

theorem frame_referenceIdeal : Cert.quiescent_Reference7Ideal := fun m ρ _ =>
  (θ_run (Cert.Reference7Ideal.defs (F := Ideal)) _ _).mono
    (fun r h => ⟨fun c => (h c).2, Idealize.ShloMosaic.sem_eq_zero_of_no_sems (by decide) r.2⟩)
    (Cert.Reference7Ideal.Value.run (F := Ideal) m ρ)

/-- Kernel and reference end with the same gradient of the output matrix. -/
theorem same : Cert.algebraic_Kernel7Ideal_Reference7Ideal := fun m ρ m' ρ' _ hs => by
  refine ⟨fun c => spec (X m c) (Y m c), (θ_run _ _ _).mono (fun r h c => ⟨(h c).1.trans (final m c), (h c).2⟩)
    (Cert.Kernel7Ideal.Value.run_blocks (F := Ideal) m ρ), ?_⟩
  refine (θ_run _ _ _).mono (fun r h c => ⟨(h c).1.trans ?_, (h c).2⟩) (Cert.Reference7Ideal.Value.run (F := Ideal) m' ρ')
  obtain ⟨e0, e1, e2⟩ := hs c
  simp only [e0, e1, e2]
  funext i
  obtain ⟨a, l, rfl⟩ : ∃ a l, i = ix2 a l := ⟨_, _, eq_ix2 (n0 := 1024) (n1 := 1024) i⟩
  pointwise
  exact Finset.sum_congr rfl fun _ _ => mul_comm _ _

end Cert.Dwout
-- ==== Proof.Dh2.lean ====
module

public import proofs.«01_k».proof.Kernel8Ideal
public import proofs.«01_k».proof.Reference8Ideal
public import proofs.«01_k».proof.Proof.Gen.Kernel8Ideal.Value
public import proofs.«01_k».proof.Proof.Gen.Reference8Ideal.Run
public import proofs.«01_k».proof.Proof.Rms
public import Idealize.ShloMosaic.Lib.Pipeline.ValueKit
public import Idealize.ShloMosaic.Lib.Claim

/-!
# The gradient through the normalisation before the gate

The gradient of the gate before its sigmoid times the gate's matrix laid on its side, taken back through the normalisation of the rows and
added to the gradient that went round it; and the gradient of the normalisation's gain.
-/

@[expose] public section

set_option maxRecDepth 16384

noncomputable section

namespace Cert.Dh2

open Cert.Kernel8Ideal Cert.Kernel8Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ t.val < 4 :=
  (by decide +kernel : ∀ t : Fin grid0.N, _)

/-- The rows, the gain, the matrix, the gradient of the gate and the gradient that goes round. -/
def H : FVec Ideal S2048x1024 .f32 := m ((c : Thread nD τ).loc main_arg0)
def G : FVec Ideal S1x1024 .f32 := m ((c : Thread nD τ).loc main_arg1)
def W : FVec Ideal S1024x1024 .f32 := m ((c : Thread nD τ).loc main_arg2)
def D : FVec Ideal S2048x1024 .f32 := m ((c : Thread nD τ).loc main_arg3)
def R : FVec Ideal S2048x1024 .f32 := m ((c : Thread nD τ).loc main_arg4)

theorem blk0 (t : Fin cfg0.N) (a : Fin 512) (l : Fin 1024) (h : 512 * t.val + a < 2048) :
    iblk m c 0 t (ix2 a l) = D m c (ix2 ⟨512 * t.val + a, h⟩ l) := by
  blk_ext [iblk, idx t]

theorem blk1 (t : Fin cfg0.N) (a : Fin 1024) (l : Fin 1024) : iblk m c 1 t (ix2 a l) = W m c (ix2 a l) := by
  blk_ext [iblk, idx t]

theorem blk2 (t : Fin cfg0.N) (a : Fin 512) (l : Fin 1024) (h : 512 * t.val + a < 2048) :
    iblk m c 2 t (ix2 a l) = H m c (ix2 ⟨512 * t.val + a, h⟩ l) := by
  blk_ext [iblk, V_main_arg0, idx t]

theorem blk3 (t : Fin cfg0.N) (l : Fin 1024) : iblk m c 3 t (ix2 0 l) = G m c (ix2 0 l) := by
  blk_ext [iblk, V_main_arg1, idx t]

theorem blk4 (t : Fin cfg0.N) (a : Fin 512) (l : Fin 1024) (h : 512 * t.val + a < 2048) :
    iblk m c 4 t (ix2 a l) = R m c (ix2 ⟨512 * t.val + a, h⟩ l) := by
  blk_ext [iblk, V_main_arg4, idx t]

section Plain
variable (h : FVec Ideal S2048x1024 .f32) (g : FVec Ideal S1x1024 .f32) (w : FVec Ideal S1024x1024 .f32) (d : FVec Ideal S2048x1024 .f32)
  (r : FVec Ideal S2048x1024 .f32)

/-- The gradient of the normalised rows, at a row and column. -/
def dot (t : Fin 2048) (j : Fin 1024) : EReal := ∑ x : Fin 1024, d (ix2 t x) * w (ix2 j x)

def rows (t : Fin 2048) (j : Fin 1024) : EReal := h (ix2 t j)

def gained (t : Fin 2048) (j : Fin 1024) : EReal := dot w d t j * g (ix2 0 j)

/-- The gradient of the rows. -/
def dh (t : Fin 2048) (j : Fin 1024) : EReal :=
  r (ix2 t j) + gained g w d t j * Rms.inv (rows h t) + rows h t j * Rms.slope (rows h t) (gained g w d t)
    + Rms.slope (rows h t) (gained g w d t) * rows h t j

/-- The gradient of the gain. -/
def dg (j : Fin 1024) : EReal := ∑ t : Fin 2048, rows h t j * Rms.inv (rows h t) * dot w d t j

def dh32 : FVec Ideal S2048x1024 .f32 := fun i => dh h g w d r (i 0) (i 1)
def dh16 : FVec Ideal S2048x1024 .bf16 := fun i => dh h g w d r (i 0) (i 1)
def dg32 : FVec Ideal S1x1024 .f32 := fun i => dg h w d (i 1)

end Plain

theorem pay6 (t : Fin cfg0.N) (a : Fin 512) (j : Fin 1024) (h : 512 * t.val + a < 2048) :
    k0_pay6 (F := Ideal) (iblk m c 2 t) (iblk m c 0 t) (iblk m c 1 t) (iblk m c 3 t) (iblk m c 4 t) (ix2 a j)
      = dh (H m c) (G m c) (W m c) (D m c) (R m c) ⟨512 * t.val + a, h⟩ j := by
  refine Eq.trans ?_ (Rms.forms _ _ _ j).symm
  pointwise [k0_pay6, k0_pay5, k0_pay4, k0_pay3]
  simp only [blk0 m c t _ _ h, blk1, blk2 m c t _ _ h, blk3, blk4 m c t _ _ h]
  rfl

theorem pay7 (t : Fin cfg0.N) (a : Fin 512) (j : Fin 1024) (h : 512 * t.val + a < 2048) :
    k0_pay7 (F := Ideal) (iblk m c 2 t) (iblk m c 0 t) (iblk m c 1 t) (iblk m c 3 t) (iblk m c 4 t) (ix2 a j)
      = dh (H m c) (G m c) (W m c) (D m c) (R m c) ⟨512 * t.val + a, h⟩ j := pay6 m c t a j h

theorem final5 : (dats m 0 c).arrAt 5 cfg0.N = dh32 (H m c) (G m c) (W m c) (D m c) (R m c) := by
  refine (dats m 0 c).arrAt_eq_of_covers 5 _ (by decide +kernel) fun t _ y => ?_
  have ht := (idx t).2.2.2.2.2.2.2.2
  obtain ⟨a, l, rfl⟩ : ∃ a l, y = ix2 a l := ⟨_, _, eq_ix2 (n0 := 512) (n1 := 1024) y⟩
  have key := pay6 m c t a l (by omega)
  have place : dh32 (H m c) (G m c) (W m c) (D m c) (R m c) (((View.whole main_v2_0).slice (win0_5.rect t)).emb (ix2 a l))
      = dh32 (H m c) (G m c) (W m c) (D m c) (R m c) (ix2 ⟨512 * t.val + a, by omega⟩ l) := by
    refine congrArg _ ?_
    blk_ext [idx t]
  blk_simp
  rw [after0_5]
  rcases Nat.eq_zero_or_pos (t.val % 4) with h | h
  · rw [outsAt0_A m c t h]
    frame_out
    exact key.trans place.symm
  · rw [outsAt0_B m c t (by omega)]
    frame_out
    exact key.trans place.symm

theorem final6 : (dats m 0 c).arrAt 6 cfg0.N = dh16 (H m c) (G m c) (W m c) (D m c) (R m c) := by
  refine (dats m 0 c).arrAt_eq_of_covers 6 _ (by decide +kernel) fun t _ y => ?_
  have ht := (idx t).2.2.2.2.2.2.2.2
  obtain ⟨a, l, rfl⟩ : ∃ a l, y = ix2 a l := ⟨_, _, eq_ix2 (n0 := 512) (n1 := 1024) y⟩
  have key := pay7 m c t a l (by omega)
  have place : dh16 (H m c) (G m c) (W m c) (D m c) (R m c) (((View.whole main_v2_1).slice (win0_6.rect t)).emb (ix2 a l))
      = dh16 (H m c) (G m c) (W m c) (D m c) (R m c) (ix2 ⟨512 * t.val + a, by omega⟩ l) := by
    refine congrArg _ ?_
    blk_ext [idx t]
  blk_simp
  rw [after0_6]
  rcases Nat.eq_zero_or_pos (t.val % 4) with h | h
  · rw [outsAt0_A m c t h]
    frame_out
    exact key.trans place.symm
  · rw [outsAt0_B m c t (by omega)]
    frame_out
    exact key.trans place.symm

theorem hzero (j : S1x1024.Idx) : k0_pay1 (F := Ideal) j = 0 := by pointwise [k0_pay1]

theorem hpay (x2 : FVec Ideal S512x1024 .f32) (x0 : FVec Ideal S512x1024 .bf16) (x1 : FVec Ideal S1024x1024 .bf16) (x : FVec Ideal S1x1024 .f32)
    (j : S1x1024.Idx) :
    k0_pay2 (F := Ideal) (k0_pay3 x0 x1) (k0_pay5 x2) x j = x j + ∑ k : Fin 512, (∑ l : Fin 1024, x0 (ix2 k l) * x1 (ix2 (j 1) l))
      * (x2 (ix2 k (j 1)) * Rms.inv fun i : Fin 1024 => x2 (ix2 k i)) := by
  pointwise [k0_pay2, k0_pay5, k0_pay4, k0_pay3]
  rfl

theorem piece (x0 : FVec Ideal S512x1024 .bf16) (x1 : FVec Ideal S1024x1024 .bf16) (x2 : FVec Ideal S512x1024 .f32) (k : Fin 512) (q : Fin 1024)
    (T : Fin 2048) (h0 : ∀ l, x0 (ix2 k l) = D m c (ix2 T l)) (h1 : ∀ l, x1 (ix2 q l) = W m c (ix2 q l))
    (h2 : ∀ l, x2 (ix2 k l) = H m c (ix2 T l)) :
    (∑ l : Fin 1024, x0 (ix2 k l) * x1 (ix2 q l)) * (x2 (ix2 k q) * Rms.inv fun i : Fin 1024 => x2 (ix2 k i))
      = rows (H m c) T q * Rms.inv (rows (H m c) T) * dot (W m c) (D m c) T q := by
  simp only [h0, h1, h2]
  exact mul_comm _ _

theorem final7 : (dats m 0 c).arrAt 7 cfg0.N = dg32 (H m c) (W m c) (D m c) := by
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold dg32 dg
  refine Fin.sum_mul_add_congr fun s k hl => ?_
  have e : (⟨s.val * 512 + k, hl⟩ : Fin 2048) = ⟨512 * s.val + k, by omega⟩ := Fin.ext (by show s.val * 512 + k.val = 512 * s.val + k.val; omega)
  rw [e]
  exact piece m c (iblk m c 0 s) (iblk m c 1 s) (iblk m c 2 s) k (j 1) _ (fun l => blk0 m c s k l _) (fun l => blk1 m c s (j 1) l)
    (fun l => blk2 m c s k l _)

section Reference
open Cert.Reference8Ideal (main_arg0 main_arg1 main_arg2 main_arg3 main_arg4)
variable (m' : (ℓ : Loc Cert.Reference8Ideal.nD Cert.Reference8Ideal.τ Cert.Reference8Ideal.sig) → Buf (Elt Ideal) ℓ) (c' : Dev Cert.Reference8Ideal.nD)

theorem ref5 : Cert.Reference8Ideal.Value.res_main_v36 m' c'
    = dh32 (m' (c'.tc.loc main_arg0)) (m' (c'.tc.loc main_arg1)) (m' (c'.tc.loc main_arg2)) (m' (c'.tc.loc main_arg3)) (m' (c'.tc.loc main_arg4)) := by
  funext i
  obtain ⟨t, j, rfl⟩ : ∃ a l, i = ix2 a l := ⟨_, _, eq_ix2 (n0 := 2048) (n1 := 1024) i⟩
  pointwise [Cert.Reference8Ideal.Value.res_main_v36]
  simp only [Finset.univ_unique, Finset.sum_singleton]
  rfl

theorem ref6 : Cert.Reference8Ideal.Value.res_main_v37 m' c'
    = dh16 (m' (c'.tc.loc main_arg0)) (m' (c'.tc.loc main_arg1)) (m' (c'.tc.loc main_arg2)) (m' (c'.tc.loc main_arg3)) (m' (c'.tc.loc main_arg4)) :=
  ref5 m' c'

open Cert.Reference8Ideal (S_ S2048x1) in
open Cert.Reference8Ideal.Gen in
theorem ref7 (h : FVec Ideal S2048x1024 .f32) (w : FVec Ideal S1024x1024 .f32) (d : FVec Ideal S2048x1024 .f32) :
    shapeCast S1x1024 (Host.reduceAdd (mulf (mulf h (broadcastInDim S2048x1024 ![0, 1] bcast_S2048x1_S2048x1024_0_1 (Host.rsqrt
        (addf (Host.divf (broadcastInDim S2048x1 ![0] bcast_S2048_S2048x1_0 (Host.reduceAdd (mulf h h) (constant S_ .f32 0x00000000#32)
          reducesTo_S2048x1024_S2048_d1 h_S_)) (broadcastInDim S2048x1 ![] bcast_S_S2048x1 (constant S_ .f32 0x44800000#32)))
          (broadcastInDim S2048x1 ![] bcast_S_S2048x1 (constant S_ .f32 0x358637BD#32))))))
        (Host.dotGeneral Cert.Reference8Ideal.dot_S2048x1024_S1024x1024_S2048x1024_1_1_0_0_n_n none d w)) (constant S_ .f32 0x00000000#32)
          reducesTo_S2048x1024_S1024_d0 h_S_) Cert.Kernel8Ideal.Gen.shapeCasts_S1024_S1x1024 = dg32 h w d := by
  funext i
  obtain ⟨z, j, rfl⟩ : ∃ a l, i = ix2 a l := ⟨_, _, eq_ix2 (n0 := 1) (n1 := 1024) i⟩
  pointwise
  rfl

end Reference

end Cert.Dh2
-- ==== Proof.Dh2Claim.lean ====
module

public import proofs.«01_k».proof.Defs
public import proofs.«01_k».proof.Proof.Gen.Kernel8
public import proofs.«01_k».proof.Proof.Dh2

/-!
# The program that takes the gradient through the gate's matrix and the normalisation before it

The claims of it: a run leaves the arguments alone, and ends with the reference's values.
-/

@[expose] public section

set_option maxRecDepth 16384

noncomputable section

namespace Cert.Dh2

open Idealize.ShloMosaic Idealize.ShloMosaic.TcCoe
open Idealize.SL.Sem

/-- The two programs have the same body, -/
theorem body_eq {F : FTy → Type} [FloatOps F] :
    @Cert.Kernel8.cc0_dh2 F _ Cert.Kernel8.Gen.facts = @Cert.Kernel8Ideal.cc0_dh2 F _ Cert.Kernel8Ideal.Gen.facts := rfl

/-- the same table of bodies, -/
theorem bodies_eq {F : FTy → Type} [FloatOps F] : Cert.Kernel8.defs₀ (F := F) = Cert.Kernel8Ideal.defs₀ (F := F) := by
  unfold Cert.Kernel8.defs₀
  rw [body_eq]
  unfold Cert.Kernel8Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel8.defs (F := F) = Cert.Kernel8Ideal.defs (F := F) :=
  congrArg (Pipeline.defs Cert.Kernel8Ideal.pcfgs) bodies_eq

set_option maxHeartbeats 8000000 in
/-- and a run of the one is a run of the other. -/
theorem frame_kernel : Cert.quiescent_Kernel8 := fun m ρ _ => by
  have h := Cert.Kernel8Ideal.Gen.frame (F := Bits) m ρ
  rw [← defs_eq] at h
  exact h

theorem frame_kernelIdeal : Cert.quiescent_Kernel8Ideal := fun m ρ _ => Cert.Kernel8Ideal.Gen.frame (F := Ideal) m ρ

theorem frame_referenceIdeal : Cert.quiescent_Reference8Ideal := fun m ρ _ =>
  (θ_run (Cert.Reference8Ideal.defs (F := Ideal)) _ _).mono
    (fun r h => ⟨fun c => (h c).2.2.2, Idealize.ShloMosaic.sem_eq_zero_of_no_sems (by decide) r.2⟩)
    (Cert.Reference8Ideal.Value.run (F := Ideal) m ρ)

/-- Kernel and reference end with the same gradients of the rows and of the gain. -/
theorem same : Cert.algebraic_Kernel8Ideal_Reference8Ideal := fun m ρ m' ρ' _ hs => by
  refine ⟨fun c => dh32 (H m c) (G m c) (W m c) (D m c) (R m c), fun c => dh16 (H m c) (G m c) (W m c) (D m c) (R m c),
    fun c => dg32 (H m c) (W m c) (D m c),
    (θ_run _ _ _).mono (fun r h c => ⟨(h c).1.trans (final5 m c), (h c).2.1.trans (final6 m c), (h c).2.2.1.trans (final7 m c), (h c).2.2.2⟩)
      (Cert.Kernel8Ideal.Value.run_blocks (F := Ideal) m ρ), ?_⟩
  refine (θ_run _ _ _).mono (fun r h c => ⟨(h c).1.trans ((ref5 m' c).trans ?_), (h c).2.1.trans ((ref6 m' c).trans ?_),
    (h c).2.2.1.trans ((ref7 _ _ _).trans ?_), (h c).2.2.2⟩) (Cert.Reference8Ideal.Value.run (F := Ideal) m' ρ')
  all_goals
    obtain ⟨e0, e1, e2, e3, e4⟩ := hs c
    simp only [e0, e1, e2, e3, e4]
    rfl

end Cert.Dh2
-- ==== Proof.Dwproj.lean ====
module

public import proofs.«01_k».proof.Kernel9Ideal
public import proofs.«01_k».proof.Reference9Ideal
public import proofs.«01_k».proof.Proof.Gen.Kernel9Ideal.Value
public import proofs.«01_k».proof.Proof.Gen.Reference9Ideal.Run
public import Idealize.ShloMosaic.Lib.Pipeline.ValueKit
public import Idealize.ShloMosaic.Lib.Claim

/-!
# The gradient of the embeddings' matrix

It is the product of the embeddings, laid on their side, and the incoming gradient; its columns are left in eight parts.
-/

@[expose] public section

set_option maxRecDepth 16384

noncomputable section

namespace Cert.Dwproj

open Cert.Kernel9Ideal Cert.Kernel9Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0] :=
  (by decide +kernel : ∀ t : Fin grid0.N, _)

/-- The embeddings, and the incoming gradient. -/
def H : FVec Ideal S2048x256 .f32 := m ((c : Thread nD τ).loc main_arg0)
def G : FVec Ideal S2048x1024 .f32 := m ((c : Thread nD τ).loc main_arg2)

theorem blk0 (t : Fin cfg0.N) (a : Fin 2048) (l : Fin 256) :
    iblk m c 0 t (ix2 a l) = H m c (ix2 a l) := by
  blk_ext [iblk, idx t]

theorem blk1 (t : Fin cfg0.N) (a : Fin 2048) (l : Fin 1024) : iblk m c 1 t (ix2 a l) = G m c (ix2 a l) := by
  blk_ext [iblk, idx t]

/-- The gradient of the embeddings' matrix, plainly: its columns in eight parts. -/
def spec : FVec Ideal S8x256x128 .bf16 :=
  truncf .bf16 (transpose S8x256x128 [1, 0, 2] (shapeCast Cert.Reference9Ideal.S256x8x128 (transpose Cert.Reference9Ideal.S256x1024 [1, 0]
    (Host.dotGeneral Cert.Reference9Ideal.dot_S2048x1024_S2048x256_S1024x256_0_0_1_1_n_n none (G m c) (H m c))
    Cert.Reference9Ideal.Gen.transposes_S1024x256_S256x1024_1_0) Cert.Reference9Ideal.Gen.shapeCasts_S256x1024_S256x8x128)
    Cert.Reference9Ideal.Gen.transposes_S256x8x128_S8x256x128_1_0_2) bitsLt_bf16_f32

theorem spec_apply (b : Fin 8) (a : Fin 256) (l : Fin 128) :
    spec m c (ix3 b a l) = ∑ r : Fin 2048, G m c (ix2 r ⟨128 * b + l, by omega⟩) * H m c (ix2 r a) := by
  pointwise [spec]
  simp only [mul_comm (b : ℕ) 128]

theorem at_ix (P : FVec Ideal S2048x256 .bf16) (Q : FVec Ideal S2048x1024 .bf16) (b : Fin 8) (a : Fin 256) (l : Fin 128) :
    Value.E2 (F := Ideal) P Q (ix3 b a l) = k0_pay4 (F := Ideal) P Q (ix2 a ⟨128 * b + l, by omega⟩) := by
  have e : Value.ix2_0 (ix3 b a l) = ix2 (n0 := 256) (n1 := 1024) a ⟨128 * b + l, by omega⟩ := by
    funext i
    match i with
    | ⟨0, _⟩ => rfl
    | ⟨1, _⟩ => exact Fin.ext (congrArg (· + (l : ℕ)) (mul_comm (b : ℕ) 128))
  exact congrArg (k0_pay4 (F := Ideal) P Q) e

theorem point (t : Fin cfg0.N) (b : Fin 8) (a : Fin 256) (l : Fin 128) :
    Value.E2 (iblk m c 0 t) (iblk m c 1 t) (ix3 b a l) = spec m c (ix3 b a l) := by
  refine (at_ix _ _ b a l).trans ?_
  rw [spec_apply]
  pointwise [k0_pay4]
  simp only [blk0, blk1]
  exact Finset.sum_congr rfl fun _ _ => mul_comm _ _

theorem final : (dats m 0 c).arrAt 2 cfg0.N = spec m c := by
  refine (dats m 0 c).arrAt_eq_of_covers 2 _ (by decide +kernel) fun t _ y => ?_
  blk_simp
  rw [after0_2]
  unfold_out out0_2
  frame_out
  rw [Value.canon2_eq]
  obtain ⟨b, a, l, rfl⟩ : ∃ b a l, y = ix3 b a l := ⟨_, _, _, eq_ix3 (n0 := 8) (n1 := 256) (n2 := 128) y⟩
  refine (point m c t b a l).trans (congrArg _ ?_)
  blk_ext [idx t]

end Cert.Dwproj
-- ==== Proof.DwprojClaim.lean ====
module

public import proofs.«01_k».proof.Defs
public import proofs.«01_k».proof.Proof.Gen.Kernel9
public import proofs.«01_k».proof.Proof.Dwproj

/-!
# The program that finds the gradient of the embeddings' matrix

The claims of it: a run leaves the arguments alone, and ends with the reference's values.
-/

@[expose] public section

set_option maxRecDepth 16384

noncomputable section

namespace Cert.Dwproj

open Idealize.ShloMosaic Idealize.ShloMosaic.TcCoe
open Idealize.SL.Sem

/-- The two programs have the same body, -/
theorem body_eq {F : FTy → Type} [FloatOps F] :
    @Cert.Kernel9.cc0_dwproj F _ Cert.Kernel9.Gen.facts = @Cert.Kernel9Ideal.cc0_dwproj F _ Cert.Kernel9Ideal.Gen.facts := rfl

/-- the same table of bodies, -/
theorem bodies_eq {F : FTy → Type} [FloatOps F] : Cert.Kernel9.defs₀ (F := F) = Cert.Kernel9Ideal.defs₀ (F := F) := by
  unfold Cert.Kernel9.defs₀
  rw [body_eq]
  unfold Cert.Kernel9Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel9.defs (F := F) = Cert.Kernel9Ideal.defs (F := F) :=
  congrArg (Pipeline.defs Cert.Kernel9Ideal.pcfgs) bodies_eq

set_option maxHeartbeats 8000000 in
/-- and a run of the one is a run of the other. -/
theorem frame_kernel : Cert.quiescent_Kernel9 := fun m ρ _ => by
  have h := Cert.Kernel9Ideal.Gen.frame (F := Bits) m ρ
  rw [← defs_eq] at h
  exact h

theorem frame_kernelIdeal : Cert.quiescent_Kernel9Ideal := fun m ρ _ => Cert.Kernel9Ideal.Gen.frame (F := Ideal) m ρ

theorem frame_referenceIdeal : Cert.quiescent_Reference9Ideal := fun m ρ _ =>
  (θ_run (Cert.Reference9Ideal.defs (F := Ideal)) _ _).mono
    (fun r h => ⟨fun c => (h c).2, Idealize.ShloMosaic.sem_eq_zero_of_no_sems (by decide) r.2⟩)
    (Cert.Reference9Ideal.Value.run (F := Ideal) m ρ)

/-- Kernel and reference end with the same gradient of the embeddings' matrix. -/
theorem same : Cert.algebraic_Kernel9Ideal_Reference9Ideal := fun m ρ m' ρ' _ hs => by
  refine ⟨fun c => spec m c, (θ_run _ _ _).mono (fun r h c => ⟨(h c).1.trans (final m c), (h c).2⟩)
    (Cert.Kernel9Ideal.Value.run_blocks (F := Ideal) m ρ), ?_⟩
  refine (θ_run _ _ _).mono (fun r h c => ⟨(h c).1.trans ?_, (h c).2⟩) (Cert.Reference9Ideal.Value.run (F := Ideal) m' ρ')
  obtain ⟨e0, e1, e2⟩ := hs c
  simp only [e0, e1, e2]
  rfl

end Cert.Dwproj
-- ==== Proof.Dwin0.lean ====
module

public import proofs.«01_k».proof.Kernel10Ideal
public import proofs.«01_k».proof.Reference10Ideal
public import proofs.«01_k».proof.Proof.Gen.Kernel10Ideal.Value
public import proofs.«01_k».proof.Proof.Gen.Reference10Ideal.Run
public import Idealize.ShloMosaic.Lib.Pipeline.ValueKit
public import Idealize.ShloMosaic.Lib.Claim

/-!
# The gradient of the input matrix, the convolution's columns

A block of rows of it is the product of a block of columns of the incoming gradient, laid on its side, and the normalised rows.
-/

@[expose] public section

set_option maxRecDepth 16384

noncomputable section

namespace Cert.Dwin0

open Cert.Kernel10Ideal Cert.Kernel10Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0]
    ∧ t.val < 2 :=
  (by decide +kernel : ∀ t : Fin grid0.N, _)

/-- The two arrays multiplied. -/
def X : FVec Ideal S2048x768 .f32 := m ((c : Thread nD τ).loc main_arg2)
def Y : FVec Ideal S2048x1024 .f32 := m ((c : Thread nD τ).loc main_arg0)

theorem blk0 (t : Fin cfg0.N) (a : Fin 2048) (l : Fin 384) (h : 384 * t.val + l < 768) : iblk m c 0 t (ix2 a l) = X m c (ix2 a ⟨384 * t.val + l, h⟩) := by
  blk_ext [iblk, idx t]

theorem blk1 (t : Fin cfg0.N) (a : Fin 2048) (l : Fin 1024) : iblk m c 1 t (ix2 a l) = Y m c (ix2 a l) := by
  blk_ext [iblk, idx t]

/-- The gradient of the matrix, plainly. -/
def spec (x : FVec Ideal S2048x768 .f32) (y : FVec Ideal S2048x1024 .f32) : FVec Ideal S768x1024 .bf16 :=
  fun i => ∑ r : Fin 2048, x (ix2 r (i 0)) * y (ix2 r (i 1))

theorem point (t : Fin cfg0.N) (a : Fin 384) (l : Fin 1024) (h : 384 * t.val + a < 768) :
    k0_pay1 (F := Ideal) (iblk m c 0 t) (iblk m c 1 t) (ix2 a l) = spec (X m c) (Y m c) (ix2 ⟨384 * t.val + a, h⟩ l) := by
  pointwise [k0_pay1]
  simp only [blk0 m c t _ _ h, blk1]
  rfl

theorem final : (dats m 0 c).arrAt 2 cfg0.N = spec (X m c) (Y m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 384) (n1 := 1024) y⟩
  refine (point m c t a l (by omega)).trans (congrArg _ ?_)
  blk_ext [idx t]

end Cert.Dwin0
-- ==== Proof.Dwin0Claim.lean ====
module

public import proofs.«01_k».proof.Defs
public import proofs.«01_k».proof.Proof.Gen.Kernel10
public import proofs.«01_k».proof.Proof.Dwin0

/-!
# The program that finds the gradient of the convolution's columns of the input matrix

The claims of it: a run leaves the arguments alone, and ends with the reference's values.
-/

@[expose] public section

set_option maxRecDepth 16384

noncomputable section

namespace Cert.Dwin0

open Idealize.ShloMosaic Idealize.ShloMosaic.TcCoe
open Idealize.SL.Sem

/-- The two programs have the same body, -/
theorem body_eq {F : FTy → Type} [FloatOps F] :
    @Cert.Kernel10.cc0_dwin0 F _ Cert.Kernel10.Gen.facts = @Cert.Kernel10Ideal.cc0_dwin0 F _ Cert.Kernel10Ideal.Gen.facts := rfl

/-- the same table of bodies, -/
theorem bodies_eq {F : FTy → Type} [FloatOps F] : Cert.Kernel10.defs₀ (F := F) = Cert.Kernel10Ideal.defs₀ (F := F) := by
  unfold Cert.Kernel10.defs₀
  rw [body_eq]
  unfold Cert.Kernel10Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel10.defs (F := F) = Cert.Kernel10Ideal.defs (F := F) :=
  congrArg (Pipeline.defs Cert.Kernel10Ideal.pcfgs) bodies_eq

set_option maxHeartbeats 8000000 in
/-- and a run of the one is a run of the other. -/
theorem frame_kernel : Cert.quiescent_Kernel10 := fun m ρ _ => by
  have h := Cert.Kernel10Ideal.Gen.frame (F := Bits) m ρ
  rw [← defs_eq] at h
  exact h

theorem frame_kernelIdeal : Cert.quiescent_Kernel10Ideal := fun m ρ _ => Cert.Kernel10Ideal.Gen.frame (F := Ideal) m ρ

theorem frame_referenceIdeal : Cert.quiescent_Reference10Ideal := fun m ρ _ =>
  (θ_run (Cert.Reference10Ideal.defs (F := Ideal)) _ _).mono
    (fun r h => ⟨fun c => (h c).2, Idealize.ShloMosaic.sem_eq_zero_of_no_sems (by decide) r.2⟩)
    (Cert.Reference10Ideal.Value.run (F := Ideal) m ρ)

/-- Kernel and reference end with the same gradient of the columns. -/
theorem same : Cert.algebraic_Kernel10Ideal_Reference10Ideal := fun m ρ m' ρ' _ hs => by
  refine ⟨fun c => spec (X m c) (Y m c), (θ_run _ _ _).mono (fun r h c => ⟨(h c).1.trans (final m c), (h c).2⟩)
    (Cert.Kernel10Ideal.Value.run_blocks (F := Ideal) m ρ), ?_⟩
  refine (θ_run _ _ _).mono (fun r h c => ⟨(h c).1.trans ?_, (h c).2⟩) (Cert.Reference10Ideal.Value.run (F := Ideal) m' ρ')
  obtain ⟨e0, e1, e2⟩ := hs c
  simp only [e0, e1, e2]
  funext i
  obtain ⟨a, l, rfl⟩ : ∃ a l, i = ix2 a l := ⟨_, _, eq_ix2 (n0 := 768) (n1 := 1024) i⟩
  pointwise
  rfl

end Cert.Dwin0
-- ==== Proof.Dwin1.lean ====
module

public import proofs.«01_k».proof.Kernel11Ideal
public import proofs.«01_k».proof.Reference11Ideal
public import proofs.«01_k».proof.Proof.Gen.Kernel11Ideal.Value
public import proofs.«01_k».proof.Proof.Gen.Reference11Ideal.Run
public import Idealize.ShloMosaic.Lib.Pipeline.ValueKit
public import Idealize.ShloMosaic.Lib.Claim

/-!
# The gradient of the input matrix, the attention's columns

A block of rows of it is the product of a block of columns of the incoming gradient, laid on its side, and the normalised rows.
-/

@[expose] public section

set_option maxRecDepth 16384

noncomputable section

namespace Cert.Dwin1

open Cert.Kernel11Ideal Cert.Kernel11Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0]
    ∧ t.val < 2 :=
  (by decide +kernel : ∀ t : Fin grid0.N, _)

/-- The two arrays multiplied. -/
def X : FVec Ideal S2048x1536 .f32 := m ((c : Thread nD τ).loc main_arg2)
def Y : FVec Ideal S2048x1024 .f32 := m ((c : Thread nD τ).loc main_arg0)

theorem blk0 (t : Fin cfg0.N) (a : Fin 2048) (l : Fin 768) (h : 768 * t.val + l < 1536) : iblk m c 0 t (ix2 a l) = X m c (ix2 a ⟨768 * t.val + l, h⟩) := by
  blk_ext [iblk, idx t]

theorem blk1 (t : Fin cfg0.N) (a : Fin 2048) (l : Fin 1024) : iblk m c 1 t (ix2 a l) = Y m c (ix2 a l) := by
  blk_ext [iblk, idx t]

/-- The gradient of the matrix, plainly. -/
def spec (x : FVec Ideal S2048x1536 .f32) (y : FVec Ideal S2048x1024 .f32) : FVec Ideal S1536x1024 .bf16 :=
  fun i => ∑ r : Fin 2048, x (ix2 r (i 0)) * y (ix2 r (i 1))

theorem point (t : Fin cfg0.N) (a : Fin 768) (l : Fin 1024) (h : 768 * t.val + a < 1536) :
    k0_pay1 (F := Ideal) (iblk m c 0 t) (iblk m c 1 t) (ix2 a l) = spec (X m c) (Y m c) (ix2 ⟨768 * t.val + a, h⟩ l) := by
  pointwise [k0_pay1]
  simp only [blk0 m c t _ _ h, blk1]
  rfl

theorem final : (dats m 0 c).arrAt 2 cfg0.N = spec (X m c) (Y m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 768) (n1 := 1024) y⟩
  refine (point m c t a l (by omega)).trans (congrArg _ ?_)
  blk_ext [idx t]

end Cert.Dwin1
-- ==== Proof.Dwin1Claim.lean ====
module

public import proofs.«01_k».proof.Defs
public import proofs.«01_k».proof.Proof.Gen.Kernel11
public import proofs.«01_k».proof.Proof.Dwin1

/-!
# The program that finds the gradient of the attention's columns of the input matrix

The claims of it: a run leaves the arguments alone, and ends with the reference's values.
-/

@[expose] public section

set_option maxRecDepth 16384

noncomputable section

namespace Cert.Dwin1

open Idealize.ShloMosaic Idealize.ShloMosaic.TcCoe
open Idealize.SL.Sem

/-- The two programs have the same body, -/
theorem body_eq {F : FTy → Type} [FloatOps F] :
    @Cert.Kernel11.cc0_dwin1 F _ Cert.Kernel11.Gen.facts = @Cert.Kernel11Ideal.cc0_dwin1 F _ Cert.Kernel11Ideal.Gen.facts := rfl

/-- the same table of bodies, -/
theorem bodies_eq {F : FTy → Type} [FloatOps F] : Cert.Kernel11.defs₀ (F := F) = Cert.Kernel11Ideal.defs₀ (F := F) := by
  unfold Cert.Kernel11.defs₀
  rw [body_eq]
  unfold Cert.Kernel11Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel11.defs (F := F) = Cert.Kernel11Ideal.defs (F := F) :=
  congrArg (Pipeline.defs Cert.Kernel11Ideal.pcfgs) bodies_eq

set_option maxHeartbeats 8000000 in
/-- and a run of the one is a run of the other. -/
theorem frame_kernel : Cert.quiescent_Kernel11 := fun m ρ _ => by
  have h := Cert.Kernel11Ideal.Gen.frame (F := Bits) m ρ
  rw [← defs_eq] at h
  exact h

theorem frame_kernelIdeal : Cert.quiescent_Kernel11Ideal := fun m ρ _ => Cert.Kernel11Ideal.Gen.frame (F := Ideal) m ρ

theorem frame_referenceIdeal : Cert.quiescent_Reference11Ideal := fun m ρ _ =>
  (θ_run (Cert.Reference11Ideal.defs (F := Ideal)) _ _).mono
    (fun r h => ⟨fun c => (h c).2, Idealize.ShloMosaic.sem_eq_zero_of_no_sems (by decide) r.2⟩)
    (Cert.Reference11Ideal.Value.run (F := Ideal) m ρ)

/-- Kernel and reference end with the same gradient of the columns. -/
theorem same : Cert.algebraic_Kernel11Ideal_Reference11Ideal := fun m ρ m' ρ' _ hs => by
  refine ⟨fun c => spec (X m c) (Y m c), (θ_run _ _ _).mono (fun r h c => ⟨(h c).1.trans (final m c), (h c).2⟩)
    (Cert.Kernel11Ideal.Value.run_blocks (F := Ideal) m ρ), ?_⟩
  refine (θ_run _ _ _).mono (fun r h c => ⟨(h c).1.trans ?_, (h c).2⟩) (Cert.Reference11Ideal.Value.run (F := Ideal) m' ρ')
  obtain ⟨e0, e1, e2⟩ := hs c
  simp only [e0, e1, e2]
  funext i
  obtain ⟨a, l, rfl⟩ : ∃ a l, i = ix2 a l := ⟨_, _, eq_ix2 (n0 := 1536) (n1 := 1024) i⟩
  pointwise
  rfl

end Cert.Dwin1
-- ==== Proof.Dwin2.lean ====
module

public import proofs.«01_k».proof.Kernel12Ideal
public import proofs.«01_k».proof.Reference12Ideal
public import proofs.«01_k».proof.Proof.Gen.Kernel12Ideal.Value
public import proofs.«01_k».proof.Proof.Gen.Reference12Ideal.Run
public import Idealize.ShloMosaic.Lib.Pipeline.ValueKit
public import Idealize.ShloMosaic.Lib.Claim

/-!
# The gradient of the input matrix, the gating's columns

A block of rows of it is the product of a block of columns of the incoming gradient, laid on its side, and the normalised rows.
-/

@[expose] public section

set_option maxRecDepth 16384

noncomputable section

namespace Cert.Dwin2

open Cert.Kernel12Ideal Cert.Kernel12Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0]
    ∧ t.val < 2 :=
  (by decide +kernel : ∀ t : Fin grid0.N, _)

/-- The two arrays multiplied. -/
def X : FVec Ideal S2048x512 .f32 := m ((c : Thread nD τ).loc main_arg2)
def Y : FVec Ideal S2048x1024 .f32 := m ((c : Thread nD τ).loc main_arg0)

theorem blk0 (t : Fin cfg0.N) (a : Fin 2048) (l : Fin 256) (h : 256 * t.val + l < 512) : iblk m c 0 t (ix2 a l) = X m c (ix2 a ⟨256 * t.val + l, h⟩) := by
  blk_ext [iblk, idx t]

theorem blk1 (t : Fin cfg0.N) (a : Fin 2048) (l : Fin 1024) : iblk m c 1 t (ix2 a l) = Y m c (ix2 a l) := by
  blk_ext [iblk, idx t]

/-- The gradient of the matrix, plainly. -/
def spec (x : FVec Ideal S2048x512 .f32) (y : FVec Ideal S2048x1024 .f32) : FVec Ideal S512x1024 .bf16 :=
  fun i => ∑ r : Fin 2048, x (ix2 r (i 0)) * y (ix2 r (i 1))

theorem point (t : Fin cfg0.N) (a : Fin 256) (l : Fin 1024) (h : 256 * t.val + a < 512) :
    k0_pay1 (F := Ideal) (iblk m c 0 t) (iblk m c 1 t) (ix2 a l) = spec (X m c) (Y m c) (ix2 ⟨256 * t.val + a, h⟩ l) := by
  pointwise [k0_pay1]
  simp only [blk0 m c t _ _ h, blk1]
  rfl

theorem final : (dats m 0 c).arrAt 2 cfg0.N = spec (X m c) (Y m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 256) (n1 := 1024) y⟩
  refine (point m c t a l (by omega)).trans (congrArg _ ?_)
  blk_ext [idx t]

end Cert.Dwin2
-- ==== Proof.Dwin2Claim.lean ====
module

public import proofs.«01_k».proof.Defs
public import proofs.«01_k».proof.Proof.Gen.Kernel12
public import proofs.«01_k».proof.Proof.Dwin2

/-!
# The program that finds the gradient of the gating's columns of the input matrix

The claims of it: a run leaves the arguments alone, and ends with the reference's values.
-/

@[expose] public section

set_option maxRecDepth 16384

noncomputable section

namespace Cert.Dwin2

open Idealize.ShloMosaic Idealize.ShloMosaic.TcCoe
open Idealize.SL.Sem

/-- The two programs have the same body, -/
theorem body_eq {F : FTy → Type} [FloatOps F] :
    @Cert.Kernel12.cc0_dwin2 F _ Cert.Kernel12.Gen.facts = @Cert.Kernel12Ideal.cc0_dwin2 F _ Cert.Kernel12Ideal.Gen.facts := rfl

/-- the same table of bodies, -/
theorem bodies_eq {F : FTy → Type} [FloatOps F] : Cert.Kernel12.defs₀ (F := F) = Cert.Kernel12Ideal.defs₀ (F := F) := by
  unfold Cert.Kernel12.defs₀
  rw [body_eq]
  unfold Cert.Kernel12Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel12.defs (F := F) = Cert.Kernel12Ideal.defs (F := F) :=
  congrArg (Pipeline.defs Cert.Kernel12Ideal.pcfgs) bodies_eq

set_option maxHeartbeats 8000000 in
/-- and a run of the one is a run of the other. -/
theorem frame_kernel : Cert.quiescent_Kernel12 := fun m ρ _ => by
  have h := Cert.Kernel12Ideal.Gen.frame (F := Bits) m ρ
  rw [← defs_eq] at h
  exact h

theorem frame_kernelIdeal : Cert.quiescent_Kernel12Ideal := fun m ρ _ => Cert.Kernel12Ideal.Gen.frame (F := Ideal) m ρ

theorem frame_referenceIdeal : Cert.quiescent_Reference12Ideal := fun m ρ _ =>
  (θ_run (Cert.Reference12Ideal.defs (F := Ideal)) _ _).mono
    (fun r h => ⟨fun c => (h c).2, Idealize.ShloMosaic.sem_eq_zero_of_no_sems (by decide) r.2⟩)
    (Cert.Reference12Ideal.Value.run (F := Ideal) m ρ)

/-- Kernel and reference end with the same gradient of the columns. -/
theorem same : Cert.algebraic_Kernel12Ideal_Reference12Ideal := fun m ρ m' ρ' _ hs => by
  refine ⟨fun c => spec (X m c) (Y m c), (θ_run _ _ _).mono (fun r h c => ⟨(h c).1.trans (final m c), (h c).2⟩)
    (Cert.Kernel12Ideal.Value.run_blocks (F := Ideal) m ρ), ?_⟩
  refine (θ_run _ _ _).mono (fun r h c => ⟨(h c).1.trans ?_, (h c).2⟩) (Cert.Reference12Ideal.Value.run (F := Ideal) m' ρ')
  obtain ⟨e0, e1, e2⟩ := hs c
  simp only [e0, e1, e2]
  funext i
  obtain ⟨a, l, rfl⟩ : ∃ a l, i = ix2 a l := ⟨_, _, eq_ix2 (n0 := 512) (n1 := 1024) i⟩
  pointwise
  rfl

end Cert.Dwin2
-- ==== Proof.Dh0.lean ====
module

public import proofs.«01_k».proof.Kernel13Ideal
public import proofs.«01_k».proof.Reference13Ideal
public import proofs.«01_k».proof.Proof.Gen.Kernel13Ideal.Value
public import proofs.«01_k».proof.Proof.Gen.Reference13Ideal.Run
public import proofs.«01_k».proof.Proof.Rms
public import Idealize.ShloMosaic.Lib.Pipeline.ValueKit
public import Idealize.ShloMosaic.Lib.Claim

/-!
# The gradient through the normalisation before the input matrix

The gradient of the projected rows, in three parts, times the input matrix laid on its side, taken back through the normalisation of the rows and
added to the gradient that went round it; and the gradient of the normalisation's gain.
-/

@[expose] public section

set_option maxRecDepth 16384

noncomputable section

namespace Cert.Dh0

open Cert.Kernel13Ideal Cert.Kernel13Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ t.val < 4 :=
  (by decide +kernel : ∀ t : Fin grid0.N, _)

/-- The rows, the gain, the matrix, the gradient of the projected rows and the gradient that goes round. -/
def H : FVec Ideal S2048x1024 .f32 := m ((c : Thread nD τ).loc main_arg0)
def G : FVec Ideal S1x1024 .f32 := m ((c : Thread nD τ).loc main_arg1)
def W : FVec Ideal S1024x2816 .f32 := m ((c : Thread nD τ).loc main_arg2)
def D : FVec Ideal S2048x2816 .f32 := m ((c : Thread nD τ).loc main_arg3)
def R : FVec Ideal S2048x1024 .f32 := m ((c : Thread nD τ).loc main_arg4)

theorem blk0 (t : Fin cfg0.N) (a : Fin 512) (l : Fin 768) (h : 512 * t.val + a < 2048) :
    iblk m c 0 t (ix2 a l) = D m c (ix2 ⟨512 * t.val + a, h⟩ ⟨l, by omega⟩) := by
  have e : iblk m c 0 t (ix2 a l) = V m c main_v1 (ix2 ⟨512 * t.val + a, h⟩ l) := by
    blk_ext [iblk, idx t]
  rw [e]
  entry_read
  pointwise [D]

theorem blk1 (t : Fin cfg0.N) (a : Fin 512) (l : Fin 1536) (h : 512 * t.val + a < 2048) :
    iblk m c 1 t (ix2 a l) = D m c (ix2 ⟨512 * t.val + a, h⟩ ⟨768 + l, by omega⟩) := by
  have e : iblk m c 1 t (ix2 a l) = V m c main_v2 (ix2 ⟨512 * t.val + a, h⟩ l) := by
    blk_ext [iblk, idx t]
  rw [e]
  entry_read
  pointwise [D]

theorem blk2 (t : Fin cfg0.N) (a : Fin 512) (l : Fin 512) (h : 512 * t.val + a < 2048) :
    iblk m c 2 t (ix2 a l) = D m c (ix2 ⟨512 * t.val + a, h⟩ ⟨2304 + l, by omega⟩) := by
  have e : iblk m c 2 t (ix2 a l) = V m c main_v3 (ix2 ⟨512 * t.val + a, h⟩ l) := by
    blk_ext [iblk, idx t]
  rw [e]
  entry_read
  pointwise [D]

theorem blk3 (t : Fin cfg0.N) (a : Fin 2816) (l : Fin 1024) : iblk m c 3 t (ix2 a l) = W m c (ix2 l a) := by
  have e : iblk m c 3 t (ix2 a l) = V m c main_v5 (ix2 a l) := by
    blk_ext [iblk, idx t]
  rw [e]
  entry_read
  pointwise [W]

theorem blk4 (t : Fin cfg0.N) (a : Fin 512) (l : Fin 1024) (h : 512 * t.val + a < 2048) :
    iblk m c 4 t (ix2 a l) = H m c (ix2 ⟨512 * t.val + a, h⟩ l) := by
  blk_ext [iblk, V_main_arg0, idx t]

theorem blk5 (t : Fin cfg0.N) (l : Fin 1024) : iblk m c 5 t (ix2 0 l) = G m c (ix2 0 l) := by
  blk_ext [iblk, V_main_arg1, idx t]

theorem blk6 (t : Fin cfg0.N) (a : Fin 512) (l : Fin 1024) (h : 512 * t.val + a < 2048) :
    iblk m c 6 t (ix2 a l) = R m c (ix2 ⟨512 * t.val + a, h⟩ l) := by
  blk_ext [iblk, V_main_arg4, idx t]

/-- A sum over the columns of the input matrix, in its three parts. -/
theorem split (f : Fin 2816 → EReal) :
    (∑ x : Fin 768, f ⟨x, by omega⟩) + (∑ x : Fin 1536, f ⟨768 + x, by omega⟩) + ∑ x : Fin 512, f ⟨2304 + x, by omega⟩ = ∑ x, f x :=
  ((Fin.sum_univ_add (a := 768 + 1536) (b := 512) f).trans (congrArg (· + _) (Fin.sum_univ_add (a := 768) (b := 1536) _))).symm

section Plain
variable (h : FVec Ideal S2048x1024 .f32) (g : FVec Ideal S1x1024 .f32) (w : FVec Ideal S1024x2816 .f32) (d : FVec Ideal S2048x2816 .f32)
  (r : FVec Ideal S2048x1024 .f32)

/-- The gradient of the normalised rows, at a row and column. -/
def dot (t : Fin 2048) (j : Fin 1024) : EReal := ∑ x : Fin 2816, d (ix2 t x) * w (ix2 j x)

def rows (t : Fin 2048) (j : Fin 1024) : EReal := h (ix2 t j)

def gained (t : Fin 2048) (j : Fin 1024) : EReal := dot w d t j * g (ix2 0 j)

/-- The gradient of the rows. -/
def dh (t : Fin 2048) (j : Fin 1024) : EReal :=
  r (ix2 t j) + gained g w d t j * Rms.inv (rows h t) + rows h t j * Rms.slope (rows h t) (gained g w d t)
    + Rms.slope (rows h t) (gained g w d t) * rows h t j

/-- The gradient of the gain. -/
def dg (j : Fin 1024) : EReal := ∑ t : Fin 2048, rows h t j * Rms.inv (rows h t) * dot w d t j

def dh32 : FVec Ideal S2048x1024 .f32 := fun i => dh h g w d r (i 0) (i 1)
def dh16 : FVec Ideal S2048x1024 .bf16 := fun i => dh h g w d r (i 0) (i 1)
def dg32 : FVec Ideal S1x1024 .f32 := fun i => dg h w d (i 1)

end Plain

theorem mat0 (t : Fin cfg0.N) (a : Fin 768) (l : Fin 1024) :
    (View.ld (iblk m c 3 t) (Rect.unit ![0, 0] ![768, 1024] inb_S2816x1024_S768x1024_0_0) : FVec Ideal S768x1024 .bf16) (ix2 a l)
      = W m c (ix2 l ⟨a, by omega⟩) := by
  refine Eq.trans ?_ (blk3 m c t ⟨a, by omega⟩ l)
  refine congrArg (iblk m c 3 t) ?_
  funext i
  match i with
  | ⟨0, _⟩ => exact Fin.ext (by show 0 + 1 * a.val = _; simp)
  | ⟨1, _⟩ => exact Fin.ext (by show 0 + 1 * l.val = _; simp)

theorem mat1 (t : Fin cfg0.N) (a : Fin 1536) (l : Fin 1024) :
    (View.ld (iblk m c 3 t) (Rect.unit ![768, 0] ![1536, 1024] inb_S2816x1024_S1536x1024_768_0) : FVec Ideal S1536x1024 .bf16) (ix2 a l)
      = W m c (ix2 l ⟨768 + a, by omega⟩) := by
  refine Eq.trans ?_ (blk3 m c t ⟨768 + a, by omega⟩ l)
  refine congrArg (iblk m c 3 t) ?_
  funext i
  match i with
  | ⟨0, _⟩ => exact Fin.ext (by show 768 + 1 * a.val = _; simp)
  | ⟨1, _⟩ => exact Fin.ext (by show 0 + 1 * l.val = _; simp)

theorem mat2 (t : Fin cfg0.N) (a : Fin 512) (l : Fin 1024) :
    (View.ld (iblk m c 3 t) (Rect.unit ![2304, 0] ![512, 1024] inb_S2816x1024_S512x1024_2304_0) : FVec Ideal S512x1024 .bf16) (ix2 a l)
      = W m c (ix2 l ⟨2304 + a, by omega⟩) := by
  refine Eq.trans ?_ (blk3 m c t ⟨2304 + a, by omega⟩ l)
  refine congrArg (iblk m c 3 t) ?_
  funext i
  match i with
  | ⟨0, _⟩ => exact Fin.ext (by show 2304 + 1 * a.val = _; simp)
  | ⟨1, _⟩ => exact Fin.ext (by show 0 + 1 * l.val = _; simp)

section Body
variable (x0 : FVec Ideal S512x768 .bf16) (x1 : FVec Ideal S512x1536 .bf16) (x2 : FVec Ideal S512x512 .bf16)
  (w0 : FVec Ideal S768x1024 .bf16) (w1 : FVec Ideal S1536x1024 .bf16) (w2 : FVec Ideal S512x1024 .bf16)
  (x4 : FVec Ideal S512x1024 .f32) (x5 : FVec Ideal S1x1024 .f32) (x6 : FVec Ideal S512x1024 .f32)
  (a : Fin 512) (T : Fin 2048)
  (h : FVec Ideal S2048x1024 .f32) (g : FVec Ideal S1x1024 .f32) (w : FVec Ideal S1024x2816 .f32) (d : FVec Ideal S2048x2816 .f32)
  (r : FVec Ideal S2048x1024 .f32)
  (h0 : ∀ l : Fin 768, x0 (ix2 a l) = d (ix2 T ⟨l, by omega⟩)) (h1 : ∀ l : Fin 1536, x1 (ix2 a l) = d (ix2 T ⟨768 + l, by omega⟩))
  (h2 : ∀ l : Fin 512, x2 (ix2 a l) = d (ix2 T ⟨2304 + l, by omega⟩))
  (k0 : ∀ (x : Fin 768) l, w0 (ix2 x l) = w (ix2 l ⟨x, by omega⟩)) (k1 : ∀ (x : Fin 1536) l, w1 (ix2 x l) = w (ix2 l ⟨768 + x, by omega⟩))
  (k2 : ∀ (x : Fin 512) l, w2 (ix2 x l) = w (ix2 l ⟨2304 + x, by omega⟩))
  (h4 : ∀ l, x4 (ix2 a l) = h (ix2 T l))
include h0 h1 h2 k0 k1 k2 h4

theorem body7 (j : Fin 1024) (h5 : ∀ l, x5 (ix2 0 l) = g (ix2 0 l)) (h6 : ∀ l, x6 (ix2 a l) = r (ix2 T l)) :
    k0_pay1 (F := Ideal) (k0_pay6 x4) (k0_pay7 x4) (k0_pay8 x0 w0 x1 w1 x2 w2 x5) x6 (k0_pay9 x4 x0 w0 x1 w1 x2 w2 x5) (ix2 a j)
      = dh h g w d r T j := by
  refine Eq.trans ?_ (Rms.forms _ _ _ j).symm
  pointwise [k0_pay1, k0_pay6, k0_pay7, k0_pay8, k0_pay9, k0_pay5]
  simp only [h0, h1, h2, k0, k1, k2, h4, h5, h6]
  have e : ∀ k : Fin 1024, (∑ x : Fin 768, d (ix2 T ⟨x, by omega⟩) * w (ix2 k ⟨x, by omega⟩))
      + (∑ x : Fin 1536, d (ix2 T ⟨768 + x, by omega⟩) * w (ix2 k ⟨768 + x, by omega⟩))
      + (∑ x : Fin 512, d (ix2 T ⟨2304 + x, by omega⟩) * w (ix2 k ⟨2304 + x, by omega⟩)) = dot w d T k :=
    fun k => split fun x => d (ix2 T x) * w (ix2 k x)
  simp only [e]
  rfl

theorem piece (q : Fin 1024) :
    (((∑ x : Fin 768, x0 (ix2 a x) * w0 (ix2 x q)) + ∑ x : Fin 1536, x1 (ix2 a x) * w1 (ix2 x q)) + ∑ x : Fin 512, x2 (ix2 a x) * w2 (ix2 x q))
      * (x4 (ix2 a q) * Rms.inv fun i : Fin 1024 => x4 (ix2 a i)) = rows h T q * Rms.inv (rows h T) * dot w d T q := by
  simp only [h0, h1, h2, k0, k1, k2, h4]
  rw [split fun x => d (ix2 T x) * w (ix2 q x)]
  exact mul_comm _ _

end Body

theorem hzero (j : S1x1024.Idx) : k0_pay3 (F := Ideal) j = 0 := by pointwise [k0_pay3]

theorem hpay (x0 : FVec Ideal S512x768 .bf16) (x1 : FVec Ideal S512x1536 .bf16) (x2 : FVec Ideal S512x512 .bf16)
    (w0 : FVec Ideal S768x1024 .bf16) (w1 : FVec Ideal S1536x1024 .bf16) (w2 : FVec Ideal S512x1024 .bf16)
    (x4 : FVec Ideal S512x1024 .f32) (x : FVec Ideal S1x1024 .f32) (j : S1x1024.Idx) :
    k0_pay4 (F := Ideal) (k0_pay5 x0 w0 x1 w1 x2 w2) (k0_pay7 x4) x j = x j + ∑ k : Fin 512,
      (((∑ l : Fin 768, x0 (ix2 k l) * w0 (ix2 l (j 1))) + ∑ l : Fin 1536, x1 (ix2 k l) * w1 (ix2 l (j 1)))
        + ∑ l : Fin 512, x2 (ix2 k l) * w2 (ix2 l (j 1))) * (x4 (ix2 k (j 1)) * Rms.inv fun i : Fin 1024 => x4 (ix2 k i)) := by
  pointwise [k0_pay4, k0_pay5, k0_pay6, k0_pay7]
  rfl

theorem final7 : (dats m 0 c).arrAt 7 cfg0.N = dh32 (H m c) (G m c) (W m c) (D m c) (R m c) := by
  refine (dats m 0 c).arrAt_eq_of_covers 7 _ (by decide +kernel) fun t _ y => ?_
  have ht := (idx t).2.2.2.2.2.2.2.2.2.2
  obtain ⟨a, l, rfl⟩ : ∃ a l, y = ix2 a l := ⟨_, _, eq_ix2 (n0 := 512) (n1 := 1024) y⟩
  have key := body7 (iblk m c 0 t) (iblk m c 1 t) (iblk m c 2 t)
      (View.ld (iblk m c 3 t) (Rect.unit ![0, 0] ![768, 1024] inb_S2816x1024_S768x1024_0_0))
      (View.ld (iblk m c 3 t) (Rect.unit ![768, 0] ![1536, 1024] inb_S2816x1024_S1536x1024_768_0))
      (View.ld (iblk m c 3 t) (Rect.unit ![2304, 0] ![512, 1024] inb_S2816x1024_S512x1024_2304_0))
    (iblk m c 4 t) (iblk m c 5 t) (iblk m c 6 t) a ⟨512 * t.val + a, by omega⟩ (H m c) (G m c) (W m c) (D m c) (R m c)
    (fun l => blk0 m c t a l _) (fun l => blk1 m c t a l _) (fun l => blk2 m c t a l _) (mat0 m c t) (mat1 m c t) (mat2 m c t)
    (fun l => blk4 m c t a l _) l (fun l => blk5 m c t l) (fun l => blk6 m c t a l _)
  have place : dh32 (H m c) (G m c) (W m c) (D m c) (R m c) (((View.whole main_v6_0).slice (win0_7.rect t)).emb (ix2 a l))
      = dh32 (H m c) (G m c) (W m c) (D m c) (R m c) (ix2 ⟨512 * t.val + a, by omega⟩ l) := by
    refine congrArg _ ?_
    blk_ext [idx t]
  blk_simp
  rw [after0_7]
  rcases Nat.eq_zero_or_pos (t.val % 4) with h | h
  · rw [outsAt0_A m c t h]
    frame_out
    exact key.trans place.symm
  · rw [outsAt0_B m c t (by omega)]
    frame_out
    exact key.trans place.symm

theorem final8 : (dats m 0 c).arrAt 8 cfg0.N = dh16 (H m c) (G m c) (W m c) (D m c) (R m c) := by
  refine (dats m 0 c).arrAt_eq_of_covers 8 _ (by decide +kernel) fun t _ y => ?_
  have ht := (idx t).2.2.2.2.2.2.2.2.2.2
  obtain ⟨a, l, rfl⟩ : ∃ a l, y = ix2 a l := ⟨_, _, eq_ix2 (n0 := 512) (n1 := 1024) y⟩
  have key := body7 (iblk m c 0 t) (iblk m c 1 t) (iblk m c 2 t)
      (View.ld (iblk m c 3 t) (Rect.unit ![0, 0] ![768, 1024] inb_S2816x1024_S768x1024_0_0))
      (View.ld (iblk m c 3 t) (Rect.unit ![768, 0] ![1536, 1024] inb_S2816x1024_S1536x1024_768_0))
      (View.ld (iblk m c 3 t) (Rect.unit ![2304, 0] ![512, 1024] inb_S2816x1024_S512x1024_2304_0))
    (iblk m c 4 t) (iblk m c 5 t) (iblk m c 6 t) a ⟨512 * t.val + a, by omega⟩ (H m c) (G m c) (W m c) (D m c) (R m c)
    (fun l => blk0 m c t a l _) (fun l => blk1 m c t a l _) (fun l => blk2 m c t a l _) (mat0 m c t) (mat1 m c t) (mat2 m c t)
    (fun l => blk4 m c t a l _) l (fun l => blk5 m c t l) (fun l => blk6 m c t a l _)
  have place : dh16 (H m c) (G m c) (W m c) (D m c) (R m c) (((View.whole main_v6_1).slice (win0_8.rect t)).emb (ix2 a l))
      = dh16 (H m c) (G m c) (W m c) (D m c) (R m c) (ix2 ⟨512 * t.val + a, by omega⟩ l) := by
    refine congrArg _ ?_
    blk_ext [idx t]
  blk_simp
  rw [after0_8]
  rcases Nat.eq_zero_or_pos (t.val % 4) with h | h
  · rw [outsAt0_A m c t h]
    frame_out
    exact key.trans place.symm
  · rw [outsAt0_B m c t (by omega)]
    frame_out
    exact key.trans place.symm

theorem final9 : (dats m 0 c).arrAt 9 cfg0.N = dg32 (H m c) (W m c) (D m c) := by
  refine (dats m 0 c).arrAt_eq_of_after_last 9 t0_3 (by decide +kernel) _ fun j => ?_
  blk_simp
  rw [after0_9, Pipeline.eq_sum_fin_of_reset_step_apply_last (fun n h => (outsAt0 m c n h).2.2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold dg32 dg
  refine Fin.sum_mul_add_congr fun t k hl => ?_
  have e : (⟨t.val * 512 + k, hl⟩ : Fin 2048) = ⟨512 * t.val + k, by omega⟩ := Fin.ext (by show t.val * 512 + k.val = 512 * t.val + k; omega)
  rw [e]
  exact piece (iblk m c 0 t) (iblk m c 1 t) (iblk m c 2 t)
      (View.ld (iblk m c 3 t) (Rect.unit ![0, 0] ![768, 1024] inb_S2816x1024_S768x1024_0_0))
      (View.ld (iblk m c 3 t) (Rect.unit ![768, 0] ![1536, 1024] inb_S2816x1024_S1536x1024_768_0))
      (View.ld (iblk m c 3 t) (Rect.unit ![2304, 0] ![512, 1024] inb_S2816x1024_S512x1024_2304_0))
    (iblk m c 4 t) k _ (H m c) (W m c) (D m c)
    (fun l => blk0 m c t k l _) (fun l => blk1 m c t k l _) (fun l => blk2 m c t k l _) (mat0 m c t) (mat1 m c t) (mat2 m c t)
    (fun l => blk4 m c t k l _) (j 1)

section Reference
open Cert.Reference13Ideal (main_arg0 main_arg1 main_arg2 main_arg3 main_arg4)
variable (m' : (ℓ : Loc Cert.Reference13Ideal.nD Cert.Reference13Ideal.τ Cert.Reference13Ideal.sig) → Buf (Elt Ideal) ℓ) (c' : Dev Cert.Reference13Ideal.nD)

theorem ref7 : Cert.Reference13Ideal.Value.res_main_v36 m' c'
    = dh32 (m' (c'.tc.loc main_arg0)) (m' (c'.tc.loc main_arg1)) (m' (c'.tc.loc main_arg2)) (m' (c'.tc.loc main_arg3)) (m' (c'.tc.loc main_arg4)) := by
  funext i
  obtain ⟨t, j, rfl⟩ : ∃ a l, i = ix2 a l := ⟨_, _, eq_ix2 (n0 := 2048) (n1 := 1024) i⟩
  pointwise [Cert.Reference13Ideal.Value.res_main_v36]
  simp only [Finset.univ_unique, Finset.sum_singleton]
  rfl

theorem ref8 : Cert.Reference13Ideal.Value.res_main_v37 m' c'
    = dh16 (m' (c'.tc.loc main_arg0)) (m' (c'.tc.loc main_arg1)) (m' (c'.tc.loc main_arg2)) (m' (c'.tc.loc main_arg3)) (m' (c'.tc.loc main_arg4)) :=
  ref7 m' c'

open Cert.Reference13Ideal (S_ S2048x1) in
open Cert.Reference13Ideal.Gen in
theorem ref9 (h : FVec Ideal S2048x1024 .f32) (w : FVec Ideal S1024x2816 .f32) (d : FVec Ideal S2048x2816 .f32) :
    shapeCast S1x1024 (Host.reduceAdd (mulf (mulf h (broadcastInDim S2048x1024 ![0, 1] bcast_S2048x1_S2048x1024_0_1 (Host.rsqrt
        (addf (Host.divf (broadcastInDim S2048x1 ![0] bcast_S2048_S2048x1_0 (Host.reduceAdd (mulf h h) (constant S_ .f32 0x00000000#32)
          reducesTo_S2048x1024_S2048_d1 h_S_)) (broadcastInDim S2048x1 ![] bcast_S_S2048x1 (constant S_ .f32 0x44800000#32)))
          (broadcastInDim S2048x1 ![] bcast_S_S2048x1 (constant S_ .f32 0x358637BD#32))))))
        (Host.dotGeneral Cert.Reference13Ideal.dot_S2048x2816_S1024x2816_S2048x1024_1_1_0_0_n_n none d w)) (constant S_ .f32 0x00000000#32)
          reducesTo_S2048x1024_S1024_d0 h_S_) Cert.Kernel13Ideal.Gen.shapeCasts_S1024_S1x1024 = dg32 h w d := by
  funext i
  obtain ⟨z, j, rfl⟩ : ∃ a l, i = ix2 a l := ⟨_, _, eq_ix2 (n0 := 1) (n1 := 1024) i⟩
  pointwise
  rfl

end Reference

end Cert.Dh0
-- ==== Proof.Dh0Claim.lean ====
module

public import proofs.«01_k».proof.Defs
public import proofs.«01_k».proof.Proof.Gen.Kernel13
public import proofs.«01_k».proof.Proof.Dh0

/-!
# The program that takes the gradient through the input matrix and the normalisation before it

The claims of it: a run leaves the arguments alone, and ends with the reference's values.
-/

@[expose] public section

set_option maxRecDepth 16384

noncomputable section

namespace Cert.Dh0

open Idealize.ShloMosaic Idealize.ShloMosaic.TcCoe
open Idealize.SL.Sem

/-- The two programs have the same body, -/
theorem body_eq {F : FTy → Type} [FloatOps F] :
    @Cert.Kernel13.cc0_dh0 F _ Cert.Kernel13.Gen.facts = @Cert.Kernel13Ideal.cc0_dh0 F _ Cert.Kernel13Ideal.Gen.facts := rfl

/-- the same table of bodies, -/
theorem bodies_eq {F : FTy → Type} [FloatOps F] : Cert.Kernel13.defs₀ (F := F) = Cert.Kernel13Ideal.defs₀ (F := F) := by
  unfold Cert.Kernel13.defs₀
  rw [body_eq]
  unfold Cert.Kernel13Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel13.defs (F := F) = Cert.Kernel13Ideal.defs (F := F) :=
  congrArg (Pipeline.defs Cert.Kernel13Ideal.pcfgs) bodies_eq

set_option maxHeartbeats 8000000 in
/-- and a run of the one is a run of the other. -/
theorem frame_kernel : Cert.quiescent_Kernel13 := fun m ρ _ => by
  have h := Cert.Kernel13Ideal.Gen.frame (F := Bits) m ρ
  rw [← defs_eq] at h
  exact h

theorem frame_kernelIdeal : Cert.quiescent_Kernel13Ideal := fun m ρ _ => Cert.Kernel13Ideal.Gen.frame (F := Ideal) m ρ

theorem frame_referenceIdeal : Cert.quiescent_Reference13Ideal := fun m ρ _ =>
  (θ_run (Cert.Reference13Ideal.defs (F := Ideal)) _ _).mono
    (fun r h => ⟨fun c => (h c).2.2.2, Idealize.ShloMosaic.sem_eq_zero_of_no_sems (by decide) r.2⟩)
    (Cert.Reference13Ideal.Value.run (F := Ideal) m ρ)

/-- Kernel and reference end with the same gradients of the rows and of the gain. -/
theorem same : Cert.algebraic_Kernel13Ideal_Reference13Ideal := fun m ρ m' ρ' _ hs => by
  refine ⟨fun c => dh32 (H m c) (G m c) (W m c) (D m c) (R m c), fun c => dh16 (H m c) (G m c) (W m c) (D m c) (R m c),
    fun c => dg32 (H m c) (W m c) (D m c),
    (θ_run _ _ _).mono (fun r h c => ⟨(h c).1.trans (final7 m c), (h c).2.1.trans (final8 m c), (h c).2.2.1.trans (final9 m c), (h c).2.2.2⟩)
      (Cert.Kernel13Ideal.Value.run_blocks (F := Ideal) m ρ), ?_⟩
  refine (θ_run _ _ _).mono (fun r h c => ⟨(h c).1.trans ((ref7 m' c).trans ?_), (h c).2.1.trans ((ref8 m' c).trans ?_),
    (h c).2.2.1.trans ((ref9 _ _ _).trans ?_), (h c).2.2.2⟩) (Cert.Reference13Ideal.Value.run (F := Ideal) m' ρ')
  all_goals
    obtain ⟨e0, e1, e2, e3, e4⟩ := hs c
    simp only [e0, e1, e2, e3, e4]
    rfl

end Cert.Dh0
-- ==== Proof.Ff1.lean ====
module

public import proofs.«01_k».proof.Kernel14Ideal
public import proofs.«01_k».proof.Reference14Ideal
public import proofs.«01_k».proof.Proof.Gen.Kernel14Ideal.Value
public import proofs.«01_k».proof.Proof.Gen.Reference14Ideal.Run
public import Idealize.ShloMosaic.Lib.Pipeline.ValueKit
public import Idealize.ShloMosaic.Lib.Claim

/-!
# The first feed-forward product

A block of columns of it is the square of the ramp of the product of the rows and a block of columns of the first matrix.
-/

@[expose] public section

set_option maxRecDepth 16384

noncomputable section

namespace Cert.Ff1

open Cert.Kernel14Ideal Cert.Kernel14Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val]
    ∧ t.val < 8 :=
  (by decide +kernel : ∀ t : Fin grid0.N, _)

/-- The rows and the first matrix. -/
def H : FVec Ideal S2048x1024 .f32 := m ((c : Thread nD τ).loc main_arg0)
def W : FVec Ideal S1024x4096 .f32 := m ((c : Thread nD τ).loc main_arg1)

theorem blk0 (t : Fin cfg0.N) (a : Fin 2048) (l : Fin 1024) : iblk m c 0 t (ix2 a l) = H m c (ix2 a l) := by
  blk_ext [iblk, idx t]

theorem blk1 (t : Fin cfg0.N) (a : Fin 1024) (l : Fin 512) (h : 512 * t.val + l < 4096) : iblk m c 1 t (ix2 a l) = W m c (ix2 a ⟨512 * t.val + l, h⟩) := by
  blk_ext [iblk, idx t]

/-- The product, at a row and column. -/
def prod (x : FVec Ideal S2048x1024 .f32) (w : FVec Ideal S1024x4096 .f32) (a : Fin 2048) (l : Fin 4096) : EReal :=
  ∑ k : Fin 1024, x (ix2 a k) * w (ix2 k l)

/-- The square of its ramp. -/
def spec (x : FVec Ideal S2048x1024 .f32) (w : FVec Ideal S1024x4096 .f32) : FVec Ideal S2048x4096 .bf16 :=
  fun i => max (prod x w (i 0) (i 1)) 0 * max (prod x w (i 0) (i 1)) 0

theorem point (t : Fin cfg0.N) (a : Fin 2048) (l : Fin 512) (h : 512 * t.val + l < 4096) :
    k0_pay1 (F := Ideal) (iblk m c 0 t) (iblk m c 1 t) (ix2 a l) = spec (H m c) (W m c) (ix2 a ⟨512 * t.val + l, h⟩) := by
  pointwise [k0_pay1]
  simp only [blk0, blk1 m c t _ _ h]
  rfl

theorem final : (dats m 0 c).arrAt 2 cfg0.N = spec (H m c) (W m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 2048) (n1 := 512) y⟩
  refine (point m c t a l (by omega)).trans (congrArg _ ?_)
  blk_ext [idx t]

end Cert.Ff1
-- ==== Proof.Ff1Claim.lean ====
module

public import proofs.«01_k».proof.Defs
public import proofs.«01_k».proof.Proof.Gen.Kernel14
public import proofs.«01_k».proof.Proof.Ff1

/-!
# The program that multiplies by the first feed-forward matrix

The claims of it: a run leaves the arguments alone, and ends with the reference's values.
-/

@[expose] public section

set_option maxRecDepth 16384

noncomputable section

namespace Cert.Ff1

open Idealize.ShloMosaic Idealize.ShloMosaic.TcCoe
open Idealize.SL.Sem

/-- The two programs have the same body, -/
theorem body_eq {F : FTy → Type} [FloatOps F] :
    @Cert.Kernel14.cc0_ff1 F _ Cert.Kernel14.Gen.facts = @Cert.Kernel14Ideal.cc0_ff1 F _ Cert.Kernel14Ideal.Gen.facts := rfl

/-- the same table of bodies, -/
theorem bodies_eq {F : FTy → Type} [FloatOps F] : Cert.Kernel14.defs₀ (F := F) = Cert.Kernel14Ideal.defs₀ (F := F) := by
  unfold Cert.Kernel14.defs₀
  rw [body_eq]
  unfold Cert.Kernel14Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel14.defs (F := F) = Cert.Kernel14Ideal.defs (F := F) :=
  congrArg (Pipeline.defs Cert.Kernel14Ideal.pcfgs) bodies_eq

set_option maxHeartbeats 8000000 in
/-- and a run of the one is a run of the other. -/
theorem frame_kernel : Cert.quiescent_Kernel14 := fun m ρ _ => by
  have h := Cert.Kernel14Ideal.Gen.frame (F := Bits) m ρ
  rw [← defs_eq] at h
  exact h

theorem frame_kernelIdeal : Cert.quiescent_Kernel14Ideal := fun m ρ _ => Cert.Kernel14Ideal.Gen.frame (F := Ideal) m ρ

theorem frame_referenceIdeal : Cert.quiescent_Reference14Ideal := fun m ρ _ =>
  (θ_run (Cert.Reference14Ideal.defs (F := Ideal)) _ _).mono
    (fun r h => ⟨fun c => (h c).2, Idealize.ShloMosaic.sem_eq_zero_of_no_sems (by decide) r.2⟩)
    (Cert.Reference14Ideal.Value.run (F := Ideal) m ρ)

/-- Kernel and reference end with the same squared ramp. -/
theorem same : Cert.algebraic_Kernel14Ideal_Reference14Ideal := fun m ρ m' ρ' _ hs => by
  refine ⟨fun c => spec (H m c) (W m c), (θ_run _ _ _).mono (fun r h c => ⟨(h c).1.trans (final m c), (h c).2⟩)
    (Cert.Kernel14Ideal.Value.run_blocks (F := Ideal) m ρ), ?_⟩
  refine (θ_run _ _ _).mono (fun r h c => ⟨(h c).1.trans ?_, (h c).2⟩) (Cert.Reference14Ideal.Value.run (F := Ideal) m' ρ')
  obtain ⟨e0, e1⟩ := hs c
  simp only [e0, e1]
  funext i
  obtain ⟨a, l, rfl⟩ : ∃ a l, i = ix2 a l := ⟨_, _, eq_ix2 (n0 := 2048) (n1 := 4096) i⟩
  pointwise
  rfl

end Cert.Ff1
-- ==== Proof.Ff2.lean ====
module

public import proofs.«01_k».proof.Kernel15Ideal
public import proofs.«01_k».proof.Reference15Ideal
public import proofs.«01_k».proof.Proof.Gen.Kernel15Ideal.Value
public import proofs.«01_k».proof.Proof.Gen.Reference15Ideal.Run
public import proofs.«01_k».proof.Proof.Rms
public import Idealize.ShloMosaic.Lib.Pipeline.ValueKit
public import Idealize.ShloMosaic.Lib.Claim

/-!
# The second feed-forward product, and the normalisation after it

The product is added to the rows that went round it, and the sum is normalised, a block of rows at a time.
-/

@[expose] public section

set_option maxRecDepth 16384

noncomputable section

namespace Cert.Ff2

open Cert.Kernel15Ideal Cert.Kernel15Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0]
    ∧ t.val < 4 :=
  (by decide +kernel : ∀ t : Fin grid0.N, _)

/-- The rows multiplied, the matrix, the rows that went round, and the gain. -/
def X : FVec Ideal S2048x4096 .f32 := m ((c : Thread nD τ).loc main_arg0)
def W : FVec Ideal S4096x1024 .f32 := m ((c : Thread nD τ).loc main_arg1)
def H : FVec Ideal S2048x1024 .f32 := m ((c : Thread nD τ).loc main_arg2)
def G : FVec Ideal S1x1024 .f32 := m ((c : Thread nD τ).loc main_arg3)

theorem blk0 (t : Fin cfg0.N) (a : Fin 512) (l : Fin 4096) (h : 512 * t.val + a < 2048) : iblk m c 0 t (ix2 a l) = X m c (ix2 ⟨512 * t.val + a, h⟩ l) := by
  blk_ext [iblk, idx t]

theorem blk1 (t : Fin cfg0.N) (a : Fin 4096) (l : Fin 1024) : iblk m c 1 t (ix2 a l) = W m c (ix2 a l) := by
  blk_ext [iblk, idx t]

theorem blk2 (t : Fin cfg0.N) (a : Fin 512) (l : Fin 1024) (h : 512 * t.val + a < 2048) : iblk m c 2 t (ix2 a l) = H m c (ix2 ⟨512 * t.val + a, h⟩ l) := by
  blk_ext [iblk, V_main_arg2, idx t]

theorem blk3 (t : Fin cfg0.N) (l : Fin 1024) : iblk m c 3 t (ix2 0 l) = G m c (ix2 0 l) := by
  blk_ext [iblk, V_main_arg3, idx t]

/-- The sum, at a row and column. -/
def mid (x : FVec Ideal S2048x4096 .f32) (w : FVec Ideal S4096x1024 .f32) (h : FVec Ideal S2048x1024 .f32) (a : Fin 2048) (l : Fin 1024) : EReal :=
  h (ix2 a l) + ∑ k : Fin 4096, x (ix2 a k) * w (ix2 k l)

/-- The sum, and the sum normalised, plainly. -/
def sums (x : FVec Ideal S2048x4096 .f32) (w : FVec Ideal S4096x1024 .f32) (h : FVec Ideal S2048x1024 .f32) : FVec Ideal S2048x1024 .f32 :=
  fun i => mid x w h (i 0) (i 1)

def normed (x : FVec Ideal S2048x4096 .f32) (w : FVec Ideal S4096x1024 .f32) (h : FVec Ideal S2048x1024 .f32) (g : FVec Ideal S1x1024 .f32) : FVec Ideal S2048x1024 .bf16 :=
  fun i => mid x w h (i 0) (i 1) * Rms.inv (mid x w h (i 0)) * g (ix2 0 (i 1))

theorem point4 (t : Fin cfg0.N) (a : Fin 512) (l : Fin 1024) (h : 512 * t.val + a < 2048) :
    k0_pay1 (F := Ideal) (iblk m c 0 t) (iblk m c 1 t) (iblk m c 2 t) (ix2 a l) = sums (X m c) (W m c) (H m c) (ix2 ⟨512 * t.val + a, h⟩ l) := by
  pointwise [k0_pay1]
  simp only [blk0 m c t _ _ h, blk1, blk2 m c t _ _ h]
  rfl

theorem point5 (t : Fin cfg0.N) (a : Fin 512) (l : Fin 1024) (h : 512 * t.val + a < 2048) :
    k0_pay2 (F := Ideal) (iblk m c 0 t) (iblk m c 1 t) (iblk m c 2 t) (iblk m c 3 t) (ix2 a l)
      = normed (X m c) (W m c) (H m c) (G m c) (ix2 ⟨512 * t.val + a, h⟩ l) := by
  pointwise [k0_pay2, k0_pay1]
  simp only [blk0 m c t _ _ h, blk1, blk2 m c t _ _ h, blk3]
  rfl

theorem final4 : (dats m 0 c).arrAt 4 cfg0.N = sums (X m c) (W m c) (H m c) := by
  refine (dats m 0 c).arrAt_eq_of_covers 4 _ (by decide +kernel) fun t _ y => ?_
  have ht := (idx t).2.2.2.2.2.2
  blk_simp
  rw [after0_4]
  frame_out
  obtain ⟨a, l, rfl⟩ : ∃ a l, y = ix2 a l := ⟨_, _, eq_ix2 (n0 := 512) (n1 := 1024) y⟩
  refine (point4 m c t a l (by omega)).trans (congrArg _ ?_)
  blk_ext [idx t]

theorem final5 : (dats m 0 c).arrAt 5 cfg0.N = normed (X m c) (W m c) (H m c) (G m c) := by
  refine (dats m 0 c).arrAt_eq_of_covers 5 _ (by decide +kernel) fun t _ y => ?_
  have ht := (idx t).2.2.2.2.2.2
  blk_simp
  rw [after0_5]
  frame_out
  obtain ⟨a, l, rfl⟩ : ∃ a l, y = ix2 a l := ⟨_, _, eq_ix2 (n0 := 512) (n1 := 1024) y⟩
  refine (point5 m c t a l (by omega)).trans (congrArg _ ?_)
  blk_ext [idx t]

end Cert.Ff2
-- ==== Proof.Ff2Claim.lean ====
module

public import proofs.«01_k».proof.Defs
public import proofs.«01_k».proof.Proof.Gen.Kernel15
public import proofs.«01_k».proof.Proof.Ff2

/-!
# The program that multiplies by the second feed-forward matrix

The claims of it: a run leaves the arguments alone, and ends with the reference's values.
-/

@[expose] public section

set_option maxRecDepth 16384

noncomputable section

namespace Cert.Ff2

open Idealize.ShloMosaic Idealize.ShloMosaic.TcCoe
open Idealize.SL.Sem

/-- The two programs have the same body, -/
theorem body_eq {F : FTy → Type} [FloatOps F] :
    @Cert.Kernel15.cc0_ff2 F _ Cert.Kernel15.Gen.facts = @Cert.Kernel15Ideal.cc0_ff2 F _ Cert.Kernel15Ideal.Gen.facts := rfl

/-- the same table of bodies, -/
theorem bodies_eq {F : FTy → Type} [FloatOps F] : Cert.Kernel15.defs₀ (F := F) = Cert.Kernel15Ideal.defs₀ (F := F) := by
  unfold Cert.Kernel15.defs₀
  rw [body_eq]
  unfold Cert.Kernel15Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel15.defs (F := F) = Cert.Kernel15Ideal.defs (F := F) :=
  congrArg (Pipeline.defs Cert.Kernel15Ideal.pcfgs) bodies_eq

set_option maxHeartbeats 8000000 in
/-- and a run of the one is a run of the other. -/
theorem frame_kernel : Cert.quiescent_Kernel15 := fun m ρ _ => by
  have h := Cert.Kernel15Ideal.Gen.frame (F := Bits) m ρ
  rw [← defs_eq] at h
  exact h

theorem frame_kernelIdeal : Cert.quiescent_Kernel15Ideal := fun m ρ _ => Cert.Kernel15Ideal.Gen.frame (F := Ideal) m ρ

theorem frame_referenceIdeal : Cert.quiescent_Reference15Ideal := fun m ρ _ =>
  (θ_run (Cert.Reference15Ideal.defs (F := Ideal)) _ _).mono
    (fun r h => ⟨fun c => (h c).2.2, Idealize.ShloMosaic.sem_eq_zero_of_no_sems (by decide) r.2⟩)
    (Cert.Reference15Ideal.Value.run (F := Ideal) m ρ)

/-- Kernel and reference end with the same sum and normalised sum. -/
theorem same : Cert.algebraic_Kernel15Ideal_Reference15Ideal := fun m ρ m' ρ' _ hs => by
  refine ⟨fun c => sums (X m c) (W m c) (H m c), fun c => normed (X m c) (W m c) (H m c) (G m c),
    (θ_run _ _ _).mono (fun r h c => ⟨(h c).1.trans (final4 m c), (h c).2.1.trans (final5 m c), (h c).2.2⟩)
      (Cert.Kernel15Ideal.Value.run_blocks (F := Ideal) m ρ), ?_⟩
  refine (θ_run _ _ _).mono (fun r h c => ⟨(h c).1.trans ?_, (h c).2.1.trans ?_, (h c).2.2⟩) (Cert.Reference15Ideal.Value.run (F := Ideal) m' ρ')
  all_goals
    obtain ⟨e0, e1, e2, e3⟩ := hs c
    simp only [e0, e1, e2, e3]
    funext i
    obtain ⟨a, l, rfl⟩ : ∃ a l, i = ix2 a l := ⟨_, _, eq_ix2 (n0 := 2048) (n1 := 1024) i⟩
    pointwise
    rfl

end Cert.Ff2
-- ==== Proof.Out.lean ====
module

public import proofs.«01_k».proof.Kernel16Ideal
public import proofs.«01_k».proof.Reference16Ideal
public import proofs.«01_k».proof.Proof.Gen.Kernel16Ideal.Value
public import proofs.«01_k».proof.Proof.Gen.Reference16Ideal.Run
public import proofs.«01_k».proof.Proof.Rms
public import Idealize.ShloMosaic.Lib.Pipeline.ValueKit
public import Idealize.ShloMosaic.Lib.Claim

/-!
# The output product, and the normalisation after it

The product is added to the rows that went round it, and the sum is normalised, a block of rows at a time.
-/

@[expose] public section

set_option maxRecDepth 16384

noncomputable section

namespace Cert.Out

open Cert.Kernel16Ideal Cert.Kernel16Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0]
    ∧ t.val < 4 :=
  (by decide +kernel : ∀ t : Fin grid0.N, _)

/-- The rows multiplied, the matrix, the rows that went round, and the gain. -/
def X : FVec Ideal S2048x1024 .f32 := m ((c : Thread nD τ).loc main_arg0)
def W : FVec Ideal S1024x1024 .f32 := m ((c : Thread nD τ).loc main_arg1)
def H : FVec Ideal S2048x1024 .f32 := m ((c : Thread nD τ).loc main_arg2)
def G : FVec Ideal S1x1024 .f32 := m ((c : Thread nD τ).loc main_arg3)

theorem blk0 (t : Fin cfg0.N) (a : Fin 512) (l : Fin 1024) (h : 512 * t.val + a < 2048) : iblk m c 0 t (ix2 a l) = X m c (ix2 ⟨512 * t.val + a, h⟩ l) := by
  blk_ext [iblk, idx t]

theorem blk1 (t : Fin cfg0.N) (a : Fin 1024) (l : Fin 1024) : iblk m c 1 t (ix2 a l) = W m c (ix2 a l) := by
  blk_ext [iblk, idx t]

theorem blk2 (t : Fin cfg0.N) (a : Fin 512) (l : Fin 1024) (h : 512 * t.val + a < 2048) : iblk m c 2 t (ix2 a l) = H m c (ix2 ⟨512 * t.val + a, h⟩ l) := by
  blk_ext [iblk, V_main_arg2, idx t]

theorem blk3 (t : Fin cfg0.N) (l : Fin 1024) : iblk m c 3 t (ix2 0 l) = G m c (ix2 0 l) := by
  blk_ext [iblk, V_main_arg3, idx t]

/-- The sum, at a row and column. -/
def mid (x : FVec Ideal S2048x1024 .f32) (w : FVec Ideal S1024x1024 .f32) (h : FVec Ideal S2048x1024 .f32) (a : Fin 2048) (l : Fin 1024) : EReal :=
  h (ix2 a l) + ∑ k : Fin 1024, x (ix2 a k) * w (ix2 k l)

/-- The sum, and the sum normalised, plainly. -/
def sums (x : FVec Ideal S2048x1024 .f32) (w : FVec Ideal S1024x1024 .f32) (h : FVec Ideal S2048x1024 .f32) : FVec Ideal S2048x1024 .f32 :=
  fun i => mid x w h (i 0) (i 1)

def normed (x : FVec Ideal S2048x1024 .f32) (w : FVec Ideal S1024x1024 .f32) (h : FVec Ideal S2048x1024 .f32) (g : FVec Ideal S1x1024 .f32) : FVec Ideal S2048x1024 .bf16 :=
  fun i => mid x w h (i 0) (i 1) * Rms.inv (mid x w h (i 0)) * g (ix2 0 (i 1))

theorem point4 (t : Fin cfg0.N) (a : Fin 512) (l : Fin 1024) (h : 512 * t.val + a < 2048) :
    k0_pay1 (F := Ideal) (iblk m c 0 t) (iblk m c 1 t) (iblk m c 2 t) (ix2 a l) = sums (X m c) (W m c) (H m c) (ix2 ⟨512 * t.val + a, h⟩ l) := by
  pointwise [k0_pay1]
  simp only [blk0 m c t _ _ h, blk1, blk2 m c t _ _ h]
  rfl

theorem point5 (t : Fin cfg0.N) (a : Fin 512) (l : Fin 1024) (h : 512 * t.val + a < 2048) :
    k0_pay2 (F := Ideal) (iblk m c 0 t) (iblk m c 1 t) (iblk m c 2 t) (iblk m c 3 t) (ix2 a l)
      = normed (X m c) (W m c) (H m c) (G m c) (ix2 ⟨512 * t.val + a, h⟩ l) := by
  pointwise [k0_pay2, k0_pay1]
  simp only [blk0 m c t _ _ h, blk1, blk2 m c t _ _ h, blk3]
  rfl

theorem final4 : (dats m 0 c).arrAt 4 cfg0.N = sums (X m c) (W m c) (H m c) := by
  refine (dats m 0 c).arrAt_eq_of_covers 4 _ (by decide +kernel) fun t _ y => ?_
  have ht := (idx t).2.2.2.2.2.2
  blk_simp
  rw [after0_4]
  frame_out
  obtain ⟨a, l, rfl⟩ : ∃ a l, y = ix2 a l := ⟨_, _, eq_ix2 (n0 := 512) (n1 := 1024) y⟩
  refine (point4 m c t a l (by omega)).trans (congrArg _ ?_)
  blk_ext [idx t]

theorem final5 : (dats m 0 c).arrAt 5 cfg0.N = normed (X m c) (W m c) (H m c) (G m c) := by
  refine (dats m 0 c).arrAt_eq_of_covers 5 _ (by decide +kernel) fun t _ y => ?_
  have ht := (idx t).2.2.2.2.2.2
  blk_simp
  rw [after0_5]
  frame_out
  obtain ⟨a, l, rfl⟩ : ∃ a l, y = ix2 a l := ⟨_, _, eq_ix2 (n0 := 512) (n1 := 1024) y⟩
  refine (point5 m c t a l (by omega)).trans (congrArg _ ?_)
  blk_ext [idx t]

end Cert.Out
-- ==== Proof.OutClaim.lean ====
module

public import proofs.«01_k».proof.Defs
public import proofs.«01_k».proof.Proof.Gen.Kernel16
public import proofs.«01_k».proof.Proof.Out

/-!
# The program that multiplies by the output matrix

The claims of it: a run leaves the arguments alone, and ends with the reference's values.
-/

@[expose] public section

set_option maxRecDepth 16384

noncomputable section

namespace Cert.Out

open Idealize.ShloMosaic Idealize.ShloMosaic.TcCoe
open Idealize.SL.Sem

/-- The two programs have the same body, -/
theorem body_eq {F : FTy → Type} [FloatOps F] :
    @Cert.Kernel16.cc0_out F _ Cert.Kernel16.Gen.facts = @Cert.Kernel16Ideal.cc0_out F _ Cert.Kernel16Ideal.Gen.facts := rfl

/-- the same table of bodies, -/
theorem bodies_eq {F : FTy → Type} [FloatOps F] : Cert.Kernel16.defs₀ (F := F) = Cert.Kernel16Ideal.defs₀ (F := F) := by
  unfold Cert.Kernel16.defs₀
  rw [body_eq]
  unfold Cert.Kernel16Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel16.defs (F := F) = Cert.Kernel16Ideal.defs (F := F) :=
  congrArg (Pipeline.defs Cert.Kernel16Ideal.pcfgs) bodies_eq

set_option maxHeartbeats 8000000 in
/-- and a run of the one is a run of the other. -/
theorem frame_kernel : Cert.quiescent_Kernel16 := fun m ρ _ => by
  have h := Cert.Kernel16Ideal.Gen.frame (F := Bits) m ρ
  rw [← defs_eq] at h
  exact h

theorem frame_kernelIdeal : Cert.quiescent_Kernel16Ideal := fun m ρ _ => Cert.Kernel16Ideal.Gen.frame (F := Ideal) m ρ

theorem frame_referenceIdeal : Cert.quiescent_Reference16Ideal := fun m ρ _ =>
  (θ_run (Cert.Reference16Ideal.defs (F := Ideal)) _ _).mono
    (fun r h => ⟨fun c => (h c).2.2, Idealize.ShloMosaic.sem_eq_zero_of_no_sems (by decide) r.2⟩)
    (Cert.Reference16Ideal.Value.run (F := Ideal) m ρ)

/-- Kernel and reference end with the same sum and normalised sum. -/
theorem same : Cert.algebraic_Kernel16Ideal_Reference16Ideal := fun m ρ m' ρ' _ hs => by
  refine ⟨fun c => sums (X m c) (W m c) (H m c), fun c => normed (X m c) (W m c) (H m c) (G m c),
    (θ_run _ _ _).mono (fun r h c => ⟨(h c).1.trans (final4 m c), (h c).2.1.trans (final5 m c), (h c).2.2⟩)
      (Cert.Kernel16Ideal.Value.run_blocks (F := Ideal) m ρ), ?_⟩
  refine (θ_run _ _ _).mono (fun r h c => ⟨(h c).1.trans ?_, (h c).2.1.trans ?_, (h c).2.2⟩) (Cert.Reference16Ideal.Value.run (F := Ideal) m' ρ')
  all_goals
    obtain ⟨e0, e1, e2, e3⟩ := hs c
    simp only [e0, e1, e2, e3]
    funext i
    obtain ⟨a, l, rfl⟩ : ∃ a l, i = ix2 a l := ⟨_, _, eq_ix2 (n0 := 2048) (n1 := 1024) i⟩
    pointwise
    rfl

end Cert.Out
-- ==== Proof.Proj.lean ====
module

public import proofs.«01_k».proof.Kernel17Ideal
public import proofs.«01_k».proof.Reference17Ideal
public import proofs.«01_k».proof.Proof.Gen.Kernel17Ideal.Value
public import proofs.«01_k».proof.Proof.Gen.Reference17Ideal.Run
public import Idealize.ShloMosaic.Lib.Pipeline.ValueKit
public import Idealize.ShloMosaic.Lib.Claim

/-!
# The input product

A block of columns of it is the product of the rows and a block of rows of the input matrix laid on its side, which the host turned.
-/

@[expose] public section

set_option maxRecDepth 16384

noncomputable section

namespace Cert.Proj

open Cert.Kernel17Ideal Cert.Kernel17Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val]
    ∧ t.val < 11 :=
  (by decide +kernel : ∀ t : Fin grid0.N, _)

/-- The rows and the input matrix. -/
def H : FVec Ideal S2048x1024 .f32 := m ((c : Thread nD τ).loc main_arg0)
def W : FVec Ideal S1024x2816 .f32 := m ((c : Thread nD τ).loc main_arg1)

theorem blk0 (t : Fin cfg0.N) (a : Fin 2048) (l : Fin 1024) : iblk m c 0 t (ix2 a l) = H m c (ix2 a l) := by
  blk_ext [iblk, idx t]

theorem blk1 (t : Fin cfg0.N) (a : Fin 256) (l : Fin 1024) (h : 256 * t.val + a < 2816) : iblk m c 1 t (ix2 a l) = W m c (ix2 l ⟨256 * t.val + a, h⟩) := by
  have e : iblk m c 1 t (ix2 a l) = V m c main_v2 (ix2 ⟨256 * t.val + a, h⟩ l) := by
    blk_ext [iblk, idx t]
  rw [e]
  entry_read
  pointwise [W]

/-- The product, plainly. -/
def spec (x : FVec Ideal S2048x1024 .f32) (w : FVec Ideal S1024x2816 .f32) : FVec Ideal S2048x2816 .f32 :=
  fun i => ∑ k : Fin 1024, x (ix2 (i 0) k) * w (ix2 k (i 1))

theorem point (t : Fin cfg0.N) (a : Fin 2048) (l : Fin 256) (h : 256 * t.val + l < 2816) :
    k0_pay1 (F := Ideal) (iblk m c 0 t) (iblk m c 1 t) (ix2 a l) = spec (H m c) (W m c) (ix2 a ⟨256 * t.val + l, h⟩) := by
  pointwise [k0_pay1]
  simp only [blk0, blk1 m c t _ _ h]
  rfl

theorem final : (dats m 0 c).arrAt 2 cfg0.N = spec (H m c) (W m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 2048) (n1 := 256) y⟩
  refine (point m c t a l (by omega)).trans (congrArg _ ?_)
  blk_ext [idx t]

end Cert.Proj
-- ==== Proof.ProjClaim.lean ====
module

public import proofs.«01_k».proof.Defs
public import proofs.«01_k».proof.Proof.Gen.Kernel17
public import proofs.«01_k».proof.Proof.Proj

/-!
# The program that multiplies by the input matrix

The claims of it: a run leaves the arguments alone, and ends with the reference's values.
-/

@[expose] public section

set_option maxRecDepth 16384

noncomputable section

namespace Cert.Proj

open Idealize.ShloMosaic Idealize.ShloMosaic.TcCoe
open Idealize.SL.Sem

/-- The two programs have the same body, -/
theorem body_eq {F : FTy → Type} [FloatOps F] :
    @Cert.Kernel17.cc0_proj F _ Cert.Kernel17.Gen.facts = @Cert.Kernel17Ideal.cc0_proj F _ Cert.Kernel17Ideal.Gen.facts := rfl

/-- the same table of bodies, -/
theorem bodies_eq {F : FTy → Type} [FloatOps F] : Cert.Kernel17.defs₀ (F := F) = Cert.Kernel17Ideal.defs₀ (F := F) := by
  unfold Cert.Kernel17.defs₀
  rw [body_eq]
  unfold Cert.Kernel17Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel17.defs (F := F) = Cert.Kernel17Ideal.defs (F := F) :=
  congrArg (Pipeline.defs Cert.Kernel17Ideal.pcfgs) bodies_eq

set_option maxHeartbeats 8000000 in
/-- and a run of the one is a run of the other. -/
theorem frame_kernel : Cert.quiescent_Kernel17 := fun m ρ _ => by
  have h := Cert.Kernel17Ideal.Gen.frame (F := Bits) m ρ
  rw [← defs_eq] at h
  exact h

theorem frame_kernelIdeal : Cert.quiescent_Kernel17Ideal := fun m ρ _ => Cert.Kernel17Ideal.Gen.frame (F := Ideal) m ρ

theorem frame_referenceIdeal : Cert.quiescent_Reference17Ideal := fun m ρ _ =>
  (θ_run (Cert.Reference17Ideal.defs (F := Ideal)) _ _).mono
    (fun r h => ⟨fun c => (h c).2, Idealize.ShloMosaic.sem_eq_zero_of_no_sems (by decide) r.2⟩)
    (Cert.Reference17Ideal.Value.run (F := Ideal) m ρ)

/-- Kernel and reference end with the same product. -/
theorem same : Cert.algebraic_Kernel17Ideal_Reference17Ideal := fun m ρ m' ρ' _ hs => by
  refine ⟨fun c => spec (H m c) (W m c), (θ_run _ _ _).mono (fun r h c => ⟨(h c).1.trans (final m c), (h c).2⟩)
    (Cert.Kernel17Ideal.Value.run_blocks (F := Ideal) m ρ), ?_⟩
  refine (θ_run _ _ _).mono (fun r h c => ⟨(h c).1.trans ?_, (h c).2⟩) (Cert.Reference17Ideal.Value.run (F := Ideal) m' ρ')
  obtain ⟨e0, e1⟩ := hs c
  simp only [e0, e1]
  funext i
  obtain ⟨a, l, rfl⟩ : ∃ a l, i = ix2 a l := ⟨_, _, eq_ix2 (n0 := 2048) (n1 := 2816) i⟩
  pointwise
  rfl

end Cert.Proj
-- ==== Proof.Pleproj.lean ====
module

public import proofs.«01_k».proof.Kernel18Ideal
public import proofs.«01_k».proof.Reference18Ideal
public import proofs.«01_k».proof.Proof.Gen.Kernel18Ideal.Value
public import proofs.«01_k».proof.Proof.Gen.Reference18Ideal.Run
public import Idealize.ShloMosaic.Lib.Pipeline.ValueKit
public import Idealize.ShloMosaic.Lib.Claim

/-!
# The product of the embeddings

A block of columns of it is the product of the embeddings and a block of columns of their matrix.
-/

@[expose] public section

set_option maxRecDepth 16384

noncomputable section

namespace Cert.Pleproj

open Cert.Kernel18Ideal Cert.Kernel18Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val]
    ∧ t.val < 2 :=
  (by decide +kernel : ∀ t : Fin grid0.N, _)

/-- The embeddings and their matrix. -/
def H : FVec Ideal S2048x256 .f32 := m ((c : Thread nD τ).loc main_arg0)
def W : FVec Ideal S256x1024 .f32 := m ((c : Thread nD τ).loc main_arg1)

theorem blk0 (t : Fin cfg0.N) (a : Fin 2048) (l : Fin 256) : iblk m c 0 t (ix2 a l) = H m c (ix2 a l) := by
  blk_ext [iblk, idx t]

theorem blk1 (t : Fin cfg0.N) (a : Fin 256) (l : Fin 512) (h : 512 * t.val + l < 1024) : iblk m c 1 t (ix2 a l) = W m c (ix2 a ⟨512 * t.val + l, h⟩) := by
  blk_ext [iblk, idx t]

/-- The product, plainly. -/
def spec (x : FVec Ideal S2048x256 .f32) (w : FVec Ideal S256x1024 .f32) : FVec Ideal S2048x1024 .f32 :=
  fun i => ∑ k : Fin 256, x (ix2 (i 0) k) * w (ix2 k (i 1))

theorem point (t : Fin cfg0.N) (a : Fin 2048) (l : Fin 512) (h : 512 * t.val + l < 1024) :
    k0_pay1 (F := Ideal) (iblk m c 0 t) (iblk m c 1 t) (ix2 a l) = spec (H m c) (W m c) (ix2 a ⟨512 * t.val + l, h⟩) := by
  pointwise [k0_pay1]
  simp only [blk0, blk1 m c t _ _ h]
  rfl

theorem final : (dats m 0 c).arrAt 2 cfg0.N = spec (H m c) (W m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 2048) (n1 := 512) y⟩
  refine (point m c t a l (by omega)).trans (congrArg _ ?_)
  blk_ext [idx t]

end Cert.Pleproj
-- ==== Proof.PleprojClaim.lean ====
module

public import proofs.«01_k».proof.Defs
public import proofs.«01_k».proof.Proof.Gen.Kernel18
public import proofs.«01_k».proof.Proof.Pleproj

/-!
# The program that multiplies the embeddings by their matrix

The claims of it: a run leaves the arguments alone, and ends with the reference's values.
-/

@[expose] public section

set_option maxRecDepth 16384

noncomputable section

namespace Cert.Pleproj

open Idealize.ShloMosaic Idealize.ShloMosaic.TcCoe
open Idealize.SL.Sem

/-- The two programs have the same body, -/
theorem body_eq {F : FTy → Type} [FloatOps F] :
    @Cert.Kernel18.cc0_pleproj F _ Cert.Kernel18.Gen.facts = @Cert.Kernel18Ideal.cc0_pleproj F _ Cert.Kernel18Ideal.Gen.facts := rfl

/-- the same table of bodies, -/
theorem bodies_eq {F : FTy → Type} [FloatOps F] : Cert.Kernel18.defs₀ (F := F) = Cert.Kernel18Ideal.defs₀ (F := F) := by
  unfold Cert.Kernel18.defs₀
  rw [body_eq]
  unfold Cert.Kernel18Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel18.defs (F := F) = Cert.Kernel18Ideal.defs (F := F) :=
  congrArg (Pipeline.defs Cert.Kernel18Ideal.pcfgs) bodies_eq

set_option maxHeartbeats 8000000 in
/-- and a run of the one is a run of the other. -/
theorem frame_kernel : Cert.quiescent_Kernel18 := fun m ρ _ => by
  have h := Cert.Kernel18Ideal.Gen.frame (F := Bits) m ρ
  rw [← defs_eq] at h
  exact h

theorem frame_kernelIdeal : Cert.quiescent_Kernel18Ideal := fun m ρ _ => Cert.Kernel18Ideal.Gen.frame (F := Ideal) m ρ

theorem frame_referenceIdeal : Cert.quiescent_Reference18Ideal := fun m ρ _ =>
  (θ_run (Cert.Reference18Ideal.defs (F := Ideal)) _ _).mono
    (fun r h => ⟨fun c => (h c).2, Idealize.ShloMosaic.sem_eq_zero_of_no_sems (by decide) r.2⟩)
    (Cert.Reference18Ideal.Value.run (F := Ideal) m ρ)

/-- Kernel and reference end with the same product. -/
theorem same : Cert.algebraic_Kernel18Ideal_Reference18Ideal := fun m ρ m' ρ' _ hs => by
  refine ⟨fun c => spec (H m c) (W m c), (θ_run _ _ _).mono (fun r h c => ⟨(h c).1.trans (final m c), (h c).2⟩)
    (Cert.Kernel18Ideal.Value.run_blocks (F := Ideal) m ρ), ?_⟩
  refine (θ_run _ _ _).mono (fun r h c => ⟨(h c).1.trans ?_, (h c).2⟩) (Cert.Reference18Ideal.Value.run (F := Ideal) m' ρ')
  obtain ⟨e0, e1⟩ := hs c
  simp only [e0, e1]
  funext i
  obtain ⟨a, l, rfl⟩ : ∃ a l, i = ix2 a l := ⟨_, _, eq_ix2 (n0 := 2048) (n1 := 1024) i⟩
  pointwise
  rfl

end Cert.Pleproj
-- ==== Proof.Plegate.lean ====
module

public import proofs.«01_k».proof.Kernel19Ideal
public import proofs.«01_k».proof.Reference19Ideal
public import proofs.«01_k».proof.Proof.Gen.Kernel19Ideal.Value
public import proofs.«01_k».proof.Proof.Gen.Reference19Ideal.Run
public import proofs.«01_k».proof.Proof.Rms
public import Idealize.ShloMosaic.Lib.Pipeline.ValueKit
public import Idealize.ShloMosaic.Lib.Claim

/-!
# The gated embeddings, and the normalisation after them

The sigmoid of the rows' product gates the embeddings; the gated embeddings are added to the rows that went round, and the sum
is normalised, a block of rows at a time.
-/

@[expose] public section

set_option maxRecDepth 16384

noncomputable section

namespace Cert.Plegate

open Cert.Kernel19Ideal Cert.Kernel19Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0]
    ∧ t.val < 4 :=
  (by decide +kernel : ∀ t : Fin grid0.N, _)

/-- The rows multiplied, the gate's matrix, the embeddings, the rows that went round, and the gain. -/
def X : FVec Ideal S2048x1024 .f32 := m ((c : Thread nD τ).loc main_arg0)
def W : FVec Ideal S1024x1024 .f32 := m ((c : Thread nD τ).loc main_arg1)
def E : FVec Ideal S2048x1024 .f32 := m ((c : Thread nD τ).loc main_arg2)
def H : FVec Ideal S2048x1024 .f32 := m ((c : Thread nD τ).loc main_arg3)
def G : FVec Ideal S1x1024 .f32 := m ((c : Thread nD τ).loc main_arg4)

theorem blk0 (t : Fin cfg0.N) (a : Fin 512) (l : Fin 1024) (h : 512 * t.val + a < 2048) : iblk m c 0 t (ix2 a l) = X m c (ix2 ⟨512 * t.val + a, h⟩ l) := by
  blk_ext [iblk, idx t]

theorem blk1 (t : Fin cfg0.N) (a : Fin 1024) (l : Fin 1024) : iblk m c 1 t (ix2 a l) = W m c (ix2 a l) := by
  blk_ext [iblk, idx t]

theorem blk2 (t : Fin cfg0.N) (a : Fin 512) (l : Fin 1024) (h : 512 * t.val + a < 2048) : iblk m c 2 t (ix2 a l) = E m c (ix2 ⟨512 * t.val + a, h⟩ l) := by
  blk_ext [iblk, V_main_arg2, idx t]

theorem blk3 (t : Fin cfg0.N) (a : Fin 512) (l : Fin 1024) (h : 512 * t.val + a < 2048) : iblk m c 3 t (ix2 a l) = H m c (ix2 ⟨512 * t.val + a, h⟩ l) := by
  blk_ext [iblk, V_main_arg3, idx t]

theorem blk4 (t : Fin cfg0.N) (l : Fin 1024) : iblk m c 4 t (ix2 0 l) = G m c (ix2 0 l) := by
  blk_ext [iblk, V_main_arg4, idx t]

/-- The gate, and the sum, at a row and column. -/
def gate (x : FVec Ideal S2048x1024 .f32) (w : FVec Ideal S1024x1024 .f32) (a : Fin 2048) (l : Fin 1024) : EReal :=
  Ideal.div 1 (1 + Ideal.exp (-(∑ k : Fin 1024, x (ix2 a k) * w (ix2 k l))))

def mid (x : FVec Ideal S2048x1024 .f32) (w : FVec Ideal S1024x1024 .f32) (e h : FVec Ideal S2048x1024 .f32) (a : Fin 2048) (l : Fin 1024) : EReal :=
  h (ix2 a l) + gate x w a l * e (ix2 a l)

/-- The sum, the gate, and the sum normalised, plainly. -/
def sums (x : FVec Ideal S2048x1024 .f32) (w : FVec Ideal S1024x1024 .f32) (e h : FVec Ideal S2048x1024 .f32) : FVec Ideal S2048x1024 .f32 :=
  fun i => mid x w e h (i 0) (i 1)

def gates (x : FVec Ideal S2048x1024 .f32) (w : FVec Ideal S1024x1024 .f32) : FVec Ideal S2048x1024 .f32 := fun i => gate x w (i 0) (i 1)

def normed (x : FVec Ideal S2048x1024 .f32) (w : FVec Ideal S1024x1024 .f32) (e h : FVec Ideal S2048x1024 .f32) (g : FVec Ideal S1x1024 .f32) : FVec Ideal S2048x1024 .bf16 :=
  fun i => mid x w e h (i 0) (i 1) * Rms.inv (mid x w e h (i 0)) * g (ix2 0 (i 1))

theorem point6 (t : Fin cfg0.N) (a : Fin 512) (l : Fin 1024) (h : 512 * t.val + a < 2048) :
    k0_pay1 (F := Ideal) (iblk m c 0 t) (iblk m c 1 t) (ix2 a l) = gates (X m c) (W m c) (ix2 ⟨512 * t.val + a, h⟩ l) := by
  pointwise [k0_pay1]
  simp only [blk0 m c t _ _ h, blk1]
  rfl

theorem point5 (t : Fin cfg0.N) (a : Fin 512) (l : Fin 1024) (h : 512 * t.val + a < 2048) :
    k0_pay2 (F := Ideal) (iblk m c 0 t) (iblk m c 1 t) (iblk m c 2 t) (iblk m c 3 t) (ix2 a l) = sums (X m c) (W m c) (E m c) (H m c) (ix2 ⟨512 * t.val + a, h⟩ l) := by
  pointwise [k0_pay2, k0_pay1]
  simp only [blk0 m c t _ _ h, blk1, blk2 m c t _ _ h, blk3 m c t _ _ h]
  rfl

theorem point7 (t : Fin cfg0.N) (a : Fin 512) (l : Fin 1024) (h : 512 * t.val + a < 2048) :
    k0_pay3 (F := Ideal) (iblk m c 0 t) (iblk m c 1 t) (iblk m c 2 t) (iblk m c 3 t) (iblk m c 4 t) (ix2 a l)
      = normed (X m c) (W m c) (E m c) (H m c) (G m c) (ix2 ⟨512 * t.val + a, h⟩ l) := by
  pointwise [k0_pay3, k0_pay2, k0_pay1]
  simp only [blk0 m c t _ _ h, blk1, blk2 m c t _ _ h, blk3 m c t _ _ h, blk4]
  rfl

theorem final5 : (dats m 0 c).arrAt 5 cfg0.N = sums (X m c) (W m c) (E m c) (H m c) := by
  refine (dats m 0 c).arrAt_eq_of_covers 5 _ (by decide +kernel) fun t _ y => ?_
  have ht := (idx t).2.2.2.2.2.2.2.2
  blk_simp
  rw [after0_5]
  frame_out
  obtain ⟨a, l, rfl⟩ : ∃ a l, y = ix2 a l := ⟨_, _, eq_ix2 (n0 := 512) (n1 := 1024) y⟩
  refine (point5 m c t a l (by omega)).trans (congrArg _ ?_)
  blk_ext [idx t]

theorem final6 : (dats m 0 c).arrAt 6 cfg0.N = gates (X m c) (W m c) := by
  refine (dats m 0 c).arrAt_eq_of_covers 6 _ (by decide +kernel) fun t _ y => ?_
  have ht := (idx t).2.2.2.2.2.2.2.2
  blk_simp
  rw [after0_6]
  frame_out
  obtain ⟨a, l, rfl⟩ : ∃ a l, y = ix2 a l := ⟨_, _, eq_ix2 (n0 := 512) (n1 := 1024) y⟩
  refine (point6 m c t a l (by omega)).trans (congrArg _ ?_)
  blk_ext [idx t]

theorem final7 : (dats m 0 c).arrAt 7 cfg0.N = normed (X m c) (W m c) (E m c) (H m c) (G m c) := by
  refine (dats m 0 c).arrAt_eq_of_covers 7 _ (by decide +kernel) fun t _ y => ?_
  have ht := (idx t).2.2.2.2.2.2.2.2
  blk_simp
  rw [after0_7]
  frame_out
  obtain ⟨a, l, rfl⟩ : ∃ a l, y = ix2 a l := ⟨_, _, eq_ix2 (n0 := 512) (n1 := 1024) y⟩
  refine (point7 m c t a l (by omega)).trans (congrArg _ ?_)
  blk_ext [idx t]

end Cert.Plegate
-- ==== Proof.PlegateClaim.lean ====
module

public import proofs.«01_k».proof.Defs
public import proofs.«01_k».proof.Proof.Gen.Kernel19
public import proofs.«01_k».proof.Proof.Plegate

/-!
# The program that gates the embeddings

The claims of it: a run leaves the arguments alone, and ends with the reference's values.
-/

@[expose] public section

set_option maxRecDepth 16384

noncomputable section

namespace Cert.Plegate

open Idealize.ShloMosaic Idealize.ShloMosaic.TcCoe
open Idealize.SL.Sem

/-- The two programs have the same body, -/
theorem body_eq {F : FTy → Type} [FloatOps F] :
    @Cert.Kernel19.cc0_plegate F _ Cert.Kernel19.Gen.facts = @Cert.Kernel19Ideal.cc0_plegate F _ Cert.Kernel19Ideal.Gen.facts := rfl

/-- the same table of bodies, -/
theorem bodies_eq {F : FTy → Type} [FloatOps F] : Cert.Kernel19.defs₀ (F := F) = Cert.Kernel19Ideal.defs₀ (F := F) := by
  unfold Cert.Kernel19.defs₀
  rw [body_eq]
  unfold Cert.Kernel19Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel19.defs (F := F) = Cert.Kernel19Ideal.defs (F := F) :=
  congrArg (Pipeline.defs Cert.Kernel19Ideal.pcfgs) bodies_eq

set_option maxHeartbeats 8000000 in
/-- and a run of the one is a run of the other. -/
theorem frame_kernel : Cert.quiescent_Kernel19 := fun m ρ _ => by
  have h := Cert.Kernel19Ideal.Gen.frame (F := Bits) m ρ
  rw [← defs_eq] at h
  exact h

theorem frame_kernelIdeal : Cert.quiescent_Kernel19Ideal := fun m ρ _ => Cert.Kernel19Ideal.Gen.frame (F := Ideal) m ρ

theorem frame_referenceIdeal : Cert.quiescent_Reference19Ideal := fun m ρ _ =>
  (θ_run (Cert.Reference19Ideal.defs (F := Ideal)) _ _).mono
    (fun r h => ⟨fun c => (h c).2.2.2, Idealize.ShloMosaic.sem_eq_zero_of_no_sems (by decide) r.2⟩)
    (Cert.Reference19Ideal.Value.run (F := Ideal) m ρ)

/-- Kernel and reference end with the same sum, gate and normalised sum. -/
theorem same : Cert.algebraic_Kernel19Ideal_Reference19Ideal := fun m ρ m' ρ' _ hs => by
  refine ⟨fun c => sums (X m c) (W m c) (E m c) (H m c), fun c => gates (X m c) (W m c), fun c => normed (X m c) (W m c) (E m c) (H m c) (G m c),
    (θ_run _ _ _).mono (fun r h c => ⟨(h c).1.trans (final5 m c), (h c).2.1.trans (final6 m c), (h c).2.2.1.trans (final7 m c), (h c).2.2.2⟩)
      (Cert.Kernel19Ideal.Value.run_blocks (F := Ideal) m ρ), ?_⟩
  refine (θ_run _ _ _).mono (fun r h c => ⟨(h c).1.trans ?_, (h c).2.1.trans ?_, (h c).2.2.1.trans ?_, (h c).2.2.2⟩) (Cert.Reference19Ideal.Value.run (F := Ideal) m' ρ')
  all_goals
    obtain ⟨e0, e1, e2, e3, e4⟩ := hs c
    simp only [e0, e1, e2, e3, e4]
    funext i
    obtain ⟨a, l, rfl⟩ : ∃ a l, i = ix2 a l := ⟨_, _, eq_ix2 (n0 := 2048) (n1 := 1024) i⟩
    pointwise
    rfl

end Cert.Plegate
-- ==== Proof.Plelast.lean ====
module

public import proofs.«01_k».proof.Kernel20Ideal
public import proofs.«01_k».proof.Reference20Ideal
public import proofs.«01_k».proof.Proof.Gen.Kernel20Ideal.Value
public import proofs.«01_k».proof.Proof.Gen.Reference20Ideal.Run
public import Idealize.ShloMosaic.Lib.Pipeline.ValueKit
public import Idealize.ShloMosaic.Lib.Claim

/-!
# The gated embeddings of the last layer

The sigmoid of the rows' product gates the embeddings, and the gated embeddings are added to the rows that went round, a block
of rows at a time. No normalisation follows.
-/

@[expose] public section

set_option maxRecDepth 16384

noncomputable section

namespace Cert.Plelast

open Cert.Kernel20Ideal Cert.Kernel20Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0]
    ∧ t.val < 4 :=
  (by decide +kernel : ∀ t : Fin grid0.N, _)

/-- The rows multiplied, the gate's matrix, the embeddings and the rows that went round. -/
def X : FVec Ideal S2048x1024 .f32 := m ((c : Thread nD τ).loc main_arg0)
def W : FVec Ideal S1024x1024 .f32 := m ((c : Thread nD τ).loc main_arg1)
def E : FVec Ideal S2048x1024 .f32 := m ((c : Thread nD τ).loc main_arg2)
def H : FVec Ideal S2048x1024 .f32 := m ((c : Thread nD τ).loc main_arg3)

theorem blk0 (t : Fin cfg0.N) (a : Fin 512) (l : Fin 1024) (h : 512 * t.val + a < 2048) : iblk m c 0 t (ix2 a l) = X m c (ix2 ⟨512 * t.val + a, h⟩ l) := by
  blk_ext [iblk, idx t]

theorem blk1 (t : Fin cfg0.N) (a : Fin 1024) (l : Fin 1024) : iblk m c 1 t (ix2 a l) = W m c (ix2 a l) := by
  blk_ext [iblk, idx t]

theorem blk2 (t : Fin cfg0.N) (a : Fin 512) (l : Fin 1024) (h : 512 * t.val + a < 2048) : iblk m c 2 t (ix2 a l) = E m c (ix2 ⟨512 * t.val + a, h⟩ l) := by
  blk_ext [iblk, V_main_arg2, idx t]

theorem blk3 (t : Fin cfg0.N) (a : Fin 512) (l : Fin 1024) (h : 512 * t.val + a < 2048) : iblk m c 3 t (ix2 a l) = H m c (ix2 ⟨512 * t.val + a, h⟩ l) := by
  blk_ext [iblk, V_main_arg3, idx t]

/-- The gate, at a row and column. -/
def gate (x : FVec Ideal S2048x1024 .f32) (w : FVec Ideal S1024x1024 .f32) (a : Fin 2048) (l : Fin 1024) : EReal :=
  Ideal.div 1 (1 + Ideal.exp (-(∑ k : Fin 1024, x (ix2 a k) * w (ix2 k l))))

/-- The sum and the gate, plainly. -/
def sums (x : FVec Ideal S2048x1024 .f32) (w : FVec Ideal S1024x1024 .f32) (e h : FVec Ideal S2048x1024 .f32) : FVec Ideal S2048x1024 .f32 :=
  fun i => h (ix2 (i 0) (i 1)) + gate x w (i 0) (i 1) * e (ix2 (i 0) (i 1))

def gates (x : FVec Ideal S2048x1024 .f32) (w : FVec Ideal S1024x1024 .f32) : FVec Ideal S2048x1024 .f32 := fun i => gate x w (i 0) (i 1)

theorem point5 (t : Fin cfg0.N) (a : Fin 512) (l : Fin 1024) (h : 512 * t.val + a < 2048) :
    k0_pay1 (F := Ideal) (iblk m c 0 t) (iblk m c 1 t) (ix2 a l) = gates (X m c) (W m c) (ix2 ⟨512 * t.val + a, h⟩ l) := by
  pointwise [k0_pay1]
  simp only [blk0 m c t _ _ h, blk1]
  rfl

theorem point4 (t : Fin cfg0.N) (a : Fin 512) (l : Fin 1024) (h : 512 * t.val + a < 2048) :
    k0_pay2 (F := Ideal) (iblk m c 0 t) (iblk m c 1 t) (iblk m c 2 t) (iblk m c 3 t) (ix2 a l) = sums (X m c) (W m c) (E m c) (H m c) (ix2 ⟨512 * t.val + a, h⟩ l) := by
  pointwise [k0_pay2, k0_pay1]
  simp only [blk0 m c t _ _ h, blk1, blk2 m c t _ _ h, blk3 m c t _ _ h]
  rfl

theorem final4 : (dats m 0 c).arrAt 4 cfg0.N = sums (X m c) (W m c) (E m c) (H m c) := by
  refine (dats m 0 c).arrAt_eq_of_covers 4 _ (by decide +kernel) fun t _ y => ?_
  have ht := (idx t).2.2.2.2.2.2
  blk_simp
  rw [after0_4]
  frame_out
  obtain ⟨a, l, rfl⟩ : ∃ a l, y = ix2 a l := ⟨_, _, eq_ix2 (n0 := 512) (n1 := 1024) y⟩
  refine (point4 m c t a l (by omega)).trans (congrArg _ ?_)
  blk_ext [idx t]

theorem final5 : (dats m 0 c).arrAt 5 cfg0.N = gates (X m c) (W m c) := by
  refine (dats m 0 c).arrAt_eq_of_covers 5 _ (by decide +kernel) fun t _ y => ?_
  have ht := (idx t).2.2.2.2.2.2
  blk_simp
  rw [after0_5]
  frame_out
  obtain ⟨a, l, rfl⟩ : ∃ a l, y = ix2 a l := ⟨_, _, eq_ix2 (n0 := 512) (n1 := 1024) y⟩
  refine (point5 m c t a l (by omega)).trans (congrArg _ ?_)
  blk_ext [idx t]

end Cert.Plelast
-- ==== Proof.PlelastClaim.lean ====
module

public import proofs.«01_k».proof.Defs
public import proofs.«01_k».proof.Proof.Gen.Kernel20
public import proofs.«01_k».proof.Proof.Plelast

/-!
# The program that gates the last layer's embeddings

The claims of it: a run leaves the arguments alone, and ends with the reference's values.
-/

@[expose] public section

set_option maxRecDepth 16384

noncomputable section

namespace Cert.Plelast

open Idealize.ShloMosaic Idealize.ShloMosaic.TcCoe
open Idealize.SL.Sem

/-- The two programs have the same body, -/
theorem body_eq {F : FTy → Type} [FloatOps F] :
    @Cert.Kernel20.cc0_plegate F _ Cert.Kernel20.Gen.facts = @Cert.Kernel20Ideal.cc0_plegate F _ Cert.Kernel20Ideal.Gen.facts := rfl

/-- the same table of bodies, -/
theorem bodies_eq {F : FTy → Type} [FloatOps F] : Cert.Kernel20.defs₀ (F := F) = Cert.Kernel20Ideal.defs₀ (F := F) := by
  unfold Cert.Kernel20.defs₀
  rw [body_eq]
  unfold Cert.Kernel20Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel20.defs (F := F) = Cert.Kernel20Ideal.defs (F := F) :=
  congrArg (Pipeline.defs Cert.Kernel20Ideal.pcfgs) bodies_eq

set_option maxHeartbeats 8000000 in
/-- and a run of the one is a run of the other. -/
theorem frame_kernel : Cert.quiescent_Kernel20 := fun m ρ _ => by
  have h := Cert.Kernel20Ideal.Gen.frame (F := Bits) m ρ
  rw [← defs_eq] at h
  exact h

theorem frame_kernelIdeal : Cert.quiescent_Kernel20Ideal := fun m ρ _ => Cert.Kernel20Ideal.Gen.frame (F := Ideal) m ρ

theorem frame_referenceIdeal : Cert.quiescent_Reference20Ideal := fun m ρ _ =>
  (θ_run (Cert.Reference20Ideal.defs (F := Ideal)) _ _).mono
    (fun r h => ⟨fun c => (h c).2.2, Idealize.ShloMosaic.sem_eq_zero_of_no_sems (by decide) r.2⟩)
    (Cert.Reference20Ideal.Value.run (F := Ideal) m ρ)

/-- Kernel and reference end with the same sum and gate. -/
theorem same : Cert.algebraic_Kernel20Ideal_Reference20Ideal := fun m ρ m' ρ' _ hs => by
  refine ⟨fun c => sums (X m c) (W m c) (E m c) (H m c), fun c => gates (X m c) (W m c),
    (θ_run _ _ _).mono (fun r h c => ⟨(h c).1.trans (final4 m c), (h c).2.1.trans (final5 m c), (h c).2.2⟩)
      (Cert.Kernel20Ideal.Value.run_blocks (F := Ideal) m ρ), ?_⟩
  refine (θ_run _ _ _).mono (fun r h c => ⟨(h c).1.trans ?_, (h c).2.1.trans ?_, (h c).2.2⟩) (Cert.Reference20Ideal.Value.run (F := Ideal) m' ρ')
  all_goals
    obtain ⟨e0, e1, e2, e3⟩ := hs c
    simp only [e0, e1, e2, e3]
    funext i
    obtain ⟨a, l, rfl⟩ : ∃ a l, i = ix2 a l := ⟨_, _, eq_ix2 (n0 := 2048) (n1 := 1024) i⟩
    pointwise
    rfl

end Cert.Plelast
-- ==== Proof.Rms1.lean ====
module

public import proofs.«01_k».proof.Kernel21Ideal
public import proofs.«01_k».proof.Reference21Ideal
public import proofs.«01_k».proof.Proof.Gen.Kernel21Ideal.Value
public import proofs.«01_k».proof.Proof.Gen.Reference21Ideal.Run
public import proofs.«01_k».proof.Proof.Rms
public import Idealize.ShloMosaic.Lib.Pipeline.ValueKit
public import Idealize.ShloMosaic.Lib.Claim

/-!
# The first normalisation

A row over the root of its mean square, times the gain, a block of rows at a time.
-/

@[expose] public section

set_option maxRecDepth 16384

noncomputable section

namespace Cert.Rms1

open Cert.Kernel21Ideal Cert.Kernel21Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ t.val < 4 :=
  (by decide +kernel : ∀ t : Fin grid0.N, _)

/-- The rows and the gain. -/
def H : FVec Ideal S2048x1024 .f32 := m ((c : Thread nD τ).loc main_arg0)
def G : FVec Ideal S1x1024 .f32 := m ((c : Thread nD τ).loc main_arg1)

theorem blk0 (t : Fin cfg0.N) (a : Fin 512) (l : Fin 1024) (h : 512 * t.val + a < 2048) : iblk m c 0 t (ix2 a l) = H m c (ix2 ⟨512 * t.val + a, h⟩ l) := by
  blk_ext [iblk, V_main_arg0, idx t]

theorem blk1 (t : Fin cfg0.N) (l : Fin 1024) : iblk m c 1 t (ix2 0 l) = G m c (ix2 0 l) := by
  blk_ext [iblk, V_main_arg1, idx t]

/-- The normalised rows, plainly. -/
def normed (h : FVec Ideal S2048x1024 .f32) (g : FVec Ideal S1x1024 .f32) : FVec Ideal S2048x1024 .bf16 :=
  fun i => h (ix2 (i 0) (i 1)) * (Rms.inv fun l : Fin 1024 => h (ix2 (i 0) l)) * g (ix2 0 (i 1))

theorem point2 (t : Fin cfg0.N) (a : Fin 512) (l : Fin 1024) (h : 512 * t.val + a < 2048) :
    k0_pay1 (F := Ideal) (iblk m c 0 t) (iblk m c 1 t) (ix2 a l) = normed (H m c) (G m c) (ix2 ⟨512 * t.val + a, h⟩ l) := by
  pointwise [k0_pay1]
  simp only [blk0 m c t _ _ h, blk1]
  rfl

theorem final2 : (dats m 0 c).arrAt 2 cfg0.N = normed (H m c) (G m c) := by
  refine (dats m 0 c).arrAt_eq_of_covers 2 _ (by decide +kernel) fun t _ y => ?_
  have ht := (idx t).2.2.2
  blk_simp
  rw [after0_2]
  frame_out
  obtain ⟨a, l, rfl⟩ : ∃ a l, y = ix2 a l := ⟨_, _, eq_ix2 (n0 := 512) (n1 := 1024) y⟩
  refine (point2 m c t a l (by omega)).trans (congrArg _ ?_)
  blk_ext [idx t]

end Cert.Rms1
-- ==== Proof.Rms1Claim.lean ====
module

public import proofs.«01_k».proof.Defs
public import proofs.«01_k».proof.Proof.Gen.Kernel21
public import proofs.«01_k».proof.Proof.Rms1

/-!
# The program that normalises the first rows

The claims of it: a run leaves the arguments alone, and ends with the reference's values.
-/

@[expose] public section

set_option maxRecDepth 16384

noncomputable section

namespace Cert.Rms1

open Idealize.ShloMosaic Idealize.ShloMosaic.TcCoe
open Idealize.SL.Sem

/-- The two programs have the same body, -/
theorem body_eq {F : FTy → Type} [FloatOps F] :
    @Cert.Kernel21.cc0_rms1 F _ Cert.Kernel21.Gen.facts = @Cert.Kernel21Ideal.cc0_rms1 F _ Cert.Kernel21Ideal.Gen.facts := rfl

/-- the same table of bodies, -/
theorem bodies_eq {F : FTy → Type} [FloatOps F] : Cert.Kernel21.defs₀ (F := F) = Cert.Kernel21Ideal.defs₀ (F := F) := by
  unfold Cert.Kernel21.defs₀
  rw [body_eq]
  unfold Cert.Kernel21Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel21.defs (F := F) = Cert.Kernel21Ideal.defs (F := F) :=
  congrArg (Pipeline.defs Cert.Kernel21Ideal.pcfgs) bodies_eq

set_option maxHeartbeats 8000000 in
/-- and a run of the one is a run of the other. -/
theorem frame_kernel : Cert.quiescent_Kernel21 := fun m ρ _ => by
  have h := Cert.Kernel21Ideal.Gen.frame (F := Bits) m ρ
  rw [← defs_eq] at h
  exact h

theorem frame_kernelIdeal : Cert.quiescent_Kernel21Ideal := fun m ρ _ => Cert.Kernel21Ideal.Gen.frame (F := Ideal) m ρ

theorem frame_referenceIdeal : Cert.quiescent_Reference21Ideal := fun m ρ _ =>
  (θ_run (Cert.Reference21Ideal.defs (F := Ideal)) _ _).mono
    (fun r h => ⟨fun c => (h c).2, Idealize.ShloMosaic.sem_eq_zero_of_no_sems (by decide) r.2⟩)
    (Cert.Reference21Ideal.Value.run (F := Ideal) m ρ)

/-- Kernel and reference end with the same normalised rows. -/
theorem same : Cert.algebraic_Kernel21Ideal_Reference21Ideal := fun m ρ m' ρ' _ hs => by
  refine ⟨fun c => normed (H m c) (G m c),
    (θ_run _ _ _).mono (fun r h c => ⟨(h c).1.trans (final2 m c), (h c).2⟩)
      (Cert.Kernel21Ideal.Value.run_blocks (F := Ideal) m ρ), ?_⟩
  refine (θ_run _ _ _).mono (fun r h c => ⟨(h c).1.trans ?_, (h c).2⟩) (Cert.Reference21Ideal.Value.run (F := Ideal) m' ρ')
  all_goals
    obtain ⟨e0, e1⟩ := hs c
    simp only [e0, e1]
    funext i
    obtain ⟨a, l, rfl⟩ : ∃ a l, i = ix2 a l := ⟨_, _, eq_ix2 (n0 := 2048) (n1 := 1024) i⟩
    pointwise
    rfl

end Cert.Rms1
-- ==== Proof.Ple.lean ====
module

public import proofs.«01_k».proof.Kernel22Ideal
public import proofs.«01_k».proof.Reference22Ideal
public import proofs.«01_k».proof.Proof.Gen.Kernel22Ideal.Value
public import proofs.«01_k».proof.Proof.Gen.Reference22Ideal.Run
public import Idealize.ShloMosaic.Lib.Pipeline.ValueKit
public import Idealize.ShloMosaic.Lib.Claim

/-!
# The gradients of the gate and of the gated embeddings

The incoming gradient times the embeddings and the derivative of the sigmoid, and times the gate, a block of rows at a time.
-/

@[expose] public section

set_option maxRecDepth 16384

noncomputable section

namespace Cert.Ple

open Cert.Kernel22Ideal Cert.Kernel22Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0]
    ∧ t.val < 4 :=
  (by decide +kernel : ∀ t : Fin grid0.N, _)

/-- The gate before its sigmoid, the embeddings and the incoming gradient. -/
def Z : FVec Ideal S2048x1024 .f32 := m ((c : Thread nD τ).loc main_arg0)
def E : FVec Ideal S2048x1024 .f32 := m ((c : Thread nD τ).loc main_arg1)
def D : FVec Ideal S2048x1024 .f32 := m ((c : Thread nD τ).loc main_arg2)

/-- The gate. -/
def gate (z : FVec Ideal S2048x1024 .f32) (a : Fin 2048) (l : Fin 1024) : EReal := Ideal.div 1 (1 + Ideal.exp (-z (ix2 a l)))

theorem blk0 (t : Fin cfg0.N) (a : Fin 512) (l : Fin 1024) (h : 512 * t.val + a < 2048) : iblk m c 0 t (ix2 a l) = D m c (ix2 ⟨512 * t.val + a, h⟩ l) := by
  blk_ext [iblk, V_main_arg2, idx t]

theorem blk1 (t : Fin cfg0.N) (a : Fin 512) (l : Fin 1024) (h : 512 * t.val + a < 2048) :
    iblk m c 1 t (ix2 a l) = gate (Z m c) ⟨512 * t.val + a, h⟩ l := by
  have e : iblk m c 1 t (ix2 a l) = V m c main_v5 (ix2 ⟨512 * t.val + a, h⟩ l) := by
    blk_ext [iblk, idx t]
  rw [e]
  entry_read
  pointwise [gate, Z]

theorem blk2 (t : Fin cfg0.N) (a : Fin 512) (l : Fin 1024) (h : 512 * t.val + a < 2048) : iblk m c 2 t (ix2 a l) = E m c (ix2 ⟨512 * t.val + a, h⟩ l) := by
  blk_ext [iblk, V_main_arg1, idx t]

/-- The gradients, plainly. -/
def dpre (z e d : FVec Ideal S2048x1024 .f32) : FVec Ideal S2048x1024 .bf16 :=
  fun i => d (ix2 (i 0) (i 1)) * e (ix2 (i 0) (i 1)) * (gate z (i 0) (i 1) * (1 - gate z (i 0) (i 1)))

def dpp (z d : FVec Ideal S2048x1024 .f32) : FVec Ideal S2048x1024 .bf16 := fun i => gate z (i 0) (i 1) * d (ix2 (i 0) (i 1))

theorem point4 (t : Fin cfg0.N) (a : Fin 512) (l : Fin 1024) (h : 512 * t.val + a < 2048) :
    k0_pay2 (F := Ideal) (iblk m c 0 t) (iblk m c 1 t) (iblk m c 2 t) (ix2 a l)
      = dpre (Z m c) (E m c) (D m c) (ix2 ⟨512 * t.val + a, h⟩ l) := by
  pointwise [k0_pay2, k0_pay1]
  simp only [blk0 m c t _ _ h, blk1 m c t _ _ h, blk2 m c t _ _ h]
  exact mul_assoc _ _ _

theorem point5 (t : Fin cfg0.N) (a : Fin 512) (l : Fin 1024) (h : 512 * t.val + a < 2048) :
    k0_pay3 (F := Ideal) (iblk m c 0 t) (iblk m c 1 t) (ix2 a l) = dpp (Z m c) (D m c) (ix2 ⟨512 * t.val + a, h⟩ l) := by
  pointwise [k0_pay3, k0_pay1]
  simp only [blk0 m c t _ _ h, blk1 m c t _ _ h]
  exact mul_comm _ _

theorem final4 : (dats m 0 c).arrAt 4 cfg0.N = dpre (Z m c) (E m c) (D m c) := by
  refine (dats m 0 c).arrAt_eq_of_covers 4 _ (by decide +kernel) fun t _ y => ?_
  have ht := (idx t).2.2.2.2.2.2
  blk_simp
  rw [after0_4]
  frame_out
  obtain ⟨a, l, rfl⟩ : ∃ a l, y = ix2 a l := ⟨_, _, eq_ix2 (n0 := 512) (n1 := 1024) y⟩
  refine (point4 m c t a l (by omega)).trans (congrArg _ ?_)
  blk_ext [idx t]

theorem final5 : (dats m 0 c).arrAt 5 cfg0.N = dpp (Z m c) (D m c) := by
  refine (dats m 0 c).arrAt_eq_of_covers 5 _ (by decide +kernel) fun t _ y => ?_
  have ht := (idx t).2.2.2.2.2.2
  blk_simp
  rw [after0_5]
  frame_out
  obtain ⟨a, l, rfl⟩ : ∃ a l, y = ix2 a l := ⟨_, _, eq_ix2 (n0 := 512) (n1 := 1024) y⟩
  refine (point5 m c t a l (by omega)).trans (congrArg _ ?_)
  blk_ext [idx t]

end Cert.Ple
-- ==== Proof.PleClaim.lean ====
module

public import proofs.«01_k».proof.Defs
public import proofs.«01_k».proof.Proof.Gen.Kernel22
public import proofs.«01_k».proof.Proof.Ple

/-!
# The program that takes the gradient through the gate

The claims of it: a run leaves the arguments alone, and ends with the reference's values.
-/

@[expose] public section

set_option maxRecDepth 16384

noncomputable section

namespace Cert.Ple

open Idealize.ShloMosaic Idealize.ShloMosaic.TcCoe
open Idealize.SL.Sem

/-- The two programs have the same body, -/
theorem body_eq {F : FTy → Type} [FloatOps F] :
    @Cert.Kernel22.cc0_ple F _ Cert.Kernel22.Gen.facts = @Cert.Kernel22Ideal.cc0_ple F _ Cert.Kernel22Ideal.Gen.facts := rfl

/-- the same table of bodies, -/
theorem bodies_eq {F : FTy → Type} [FloatOps F] : Cert.Kernel22.defs₀ (F := F) = Cert.Kernel22Ideal.defs₀ (F := F) := by
  unfold Cert.Kernel22.defs₀
  rw [body_eq]
  unfold Cert.Kernel22Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel22.defs (F := F) = Cert.Kernel22Ideal.defs (F := F) :=
  congrArg (Pipeline.defs Cert.Kernel22Ideal.pcfgs) bodies_eq

set_option maxHeartbeats 8000000 in
/-- and a run of the one is a run of the other. -/
theorem frame_kernel : Cert.quiescent_Kernel22 := fun m ρ _ => by
  have h := Cert.Kernel22Ideal.Gen.frame (F := Bits) m ρ
  rw [← defs_eq] at h
  exact h

theorem frame_kernelIdeal : Cert.quiescent_Kernel22Ideal := fun m ρ _ => Cert.Kernel22Ideal.Gen.frame (F := Ideal) m ρ

theorem frame_referenceIdeal : Cert.quiescent_Reference22Ideal := fun m ρ _ =>
  (θ_run (Cert.Reference22Ideal.defs (F := Ideal)) _ _).mono
    (fun r h => ⟨fun c => (h c).2.2, Idealize.ShloMosaic.sem_eq_zero_of_no_sems (by decide) r.2⟩)
    (Cert.Reference22Ideal.Value.run (F := Ideal) m ρ)

/-- Kernel and reference end with the same gradients. -/
theorem same : Cert.algebraic_Kernel22Ideal_Reference22Ideal := fun m ρ m' ρ' _ hs => by
  refine ⟨fun c => dpre (Z m c) (E m c) (D m c), fun c => dpp (Z m c) (D m c),
    (θ_run _ _ _).mono (fun r h c => ⟨(h c).1.trans (final4 m c), (h c).2.1.trans (final5 m c), (h c).2.2⟩)
      (Cert.Kernel22Ideal.Value.run_blocks (F := Ideal) m ρ), ?_⟩
  refine (θ_run _ _ _).mono (fun r h c => ⟨(h c).1.trans ?_, (h c).2.1.trans ?_, (h c).2.2⟩) (Cert.Reference22Ideal.Value.run (F := Ideal) m' ρ')
  all_goals
    obtain ⟨e0, e1, e2⟩ := hs c
    simp only [e0, e1, e2]
    funext i
    obtain ⟨a, l, rfl⟩ : ∃ a l, i = ix2 a l := ⟨_, _, eq_ix2 (n0 := 2048) (n1 := 1024) i⟩
    pointwise
    rfl

end Cert.Ple
-- ==== Proof.Loss.lean ====
module

public import proofs.«01_k».proof.Kernel23Ideal
public import proofs.«01_k».proof.Reference23Ideal
public import proofs.«01_k».proof.Proof.Gen.Kernel23Ideal.Value
public import proofs.«01_k».proof.Proof.Gen.Reference23Ideal.Run
public import proofs.«01_k».proof.Proof.Rms
public import Idealize.ShloMosaic.Lib.Pipeline.ValueKit
public import Idealize.ShloMosaic.Lib.Claim

/-!
# The loss of a sequence and its gradient

Half the sum over rows of the mean squared error, gathered over the blocks of rows, and the error over the number of columns.
-/

@[expose] public section

set_option maxRecDepth 16384

noncomputable section

namespace Cert.Loss

open Cert.Kernel23Ideal Cert.Kernel23Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0]
    ∧ t.val < 4 :=
  (by decide +kernel : ∀ t : Fin grid0.N, _)

/-- The rows and their targets. -/
def Y : FVec Ideal S2048x1024 .f32 := m ((c : Thread nD τ).loc main_arg0)
def T : FVec Ideal S2048x1024 .f32 := m ((c : Thread nD τ).loc main_arg1)

theorem blk0 (t : Fin cfg0.N) (a : Fin 512) (l : Fin 1024) (h : 512 * t.val + a < 2048) : iblk m c 0 t (ix2 a l) = Y m c (ix2 ⟨512 * t.val + a, h⟩ l) := by
  blk_ext [iblk, V_main_arg0, idx t]

theorem blk1 (t : Fin cfg0.N) (a : Fin 512) (l : Fin 1024) (h : 512 * t.val + a < 2048) : iblk m c 1 t (ix2 a l) = T m c (ix2 ⟨512 * t.val + a, h⟩ l) := by
  blk_ext [iblk, V_main_arg1, idx t]

/-- The inverse of the number of columns, and a half. -/
theorem over (x : EReal) : x * Ideal.ofBits FTy.f32 0x3A800000#32 = Ideal.div x (Ideal.ofBits FTy.f32 0x44800000#32) := by
  rw [Rms.kappa, Rms.div_real _ (by norm_num)]
  congr 1
  simp [Ideal.ofBits, Ideal.ieee, -EReal.coe_mul]
  norm_num

theorem half : Ideal.ofBits FTy.f32 0x3F000000#32 = ((1 / 2 : ℝ) : EReal) := by
  simp [Ideal.ofBits, Ideal.ieee, -EReal.coe_mul]
  norm_num

/-- The error, a row's mean square of it, and the loss. -/
def err (y t : FVec Ideal S2048x1024 .f32) (a : Fin 2048) (l : Fin 1024) : EReal := y (ix2 a l) - t (ix2 a l)

def rowLoss (y t : FVec Ideal S2048x1024 .f32) (a : Fin 2048) : EReal :=
  Ideal.div (∑ l : Fin 1024, err y t a l * err y t a l) (Ideal.ofBits FTy.f32 0x44800000#32)

def loss (y t : FVec Ideal S2048x1024 .f32) : FVec Ideal S8x128 .f32 := fun _ => Ideal.ofBits FTy.f32 0x3F000000#32 * ∑ a : Fin 2048, rowLoss y t a

/-- The gradient. -/
def dy (y t : FVec Ideal S2048x1024 .f32) : FVec Ideal S2048x1024 .f32 :=
  fun i => Ideal.div (err y t (i 0) (i 1)) (Ideal.ofBits FTy.f32 0x44800000#32)

theorem point2 (t : Fin cfg0.N) (a : Fin 512) (l : Fin 1024) (h : 512 * t.val + a < 2048) :
    k0_pay2 (F := Ideal) (iblk m c 0 t) (iblk m c 1 t) (ix2 a l) = dy (Y m c) (T m c) (ix2 ⟨512 * t.val + a, h⟩ l) := by
  refine Eq.trans ?_ (over _)
  pointwise [k0_pay2, k0_pay1]
  simp only [blk0 m c t _ _ h, blk1 m c t _ _ h]
  rfl

theorem final2 : (dats m 0 c).arrAt 2 cfg0.N = dy (Y m c) (T m c) := by
  refine (dats m 0 c).arrAt_eq_of_covers 2 _ (by decide +kernel) fun t _ y => ?_
  have ht := (idx t).2.2.2.2
  obtain ⟨a, l, rfl⟩ : ∃ a l, y = ix2 a l := ⟨_, _, eq_ix2 (n0 := 512) (n1 := 1024) y⟩
  have key := point2 m c t a l (by omega)
  have place : dy (Y m c) (T m c) (((View.whole main_v0_0).slice (win0_2.rect t)).emb (ix2 a l))
      = dy (Y m c) (T m c) (ix2 ⟨512 * t.val + a, by omega⟩ l) := by
    refine congrArg _ ?_
    blk_ext [idx t]
  blk_simp
  rw [after0_2]
  rcases Nat.eq_zero_or_pos (t.val % 4) with h | h
  · rw [outsAt0_A m c t h]
    frame_out
    exact key.trans place.symm
  · rw [outsAt0_B m c t (by omega)]
    frame_out
    exact key.trans place.symm

theorem hzero (j : S8x128.Idx) : k0_pay3 (F := Ideal) j = 0 := by pointwise [k0_pay3]

theorem hpay (x0 x1 : FVec Ideal S512x1024 .f32) (x : FVec Ideal S8x128 .f32) (j : S8x128.Idx) :
    k0_pay4 (F := Ideal) x0 x1 x j = x j + (∑ k : Fin 512, Ideal.div (∑ l : Fin 1024, (x0 (ix2 k l) - x1 (ix2 k l)) * (x0 (ix2 k l) - x1 (ix2 k l)))
      (Ideal.ofBits FTy.f32 0x44800000#32)) * Ideal.ofBits FTy.f32 0x3F000000#32 := by
  simp only [← over]
  rw [mul_comm (∑ k : Fin 512, _)]
  pointwise [k0_pay4, k0_pay1]

theorem piece (x0 x1 : FVec Ideal S512x1024 .f32) (k : Fin 512) (a : Fin 2048) (h0 : ∀ l, x0 (ix2 k l) = Y m c (ix2 a l))
    (h1 : ∀ l, x1 (ix2 k l) = T m c (ix2 a l)) :
    Ideal.div (∑ l : Fin 1024, (x0 (ix2 k l) - x1 (ix2 k l)) * (x0 (ix2 k l) - x1 (ix2 k l))) (Ideal.ofBits FTy.f32 0x44800000#32)
      = rowLoss (Y m c) (T m c) a := by
  simp only [h0, h1]
  rfl

theorem final3 : (dats m 0 c).arrAt 3 cfg0.N = loss (Y m c) (T m c) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold loss
  rw [half, Rms.sum_mul_real _ _ (by norm_num), mul_comm]
  congr 1
  refine Fin.sum_mul_add_congr fun s k hl => ?_
  have e : (⟨s.val * 512 + k, hl⟩ : Fin 2048) = ⟨512 * s.val + k, by omega⟩ := Fin.ext (by show s.val * 512 + k.val = 512 * s.val + k.val; omega)
  rw [e]
  exact piece m c (iblk m c 0 s) (iblk m c 1 s) k _ (fun l => blk0 m c s k l _) (fun l => blk1 m c s k l _)

end Cert.Loss
-- ==== Proof.LossClaim.lean ====
module

public import proofs.«01_k».proof.Defs
public import proofs.«01_k».proof.Proof.Gen.Kernel23
public import proofs.«01_k».proof.Proof.Loss

/-!
# The program that takes the loss of a sequence

The claims of it: a run leaves the arguments alone, and ends with the reference's values.
-/

@[expose] public section

set_option maxRecDepth 16384

noncomputable section

namespace Cert.Loss

open Idealize.ShloMosaic Idealize.ShloMosaic.TcCoe
open Idealize.SL.Sem

/-- The two programs have the same body, -/
theorem body_eq {F : FTy → Type} [FloatOps F] :
    @Cert.Kernel23.cc0_loss_head F _ Cert.Kernel23.Gen.facts = @Cert.Kernel23Ideal.cc0_loss_head F _ Cert.Kernel23Ideal.Gen.facts := rfl

/-- the same table of bodies, -/
theorem bodies_eq {F : FTy → Type} [FloatOps F] : Cert.Kernel23.defs₀ (F := F) = Cert.Kernel23Ideal.defs₀ (F := F) := by
  unfold Cert.Kernel23.defs₀
  rw [body_eq]
  unfold Cert.Kernel23Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel23.defs (F := F) = Cert.Kernel23Ideal.defs (F := F) :=
  congrArg (Pipeline.defs Cert.Kernel23Ideal.pcfgs) bodies_eq

set_option maxHeartbeats 8000000 in
/-- and a run of the one is a run of the other. -/
theorem frame_kernel : Cert.quiescent_Kernel23 := fun m ρ _ => by
  have h := Cert.Kernel23Ideal.Gen.frame (F := Bits) m ρ
  rw [← defs_eq] at h
  exact h

theorem frame_kernelIdeal : Cert.quiescent_Kernel23Ideal := fun m ρ _ => Cert.Kernel23Ideal.Gen.frame (F := Ideal) m ρ

theorem frame_referenceIdeal : Cert.quiescent_Reference23Ideal := fun m ρ _ =>
  (θ_run (Cert.Reference23Ideal.defs (F := Ideal)) _ _).mono
    (fun r h => ⟨fun c => (h c).2.2, Idealize.ShloMosaic.sem_eq_zero_of_no_sems (by decide) r.2⟩)
    (Cert.Reference23Ideal.Value.run (F := Ideal) m ρ)

theorem two : Ideal.ofBits FTy.f32 0x40000000#32 = ((2 : ℝ) : EReal) := by
  simp [Ideal.ofBits, Ideal.ieee, -EReal.coe_mul]
  norm_num

theorem one : Ideal.ofBits FTy.f32 0x3F800000#32 = ((1 : ℝ) : EReal) := by
  simp [Ideal.ofBits, Ideal.ieee, -EReal.coe_mul]
  norm_num

/-- A half over the number of columns, times twice the error, is the error over the number of columns. -/
theorem halved (x : EReal) : Ideal.div (Ideal.ofBits FTy.f32 0x3F000000#32 * Ideal.ofBits FTy.f32 0x3F800000#32) (Ideal.ofBits FTy.f32 0x44800000#32)
    * (Ideal.ofBits FTy.f32 0x40000000#32 * x) = Ideal.div x (Ideal.ofBits FTy.f32 0x44800000#32) := by
  rw [half, one, two, Rms.kappa, Rms.div_real _ (by norm_num), Rms.div_real _ (by norm_num), ← mul_assoc, ← EReal.coe_mul, ← EReal.coe_mul,
    ← EReal.coe_mul, mul_comm]
  congr 2
  norm_num

/-- Kernel and reference end with the same gradient and the same loss. -/
theorem same : Cert.algebraic_Kernel23Ideal_Reference23Ideal := fun m ρ m' ρ' _ hs => by
  refine ⟨fun c => dy (Y m c) (T m c), fun c => loss (Y m c) (T m c),
    (θ_run _ _ _).mono (fun r h c => ⟨(h c).1.trans (final2 m c), (h c).2.1.trans (final3 m c), (h c).2.2⟩)
      (Cert.Kernel23Ideal.Value.run_blocks (F := Ideal) m ρ), ?_⟩
  refine (θ_run _ _ _).mono (fun r h c => ⟨(h c).1.trans ?_, (h c).2.1.trans ?_, (h c).2.2⟩) (Cert.Reference23Ideal.Value.run (F := Ideal) m' ρ')
  · obtain ⟨e0, e1⟩ := hs c
    simp only [e0, e1]
    funext i
    obtain ⟨a, l, rfl⟩ : ∃ a l, i = ix2 a l := ⟨_, _, eq_ix2 (n0 := 2048) (n1 := 1024) i⟩
    refine Eq.trans ?_ (halved _)
    pointwise
    rfl
  · obtain ⟨e0, e1⟩ := hs c
    simp only [e0, e1]
    funext i
    obtain ⟨a, l, rfl⟩ : ∃ a l, i = ix2 a l := ⟨_, _, eq_ix2 (n0 := 8) (n1 := 128) i⟩
    pointwise
    rfl

end Cert.Loss
-- ==== Proof.Conv.lean ====
module

public import proofs.«01_k».proof.Kernel24Ideal
public import proofs.«01_k».proof.Reference24Ideal
public import proofs.«01_k».proof.Proof.Gen.Kernel24Ideal.Value
public import proofs.«01_k».proof.Proof.Gen.Reference24Ideal.Run
public import Idealize.ShloMosaic.Lib.Pipeline.ValueKit
public import Idealize.ShloMosaic.Lib.Claim

/-!
# The gated short convolution

Two blocks of columns are multiplied; the products, and those of the row before and of the row before that, are weighted and added,
and the sum is multiplied by a third block of columns.
-/

@[expose] public section

set_option maxRecDepth 16384

noncomputable section

namespace Cert.Conv

open Cert.Kernel24Ideal Cert.Kernel24Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, t.val] ∧ win0_1.index t = ![0, 2 + t.val] ∧ win0_2.index t = ![0, 4 + t.val] ∧ win0_3.index t = ![0, t.val] ∧ win0_4.index t = ![0, t.val]
    ∧ t.val < 2 :=
  (by decide +kernel : ∀ t : Fin grid0.N, _)

/-- The projection's rows and the weights. -/
def X : FVec Ideal S2048x2816 .f32 := m ((c : Thread nD τ).loc main_arg0)
def W : FVec Ideal S3x256 .f32 := m ((c : Thread nD τ).loc main_arg1)

theorem blk0 (t : Fin cfg0.N) (a : Fin 2048) (l : Fin 128) (h : 128 * t.val + l < 256) : iblk m c 0 t (ix2 a l) = X m c (ix2 a ⟨128 * t.val + l, by omega⟩) := by
  blk_ext [iblk, V_main_arg0, idx t]

theorem blk1 (t : Fin cfg0.N) (a : Fin 2048) (l : Fin 128) (h : 128 * t.val + l < 256) : iblk m c 1 t (ix2 a l) = X m c (ix2 a ⟨256 + (128 * t.val + l), by omega⟩) := by
  blk_ext [iblk, V_main_arg0, idx t]

theorem blk2 (t : Fin cfg0.N) (a : Fin 2048) (l : Fin 128) (h : 128 * t.val + l < 256) : iblk m c 2 t (ix2 a l) = X m c (ix2 a ⟨512 + (128 * t.val + l), by omega⟩) := by
  blk_ext [iblk, V_main_arg0, idx t]

theorem blk3 (t : Fin cfg0.N) (a : Fin 3) (l : Fin 128) (h : 128 * t.val + l < 256) : iblk m c 3 t (ix2 a l) = W m c (ix2 a ⟨128 * t.val + l, h⟩) := by
  blk_ext [iblk, V_main_arg1, idx t]

/-- The product of two columns, at the row some rows before; zero before the first. -/
def past (x : FVec Ideal S2048x2816 .f32) (s : ℕ) (a : Fin 2048) (l : Fin 256) : EReal :=
  if s ≤ a.val then x (ix2 ⟨a.val - s, by omega⟩ ⟨256 + l, by omega⟩) * x (ix2 ⟨a.val - s, by omega⟩ ⟨512 + l, by omega⟩) else 0

/-- The mask of the rows from the first or the second one on. -/
theorem ge1 : ∀ a : Fin 2048, IntOp.cmpi CmpIPredicate.sge (BitVec.ofNat 32 a.val) 1#32 = if 1 ≤ a.val then 1#1 else 0#1 := by decide +kernel

theorem ge2 : ∀ a : Fin 2048, IntOp.cmpi CmpIPredicate.sge (BitVec.ofNat 32 a.val) 2#32 = if 2 ≤ a.val then 1#1 else 0#1 := by decide +kernel

/-- The rows rolled by some and masked are the rows so many before. -/
theorem shifted (w : EReal) (x : FVec Ideal S2048x2816 .f32) (s : ℕ) {c : BitVec 1} {a : Fin 2048} (l : Fin 256) (hs : s < 2048)
    (hc : c = if s ≤ a.val then 1#1 else 0#1) :
    Scalar.select c (w * (x (ix2 ⟨(a.val + 2048 - s) % 2048, by omega⟩ ⟨256 + l, by omega⟩)
      * x (ix2 ⟨(a.val + 2048 - s) % 2048, by omega⟩ ⟨512 + l, by omega⟩))) 0 = w * past x s a l := by
  subst hc
  unfold past
  by_cases h : s ≤ a.val
  · have e : (a.val + 2048 - s) % 2048 = a.val - s := by omega
    simp only [if_pos h, e]
    rfl
  · simp only [if_neg h, mul_zero]
    rfl

/-- The same, read from rows that zeros were put before. -/
theorem before2 (x : FVec Ideal S2048x2816 .f32) (a : Fin 2048) (l : Fin 256) : (if h : a.val < 2 then 0 else
    x (ix2 ⟨a.val - 2, by omega⟩ ⟨256 + l, by omega⟩) * x (ix2 ⟨a.val - 2, by omega⟩ ⟨512 + l, by omega⟩)) = past x 2 a l := by
  unfold past
  by_cases h : a.val < 2
  · rw [dif_pos h, if_neg (by omega)]
  · rw [dif_neg h, if_pos (by omega)]

theorem before1 (x : FVec Ideal S2048x2816 .f32) (a : Fin 2048) (l : Fin 256) : (if h : 1 + a.val < 2 then 0 else
    x (ix2 ⟨1 + a.val - 2, by omega⟩ ⟨256 + l, by omega⟩) * x (ix2 ⟨1 + a.val - 2, by omega⟩ ⟨512 + l, by omega⟩)) = past x 1 a l := by
  have e : 1 + a.val - 2 = a.val - 1 := by omega
  unfold past
  by_cases h : 1 + a.val < 2
  · rw [dif_pos h, if_neg (by omega)]
  · rw [dif_neg h, if_pos (by omega)]
    simp only [e]

/-- The gated convolution at a row and column, plainly, and the whole of it. -/
def conv (x : FVec Ideal S2048x2816 .f32) (w : FVec Ideal S3x256 .f32) (a : Fin 2048) (l : Fin 256) : EReal :=
  x (ix2 a ⟨l, by omega⟩) * (w (ix2 2 l) * past x 0 a l + w (ix2 1 l) * past x 1 a l + w (ix2 0 l) * past x 2 a l)

def spec (x : FVec Ideal S2048x2816 .f32) (w : FVec Ideal S3x256 .f32) : FVec Ideal S2048x256 .bf16 := fun i => conv x w (i 0) (i 1)

theorem joined (x : FVec Ideal S2048x2816 .f32) (w : FVec Ideal S3x256 .f32) (a : Fin 2048) (l : Fin 256) :
    x (ix2 a ⟨l, by omega⟩) * (((w (ix2 0 l) * if h : a.val < 2 then 0 else
        x (ix2 ⟨a.val - 2, by omega⟩ ⟨256 + l, by omega⟩) * x (ix2 ⟨a.val - 2, by omega⟩ ⟨512 + l, by omega⟩))
      + w (ix2 1 l) * if h : 1 + a.val < 2 then 0 else
        x (ix2 ⟨1 + a.val - 2, by omega⟩ ⟨256 + l, by omega⟩) * x (ix2 ⟨1 + a.val - 2, by omega⟩ ⟨512 + l, by omega⟩))
      + w (ix2 2 l) * (x (ix2 a ⟨256 + l, by omega⟩) * x (ix2 a ⟨512 + l, by omega⟩))) = conv x w a l := by
  rw [before2, before1]
  exact congrArg (x (ix2 a ⟨l, by omega⟩) * ·) ((add_comm _ _).trans ((congrArg (w (ix2 2 l) * past x 0 a l + ·) (add_comm _ _)).trans (add_assoc _ _ _).symm))

theorem point (t : Fin cfg0.N) (a : Fin 2048) (l : Fin 128) (h : 128 * t.val + l < 256) :
    k0_pay1 (F := Ideal) (iblk m c 1 t) (iblk m c 2 t) (iblk m c 3 t) (iblk m c 0 t) (ix2 a l) = spec (X m c) (W m c) (ix2 a ⟨128 * t.val + l, h⟩) := by
  pointwise [k0_pay1]
  simp only [blk0 m c t _ _ h, blk1 m c t _ _ h, blk2 m c t _ _ h, blk3 m c t _ _ h]
  exact congrArg (_ * ·) (congrArg₂ (· + ·) (congrArg (_ + ·) (shifted _ (X m c) 1 ⟨_, h⟩ (by decide) (ge1 a)))
    (shifted _ (X m c) 2 ⟨_, h⟩ (by decide) (ge2 a)))

theorem final : (dats m 0 c).arrAt 4 cfg0.N = spec (X m c) (W m c) := by
  refine (dats m 0 c).arrAt_eq_of_covers 4 _ (by decide +kernel) fun t _ y => ?_
  have ht := (idx t).2.2.2.2.2
  blk_simp
  rw [after0_4]
  frame_out
  obtain ⟨a, l, rfl⟩ : ∃ a l, y = ix2 a l := ⟨_, _, eq_ix2 (n0 := 2048) (n1 := 128) y⟩
  refine (point m c t a l (by omega)).trans (congrArg _ ?_)
  blk_ext [idx t]

end Cert.Conv
-- ==== Proof.ConvClaim.lean ====
module

public import proofs.«01_k».proof.Defs
public import proofs.«01_k».proof.Proof.Gen.Kernel24
public import proofs.«01_k».proof.Proof.Conv

/-!
# The program that takes the gated convolution

The claims of it: a run leaves the arguments alone, and ends with the reference's values.
-/

@[expose] public section

set_option maxRecDepth 16384

noncomputable section

namespace Cert.Conv

open Idealize.ShloMosaic Idealize.ShloMosaic.TcCoe
open Idealize.SL.Sem

/-- The two programs have the same body, -/
theorem body_eq {F : FTy → Type} [FloatOps F] :
    @Cert.Kernel24.cc0_conv F _ Cert.Kernel24.Gen.facts = @Cert.Kernel24Ideal.cc0_conv F _ Cert.Kernel24Ideal.Gen.facts := rfl

/-- the same table of bodies, -/
theorem bodies_eq {F : FTy → Type} [FloatOps F] : Cert.Kernel24.defs₀ (F := F) = Cert.Kernel24Ideal.defs₀ (F := F) := by
  unfold Cert.Kernel24.defs₀
  rw [body_eq]
  unfold Cert.Kernel24Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel24.defs (F := F) = Cert.Kernel24Ideal.defs (F := F) :=
  congrArg (Pipeline.defs Cert.Kernel24Ideal.pcfgs) bodies_eq

set_option maxHeartbeats 8000000 in
/-- and a run of the one is a run of the other. -/
theorem frame_kernel : Cert.quiescent_Kernel24 := fun m ρ _ => by
  have h := Cert.Kernel24Ideal.Gen.frame (F := Bits) m ρ
  rw [← defs_eq] at h
  exact h

theorem frame_kernelIdeal : Cert.quiescent_Kernel24Ideal := fun m ρ _ => Cert.Kernel24Ideal.Gen.frame (F := Ideal) m ρ

theorem frame_referenceIdeal : Cert.quiescent_Reference24Ideal := fun m ρ _ =>
  (θ_run (Cert.Reference24Ideal.defs (F := Ideal)) _ _).mono
    (fun r h => ⟨fun c => (h c).2, Idealize.ShloMosaic.sem_eq_zero_of_no_sems (by decide) r.2⟩)
    (Cert.Reference24Ideal.Value.run (F := Ideal) m ρ)

/-- Kernel and reference end with the same rows. -/
theorem same : Cert.algebraic_Kernel24Ideal_Reference24Ideal := fun m ρ m' ρ' _ hs => by
  refine ⟨fun c => spec (X m c) (W m c), (θ_run _ _ _).mono (fun r h c => ⟨(h c).1.trans (final m c), (h c).2⟩)
    (Cert.Kernel24Ideal.Value.run_blocks (F := Ideal) m ρ), ?_⟩
  refine (θ_run _ _ _).mono (fun r h c => ⟨(h c).1.trans ?_, (h c).2⟩) (Cert.Reference24Ideal.Value.run (F := Ideal) m' ρ')
  obtain ⟨e0, e1⟩ := hs c
  simp only [e0, e1]
  funext i
  obtain ⟨a, l, rfl⟩ : ∃ a l, i = ix2 a l := ⟨_, _, eq_ix2 (n0 := 2048) (n1 := 256) i⟩
  pointwise
  simp only [e0]
  exact joined (X m c) (W m c) a l

end Cert.Conv
-- ==== Proof.ConvBwd.lean ====
module

public import proofs.«01_k».proof.Kernel25Ideal
public import proofs.«01_k».proof.Reference25Ideal
public import proofs.«01_k».proof.Proof.Gen.Kernel25Ideal.Value
public import proofs.«01_k».proof.Proof.Gen.Reference25Ideal.Run
public import Idealize.ShloMosaic.Lib.Pipeline.ValueKit
public import Idealize.ShloMosaic.Lib.Claim

/-!
# The gradient through the gated short convolution

The gradients of the three blocks of columns, each from the incoming gradient at its own row and the two rows after it, and the
gradient of the weights, summed over the rows.
-/

@[expose] public section

set_option maxRecDepth 16384

noncomputable section

namespace Cert.ConvBwd

open Cert.Kernel25Ideal Cert.Kernel25Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![0, 0] ∧ win0_1.index t = ![0, 0] ∧ win0_2.index t = ![0, 1] ∧ win0_3.index t = ![0, 2] ∧ win0_4.index t = ![0, 0] ∧ win0_5.index t = ![0, 0] ∧ win0_6.index t = ![0, 0]
    ∧ t.val < 1 :=
  (by decide +kernel : ∀ t : Fin grid0.N, _)

/-- The incoming gradient, the projection's rows and the weights. -/
def D : FVec Ideal S2048x1024 .f32 := m ((c : Thread nD τ).loc main_arg0)
def X : FVec Ideal S2048x2816 .f32 := m ((c : Thread nD τ).loc main_arg1)
def W : FVec Ideal S3x256 .f32 := m ((c : Thread nD τ).loc main_arg2)

theorem blk0 (t : Fin cfg0.N) (a : Fin 2048) (l : Fin 256) : iblk m c 0 t (ix2 a l) = D m c (ix2 a ⟨l, by omega⟩) := by
  blk_ext [iblk, V_main_arg0, idx t]

theorem blk1 (t : Fin cfg0.N) (a : Fin 2048) (l : Fin 256) : iblk m c 1 t (ix2 a l) = X m c (ix2 a ⟨l, by omega⟩) := by
  blk_ext [iblk, V_main_arg1, idx t]

theorem blk2 (t : Fin cfg0.N) (a : Fin 2048) (l : Fin 256) : iblk m c 2 t (ix2 a l) = X m c (ix2 a ⟨256 + l, by omega⟩) := by
  blk_ext [iblk, V_main_arg1, idx t]

theorem blk3 (t : Fin cfg0.N) (a : Fin 2048) (l : Fin 256) : iblk m c 3 t (ix2 a l) = X m c (ix2 a ⟨512 + l, by omega⟩) := by
  blk_ext [iblk, V_main_arg1, idx t]

theorem blk4 (t : Fin cfg0.N) (a : Fin 3) (l : Fin 256) : iblk m c 4 t (ix2 a l) = W m c (ix2 a l) := by
  blk_ext [iblk, V_main_arg2, idx t]

/-- A column some rows before, zero before the first row; and some rows after, zero after the last. -/
def past (z : Fin 2048 → EReal) (s : ℕ) (a : Fin 2048) : EReal := if s ≤ a.val then z ⟨a.val - s, by omega⟩ else 0

def next (z : Fin 2048 → EReal) (s : ℕ) (a : Fin 2048) : EReal := if h : a.val + s < 2048 then z ⟨a.val + s, h⟩ else 0

/-- The product of two columns, and the incoming gradient times the third. -/
def prod (x : FVec Ideal S2048x2816 .f32) (l : Fin 256) (a : Fin 2048) : EReal := x (ix2 a ⟨256 + l, by omega⟩) * x (ix2 a ⟨512 + l, by omega⟩)

def gate (d : FVec Ideal S2048x1024 .f32) (x : FVec Ideal S2048x2816 .f32) (l : Fin 256) (a : Fin 2048) : EReal :=
  d (ix2 a ⟨l, by omega⟩) * x (ix2 a ⟨l, by omega⟩)

/-- The convolution, and its transpose of the gradient. -/
def conv (x : FVec Ideal S2048x2816 .f32) (w : FVec Ideal S3x256 .f32) (a : Fin 2048) (l : Fin 256) : EReal :=
  w (ix2 2 l) * prod x l a + w (ix2 1 l) * past (prod x l) 1 a + w (ix2 0 l) * past (prod x l) 2 a

def back (d : FVec Ideal S2048x1024 .f32) (x : FVec Ideal S2048x2816 .f32) (w : FVec Ideal S3x256 .f32) (a : Fin 2048) (l : Fin 256) : EReal :=
  w (ix2 2 l) * gate d x l a + w (ix2 1 l) * next (gate d x l) 1 a + w (ix2 0 l) * next (gate d x l) 2 a

/-- The gradients of the three blocks of columns. -/
def part (d : FVec Ideal S2048x1024 .f32) (x : FVec Ideal S2048x2816 .f32) (w : FVec Ideal S3x256 .f32) (a : Fin 2048) (q : ℕ) (l : Fin 256) : EReal :=
  if q = 0 then d (ix2 a ⟨l, by omega⟩) * conv x w a l
  else if q = 1 then back d x w a l * x (ix2 a ⟨512 + l, by omega⟩) else back d x w a l * x (ix2 a ⟨256 + l, by omega⟩)

def dproj (d : FVec Ideal S2048x1024 .f32) (x : FVec Ideal S2048x2816 .f32) (w : FVec Ideal S3x256 .f32) : FVec Ideal S2048x768 .bf16 :=
  fun i => part d x w (i 0) ((i 1).val / 256) ⟨(i 1).val % 256, Nat.mod_lt _ (by norm_num)⟩

/-- The gradient of the weights, with rows of zeros after it. -/
def row (d : FVec Ideal S2048x1024 .f32) (x : FVec Ideal S2048x2816 .f32) (r : ℕ) (l : Fin 256) : EReal :=
  if r < 3 then ∑ a : Fin 2048, gate d x l a * past (prod x l) (2 - r) a else 0

def dw (d : FVec Ideal S2048x1024 .f32) (x : FVec Ideal S2048x2816 .f32) : FVec Ideal S8x256 .f32 := fun i => row d x (i 0).val (i 1)

/-- The masks of the rows from the first or the second one on, and of those up to the last two. -/
theorem ge1 : ∀ a : Fin 2048, IntOp.cmpi CmpIPredicate.sge (BitVec.ofNat 32 a.val) 1#32 = if 1 ≤ a.val then 1#1 else 0#1 := by decide +kernel

theorem ge2 : ∀ a : Fin 2048, IntOp.cmpi CmpIPredicate.sge (BitVec.ofNat 32 a.val) 2#32 = if 2 ≤ a.val then 1#1 else 0#1 := by decide +kernel

theorem lt1 : ∀ a : Fin 2048, IntOp.cmpi CmpIPredicate.slt (BitVec.ofNat 32 a.val) 2047#32 = if a.val + 1 < 2048 then 1#1 else 0#1 := by decide +kernel

theorem lt2 : ∀ a : Fin 2048, IntOp.cmpi CmpIPredicate.slt (BitVec.ofNat 32 a.val) 2046#32 = if a.val + 2 < 2048 then 1#1 else 0#1 := by decide +kernel

/-- Rows rolled by some and masked are the rows so many before or after. -/
theorem down (w : EReal) (z : Fin 2048 → EReal) (s : ℕ) {c : BitVec 1} {a : Fin 2048} (hs : s < 2048) (hc : c = if s ≤ a.val then 1#1 else 0#1) :
    Scalar.select c (w * z ⟨(a.val + 2048 - s) % 2048, by omega⟩) 0 = w * past z s a := by
  subst hc
  unfold past
  by_cases h : s ≤ a.val
  · have e : (a.val + 2048 - s) % 2048 = a.val - s := by omega
    simp only [if_pos h, e]
    rfl
  · simp only [if_neg h, mul_zero]
    rfl

theorem up (w : EReal) (z : Fin 2048 → EReal) (k s : ℕ) {c : BitVec 1} {a : Fin 2048} (hs : 0 < s) (hk : k + s = 2048)
    (hc : c = if a.val + s < 2048 then 1#1 else 0#1) :
    Scalar.select c (w * z ⟨(a.val + 2048 - k) % 2048, by omega⟩) 0 = w * next z s a := by
  subst hc
  unfold next
  by_cases h : a.val + s < 2048
  · have e : (a.val + 2048 - k) % 2048 = a.val + s := by omega
    simp only [if_pos h, dif_pos h, e]
    rfl
  · simp only [if_neg h, dif_neg h, mul_zero]
    rfl

/-- What the last store leaves inside its box, and outside it. -/
theorem hit {R C p q o u : ℕ} {e : EltTy} (inb : ∀ x, (![o, u] : Fin 2 → ℕ) x + (![p, q] : Fin 2 → ℕ) x ≤ (⟨2, ![R, C]⟩ : Shape).size x)
    (w : (⟨2, ![p, q]⟩ : Shape).Idx → Elt Ideal e) (L : List (View.Piece (Elt Ideal) (⟨2, ![R, C]⟩ : Shape) e)) (y : (⟨2, ![R, C]⟩ : Shape).Idx)
    (a : Fin p) (l : Fin q) (h0 : (y 0).val = o + a) (h1 : (y 1).val = u + l) :
    View.canon ((⟨Rect.unit (s := (⟨2, ![R, C]⟩ : Shape)) ![o, u] ![p, q] inb, w⟩ : View.Piece (Elt Ideal) (⟨2, ![R, C]⟩ : Shape) e) :: L) y = w (ix2 a l) := by
  have he : (Rect.unit (s := (⟨2, ![R, C]⟩ : Shape)) ![o, u] ![p, q] inb).emb (ix2 a l) = y := by
    funext x; apply Fin.ext
    fin_cases x
    · show o + 1 * a.val = (y 0).val; omega
    · show u + 1 * l.val = (y 1).val; omega
  rw [← he]
  exact View.canon_cons_emb (Rect.unit (s := (⟨2, ![R, C]⟩ : Shape)) ![o, u] ![p, q] inb) w L (ix2 a l)

theorem miss {R C p q o u : ℕ} {e : EltTy} (inb : ∀ x, (![o, u] : Fin 2 → ℕ) x + (![p, q] : Fin 2 → ℕ) x ≤ (⟨2, ![R, C]⟩ : Shape).size x)
    (w : (⟨2, ![p, q]⟩ : Shape).Idx → Elt Ideal e) (L : List (View.Piece (Elt Ideal) (⟨2, ![R, C]⟩ : Shape) e)) (y : (⟨2, ![R, C]⟩ : Shape).Idx)
    (x : Fin 2) (h : ∀ i < (![p, q] : Fin 2 → ℕ) x, (y x).val ≠ (![o, u] : Fin 2 → ℕ) x + 1 * i) :
    View.canon ((⟨Rect.unit (s := (⟨2, ![R, C]⟩ : Shape)) ![o, u] ![p, q] inb, w⟩ : View.Piece (Elt Ideal) (⟨2, ![R, C]⟩ : Shape) e) :: L) y = View.canon L y := by
  refine View.canon_cons_of_not_mem _ L ?_
  intro hm
  obtain ⟨i, hi, he⟩ := (LoadRect.mem_set _).mp hm x
  exact h i hi he

theorem p4 (t : Fin cfg0.N) (a : Fin 2048) (l : Fin 256) :
    k0_pay4 (F := Ideal) (iblk m c 2 t) (iblk m c 3 t) (iblk m c 4 t) (iblk m c 0 t) (ix2 a l) = part (D m c) (X m c) (W m c) a 0 l := by
  pointwise [k0_pay4, k0_pay1, k0_pay2, k0_pay3]
  simp only [blk0, blk1, blk2, blk3, blk4]
  exact congrArg (_ * ·) (congrArg₂ (· + ·) (congrArg (_ + ·) (down _ (prod (X m c) l) 1 (by simp) (ge1 a)))
    (down _ (prod (X m c) l) 2 (by simp) (ge2 a)))

theorem p9 (t : Fin cfg0.N) (a : Fin 2048) (l : Fin 256) :
    k0_pay9 (F := Ideal) (iota .tc S2048x256 32 [0] iota_S2048x256_d0_w32) (iblk m c 4 t) (k0_pay5 (iblk m c 0 t) (iblk m c 1 t))
      (k0_pay6 (iblk m c 4 t) (iblk m c 0 t) (iblk m c 1 t)) (k0_pay7 (iblk m c 4 t)) k0_pay8 2047#32 (ix2 a l) = back (D m c) (X m c) (W m c) a l := by
  pointwise [k0_pay9, k0_pay8, k0_pay7, k0_pay6, k0_pay5]
  simp only [blk0, blk1, blk4]
  exact congrArg₂ (· + ·) (congrArg (_ + ·) (up _ (gate (D m c) (X m c) l) 2047 1 (by simp) (by simp) (lt1 a)))
    (up _ (gate (D m c) (X m c) l) 2046 2 (by simp) (by simp) (lt2 a))

theorem p10 (t : Fin cfg0.N) (a : Fin 2048) (l : Fin 256) :
    k0_pay10 (F := Ideal) (iota .tc S2048x256 32 [0] iota_S2048x256_d0_w32) (iblk m c 3 t) (iblk m c 4 t) (k0_pay5 (iblk m c 0 t) (iblk m c 1 t))
      (k0_pay6 (iblk m c 4 t) (iblk m c 0 t) (iblk m c 1 t)) (k0_pay7 (iblk m c 4 t)) k0_pay8 2047#32 (ix2 a l) = part (D m c) (X m c) (W m c) a 1 l :=
  congrArg₂ (fun x y : EReal => x * y) (p9 m c t a l) (blk3 m c t a l)

theorem p11 (t : Fin cfg0.N) (a : Fin 2048) (l : Fin 256) :
    k0_pay11 (F := Ideal) (iota .tc S2048x256 32 [0] iota_S2048x256_d0_w32) (iblk m c 2 t) (iblk m c 4 t) (k0_pay5 (iblk m c 0 t) (iblk m c 1 t))
      (k0_pay6 (iblk m c 4 t) (iblk m c 0 t) (iblk m c 1 t)) (k0_pay7 (iblk m c 4 t)) k0_pay8 2047#32 (ix2 a l) = part (D m c) (X m c) (W m c) a 2 l :=
  congrArg₂ (fun x y : EReal => x * y) (p9 m c t a l) (blk2 m c t a l)

theorem p13 (t : Fin cfg0.N) (l : Fin 256) :
    k0_pay13 (F := Ideal) (k0_pay3 (iblk m c 2 t) (iblk m c 3 t)) (k0_pay5 (iblk m c 0 t) (iblk m c 1 t)) (ix2 0 l) = row (D m c) (X m c) 0 l := by
  pointwise [k0_pay13, k0_pay3, k0_pay1, k0_pay5]
  simp only [blk0, blk1, blk2, blk3]
  exact Finset.sum_congr rfl fun a _ => down (gate (D m c) (X m c) l a) (prod (X m c) l) 2 (by simp) (ge2 a)

theorem p14 (t : Fin cfg0.N) (l : Fin 256) :
    k0_pay14 (F := Ideal) (k0_pay2 (iblk m c 2 t) (iblk m c 3 t)) (k0_pay5 (iblk m c 0 t) (iblk m c 1 t)) (ix2 0 l) = row (D m c) (X m c) 1 l := by
  pointwise [k0_pay14, k0_pay2, k0_pay1, k0_pay5]
  simp only [blk0, blk1, blk2, blk3]
  exact Finset.sum_congr rfl fun a _ => down (gate (D m c) (X m c) l a) (prod (X m c) l) 1 (by simp) (ge1 a)

theorem p15 (t : Fin cfg0.N) (l : Fin 256) :
    k0_pay15 (F := Ideal) (k0_pay1 (iblk m c 2 t) (iblk m c 3 t)) (k0_pay5 (iblk m c 0 t) (iblk m c 1 t)) (ix2 0 l) = row (D m c) (X m c) 2 l := by
  pointwise [k0_pay15, k0_pay1, k0_pay5]
  simp only [blk0, blk1, blk2, blk3]
  rfl

theorem cut (l : Fin 768) (q : ℕ) (h : 256 * q ≤ l.val) (h' : l.val < 256 * q + 256) : ∃ (k : Fin 256) (h : 256 * q + k < 768), l = ⟨256 * q + k, h⟩ :=
  ⟨⟨l.val - 256 * q, by omega⟩, by show 256 * q + (l.val - 256 * q) < 768; omega, Fin.ext (by show l.val = 256 * q + (l.val - 256 * q); omega)⟩

theorem dproj_apply (a : Fin 2048) (q : ℕ) (l : Fin 256) (h : 256 * q + l < 768) :
    dproj (D m c) (X m c) (W m c) (ix2 a ⟨256 * q + l, h⟩) = part (D m c) (X m c) (W m c) a q l := by
  have e : (256 * q + l.val) / 256 = q := by omega
  have e' : (256 * q + l.val) % 256 = l.val := by omega
  show part (D m c) (X m c) (W m c) a ((256 * q + l.val) / 256) ⟨(256 * q + l.val) % 256, _⟩ = _
  simp only [e, e']

set_option maxHeartbeats 2000000 in
theorem final5 : (dats m 0 c).arrAt 5 cfg0.N = dproj (D m c) (X m c) (W m c) := by
  refine (dats m 0 c).arrAt_eq_of_covers 5 _ (by decide +kernel) fun t _ y => ?_
  blk_simp
  rw [after0_5]
  unfold outsAt0
  frame_out
  obtain ⟨a, l, rfl⟩ : ∃ a l, y = ix2 a l := ⟨_, _, eq_ix2 (n0 := 2048) (n1 := 768) y⟩
  have place : ((View.whole main_v0_0).slice (win0_5.rect t)).emb (ix2 a l) = ix2 a l := by
    blk_ext [idx t]
  rw [place]
  by_cases h2 : 512 ≤ l.val
  · obtain ⟨k, hk, rfl⟩ := cut l 2 (by omega) (by omega)
    rw [dproj_apply]
    exact (hit _ _ _ _ a k (Nat.zero_add _).symm rfl).trans (p11 m c t a k)
  refine (miss _ _ _ _ 1 fun i _ => by show l.val ≠ 512 + 1 * i; omega).trans ?_
  by_cases h1 : 256 ≤ l.val
  · obtain ⟨k, hk, rfl⟩ := cut l 1 (by omega) (by omega)
    rw [dproj_apply]
    exact (hit _ _ _ _ a k (Nat.zero_add _).symm rfl).trans (p10 m c t a k)
  refine (miss _ _ _ _ 1 fun i _ => by show l.val ≠ 256 + 1 * i; omega).trans ?_
  obtain ⟨k, hk, rfl⟩ := cut l 0 (by omega) (by omega)
  rw [dproj_apply]
  exact (hit _ _ _ _ a k (Nat.zero_add _).symm rfl).trans (p4 m c t a k)

set_option maxHeartbeats 2000000 in
theorem final6 : (dats m 0 c).arrAt 6 cfg0.N = dw (D m c) (X m c) := by
  refine (dats m 0 c).arrAt_eq_of_covers 6 _ (by decide +kernel) fun t _ y => ?_
  blk_simp
  rw [after0_6]
  unfold outsAt0
  frame_out
  obtain ⟨r, l, rfl⟩ : ∃ r l, y = ix2 r l := ⟨_, _, eq_ix2 (n0 := 8) (n1 := 256) y⟩
  have place : ((View.whole main_v0_1).slice (win0_6.rect t)).emb (ix2 r l) = ix2 r l := by
    blk_ext [idx t]
  rw [place]
  by_cases h2 : r.val = 2
  · obtain rfl : r = 2 := Fin.ext h2
    exact (hit _ _ _ _ 0 l rfl (Nat.zero_add _).symm).trans (p15 m c t l)
  refine (miss _ _ _ _ 0 fun i (hi : i < 1) => by show r.val ≠ 2 + 1 * i; omega).trans ?_
  by_cases h1 : r.val = 1
  · obtain rfl : r = 1 := Fin.ext h1
    exact (hit _ _ _ _ 0 l rfl (Nat.zero_add _).symm).trans (p14 m c t l)
  refine (miss _ _ _ _ 0 fun i (hi : i < 1) => by show r.val ≠ 1 + 1 * i; omega).trans ?_
  by_cases h0 : r.val = 0
  · obtain rfl : r = 0 := Fin.ext h0
    exact (hit _ _ _ _ 0 l rfl (Nat.zero_add _).symm).trans (p13 m c t l)
  refine (miss _ _ _ _ 0 fun i (hi : i < 1) => by show r.val ≠ 0 + 1 * i; omega).trans ?_
  refine (hit _ _ _ _ r l (Nat.zero_add _).symm (Nat.zero_add _).symm).trans ?_
  have e : row (D m c) (X m c) r.val l = 0 := if_neg (by omega)
  refine Eq.trans ?_ e.symm
  pointwise [k0_pay12]

theorem dproj_at (a : Fin 2048) (l : Fin 768) (q : ℕ) (h : 256 * q ≤ l.val) (h' : l.val < 256 * q + 256) :
    dproj (D m c) (X m c) (W m c) (ix2 a l) = part (D m c) (X m c) (W m c) a q ⟨l.val - 256 * q, by omega⟩ := by
  have e : l.val / 256 = q := by omega
  have e' : l.val % 256 = l.val - 256 * q := by omega
  show part (D m c) (X m c) (W m c) a (l.val / 256) ⟨l.val % 256, _⟩ = _
  simp only [e, e']

/-- The columns before and after, read from rows that zeros were put before or after. -/
theorem before2 (z : Fin 2048 → EReal) (a : Fin 2048) : (if h : a.val < 2 then 0 else z ⟨a.val - 2, by omega⟩) = past z 2 a := by
  unfold past
  by_cases h : a.val < 2
  · rw [dif_pos h, if_neg (by omega)]
  · rw [dif_neg h, if_pos (by omega)]

theorem before1 (z : Fin 2048 → EReal) (a : Fin 2048) : (if h : 1 + a.val < 2 then 0 else z ⟨1 + a.val - 2, by omega⟩) = past z 1 a := by
  have e : 1 + a.val - 2 = a.val - 1 := by omega
  unfold past
  by_cases h : 1 + a.val < 2
  · rw [dif_pos h, if_neg (by omega)]
  · rw [dif_neg h, if_pos (by omega)]
    simp only [e]

variable (d : FVec Ideal S2048x1024 .f32) (x : FVec Ideal S2048x2816 .f32) (w : FVec Ideal S3x256 .f32)

theorem conv_eq (a : Fin 2048) (l : Fin 256) :
    ((w (ix2 0 l) * (if h : a.val < 2 then 0 else prod x l ⟨a.val - 2, by omega⟩) : EReal)
      + w (ix2 1 l) * (if h : 1 + a.val < 2 then 0 else prod x l ⟨1 + a.val - 2, by omega⟩)) + w (ix2 2 l) * prod x l a = conv x w a l := by
  rw [before2 (prod x l), before1 (prod x l)]
  exact (add_comm _ _).trans ((congrArg (w (ix2 2 l) * prod x l a + ·) (add_comm _ _)).trans (add_assoc _ _ _).symm)

theorem back_eq (a : Fin 2048) (l : Fin 256) :
    (((if h : l.val < 256 then w (ix2 2 l) * (x (ix2 a ⟨l, by omega⟩) * d (ix2 a ⟨l, by omega⟩)) else 0 : EReal)
      + (if h : (1 ≤ 2 + a.val ∧ 2 + a.val - 1 < 2048) ∧ l.val < 256 then
          w (ix2 1 l) * (x (ix2 ⟨2 + a.val - 1, h.1.2⟩ ⟨l, by omega⟩) * d (ix2 ⟨2 + a.val - 1, h.1.2⟩ ⟨l, by omega⟩)) else 0))
      + (if h : 2 + a.val < 2048 ∧ l.val < 256 then
          w (ix2 0 l) * (x (ix2 ⟨2 + a.val, h.1⟩ ⟨l, by omega⟩) * d (ix2 ⟨2 + a.val, h.1⟩ ⟨l, by omega⟩)) else 0)) = back d x w a l := by
  have e1 : 2 + a.val - 1 = a.val + 1 := by omega
  have e2 : 2 + a.val = a.val + 2 := by omega
  unfold back next
  refine congrArg₂ (fun p q : EReal => p + q) (congrArg₂ (fun p q : EReal => p + q) ?_ ?_) ?_
  · rw [dif_pos l.isLt, mul_comm (x _)]
    rfl
  · by_cases h : a.val + 1 < 2048
    · rw [dif_pos ⟨⟨by omega, by omega⟩, l.isLt⟩, dif_pos h]
      simp only [e1]
      exact congrArg (w (ix2 1 l) * ·) (mul_comm _ _)
    · rw [dif_neg (by omega), dif_neg h, mul_zero]
  · by_cases h : a.val + 2 < 2048
    · rw [dif_pos ⟨by omega, l.isLt⟩, dif_pos h]
      simp only [e2]
      exact congrArg (w (ix2 0 l) * ·) (mul_comm _ _)
    · rw [dif_neg (by omega), dif_neg h, mul_zero]

theorem row2 (l : Fin 256) : (∑ _b : Fin 1, ∑ a : Fin 2048, x (ix2 a ⟨l, by omega⟩) * d (ix2 a ⟨l, by omega⟩) * prod x l a : EReal) = row d x 2 l :=
  (Fin.sum_univ_one _).trans <| Finset.sum_congr rfl fun a _ => congrArg (fun p : EReal => p * prod x l a) (mul_comm _ _)

theorem row1 (l : Fin 256) : (∑ _b : Fin 1, ∑ a : Fin 2048, x (ix2 a ⟨l, by omega⟩) * d (ix2 a ⟨l, by omega⟩)
    * (if h : 1 + a.val < 2 then 0 else prod x l ⟨1 + a.val - 2, by omega⟩) : EReal) = row d x 1 l :=
  (Fin.sum_univ_one _).trans <| Finset.sum_congr rfl fun a _ => congrArg₂ (fun p q : EReal => p * q) (mul_comm _ _) (before1 (prod x l) a)

theorem row0 (l : Fin 256) : (∑ _b : Fin 1, ((∑ a : Fin 2, x (ix2 ⟨a, by omega⟩ ⟨l, by omega⟩) * d (ix2 ⟨a, by omega⟩ ⟨l, by omega⟩) * 0)
    + ∑ a : Fin 2046, x (ix2 ⟨2 + a, by omega⟩ ⟨l, by omega⟩) * d (ix2 ⟨2 + a, by omega⟩ ⟨l, by omega⟩) * prod x l ⟨a, by omega⟩) : EReal) = row d x 0 l := by
  refine (Fin.sum_univ_one _).trans ?_
  refine Eq.trans ?_ (Fin.sum_univ_add (a := 2) (b := 2046) fun a : Fin 2048 => gate d x l a * past (prod x l) 2 a).symm
  refine congrArg₂ (fun p q : EReal => p + q) (Finset.sum_congr rfl fun a _ => ?_) (Finset.sum_congr rfl fun a _ => ?_)
  · have e : past (prod x l) 2 (Fin.castAdd 2046 a) = 0 := if_neg (by show ¬2 ≤ a.val; omega)
    rw [e, mul_zero, mul_zero]
  · have e : past (prod x l) 2 (Fin.natAdd 2 a) = prod x l ⟨a, by omega⟩ := (if_pos (by show 2 ≤ 2 + a.val; omega)).trans
      (congrArg (prod x l) (Fin.ext (by show 2 + a.val - 2 = a.val; omega)))
    rw [e]
    exact congrArg (fun p : EReal => p * prod x l ⟨a, by omega⟩) (mul_comm _ _)

theorem row3 (r : ℕ) (l : Fin 256) (h : ¬r < 3) : row d x r l = 0 := if_neg h

end Cert.ConvBwd
-- ==== Proof.ConvBwdClaim.lean ====
module

public import proofs.«01_k».proof.Defs
public import proofs.«01_k».proof.Proof.Gen.Kernel25
public import proofs.«01_k».proof.Proof.ConvBwd

/-!
# The program that takes the gradient through the gated convolution

The claims of it: a run leaves the arguments alone, and ends with the reference's values.
-/

@[expose] public section

set_option maxRecDepth 16384

noncomputable section

namespace Cert.ConvBwd

open Idealize.ShloMosaic Idealize.ShloMosaic.TcCoe
open Idealize.SL.Sem

/-- The two programs have the same body, -/
theorem body_eq {F : FTy → Type} [FloatOps F] :
    @Cert.Kernel25.cc0_conv_bwd F _ Cert.Kernel25.Gen.facts = @Cert.Kernel25Ideal.cc0_conv_bwd F _ Cert.Kernel25Ideal.Gen.facts := rfl

/-- the same table of bodies, -/
theorem bodies_eq {F : FTy → Type} [FloatOps F] : Cert.Kernel25.defs₀ (F := F) = Cert.Kernel25Ideal.defs₀ (F := F) := by
  unfold Cert.Kernel25.defs₀
  rw [body_eq]
  unfold Cert.Kernel25Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel25.defs (F := F) = Cert.Kernel25Ideal.defs (F := F) :=
  congrArg (Pipeline.defs Cert.Kernel25Ideal.pcfgs) bodies_eq

set_option maxHeartbeats 8000000 in
/-- and a run of the one is a run of the other. -/
theorem frame_kernel : Cert.quiescent_Kernel25 := fun m ρ _ => by
  have h := Cert.Kernel25Ideal.Gen.frame (F := Bits) m ρ
  rw [← defs_eq] at h
  exact h

theorem frame_kernelIdeal : Cert.quiescent_Kernel25Ideal := fun m ρ _ => Cert.Kernel25Ideal.Gen.frame (F := Ideal) m ρ

theorem frame_referenceIdeal : Cert.quiescent_Reference25Ideal := fun m ρ _ =>
  (θ_run (Cert.Reference25Ideal.defs (F := Ideal)) _ _).mono
    (fun r h => ⟨fun c => (h c).2.2, Idealize.ShloMosaic.sem_eq_zero_of_no_sems (by decide) r.2⟩)
    (Cert.Reference25Ideal.Value.run (F := Ideal) m ρ)

theorem zero_int : (FloatOps.sitofp FTy.f32 (0#32) : Ideal FTy.f32) = 0 := by
  show (((0#32 : BitVec 32).toInt : ℝ) : EReal) = 0
  simp

/-- Kernel and reference end with the same gradients of the columns and of the weights. -/
theorem same : Cert.algebraic_Kernel25Ideal_Reference25Ideal := fun m ρ m' ρ' _ hs => by
  refine ⟨fun c => dproj (D m c) (X m c) (W m c), fun c => dw (D m c) (X m c),
    (θ_run _ _ _).mono (fun r h c => ⟨(h c).1.trans (final5 m c), (h c).2.1.trans (final6 m c), (h c).2.2⟩)
      (Cert.Kernel25Ideal.Value.run_blocks (F := Ideal) m ρ), ?_⟩
  refine (θ_run _ _ _).mono (fun r h c => ⟨(h c).1.trans ?_, (h c).2.1.trans ?_, (h c).2.2⟩) (Cert.Reference25Ideal.Value.run (F := Ideal) m' ρ')
  · obtain ⟨e0, e1, e2⟩ := hs c
    unfold Cert.Reference25Ideal.Value.res_main_v72
    simp only [e0, e1, e2]
    clear hs h
    funext i
    obtain ⟨a, l, rfl⟩ : ∃ a l, i = ix2 a l := ⟨_, _, eq_ix2 (n0 := 2048) (n1 := 768) i⟩
    pointwise
    simp only [e0, e1, e2]
    by_cases h2 : 512 ≤ l.val
    · refine Eq.trans ?_ (dproj_at m c a l 2 h2 (by omega)).symm
      exact (congrArg₂ (fun p q : EReal => p + q) (congrArg₂ (fun p q : EReal => p + q)
        ((dif_pos ⟨h2, by omega⟩).trans (congrArg (fun p : EReal => X m c (ix2 a ⟨256 + (l.val - 512), by omega⟩) * p)
          (back_eq (D m c) (X m c) (W m c) a ⟨l.val - 512, by omega⟩))) (dif_neg (by omega))) (dif_neg (by omega))).trans
        ((add_zero _).trans ((add_zero _).trans (mul_comm _ _)))
    by_cases h1 : 256 ≤ l.val
    · refine Eq.trans ?_ (dproj_at m c a l 1 h1 (by omega)).symm
      exact (congrArg₂ (fun p q : EReal => p + q) (congrArg₂ (fun p q : EReal => p + q) (dif_neg (by omega))
        ((dif_pos ⟨h1, by omega⟩).trans (congrArg (fun p : EReal => p * X m c (ix2 a ⟨512 + (l.val - 256), by omega⟩))
          (back_eq (D m c) (X m c) (W m c) a ⟨l.val - 256, by omega⟩)))) (dif_neg (by omega))).trans
        ((add_zero _).trans (zero_add _))
    refine Eq.trans ?_ (dproj_at m c a l 0 (by omega) (by omega)).symm
    exact (congrArg₂ (fun p q : EReal => p + q) (congrArg₂ (fun p q : EReal => p + q) (dif_neg (by omega)) (dif_neg (by omega)))
      ((dif_pos (by omega)).trans (congrArg (fun p : EReal => D m c (ix2 a ⟨l.val, by omega⟩) * p)
        (conv_eq (X m c) (W m c) a ⟨l.val, by omega⟩)))).trans
      ((congrArg (fun p : EReal => p + _) (zero_add _)).trans (zero_add _))
  · obtain ⟨e0, e1, e2⟩ := hs c
    simp only [e0, e1, e2]
    clear hs h
    funext i
    obtain ⟨a, l, rfl⟩ : ∃ a l, i = ix2 a l := ⟨_, _, eq_ix2 (n0 := 8) (n1 := 256) i⟩
    pointwise
    simp only [e0, e1, e2]
    by_cases h : a.val < 3
    swap
    · exact (dif_neg h).trans (zero_int.trans (row3 (D m c) (X m c) a.val l h).symm)
    refine (dif_pos h).trans ?_
    by_cases h2 : a.val = 2
    · refine Eq.trans ?_ (congrArg (fun r => row (D m c) (X m c) r l) (show 2 = a.val by omega))
      exact (congrArg₂ (fun p q : EReal => p + q) (congrArg₂ (fun p q : EReal => p + q)
        ((dif_pos (by omega)).trans (by exact row2 (D m c) (X m c) l)) (dif_neg (by omega))) (dif_neg (by omega))).trans
        ((add_zero _).trans (add_zero _))
    by_cases h1 : a.val = 1
    · refine Eq.trans ?_ (congrArg (fun r => row (D m c) (X m c) r l) (show 1 = a.val by omega))
      exact (congrArg₂ (fun p q : EReal => p + q) (congrArg₂ (fun p q : EReal => p + q) (dif_neg (by omega))
        ((dif_pos (by omega)).trans (by exact row1 (D m c) (X m c) l))) (dif_neg (by omega))).trans
        ((add_zero _).trans (zero_add _))
    refine Eq.trans ?_ (congrArg (fun r => row (D m c) (X m c) r l) (show 0 = a.val by omega))
    exact (congrArg₂ (fun p q : EReal => p + q) (congrArg₂ (fun p q : EReal => p + q) (dif_neg (by omega)) (dif_neg (by omega)))
      ((dif_pos (by omega)).trans (by exact row0 (D m c) (X m c) l))).trans
      ((congrArg (fun p : EReal => p + _) (zero_add _)).trans (zero_add _))

end Cert.ConvBwd
-- ==== Proof.Adamw.lean ====
module

public import proofs.«01_k».proof.Kernel26Ideal
public import proofs.«01_k».proof.Reference26Ideal
public import proofs.«01_k».proof.Proof.Gen.Kernel26Ideal.Value
public import proofs.«01_k».proof.Proof.Gen.Reference26Ideal.Run
public import Idealize.ShloMosaic.Lib.Pipeline.ValueKit
public import Idealize.ShloMosaic.Lib.Claim

/-!
# The optimiser's step for a small weight

The running means of the gradient and of its square move on, and the step is their ratio with the weight's decay, element by
element, a block of rows at a time.
-/

@[expose] public section

set_option maxRecDepth 16384

noncomputable section

namespace Cert.Adamw

open Cert.Kernel26Ideal Cert.Kernel26Ideal.Gen
open Idealize.ShloMosaic Idealize.ShloMosaic.TcCoe
open Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0]
    ∧ t.val < 4 :=
  (by decide +kernel : ∀ t : Fin grid0.N, _)

/-- The weight, its gradient and the two running means. -/
def W : FVec Ideal S2048x128 .f32 := m ((c : Thread nD τ).loc main_arg0)
def G : FVec Ideal S2048x128 .f32 := m ((c : Thread nD τ).loc main_arg1)
def M : FVec Ideal S2048x128 .f32 := m ((c : Thread nD τ).loc main_arg2)
def V2 : FVec Ideal S2048x128 .f32 := m ((c : Thread nD τ).loc main_arg3)

theorem blk0 (t : Fin cfg0.N) (a : Fin 512) (l : Fin 128) (h : 512 * t.val + a < 2048) : iblk m c 0 t (ix2 a l) = W m c (ix2 ⟨512 * t.val + a, h⟩ l) := by
  blk_ext [iblk, V_main_arg0, idx t]

theorem blk1 (t : Fin cfg0.N) (a : Fin 512) (l : Fin 128) (h : 512 * t.val + a < 2048) : iblk m c 1 t (ix2 a l) = G m c (ix2 ⟨512 * t.val + a, h⟩ l) := by
  blk_ext [iblk, V_main_arg1, idx t]

theorem blk2 (t : Fin cfg0.N) (a : Fin 512) (l : Fin 128) (h : 512 * t.val + a < 2048) : iblk m c 2 t (ix2 a l) = M m c (ix2 ⟨512 * t.val + a, h⟩ l) := by
  blk_ext [iblk, V_main_arg2, idx t]

theorem blk3 (t : Fin cfg0.N) (a : Fin 512) (l : Fin 128) (h : 512 * t.val + a < 2048) : iblk m c 3 t (ix2 a l) = V2 m c (ix2 ⟨512 * t.val + a, h⟩ l) := by
  blk_ext [iblk, V_main_arg3, idx t]

variable (w g p q : FVec Ideal S2048x128 .f32)

/-- The new running means of the gradient and of its square, and the step. The constants are the float32 numbers nearest to 0.9,
0.1, 0.999, 0.001, `1 - 0.9 ^ 10`, `1 - 0.999 ^ 10`, 1e-8, 0.01 and -0.001. -/
def mean : FVec Ideal S2048x128 .f32 := fun i =>
  Ideal.ofBits FTy.f32 0x3F666666#32 * p (ix2 (i 0) (i 1)) + Ideal.ofBits FTy.f32 0x3DCCCCCD#32 * g (ix2 (i 0) (i 1))

def square : FVec Ideal S2048x128 .f32 := fun i =>
  Ideal.ofBits FTy.f32 0x3F7FBE77#32 * q (ix2 (i 0) (i 1))
    + Ideal.ofBits FTy.f32 0x3A83126F#32 * (g (ix2 (i 0) (i 1)) * g (ix2 (i 0) (i 1)))

def step : FVec Ideal S2048x128 .f32 := fun i =>
  Ideal.ofBits FTy.f32 0xBA83126F#32 *
    (Ideal.div (Ideal.div (mean g p i) (Ideal.ofBits FTy.f32 0x3F26BD02#32))
      (Ideal.sqrt (Ideal.div (square g q i) (Ideal.ofBits FTy.f32 0x3C231ACC#32)) + Ideal.ofBits FTy.f32 0x322BCC77#32)
      + Ideal.ofBits FTy.f32 0x3C23D70A#32 * w (ix2 (i 0) (i 1)))

theorem point4 (t : Fin cfg0.N) (a : Fin 512) (l : Fin 128) (h : 512 * t.val + a < 2048) :
    k0_pay3 (F := Ideal) (iblk m c 0 t) (iblk m c 1 t) (iblk m c 2 t) (iblk m c 3 t) (ix2 a l)
      = step (W m c) (G m c) (M m c) (V2 m c) (ix2 ⟨512 * t.val + a, h⟩ l) := by
  pointwise [k0_pay3, k0_pay1, k0_pay2]
  simp only [blk0 m c t _ _ h, blk1 m c t _ _ h, blk2 m c t _ _ h, blk3 m c t _ _ h]
  rfl

theorem point5 (t : Fin cfg0.N) (a : Fin 512) (l : Fin 128) (h : 512 * t.val + a < 2048) :
    k0_pay1 (F := Ideal) (iblk m c 1 t) (iblk m c 2 t) (ix2 a l)
      = mean (G m c) (M m c) (ix2 ⟨512 * t.val + a, h⟩ l) := by
  pointwise [k0_pay1]
  simp only [blk1 m c t _ _ h, blk2 m c t _ _ h]
  rfl

theorem point6 (t : Fin cfg0.N) (a : Fin 512) (l : Fin 128) (h : 512 * t.val + a < 2048) :
    k0_pay2 (F := Ideal) (iblk m c 1 t) (iblk m c 3 t) (ix2 a l)
      = square (G m c) (V2 m c) (ix2 ⟨512 * t.val + a, h⟩ l) := by
  pointwise [k0_pay2]
  simp only [blk1 m c t _ _ h, blk3 m c t _ _ h]
  rfl

theorem final4 : (dats m 0 c).arrAt 4 cfg0.N = step (W m c) (G m c) (M m c) (V2 m c) := by
  refine (dats m 0 c).arrAt_eq_of_covers 4 _ (by decide +kernel) fun t _ y => ?_
  have ht := (idx t).2.2.2.2.2.2.2
  blk_simp
  rw [after0_4]
  frame_out
  obtain ⟨a, l, rfl⟩ : ∃ a l, y = ix2 a l := ⟨_, _, eq_ix2 (n0 := 512) (n1 := 128) y⟩
  refine (point4 m c t a l (by omega)).trans (congrArg _ ?_)
  blk_ext [idx t]

theorem final5 : (dats m 0 c).arrAt 5 cfg0.N = mean (G m c) (M m c) := by
  refine (dats m 0 c).arrAt_eq_of_covers 5 _ (by decide +kernel) fun t _ y => ?_
  have ht := (idx t).2.2.2.2.2.2.2
  blk_simp
  rw [after0_5]
  frame_out
  obtain ⟨a, l, rfl⟩ : ∃ a l, y = ix2 a l := ⟨_, _, eq_ix2 (n0 := 512) (n1 := 128) y⟩
  refine (point5 m c t a l (by omega)).trans (congrArg _ ?_)
  blk_ext [idx t]

theorem final6 : (dats m 0 c).arrAt 6 cfg0.N = square (G m c) (V2 m c) := by
  refine (dats m 0 c).arrAt_eq_of_covers 6 _ (by decide +kernel) fun t _ y => ?_
  have ht := (idx t).2.2.2.2.2.2.2
  blk_simp
  rw [after0_6]
  frame_out
  obtain ⟨a, l, rfl⟩ : ∃ a l, y = ix2 a l := ⟨_, _, eq_ix2 (n0 := 512) (n1 := 128) y⟩
  refine (point6 m c t a l (by omega)).trans (congrArg _ ?_)
  blk_ext [idx t]

end Cert.Adamw
-- ==== Proof.AdamwClaim.lean ====
module

public import proofs.«01_k».proof.Defs
public import proofs.«01_k».proof.Proof.Gen.Kernel26
public import proofs.«01_k».proof.Proof.Adamw

/-!
# The program that takes the optimiser's step for a small weight

The claims of it: a run leaves the arguments alone, and ends with the reference's values.
-/

@[expose] public section

set_option maxRecDepth 16384

noncomputable section

namespace Cert.Adamw

open Idealize.ShloMosaic Idealize.ShloMosaic.TcCoe
open Idealize.SL.Sem

/-- The two programs have the same body, -/
theorem body_eq {F : FTy → Type} [FloatOps F] :
    @Cert.Kernel26.cc0_adamw_sgu_w F _ Cert.Kernel26.Gen.facts = @Cert.Kernel26Ideal.cc0_adamw_sgu_w F _ Cert.Kernel26Ideal.Gen.facts := rfl

/-- the same table of bodies, -/
theorem bodies_eq {F : FTy → Type} [FloatOps F] : Cert.Kernel26.defs₀ (F := F) = Cert.Kernel26Ideal.defs₀ (F := F) := by
  unfold Cert.Kernel26.defs₀
  rw [body_eq]
  unfold Cert.Kernel26Ideal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel26.defs (F := F) = Cert.Kernel26Ideal.defs (F := F) :=
  congrArg (Pipeline.defs Cert.Kernel26Ideal.pcfgs) bodies_eq

set_option maxHeartbeats 8000000 in
/-- and a run of the one is a run of the other. -/
theorem frame_kernel : Cert.quiescent_Kernel26 := fun m ρ _ => by
  have h := Cert.Kernel26Ideal.Gen.frame (F := Bits) m ρ
  rw [← defs_eq] at h
  exact h

theorem frame_kernelIdeal : Cert.quiescent_Kernel26Ideal := fun m ρ _ => Cert.Kernel26Ideal.Gen.frame (F := Ideal) m ρ

theorem frame_referenceIdeal : Cert.quiescent_Reference26Ideal := fun m ρ _ =>
  (θ_run (Cert.Reference26Ideal.defs (F := Ideal)) _ _).mono
    (fun r h => ⟨fun c => (h c).2.2.2, Idealize.ShloMosaic.sem_eq_zero_of_no_sems (by decide) r.2⟩)
    (Cert.Reference26Ideal.Value.run (F := Ideal) m ρ)

/-- Kernel and reference end with the same step and running means. -/
theorem same : Cert.algebraic_Kernel26Ideal_Reference26Ideal := fun m ρ m' ρ' _ hs => by
  refine ⟨fun c => step (W m c) (G m c) (M m c) (V2 m c), fun c => mean (G m c) (M m c), fun c => square (G m c) (V2 m c),
    (θ_run _ _ _).mono (fun r h c => ⟨(h c).1.trans (final4 m c), (h c).2.1.trans (final5 m c), (h c).2.2.1.trans (final6 m c), (h c).2.2.2⟩)
      (Cert.Kernel26Ideal.Value.run_blocks (F := Ideal) m ρ), ?_⟩
  refine (θ_run _ _ _).mono (fun r h c => ⟨(h c).1.trans ?_, (h c).2.1.trans ?_, (h c).2.2.1.trans ?_, (h c).2.2.2⟩) (Cert.Reference26Ideal.Value.run (F := Ideal) m' ρ')
  all_goals
    obtain ⟨e0, e1, e2, e3⟩ := hs c
    simp only [e0, e1, e2, e3]
    funext i
    obtain ⟨a, l, rfl⟩ : ∃ a l, i = ix2 a l := ⟨_, _, eq_ix2 (n0 := 2048) (n1 := 128) i⟩
    pointwise
    rfl

end Cert.Adamw
-- ==== Proof.lean ====
/-
  The gradient of the stick-breaking attention with respect to its queries, keys and values, as a kernel that walks the
  key blocks of one query block at a time, against the attention differentiated as written.

  The run of the kernel is proved once, over any float values (`Proof/Run.lean`), and read here both at the bits and at
  the real numbers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Final
public import proofs.«01_k».proof.Proof.Plain
public import proofs.«01_k».proof.Proof.Finite
public import proofs.«01_k».proof.Proof.DuClaim
public import proofs.«01_k».proof.Proof.Dwff2Claim
public import proofs.«01_k».proof.Proof.Dh1Claim
public import proofs.«01_k».proof.Proof.Dwff1Claim
public import proofs.«01_k».proof.Proof.DmixClaim
public import proofs.«01_k».proof.Proof.DwoutClaim
public import proofs.«01_k».proof.Proof.Dh2Claim
public import proofs.«01_k».proof.Proof.DwprojClaim
public import proofs.«01_k».proof.Proof.Dwin0Claim
public import proofs.«01_k».proof.Proof.Dwin1Claim
public import proofs.«01_k».proof.Proof.Dwin2Claim
public import proofs.«01_k».proof.Proof.Dh0Claim
public import proofs.«01_k».proof.Proof.Ff1Claim
public import proofs.«01_k».proof.Proof.Ff2Claim
public import proofs.«01_k».proof.Proof.OutClaim
public import proofs.«01_k».proof.Proof.ProjClaim
public import proofs.«01_k».proof.Proof.PleprojClaim
public import proofs.«01_k».proof.Proof.PlegateClaim
public import proofs.«01_k».proof.Proof.PlelastClaim
public import proofs.«01_k».proof.Proof.Rms1Claim
public import proofs.«01_k».proof.Proof.PleClaim
public import proofs.«01_k».proof.Proof.LossClaim
public import proofs.«01_k».proof.Proof.ConvClaim
public import proofs.«01_k».proof.Proof.ConvBwdClaim
public import proofs.«01_k».proof.Proof.AdamwClaim

@[expose] public section

set_option maxRecDepth 16384

noncomputable section

namespace Cert.Attn

open Idealize.ShloMosaic Idealize.ShloMosaic.TcCoe
open Idealize.SL.Sem
open Cert.KernelIdeal.Gen

/-- The kernel's arguments end as they began and its counters at zero, over any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run _ _ _).mono (fun r h => ⟨fun c => ⟨((h.1 c).1 0).trans (((dats m 0 c).arrAt_in 0 rfl _).trans ((A_eq m c 0).trans (V_main_arg0 m c))),
      ((h.1 c).2 Cert.KernelIdeal.main_arg1 (Pipeline.mem_restRefs_of Cert.KernelIdeal.main_arg1 (by decide) (by decide))).trans (W_main_arg1 m (dats m) c),
      ((h.1 c).2 Cert.KernelIdeal.main_arg2 (Pipeline.mem_restRefs_of Cert.KernelIdeal.main_arg2 (by decide) (by decide))).trans (W_main_arg2 m (dats m) c),
      ((h.1 c).2 Cert.KernelIdeal.main_arg3 (Pipeline.mem_restRefs_of Cert.KernelIdeal.main_arg3 (by decide) (by decide))).trans (W_main_arg3 m (dats m) c)⟩, h.2⟩)
    (run_main m ρ)

/-- The two programs have the same body, -/
theorem body_eq {F : FTy → Type} [FloatOps F] :
    @Cert.Kernel.cc0_attn_bwd F _ Cert.Kernel.Gen.facts = @Cert.KernelIdeal.cc0_attn_bwd F _ Cert.KernelIdeal.Gen.facts := rfl

set_option maxHeartbeats 8000000 in
/-- the same table of bodies, -/
theorem bodies_eq {F : FTy → Type} [FloatOps F] : Cert.Kernel.defs₀ (F := F) = Cert.KernelIdeal.defs₀ (F := F) := by
  unfold Cert.Kernel.defs₀
  rw [body_eq]
  unfold Cert.KernelIdeal.defs₀
  refine congrArg Defs.onTc ?_
  funext l x
  match l with
  | 0 => rfl
  | ⟨_ + 1, h⟩ => exact absurd h (Nat.not_lt.2 (Nat.le_add_left _ _))

/-- so they define the same, -/
theorem defs_eq {F : FTy → Type} [FloatOps F] : Cert.Kernel.defs (F := F) = Cert.KernelIdeal.defs (F := F) :=
  congrArg (Pipeline.defs Cert.KernelIdeal.pcfgs) bodies_eq

set_option maxHeartbeats 8000000 in
/-- and a run of the one is a run of the other. -/
theorem frame_kernel : Cert.quiescent_Kernel := fun m ρ _ => by
  have h := frame_any (F := Bits) m ρ
  rw [← defs_eq] at h
  exact h

theorem frame_kernelIdeal : Cert.quiescent_KernelIdeal := fun m ρ _ => frame_any (F := Ideal) m ρ

theorem frame_referenceIdeal : Cert.quiescent_ReferenceIdeal := fun m ρ _ =>
  (θ_run (Cert.ReferenceIdeal.defs (F := Ideal)) _ _).mono
    (fun r h => ⟨fun c => (h c).2.2.2, Idealize.ShloMosaic.sem_eq_zero_of_no_sems (by decide) r.2⟩)
    (Cert.ReferenceIdeal.Value.run (F := Ideal) m ρ)

theorem frame_kernelIdeal_finite : Cert.quiescent_KernelIdeal_pre_finite := fun m ρ _ => frame_any (F := Ideal) m ρ

theorem frame_referenceIdeal_finite : Cert.quiescent_ReferenceIdeal_pre_finite := fun m ρ _ => frame_referenceIdeal m ρ trivial

/-- Of finite arguments the kernel and the reference end with the same three gradients. -/
theorem same_grads : Cert.algebraic_KernelIdeal_ReferenceIdeal_pre_finite := fun m ρ m' ρ' hm hs => by
  have hr := fun c => real_args (hm c)
  refine ⟨_, _, _, run_grads m ρ (fun c => reals (m ((c.tc : Thread Cert.KernelIdeal.nD Cert.KernelIdeal.τ).loc Cert.KernelIdeal.main_arg0)))
    (fun c => reals (m ((c.tc : Thread Cert.KernelIdeal.nD Cert.KernelIdeal.τ).loc Cert.KernelIdeal.main_arg1)))
    (fun c => reals (m ((c.tc : Thread Cert.KernelIdeal.nD Cert.KernelIdeal.τ).loc Cert.KernelIdeal.main_arg2)))
    (fun c => reals (m ((c.tc : Thread Cert.KernelIdeal.nD Cert.KernelIdeal.τ).loc Cert.KernelIdeal.main_arg3)))
    (fun c => (hr c).1) (fun c => (hr c).2.1) (fun c => (hr c).2.2.1) (fun c => (hr c).2.2.2), ?_⟩
  refine (θ_run (Cert.ReferenceIdeal.defs (F := Ideal)) _ _).mono (fun r h c => ?_) (Cert.ReferenceIdeal.Value.run (F := Ideal) m' ρ')
  obtain ⟨e0, e1, e2, e3⟩ := hs c
  obtain ⟨r0, r1, r2, r3⟩ := hr c
  rw [← e0] at r0
  rw [← e1] at r1
  rw [← e2] at r2
  rw [← e3] at r3
  rw [← e0, ← e1, ← e2, ← e3]
  exact ⟨(h c).1.trans (Cert.Plain.queries m' c r0 r1 r2 r3), (h c).2.1.trans (Cert.Plain.keys m' c r0 r1 r2 r3),
    (h c).2.2.1.trans (Cert.Plain.values m' c r0 r1 r2), (h c).2.2.2⟩

end Cert.Attn

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts,
    Cert.Pre_finite.Gen.facts,
    Cert.Attn.frame_kernel, Cert.Attn.frame_kernelIdeal, Cert.Attn.frame_kernelIdeal_finite, Cert.Attn.frame_referenceIdeal,
    Cert.Attn.frame_referenceIdeal_finite,
    Cert.Du.frame_kernel, Cert.Du.frame_kernelIdeal, Cert.Du.frame_referenceIdeal, Cert.Dwff2.frame_kernel, Cert.Dwff2.frame_kernelIdeal, Cert.Dwff2.frame_referenceIdeal, Cert.Dh1.frame_kernel, Cert.Dh1.frame_kernelIdeal, Cert.Dh1.frame_referenceIdeal, Cert.Dwff1.frame_kernel, Cert.Dwff1.frame_kernelIdeal, Cert.Dwff1.frame_referenceIdeal,
    Cert.Dmix.frame_kernel, Cert.Dmix.frame_kernelIdeal, Cert.Dmix.frame_referenceIdeal,
    Cert.Dwout.frame_kernel, Cert.Dwout.frame_kernelIdeal, Cert.Dwout.frame_referenceIdeal,
    Cert.Dh2.frame_kernel, Cert.Dh2.frame_kernelIdeal, Cert.Dh2.frame_referenceIdeal,
    Cert.Dwproj.frame_kernel, Cert.Dwproj.frame_kernelIdeal, Cert.Dwproj.frame_referenceIdeal,
    Cert.Dwin0.frame_kernel, Cert.Dwin0.frame_kernelIdeal, Cert.Dwin0.frame_referenceIdeal,
    Cert.Dwin1.frame_kernel, Cert.Dwin1.frame_kernelIdeal, Cert.Dwin1.frame_referenceIdeal,
    Cert.Dwin2.frame_kernel, Cert.Dwin2.frame_kernelIdeal, Cert.Dwin2.frame_referenceIdeal,
    Cert.Dh0.frame_kernel, Cert.Dh0.frame_kernelIdeal, Cert.Dh0.frame_referenceIdeal,
    Cert.Ff1.frame_kernel, Cert.Ff1.frame_kernelIdeal, Cert.Ff1.frame_referenceIdeal,
    Cert.Ff2.frame_kernel, Cert.Ff2.frame_kernelIdeal, Cert.Ff2.frame_referenceIdeal,
    Cert.Out.frame_kernel, Cert.Out.frame_kernelIdeal, Cert.Out.frame_referenceIdeal,
    Cert.Proj.frame_kernel, Cert.Proj.frame_kernelIdeal, Cert.Proj.frame_referenceIdeal,
    Cert.Pleproj.frame_kernel, Cert.Pleproj.frame_kernelIdeal, Cert.Pleproj.frame_referenceIdeal,
    Cert.Plegate.frame_kernel, Cert.Plegate.frame_kernelIdeal, Cert.Plegate.frame_referenceIdeal,
    Cert.Plelast.frame_kernel, Cert.Plelast.frame_kernelIdeal, Cert.Plelast.frame_referenceIdeal,
    Cert.Rms1.frame_kernel, Cert.Rms1.frame_kernelIdeal, Cert.Rms1.frame_referenceIdeal,
    Cert.Ple.frame_kernel, Cert.Ple.frame_kernelIdeal, Cert.Ple.frame_referenceIdeal,
    Cert.Loss.frame_kernel, Cert.Loss.frame_kernelIdeal, Cert.Loss.frame_referenceIdeal,
    Cert.Conv.frame_kernel, Cert.Conv.frame_kernelIdeal, Cert.Conv.frame_referenceIdeal,
    Cert.ConvBwd.frame_kernel, Cert.ConvBwd.frame_kernelIdeal, Cert.ConvBwd.frame_referenceIdeal,
    Cert.Adamw.frame_kernel, Cert.Adamw.frame_kernelIdeal, Cert.Adamw.frame_referenceIdeal,
    trivial, Cert.Attn.same_grads, trivial, Cert.Du.same, trivial, Cert.Dwff2.same, trivial, Cert.Dh1.same, trivial, Cert.Dwff1.same,
    trivial, Cert.Dmix.same, trivial, Cert.Dwout.same, trivial, Cert.Dh2.same, trivial, Cert.Dwproj.same, trivial, Cert.Dwin0.same, trivial, Cert.Dwin1.same, trivial, Cert.Dwin2.same, trivial, Cert.Dh0.same, trivial, Cert.Ff1.same, trivial, Cert.Ff2.same, trivial, Cert.Out.same, trivial, Cert.Proj.same, trivial, Cert.Pleproj.same, trivial, Cert.Plegate.same, trivial, Cert.Plelast.same, trivial, Cert.Rms1.same, trivial, Cert.Ple.same, trivial, Cert.Loss.same, trivial, Cert.Conv.same, trivial, Cert.ConvBwd.same, trivial, Cert.Adamw.same⟩
